-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_routing [hPre_finite_routing : Cert.Pre_finite_routing.Facts] (m : (ℓ : Loc Cert.KernelIdeal.nD Cert.KernelIdeal.τ Cert.KernelIdeal.sig) → Buf (Elt Ideal) ℓ) : Prop :=
  ∀ c : Dev Cert.KernelIdeal.nD,
    (Cert.Pre_finite_routing.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_routing [hPre_finite_routing : Cert.Pre_finite_routing.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_routing.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_pooling [hPre_finite_pooling : Cert.Pre_finite_pooling.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_pooling.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_pooling [hPre_finite_pooling : Cert.Pre_finite_pooling.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_pooling.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite_sample [hPre_finite_sample : Cert.Pre_finite_sample.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite_sample.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite_sample [hPre_finite_sample : Cert.Pre_finite_sample.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite_sample.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6))) = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite_routing [hKernelIdeal : Cert.KernelIdeal.Facts] [hPre_finite_routing : Cert.Pre_finite_routing.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_routing m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite_routing [hReferenceIdeal : Cert.ReferenceIdeal.Facts] [hPre_finite_routing : Cert.Pre_finite_routing.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_routing m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ r.2.sem = fun _ => 0)

def quiescent_Kernel4Ideal_pre_finite_pooling [hKernel4Ideal : Cert.Kernel4Ideal.Facts] [hPre_finite_pooling : Cert.Pre_finite_pooling.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_pooling m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11))
      ∧ r.2.sem = fun _ => 0)

def quiescent_Reference4Ideal_pre_finite_pooling [hReference4Ideal : Cert.Reference4Ideal.Facts] [hPre_finite_pooling : Cert.Pre_finite_pooling.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_pooling m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ r.2.sem = fun _ => 0)

def quiescent_Kernel7Ideal_pre_finite_sample [hKernel7Ideal : Cert.Kernel7Ideal.Facts] [hPre_finite_sample : Cert.Pre_finite_sample.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite_sample m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6))
      ∧ r.2.sem = fun _ => 0)

def quiescent_Reference7Ideal_pre_finite_sample [hReference7Ideal : Cert.Reference7Ideal.Facts] [hPre_finite_sample : Cert.Pre_finite_sample.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite_sample m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def preserves_Kernel_KernelIdeal : Prop :=
  True

def algebraic_KernelIdeal_ReferenceIdeal_pre_finite_routing [hKernelIdeal : Cert.KernelIdeal.Facts] [hReferenceIdeal : Cert.ReferenceIdeal.Facts] [hPre_finite_routing : Cert.Pre_finite_routing.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_routing m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v164) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v18) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)) →
    ∃ (v0 : (c : Dev Cert.Kernel3Ideal.nD) → Buf (Elt Ideal) ((c.tc : Thread Cert.Kernel3Ideal.nD Cert.Kernel3Ideal.τ).loc Cert.Kernel3Ideal.main_v10_0)) (v1 : (c : Dev Cert.Kernel3Ideal.nD) → Buf (Elt Ideal) ((c.tc : Thread Cert.Kernel3Ideal.nD Cert.Kernel3Ideal.τ).loc Cert.Kernel3Ideal.main_v10_1)) (v2 : (c : Dev Cert.Kernel3Ideal.nD) → Buf (Elt Ideal) ((c.tc : Thread Cert.Kernel3Ideal.nD Cert.Kernel3Ideal.τ).loc Cert.Kernel3Ideal.main_v10_2)) (v3 : (c : Dev Cert.Kernel3Ideal.nD) → Buf (Elt Ideal) ((c.tc : Thread Cert.Kernel3Ideal.nD Cert.Kernel3Ideal.τ).loc Cert.Kernel3Ideal.main_v10_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v10_0) = v0 c
          ∧ r.2.mem ((c.tc : Thread Cert.Kernel3Ideal.nD Cert.Kernel3Ideal.τ).loc Cert.Kernel3Ideal.main_v10_1) = v1 c
          ∧ r.2.mem ((c.tc : Thread Cert.Kernel3Ideal.nD Cert.Kernel3Ideal.τ).loc Cert.Kernel3Ideal.main_v10_2) = v2 c
          ∧ r.2.mem ((c.tc : Thread Cert.Kernel3Ideal.nD Cert.Kernel3Ideal.τ).loc Cert.Kernel3Ideal.main_v10_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v102) = v0 c
          ∧ r.2.mem ((c.tc : Thread Cert.Reference3Ideal.nD Cert.Reference3Ideal.τ).loc Cert.Reference3Ideal.main_v103) = v1 c
          ∧ r.2.mem ((c.tc : Thread Cert.Reference3Ideal.nD Cert.Reference3Ideal.τ).loc Cert.Reference3Ideal.main_v104) = v2 c
          ∧ r.2.mem ((c.tc : Thread Cert.Reference3Ideal.nD Cert.Reference3Ideal.τ).loc Cert.Reference3Ideal.main_v105) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10))

def preserves_Kernel4_Kernel4Ideal : Prop :=
  True

def algebraic_Kernel4Ideal_Reference4Ideal_pre_finite_pooling [hKernel4Ideal : Cert.Kernel4Ideal.Facts] [hReference4Ideal : Cert.Reference4Ideal.Facts] [hPre_finite_pooling : Cert.Pre_finite_pooling.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_pooling m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)) →
    ∃ (v0 : (c : Dev Cert.Kernel4Ideal.nD) → Buf (Elt Ideal) ((c.tc : Thread Cert.Kernel4Ideal.nD Cert.Kernel4Ideal.τ).loc Cert.Kernel4Ideal.main_v8_0)) (v1 : (c : Dev Cert.Kernel4Ideal.nD) → Buf (Elt Ideal) ((c.tc : Thread Cert.Kernel4Ideal.nD Cert.Kernel4Ideal.τ).loc Cert.Kernel4Ideal.main_v8_1)) (v2 : (c : Dev Cert.Kernel4Ideal.nD) → Buf (Elt Ideal) ((c.tc : Thread Cert.Kernel4Ideal.nD Cert.Kernel4Ideal.τ).loc Cert.Kernel4Ideal.main_v8_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v8_0) = v0 c
          ∧ r.2.mem ((c.tc : Thread Cert.Kernel4Ideal.nD Cert.Kernel4Ideal.τ).loc Cert.Kernel4Ideal.main_v8_1) = v1 c
          ∧ r.2.mem ((c.tc : Thread Cert.Kernel4Ideal.nD Cert.Kernel4Ideal.τ).loc Cert.Kernel4Ideal.main_v8_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v344) = v0 c
          ∧ r.2.mem ((c.tc : Thread Cert.Reference4Ideal.nD Cert.Reference4Ideal.τ).loc Cert.Reference4Ideal.main_v246) = v1 c
          ∧ r.2.mem ((c.tc : Thread Cert.Reference4Ideal.nD Cert.Reference4Ideal.τ).loc Cert.Reference4Ideal.main_v340) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)) →
    ∃ (v0 : (c : Dev Cert.Kernel5Ideal.nD) → Buf (Elt Ideal) ((c.tc : Thread Cert.Kernel5Ideal.nD Cert.Kernel5Ideal.τ).loc Cert.Kernel5Ideal.main_v9_1)) (v1 : (c : Dev Cert.Kernel5Ideal.nD) → Buf (Elt Ideal) ((c.tc : Thread Cert.Kernel5Ideal.nD Cert.Kernel5Ideal.τ).loc Cert.Kernel5Ideal.main_v9_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v9_1) = v0 c
          ∧ r.2.mem ((c.tc : Thread Cert.Kernel5Ideal.nD Cert.Kernel5Ideal.τ).loc Cert.Kernel5Ideal.main_v9_2) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v20) = v0 c
          ∧ r.2.mem ((c.tc : Thread Cert.Reference5Ideal.nD Cert.Reference5Ideal.τ).loc Cert.Reference5Ideal.main_v22) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)) →
    ∃ (v0 : (c : Dev Cert.Kernel6Ideal.nD) → Buf (Elt Ideal) ((c.tc : Thread Cert.Kernel6Ideal.nD Cert.Kernel6Ideal.τ).loc Cert.Kernel6Ideal.main_v10_1)) (v1 : (c : Dev Cert.Kernel6Ideal.nD) → Buf (Elt Ideal) ((c.tc : Thread Cert.Kernel6Ideal.nD Cert.Kernel6Ideal.τ).loc Cert.Kernel6Ideal.main_v10_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v10_1) = v0 c
          ∧ r.2.mem ((c.tc : Thread Cert.Kernel6Ideal.nD Cert.Kernel6Ideal.τ).loc Cert.Kernel6Ideal.main_v10_2) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v26) = v0 c
          ∧ r.2.mem ((c.tc : Thread Cert.Reference6Ideal.nD Cert.Reference6Ideal.τ).loc Cert.Reference6Ideal.main_v30) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9))

def preserves_Kernel7_Kernel7Ideal : Prop :=
  True

def algebraic_Kernel7Ideal_Reference7Ideal_pre_finite_sample [hKernel7Ideal : Cert.Kernel7Ideal.Facts] [hReference7Ideal : Cert.Reference7Ideal.Facts] [hPre_finite_sample : Cert.Pre_finite_sample.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite_sample m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)) →
    ∃ (v0 : (c : Dev Cert.Kernel7Ideal.nD) → Buf (Elt Ideal) ((c.tc : Thread Cert.Kernel7Ideal.nD Cert.Kernel7Ideal.τ).loc Cert.Kernel7Ideal.main_v7)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v7) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v164) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v4)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v4) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v18) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite_routing : Cert.Pre_finite_routing.Facts) (hPre_finite_pooling : Cert.Pre_finite_pooling.Facts) (hPre_finite_sample : Cert.Pre_finite_sample.Facts),
    quiescent_Kernel (hKernel := hKernel)
    ∧ quiescent_KernelIdeal (hKernelIdeal := hKernelIdeal)
    ∧ quiescent_KernelIdeal_pre_finite_routing (hKernelIdeal := hKernelIdeal) (hPre_finite_routing := hPre_finite_routing)
    ∧ quiescent_ReferenceIdeal (hReferenceIdeal := hReferenceIdeal)
    ∧ quiescent_ReferenceIdeal_pre_finite_routing (hReferenceIdeal := hReferenceIdeal) (hPre_finite_routing := hPre_finite_routing)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite_pooling (hKernel4Ideal := hKernel4Ideal) (hPre_finite_pooling := hPre_finite_pooling)
    ∧ quiescent_Reference4Ideal (hReference4Ideal := hReference4Ideal)
    ∧ quiescent_Reference4Ideal_pre_finite_pooling (hReference4Ideal := hReference4Ideal) (hPre_finite_pooling := hPre_finite_pooling)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_finite_sample (hKernel7Ideal := hKernel7Ideal) (hPre_finite_sample := hPre_finite_sample)
    ∧ quiescent_Reference7Ideal (hReference7Ideal := hReference7Ideal)
    ∧ quiescent_Reference7Ideal_pre_finite_sample (hReference7Ideal := hReference7Ideal) (hPre_finite_sample := hPre_finite_sample)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal_pre_finite_routing (hKernelIdeal := hKernelIdeal) (hReferenceIdeal := hReferenceIdeal) (hPre_finite_routing := hPre_finite_routing)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite_pooling (hKernel4Ideal := hKernel4Ideal) (hReference4Ideal := hReference4Ideal) (hPre_finite_pooling := hPre_finite_pooling)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_finite_sample (hKernel7Ideal := hKernel7Ideal) (hReference7Ideal := hReference7Ideal) (hPre_finite_sample := hPre_finite_sample)
    ∧ preserves_Kernel8_Kernel8Ideal
    ∧ algebraic_Kernel8Ideal_Reference8Ideal (hKernel8Ideal := hKernel8Ideal) (hReference8Ideal := hReference8Ideal)
-- ==== Pre_finite_pooling.lean ====
abbrev S128x1024 : Shape := ⟨2, ![128, 1024]⟩
abbrev S1024 : Shape := ⟨1, ![1024]⟩
abbrev S1024x1536 : Shape := ⟨2, ![1024, 1536]⟩
abbrev S31x512 : Shape := ⟨2, ![31, 512]⟩
abbrev S512 : Shape := ⟨1, ![512]⟩
abbrev S4x128x128 : Shape := ⟨3, ![4, 128, 128]⟩
abbrev S1024x1024 : Shape := ⟨2, ![1024, 1024]⟩
abbrev S8x30x512 : Shape := ⟨3, ![8, 30, 512]⟩
abbrev S8x15x512 : Shape := ⟨3, ![8, 15, 512]⟩
abbrev S_ : Shape := ⟨0, ![]⟩

class Facts : Prop where
  bcast_S_S128x1024 : S_.BroadcastsInDim S128x1024 (![] : Fin 0 → Fin S128x1024.rank)
  reducesTo_S128x1024_S_d0_1 : S128x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x1536 : S_.BroadcastsInDim S1024x1536 (![] : Fin 0 → Fin S1024x1536.rank)
  reducesTo_S1024x1536_S_d0_1 : S1024x1536.ReducesTo [0, 1] S_
  bcast_S_S8x15x512 : S_.BroadcastsInDim S8x15x512 (![] : Fin 0 → Fin S8x15x512.rank)
  reducesTo_S8x15x512_S_d0_1_2 : S8x15x512.ReducesTo [0, 1, 2] S_

variable [Facts]

def fn_part1 {F : FTy → Type} [FloatOps F] (main_v13 : IVec S_ 1) (main_v16 : IVec S8x15x512 1) : IVec S_ 1 :=
  let main_c_5 : IVec S_ 1 := constantI S_ 1 1#1
  let main_v17 : IVec S_ 1 := (fun x v => Host.reduce IntOp.andi x v reducesTo_S8x15x512_S_d0_1_2 h_S_) main_v16 main_c_5
  let main_v18 : IVec S_ 1 := andi main_v13 main_v17
  main_v18

def fn {F : FTy → Type} [FloatOps F] (main_arg0 : FVec F S128x1024 .f32) (main_arg1 : FVec F S1024 .f32) (main_arg2 : FVec F S1024x1536 .f32) (main_arg3 : FVec F S31x512 .f32) (main_arg4 : FVec F S512 .f32) (main_arg5 : FVec F S512 .f32) (main_arg6 : FVec F S512 .f32) (main_arg7 : FVec F S4x128x128 .f32) (main_arg8 : FVec F S512 .f32) (main_arg9 : FVec F S1024x1024 .f32) (main_arg10 : FVec F S8x30x512 .f32) (main_arg11 : FVec F S8x15x512 .f32) : IVec S_ 1 :=
  let main_v0 : FVec F S128x1024 .f32 := Host.absf main_arg0
  let main_cst : FVec F S_ .f32 := constant S_ .f32 0x7F800000#32
  let main_v1 : FVec F S128x1024 .f32 := broadcastInDim S128x1024 ![] bcast_S_S128x1024 main_cst
  let main_v2 : IVec S128x1024 1 := cmpf .olt main_v0 main_v1
  let main_c : IVec S_ 1 := constantI S_ 1 1#1
  let main_v3 : IVec S_ 1 := (fun x v => Host.reduce IntOp.andi x v reducesTo_S128x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x1536 .f32 := Host.absf main_arg2
  let main_cst_2 : FVec F S_ .f32 := constant S_ .f32 0x7F800000#32
  let main_v10 : FVec F S1024x1536 .f32 := broadcastInDim S1024x1536 ![] bcast_S_S1024x1536 main_cst_2
  let main_v11 : IVec S1024x1536 1 := cmpf .olt main_v9 main_v10
  let main_c_3 : IVec S_ 1 := constantI S_ 1 1#1
  let main_v12 : IVec S_ 1 := (fun x v => Host.reduce IntOp.andi x v reducesTo_S1024x1536_S_d0_1 h_S_) main_v11 main_c_3
  let main_v13 : IVec S_ 1 := andi main_v8 main_v12
  let main_v14 : FVec F S8x15x512 .f32 := Host.absf main_arg11
  let main_cst_4 : FVec F S_ .f32 := constant S_ .f32 0x7F800000#32
  let main_v15 : FVec F S8x15x512 .f32 := broadcastInDim S8x15x512 ![] bcast_S_S8x15x512 main_cst_4
  let main_v16 : IVec S8x15x512 1 := cmpf .olt main_v14 main_v15
  fn_part1 (F := F) main_v13 main_v16
-- ==== Pre_finite_routing.lean ====
abbrev S32768x1024 : Shape := ⟨2, ![32768, 1024]⟩
abbrev S1024 : Shape := ⟨1, ![1024]⟩
abbrev S1024x8 : Shape := ⟨2, ![1024, 8]⟩
abbrev S8x1024x1408 : Shape := ⟨3, ![8, 1024, 1408]⟩
abbrev S8x1408x1024 : Shape := ⟨3, ![8, 1408, 1024]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x8 : S_.BroadcastsInDim S1024x8 (![] : Fin 0 → Fin S1024x8.rank)
  reducesTo_S1024x8_S_d0_1 : S1024x8.ReducesTo [0, 1] S_

variable [Facts]

def fn {F : FTy → Type} [FloatOps F] (main_arg0 : FVec F S32768x1024 .f32) (main_arg1 : FVec F S1024 .f32) (main_arg2 : FVec F S1024x8 .f32) (main_arg3 : FVec F S8x1024x1408 .f32) (main_arg4 : FVec F S8x1024x1408 .f32) (main_arg5 : FVec F S8x1408x1024 .f32) (main_arg6 : FVec F S1024 .f32) : IVec S_ 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x8 .f32 := Host.absf main_arg2
  let main_cst_2 : FVec F S_ .f32 := constant S_ .f32 0x7F800000#32
  let main_v10 : FVec F S1024x8 .f32 := broadcastInDim S1024x8 ![] bcast_S_S1024x8 main_cst_2
  let main_v11 : IVec S1024x8 1 := cmpf .olt main_v9 main_v10
  let main_c_3 : IVec S_ 1 := constantI S_ 1 1#1
  let main_v12 : IVec S_ 1 := (fun x v => Host.reduce IntOp.andi x v reducesTo_S1024x8_S_d0_1 h_S_) main_v11 main_c_3
  let main_v13 : IVec S_ 1 := andi main_v8 main_v12
  main_v13
-- ==== Pre_finite_sample.lean ====
abbrev S128x1024 : Shape := ⟨2, ![128, 1024]⟩
abbrev S1024 : Shape := ⟨1, ![1024]⟩
abbrev S1024x8 : Shape := ⟨2, ![1024, 8]⟩
abbrev S8x1024x1408 : Shape := ⟨3, ![8, 1024, 1408]⟩
abbrev S8x1408x1024 : Shape := ⟨3, ![8, 1408, 1024]⟩
abbrev S_ : Shape := ⟨0, ![]⟩

class Facts : Prop where
  bcast_S_S128x1024 : S_.BroadcastsInDim S128x1024 (![] : Fin 0 → Fin S128x1024.rank)
  reducesTo_S128x1024_S_d0_1 : S128x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x8 : S_.BroadcastsInDim S1024x8 (![] : Fin 0 → Fin S1024x8.rank)
  reducesTo_S1024x8_S_d0_1 : S1024x8.ReducesTo [0, 1] S_

variable [Facts]

def fn {F : FTy → Type} [FloatOps F] (main_arg0 : FVec F S128x1024 .f32) (main_arg1 : FVec F S1024 .f32) (main_arg2 : FVec F S1024x8 .f32) (main_arg3 : FVec F S8x1024x1408 .f32) (main_arg4 : FVec F S8x1024x1408 .f32) (main_arg5 : FVec F S8x1408x1024 .f32) (main_arg6 : FVec F S1024 .f32) : IVec S_ 1 :=
  let main_v0 : FVec F S128x1024 .f32 := Host.absf main_arg0
  let main_cst : FVec F S_ .f32 := constant S_ .f32 0x7F800000#32
  let main_v1 : FVec F S128x1024 .f32 := broadcastInDim S128x1024 ![] bcast_S_S128x1024 main_cst
  let main_v2 : IVec S128x1024 1 := cmpf .olt main_v0 main_v1
  let main_c : IVec S_ 1 := constantI S_ 1 1#1
  let main_v3 : IVec S_ 1 := (fun x v => Host.reduce IntOp.andi x v reducesTo_S128x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x8 .f32 := Host.absf main_arg2
  let main_cst_2 : FVec F S_ .f32 := constant S_ .f32 0x7F800000#32
  let main_v10 : FVec F S1024x8 .f32 := broadcastInDim S1024x8 ![] bcast_S_S1024x8 main_cst_2
  let main_v11 : IVec S1024x8 1 := cmpf .olt main_v9 main_v10
  let main_c_3 : IVec S_ 1 := constantI S_ 1 1#1
  let main_v12 : IVec S_ 1 := (fun x v => Host.reduce IntOp.andi x v reducesTo_S1024x8_S_d0_1 h_S_) main_v11 main_c_3
  let main_v13 : IVec S_ 1 := andi main_v8 main_v12
  main_v13
-- ==== Kernel.lean ====
abbrev S32768x1024 : Shape := ⟨2, ![32768, 1024]⟩
abbrev S1024 : Shape := ⟨1, ![1024]⟩
abbrev S1024x8 : Shape := ⟨2, ![1024, 8]⟩
abbrev S8x1024x1408 : Shape := ⟨3, ![8, 1024, 1408]⟩
abbrev S8x1408x1024 : Shape := ⟨3, ![8, 1408, 1024]⟩
abbrev S_ : Shape := ⟨0, ![]⟩
abbrev S1024x128 : Shape := ⟨2, ![1024, 128]⟩
abbrev S1x1024 : Shape := ⟨2, ![1, 1024]⟩
abbrev S512x1024 : Shape := ⟨2, ![512, 1024]⟩
abbrev S1x1024x1408 : Shape := ⟨3, ![1, 1024, 1408]⟩
abbrev S1x1408x1024 : Shape := ⟨3, ![1, 1408, 1024]⟩
abbrev S512x128 : Shape := ⟨2, ![512, 128]⟩
abbrev S512 : Shape := ⟨1, ![512]⟩
abbrev S512x1 : Shape := ⟨2, ![512, 1]⟩
abbrev S1024x1408 : Shape := ⟨2, ![1024, 1408]⟩
abbrev S512x1408 : Shape := ⟨2, ![512, 1408]⟩
abbrev S1408x1024 : Shape := ⟨2, ![1408, 1024]⟩

abbrev nBuf : Space → Nat
  | .hbm => 17
  | .vmem => 16
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x8, .f32⟩
  | .hbm, ⟨3, _⟩ => ⟨S8x1024x1408, .f32⟩
  | .hbm, ⟨4, _⟩ => ⟨S8x1024x1408, .f32⟩
  | .hbm, ⟨5, _⟩ => ⟨S8x1408x1024, .f32⟩
  | .hbm, ⟨6, _⟩ => ⟨S1024, .f32⟩
  | .hbm, ⟨7, _⟩ => ⟨S1024x8, .bf16⟩
  | .hbm, ⟨8, _⟩ => ⟨S_, .i32⟩
  | .hbm, ⟨9, _⟩ => ⟨S_, .bf16⟩
  | .hbm, ⟨10, _⟩ => ⟨S1024x128, .bf16⟩
  | .hbm, ⟨11, _⟩ => ⟨S1x1024, .f32⟩
  | .hbm, ⟨12, _⟩ => ⟨S8x1024x1408, .bf16⟩
  | .hbm, ⟨13, _⟩ => ⟨S8x1024x1408, .bf16⟩
  | .hbm, ⟨14, _⟩ => ⟨S8x1408x1024, .bf16⟩
  | .hbm, ⟨15, _⟩ => ⟨S1x1024, .f32⟩
  | .hbm, ⟨16, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x128, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1x1024x1408, .bf16⟩
  | .local _ .vmem, ⟨7, _⟩ => ⟨S1x1024x1408, .bf16⟩
  | .local _ .vmem, ⟨8, _⟩ => ⟨S1x1408x1024, .bf16⟩
  | .local _ .vmem, ⟨9, _⟩ => ⟨S1x1408x1024, .bf16⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .f32⟩
  | .local _ .vmem, ⟨15, _⟩ => ⟨S512x128, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![64, 8], ![false, false]⟩

def k0_cond4 (i : grid0.Coords) : BitVec 1 :=
  let arg1 : BitVec 32 := BitVec.ofNat 32 (i 1).val
  let c7_i32 : BitVec 32 := 7#32
  let v39 : BitVec 1 := Scalar.cmpi .eq arg1 c7_i32
  let v40 : BitVec 32 := Scalar.extui v39
  let c0_i32_24 : BitVec 32 := 0#32
  let v41 : BitVec 1 := Scalar.cmpi .ne v40 c0_i32_24
  v41

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1408x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ReferenceIdeal.lean ====
abbrev S32768x1024 : Shape := ⟨2, ![32768, 1024]⟩
abbrev S1024 : Shape := ⟨1, ![1024]⟩
abbrev S1024x8 : Shape := ⟨2, ![1024, 8]⟩
abbrev S8x1024x1408 : Shape := ⟨3, ![8, 1024, 1408]⟩
abbrev S8x1408x1024 : Shape := ⟨3, ![8, 1408, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x8 : Shape := ⟨2, ![32768, 8]⟩
abbrev S32768x2 : Shape := ⟨2, ![32768, 2]⟩
abbrev S32768x2x1 : Shape := ⟨3, ![32768, 2, 1]⟩
abbrev S1x1x8 : Shape := ⟨3, ![1, 1, 8]⟩
abbrev S32768x2x8 : Shape := ⟨3, ![32768, 2, 8]⟩
abbrev S1x1024x1408 : Shape := ⟨3, ![1, 1024, 1408]⟩
abbrev S1024x1408 : Shape := ⟨2, ![1024, 1408]⟩
abbrev S1x1408x1024 : Shape := ⟨3, ![1, 1408, 1024]⟩
abbrev S1408x1024 : Shape := ⟨2, ![1408, 1024]⟩
abbrev S32768x1408 : Shape := ⟨2, ![32768, 1408]⟩

abbrev nBuf : Space → Nat
  | .hbm => 254
  | .vmem => 0
  | .smem => 0
  | _ => 0

abbrev hbmTy0_0 (i : Nat) : BufTy := match i % 128 with
  | 0 => ⟨S32768x1024, .f32⟩
  | 1 => ⟨S1024, .f32⟩
  | 2 => ⟨S1024x8, .f32⟩
  | 3 => ⟨S8x1024x1408, .f32⟩
  | 4 => ⟨S8x1024x1408, .f32⟩
  | 5 => ⟨S8x1408x1024, .f32⟩
  | 6 => ⟨S1024, .f32⟩
  | 7 => ⟨S32768x1024, .f32⟩
  | 8 => ⟨S_, .f32⟩
  | 9 => ⟨S32768, .f32⟩
  | 10 => ⟨S32768x1, .f32⟩
  | 11 => ⟨S_, .f32⟩
  | 12 => ⟨S32768x1, .f32⟩
  | 13 => ⟨S32768x1, .f32⟩
  | 14 => ⟨S_, .f32⟩
  | 15 => ⟨S32768x1, .f32⟩
  | 16 => ⟨S32768x1, .f32⟩
  | 17 => ⟨S32768x1, .f32⟩
  | 18 => ⟨S32768x1024, .f32⟩
  | 19 => ⟨S32768x1024, .f32⟩
  | 20 => ⟨S1x1024, .f32⟩
  | 21 => ⟨S32768x1024, .f32⟩
  | 22 => ⟨S32768x1024, .f32⟩
  | 23 => ⟨S32768x8, .f32⟩
  | 24 => ⟨S32768x2, .f32⟩
  | 25 => ⟨S32768x2, .i32⟩
  | 26 => ⟨S_, .f32⟩
  | 27 => ⟨S32768, .f32⟩
  | 28 => ⟨S_, .f32⟩
  | 29 => ⟨S32768, .f32⟩
  | 30 => ⟨S32768, .f32⟩
  | 31 => ⟨S32768x1, .f32⟩
  | 32 => ⟨S32768x2, .f32⟩
  | 33 => ⟨S32768x2, .f32⟩
  | 34 => ⟨S32768x2, .f32⟩
  | 35 => ⟨S_, .f32⟩
  | 36 => ⟨S32768, .f32⟩
  | 37 => ⟨S32768x1, .f32⟩
  | 38 => ⟨S32768x2, .f32⟩
  | 39 => ⟨S32768x2, .f32⟩
  | 40 => ⟨S32768x2x1, .i32⟩
  | 41 => ⟨S1x1x8, .i32⟩
  | 42 => ⟨S32768x2x8, .i32⟩
  | 43 => ⟨S32768x2x8, .i32⟩
  | 44 => ⟨S32768x2x8, .i1⟩
  | 45 => ⟨S32768x2x8, .f32⟩
  | 46 => ⟨S32768x2x1, .f32⟩
  | 47 => ⟨S32768x2x8, .f32⟩
  | 48 => ⟨S32768x2x8, .f32⟩
  | 49 => ⟨S_, .f32⟩
  | 50 => ⟨S32768x8, .f32⟩
  | 51 => ⟨S_, .f32⟩
  | 52 => ⟨S32768x1024, .f32⟩
  | 53 => ⟨S32768x1, .f32⟩
  | 54 => ⟨S1x1024x1408, .f32⟩
  | 55 => ⟨S1024x1408, .f32⟩
  | 56 => ⟨S1x1024x1408, .f32⟩
  | 57 => ⟨S1024x1408, .f32⟩
  | 58 => ⟨S1x1408x1024, .f32⟩
  | 59 => ⟨S1408x1024, .f32⟩
  | 60 => ⟨S32768x1408, .f32⟩
  | 61 => ⟨S32768x1408, .f32⟩
  | 62 => ⟨S32768x1408, .f32⟩
  | 63 => ⟨S_, .f32⟩
  | 64 => ⟨S32768x1408, .f32⟩
  | 65 => ⟨S32768x1408, .f32⟩
  | 66 => ⟨S_, .f32⟩
  | 67 => ⟨S32768x1408, .f32⟩
  | 68 => ⟨S32768x1408, .f32⟩
  | 69 => ⟨S32768x1408, .f32⟩
  | 70 => ⟨S32768x1408, .f32⟩
  | 71 => ⟨S32768x1408, .f32⟩
  | 72 => ⟨S32768x1024, .f32⟩
  | 73 => ⟨S32768x1024, .f32⟩
  | 74 => ⟨S32768x1024, .f32⟩
  | 75 => ⟨S32768x1024, .f32⟩
  | 76 => ⟨S32768x1, .f32⟩
  | 77 => ⟨S1x1024x1408, .f32⟩
  | 78 => ⟨S1024x1408, .f32⟩
  | 79 => ⟨S1x1024x1408, .f32⟩
  | 80 => ⟨S1024x1408, .f32⟩
  | 81 => ⟨S1x1408x1024, .f32⟩
  | 82 => ⟨S1408x1024, .f32⟩
  | 83 => ⟨S32768x1408, .f32⟩
  | 84 => ⟨S32768x1408, .f32⟩
  | 85 => ⟨S32768x1408, .f32⟩
  | 86 => ⟨S_, .f32⟩
  | 87 => ⟨S32768x1408, .f32⟩
  | 88 => ⟨S32768x1408, .f32⟩
  | 89 => ⟨S_, .f32⟩
  | 90 => ⟨S32768x1408, .f32⟩
  | 91 => ⟨S32768x1408, .f32⟩
  | 92 => ⟨S32768x1408, .f32⟩
  | 93 => ⟨S32768x1408, .f32⟩
  | 94 => ⟨S32768x1408, .f32⟩
  | 95 => ⟨S32768x1024, .f32⟩
  | 96 => ⟨S32768x1024, .f32⟩
  | 97 => ⟨S32768x1024, .f32⟩
  | 98 => ⟨S32768x1024, .f32⟩
  | 99 => ⟨S32768x1, .f32⟩
  | 100 => ⟨S1x1024x1408, .f32⟩
  | 101 => ⟨S1024x1408, .f32⟩
  | 102 => ⟨S1x1024x1408, .f32⟩
  | 103 => ⟨S1024x1408, .f32⟩
  | 104 => ⟨S1x1408x1024, .f32⟩
  | 105 => ⟨S1408x1024, .f32⟩
  | 106 => ⟨S32768x1408, .f32⟩
  | 107 => ⟨S32768x1408, .f32⟩
  | 108 => ⟨S32768x1408, .f32⟩
  | 109 => ⟨S_, .f32⟩
  | 110 => ⟨S32768x1408, .f32⟩
  | 111 => ⟨S32768x1408, .f32⟩
  | 112 => ⟨S_, .f32⟩
  | 113 => ⟨S32768x1408, .f32⟩
  | 114 => ⟨S32768x1408, .f32⟩
  | 115 => ⟨S32768x1408, .f32⟩
  | 116 => ⟨S32768x1408, .f32⟩
  | 117 => ⟨S32768x1408, .f32⟩
  | 118 => ⟨S32768x1024, .f32⟩
  | 119 => ⟨S32768x1024, .f32⟩
  | 120 => ⟨S32768x1024, .f32⟩
  | 121 => ⟨S32768x1024, .f32⟩
  | 122 => ⟨S32768x1, .f32⟩
  | 123 => ⟨S1x1024x1408, .f32⟩
  | 124 => ⟨S1024x1408, .f32⟩
  | 125 => ⟨S1x1024x1408, .f32⟩
  | 126 => ⟨S1024x1408, .f32⟩
  | 127 => ⟨S1x1408x1024, .f32⟩
  | _ => ⟨S32768x1024, .f32⟩

abbrev hbmTy0_1 (i : Nat) : BufTy := match i % 128 with
  | 0 => ⟨S1408x1024, .f32⟩
  | 1 => ⟨S32768x1408, .f32⟩
  | 2 => ⟨S32768x1408, .f32⟩
  | 3 => ⟨S32768x1408, .f32⟩
  | 4 => ⟨S_, .f32⟩
  | 5 => ⟨S32768x1408, .f32⟩
  | 6 => ⟨S32768x1408, .f32⟩
  | 7 => ⟨S_, .f32⟩
  | 8 => ⟨S32768x1408, .f32⟩
  | 9 => ⟨S32768x1408, .f32⟩
  | 10 => ⟨S32768x1408, .f32⟩
  | 11 => ⟨S32768x1408, .f32⟩
  | 12 => ⟨S32768x1408, .f32⟩
  | 13 => ⟨S32768x1024, .f32⟩
  | 14 => ⟨S32768x1024, .f32⟩
  | 15 => ⟨S32768x1024, .f32⟩
  | 16 => ⟨S32768x1024, .f32⟩
  | 17 => ⟨S32768x1, .f32⟩
  | 18 => ⟨S1x1024x1408, .f32⟩
  | 19 => ⟨S1024x1408, .f32⟩
  | 20 => ⟨S1x1024x1408, .f32⟩
  | 21 => ⟨S1024x1408, .f32⟩
  | 22 => ⟨S1x1408x1024, .f32⟩
  | 23 => ⟨S1408x1024, .f32⟩
  | 24 => ⟨S32768x1408, .f32⟩
  | 25 => ⟨S32768x1408, .f32⟩
  | 26 => ⟨S32768x1408, .f32⟩
  | 27 => ⟨S_, .f32⟩
  | 28 => ⟨S32768x1408, .f32⟩
  | 29 => ⟨S32768x1408, .f32⟩
  | 30 => ⟨S_, .f32⟩
  | 31 => ⟨S32768x1408, .f32⟩
  | 32 => ⟨S32768x1408, .f32⟩
  | 33 => ⟨S32768x1408, .f32⟩
  | 34 => ⟨S32768x1408, .f32⟩
  | 35 => ⟨S32768x1408, .f32⟩
  | 36 => ⟨S32768x1024, .f32⟩
  | 37 => ⟨S32768x1024, .f32⟩
  | 38 => ⟨S32768x1024, .f32⟩
  | 39 => ⟨S32768x1024, .f32⟩
  | 40 => ⟨S32768x1, .f32⟩
  | 41 => ⟨S1x1024x1408, .f32⟩
  | 42 => ⟨S1024x1408, .f32⟩
  | 43 => ⟨S1x1024x1408, .f32⟩
  | 44 => ⟨S1024x1408, .f32⟩
  | 45 => ⟨S1x1408x1024, .f32⟩
  | 46 => ⟨S1408x1024, .f32⟩
  | 47 => ⟨S32768x1408, .f32⟩
  | 48 => ⟨S32768x1408, .f32⟩
  | 49 => ⟨S32768x1408, .f32⟩
  | 50 => ⟨S_, .f32⟩
  | 51 => ⟨S32768x1408, .f32⟩
  | 52 => ⟨S32768x1408, .f32⟩
  | 53 => ⟨S_, .f32⟩
  | 54 => ⟨S32768x1408, .f32⟩
  | 55 => ⟨S32768x1408, .f32⟩
  | 56 => ⟨S32768x1408, .f32⟩
  | 57 => ⟨S32768x1408, .f32⟩
  | 58 => ⟨S32768x1408, .f32⟩
  | 59 => ⟨S32768x1024, .f32⟩
  | 60 => ⟨S32768x1024, .f32⟩
  | 61 => ⟨S32768x1024, .f32⟩
  | 62 => ⟨S32768x1024, .f32⟩
  | 63 => ⟨S32768x1, .f32⟩
  | 64 => ⟨S1x1024x1408, .f32⟩
  | 65 => ⟨S1024x1408, .f32⟩
  | 66 => ⟨S1x1024x1408, .f32⟩
  | 67 => ⟨S1024x1408, .f32⟩
  | 68 => ⟨S1x1408x1024, .f32⟩
  | 69 => ⟨S1408x1024, .f32⟩
  | 70 => ⟨S32768x1408, .f32⟩
  | 71 => ⟨S32768x1408, .f32⟩
  | 72 => ⟨S32768x1408, .f32⟩
  | 73 => ⟨S_, .f32⟩
  | 74 => ⟨S32768x1408, .f32⟩
  | 75 => ⟨S32768x1408, .f32⟩
  | 76 => ⟨S_, .f32⟩
  | 77 => ⟨S32768x1408, .f32⟩
  | 78 => ⟨S32768x1408, .f32⟩
  | 79 => ⟨S32768x1408, .f32⟩
  | 80 => ⟨S32768x1408, .f32⟩
  | 81 => ⟨S32768x1408, .f32⟩
  | 82 => ⟨S32768x1024, .f32⟩
  | 83 => ⟨S32768x1024, .f32⟩
  | 84 => ⟨S32768x1024, .f32⟩
  | 85 => ⟨S32768x1024, .f32⟩
  | 86 => ⟨S32768x1, .f32⟩
  | 87 => ⟨S1x1024x1408, .f32⟩
  | 88 => ⟨S1024x1408, .f32⟩
  | 89 => ⟨S1x1024x1408, .f32⟩
  | 90 => ⟨S1024x1408, .f32⟩
  | 91 => ⟨S1x1408x1024, .f32⟩
  | 92 => ⟨S1408x1024, .f32⟩
  | 93 => ⟨S32768x1408, .f32⟩
  | 94 => ⟨S32768x1408, .f32⟩
  | 95 => ⟨S32768x1408, .f32⟩
  | 96 => ⟨S_, .f32⟩
  | 97 => ⟨S32768x1408, .f32⟩
  | 98 => ⟨S32768x1408, .f32⟩
  | 99 => ⟨S_, .f32⟩
  | 100 => ⟨S32768x1408, .f32⟩
  | 101 => ⟨S32768x1408, .f32⟩
  | 102 => ⟨S32768x1408, .f32⟩
  | 103 => ⟨S32768x1408, .f32⟩
  | 104 => ⟨S32768x1408, .f32⟩
  | 105 => ⟨S32768x1024, .f32⟩
  | 106 => ⟨S32768x1024, .f32⟩
  | 107 => ⟨S32768x1024, .f32⟩
  | 108 => ⟨S32768x1024, .f32⟩
  | 109 => ⟨S32768x1024, .f32⟩
  | 110 => ⟨S32768x1024, .f32⟩
  | 111 => ⟨S_, .f32⟩
  | 112 => ⟨S32768, .f32⟩
  | 113 => ⟨S32768x1, .f32⟩
  | 114 => ⟨S_, .f32⟩
  | 115 => ⟨S32768x1, .f32⟩
  | 116 => ⟨S32768x1, .f32⟩
  | 117 => ⟨S_, .f32⟩
  | 118 => ⟨S32768x1, .f32⟩
  | 119 => ⟨S32768x1, .f32⟩
  | 120 => ⟨S32768x1, .f32⟩
  | 121 => ⟨S32768x1024, .f32⟩
  | 122 => ⟨S32768x1024, .f32⟩
  | 123 => ⟨S1x1024, .f32⟩
  | 124 => ⟨S32768x1024, .f32⟩
  | 125 => ⟨S32768x1024, .f32⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_values : Ref sig .tc := ⟨.hbm, 24, rfl⟩
abbrev main_indices : Ref sig .tc := ⟨.hbm, 25, rfl⟩
abbrev main_cst_2 : Ref sig .tc := ⟨.hbm, 26, rfl⟩
abbrev main_v14 : Ref sig .tc := ⟨.hbm, 27, rfl⟩
abbrev main_cst_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_call0_v3 : Ref sig .tc := ⟨.hbm, 43, rfl⟩
abbrev main_call0_v4 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_5 : Ref sig .tc := ⟨.hbm, 49, rfl⟩
abbrev main_v29 : Ref sig .tc := ⟨.hbm, 50, rfl⟩
abbrev main_cst_6 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_call1_v0 : Ref sig .tc := ⟨.hbm, 61, rfl⟩
abbrev main_call1_v1 : Ref sig .tc := ⟨.hbm, 62, rfl⟩
abbrev main_call1_cst : Ref sig .tc := ⟨.hbm, 63, rfl⟩
abbrev main_call1_v2 : Ref sig .tc := ⟨.hbm, 64, rfl⟩
abbrev main_call1_v3 : Ref sig .tc := ⟨.hbm, 65, rfl⟩
abbrev main_call1_cst_0 : Ref sig .tc := ⟨.hbm, 66, rfl⟩
abbrev main_call1_v4 : Ref sig .tc := ⟨.hbm, 67, rfl⟩
abbrev main_call1_v5 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_call2_v0 : Ref sig .tc := ⟨.hbm, 84, rfl⟩
abbrev main_call2_v1 : Ref sig .tc := ⟨.hbm, 85, rfl⟩
abbrev main_call2_cst : Ref sig .tc := ⟨.hbm, 86, rfl⟩
abbrev main_call2_v2 : Ref sig .tc := ⟨.hbm, 87, rfl⟩
abbrev main_call2_v3 : Ref sig .tc := ⟨.hbm, 88, rfl⟩
abbrev main_call2_cst_0 : Ref sig .tc := ⟨.hbm, 89, rfl⟩
abbrev main_call2_v4 : Ref sig .tc := ⟨.hbm, 90, rfl⟩
abbrev main_call2_v5 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_call3_v0 : Ref sig .tc := ⟨.hbm, 107, rfl⟩
abbrev main_call3_v1 : Ref sig .tc := ⟨.hbm, 108, rfl⟩
abbrev main_call3_cst : Ref sig .tc := ⟨.hbm, 109, rfl⟩
abbrev main_call3_v2 : Ref sig .tc := ⟨.hbm, 110, rfl⟩
abbrev main_call3_v3 : Ref sig .tc := ⟨.hbm, 111, rfl⟩
abbrev main_call3_cst_0 : Ref sig .tc := ⟨.hbm, 112, rfl⟩
abbrev main_call3_v4 : Ref sig .tc := ⟨.hbm, 113, rfl⟩
abbrev main_call3_v5 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_call4_v0 : Ref sig .tc := ⟨.hbm, 130, rfl⟩
abbrev main_call4_v1 : Ref sig .tc := ⟨.hbm, 131, rfl⟩
abbrev main_call4_cst : Ref sig .tc := ⟨.hbm, 132, rfl⟩
abbrev main_call4_v2 : Ref sig .tc := ⟨.hbm, 133, rfl⟩
abbrev main_call4_v3 : Ref sig .tc := ⟨.hbm, 134, rfl⟩
abbrev main_call4_cst_0 : Ref sig .tc := ⟨.hbm, 135, rfl⟩
abbrev main_call4_v4 : Ref sig .tc := ⟨.hbm, 136, rfl⟩
abbrev main_call4_v5 : Ref sig .tc := ⟨.hbm, 137, rfl⟩
abbrev main_v84 : Ref sig .tc := ⟨.hbm, 138, rfl⟩
abbrev main_v85 : Ref sig .tc := ⟨.hbm, 139, rfl⟩
abbrev main_v86 : Ref sig .tc := ⟨.hbm, 140, rfl⟩
abbrev main_v87 : Ref sig .tc := ⟨.hbm, 141, rfl⟩
abbrev main_v88 : Ref sig .tc := ⟨.hbm, 142, rfl⟩
abbrev main_v89 : Ref sig .tc := ⟨.hbm, 143, rfl⟩
abbrev main_v90 : Ref sig .tc := ⟨.hbm, 144, rfl⟩
abbrev main_v91 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev main_v95 : Ref sig .tc := ⟨.hbm, 149, rfl⟩
abbrev main_v96 : Ref sig .tc := ⟨.hbm, 150, rfl⟩
abbrev main_v97 : Ref sig .tc := ⟨.hbm, 151, rfl⟩
abbrev main_v98 : Ref sig .tc := ⟨.hbm, 152, rfl⟩
abbrev main_call5_v0 : Ref sig .tc := ⟨.hbm, 153, rfl⟩
abbrev main_call5_v1 : Ref sig .tc := ⟨.hbm, 154, rfl⟩
abbrev main_call5_cst : Ref sig .tc := ⟨.hbm, 155, rfl⟩
abbrev main_call5_v2 : Ref sig .tc := ⟨.hbm, 156, rfl⟩
abbrev main_call5_v3 : Ref sig .tc := ⟨.hbm, 157, rfl⟩
abbrev main_call5_cst_0 : Ref sig .tc := ⟨.hbm, 158, rfl⟩
abbrev main_call5_v4 : Ref sig .tc := ⟨.hbm, 159, rfl⟩
abbrev main_call5_v5 : Ref sig .tc := ⟨.hbm, 160, rfl⟩
abbrev main_v99 : Ref sig .tc := ⟨.hbm, 161, rfl⟩
abbrev main_v100 : Ref sig .tc := ⟨.hbm, 162, rfl⟩
abbrev main_v101 : Ref sig .tc := ⟨.hbm, 163, rfl⟩
abbrev main_v102 : Ref sig .tc := ⟨.hbm, 164, rfl⟩
abbrev main_v103 : Ref sig .tc := ⟨.hbm, 165, rfl⟩
abbrev main_v104 : Ref sig .tc := ⟨.hbm, 166, rfl⟩
abbrev main_v105 : Ref sig .tc := ⟨.hbm, 167, rfl⟩
abbrev main_v106 : Ref sig .tc := ⟨.hbm, 168, rfl⟩
abbrev main_v107 : Ref sig .tc := ⟨.hbm, 169, rfl⟩
abbrev main_v108 : Ref sig .tc := ⟨.hbm, 170, rfl⟩
abbrev main_v109 : Ref sig .tc := ⟨.hbm, 171, rfl⟩
abbrev main_v110 : Ref sig .tc := ⟨.hbm, 172, rfl⟩
abbrev main_v111 : Ref sig .tc := ⟨.hbm, 173, rfl⟩
abbrev main_v112 : Ref sig .tc := ⟨.hbm, 174, rfl⟩
abbrev main_v113 : Ref sig .tc := ⟨.hbm, 175, rfl⟩
abbrev main_call6_v0 : Ref sig .tc := ⟨.hbm, 176, rfl⟩
abbrev main_call6_v1 : Ref sig .tc := ⟨.hbm, 177, rfl⟩
abbrev main_call6_cst : Ref sig .tc := ⟨.hbm, 178, rfl⟩
abbrev main_call6_v2 : Ref sig .tc := ⟨.hbm, 179, rfl⟩
abbrev main_call6_v3 : Ref sig .tc := ⟨.hbm, 180, rfl⟩
abbrev main_call6_cst_0 : Ref sig .tc := ⟨.hbm, 181, rfl⟩
abbrev main_call6_v4 : Ref sig .tc := ⟨.hbm, 182, rfl⟩
abbrev main_call6_v5 : Ref sig .tc := ⟨.hbm, 183, rfl⟩
abbrev main_v114 : Ref sig .tc := ⟨.hbm, 184, rfl⟩
abbrev main_v115 : Ref sig .tc := ⟨.hbm, 185, rfl⟩
abbrev main_v116 : Ref sig .tc := ⟨.hbm, 186, rfl⟩
abbrev main_v117 : Ref sig .tc := ⟨.hbm, 187, rfl⟩
abbrev main_v118 : Ref sig .tc := ⟨.hbm, 188, rfl⟩
abbrev main_v119 : Ref sig .tc := ⟨.hbm, 189, rfl⟩
abbrev main_v120 : Ref sig .tc := ⟨.hbm, 190, rfl⟩
abbrev main_v121 : Ref sig .tc := ⟨.hbm, 191, rfl⟩
abbrev main_v122 : Ref sig .tc := ⟨.hbm, 192, rfl⟩
abbrev main_v123 : Ref sig .tc := ⟨.hbm, 193, rfl⟩
abbrev main_v124 : Ref sig .tc := ⟨.hbm, 194, rfl⟩
abbrev main_v125 : Ref sig .tc := ⟨.hbm, 195, rfl⟩
abbrev main_v126 : Ref sig .tc := ⟨.hbm, 196, rfl⟩
abbrev main_v127 : Ref sig .tc := ⟨.hbm, 197, rfl⟩
abbrev main_v128 : Ref sig .tc := ⟨.hbm, 198, rfl⟩
abbrev main_call7_v0 : Ref sig .tc := ⟨.hbm, 199, rfl⟩
abbrev main_call7_v1 : Ref sig .tc := ⟨.hbm, 200, rfl⟩
abbrev main_call7_cst : Ref sig .tc := ⟨.hbm, 201, rfl⟩
abbrev main_call7_v2 : Ref sig .tc := ⟨.hbm, 202, rfl⟩
abbrev main_call7_v3 : Ref sig .tc := ⟨.hbm, 203, rfl⟩
abbrev main_call7_cst_0 : Ref sig .tc := ⟨.hbm, 204, rfl⟩
abbrev main_call7_v4 : Ref sig .tc := ⟨.hbm, 205, rfl⟩
abbrev main_call7_v5 : Ref sig .tc := ⟨.hbm, 206, rfl⟩
abbrev main_v129 : Ref sig .tc := ⟨.hbm, 207, rfl⟩
abbrev main_v130 : Ref sig .tc := ⟨.hbm, 208, rfl⟩
abbrev main_v131 : Ref sig .tc := ⟨.hbm, 209, rfl⟩
abbrev main_v132 : Ref sig .tc := ⟨.hbm, 210, rfl⟩
abbrev main_v133 : Ref sig .tc := ⟨.hbm, 211, rfl⟩
abbrev main_v134 : Ref sig .tc := ⟨.hbm, 212, rfl⟩
abbrev main_v135 : Ref sig .tc := ⟨.hbm, 213, rfl⟩
abbrev main_v136 : Ref sig .tc := ⟨.hbm, 214, rfl⟩
abbrev main_v137 : Ref sig .tc := ⟨.hbm, 215, rfl⟩
abbrev main_v138 : Ref sig .tc := ⟨.hbm, 216, rfl⟩
abbrev main_v139 : Ref sig .tc := ⟨.hbm, 217, rfl⟩
abbrev main_v140 : Ref sig .tc := ⟨.hbm, 218, rfl⟩
abbrev main_v141 : Ref sig .tc := ⟨.hbm, 219, rfl⟩
abbrev main_v142 : Ref sig .tc := ⟨.hbm, 220, rfl⟩
abbrev main_v143 : Ref sig .tc := ⟨.hbm, 221, rfl⟩
abbrev main_call8_v0 : Ref sig .tc := ⟨.hbm, 222, rfl⟩
abbrev main_call8_v1 : Ref sig .tc := ⟨.hbm, 223, rfl⟩
abbrev main_call8_cst : Ref sig .tc := ⟨.hbm, 224, rfl⟩
abbrev main_call8_v2 : Ref sig .tc := ⟨.hbm, 225, rfl⟩
abbrev main_call8_v3 : Ref sig .tc := ⟨.hbm, 226, rfl⟩
abbrev main_call8_cst_0 : Ref sig .tc := ⟨.hbm, 227, rfl⟩
abbrev main_call8_v4 : Ref sig .tc := ⟨.hbm, 228, rfl⟩
abbrev main_call8_v5 : Ref sig .tc := ⟨.hbm, 229, rfl⟩
abbrev main_v144 : Ref sig .tc := ⟨.hbm, 230, rfl⟩
abbrev main_v145 : Ref sig .tc := ⟨.hbm, 231, rfl⟩
abbrev main_v146 : Ref sig .tc := ⟨.hbm, 232, rfl⟩
abbrev main_v147 : Ref sig .tc := ⟨.hbm, 233, rfl⟩
abbrev main_v148 : Ref sig .tc := ⟨.hbm, 234, rfl⟩
abbrev main_v149 : Ref sig .tc := ⟨.hbm, 235, rfl⟩
abbrev main_v150 : Ref sig .tc := ⟨.hbm, 236, rfl⟩
abbrev main_v151 : Ref sig .tc := ⟨.hbm, 237, rfl⟩
abbrev main_v152 : Ref sig .tc := ⟨.hbm, 238, rfl⟩
abbrev main_cst_7 : Ref sig .tc := ⟨.hbm, 239, rfl⟩
abbrev main_v153 : Ref sig .tc := ⟨.hbm, 240, rfl⟩
abbrev main_v154 : Ref sig .tc := ⟨.hbm, 241, rfl⟩
abbrev main_cst_8 : Ref sig .tc := ⟨.hbm, 242, rfl⟩
abbrev main_v155 : Ref sig .tc := ⟨.hbm, 243, rfl⟩
abbrev main_v156 : Ref sig .tc := ⟨.hbm, 244, rfl⟩
abbrev main_cst_9 : Ref sig .tc := ⟨.hbm, 245, rfl⟩
abbrev main_v157 : Ref sig .tc := ⟨.hbm, 246, rfl⟩
abbrev main_v158 : Ref sig .tc := ⟨.hbm, 247, rfl⟩
abbrev main_v159 : Ref sig .tc := ⟨.hbm, 248, rfl⟩
abbrev main_v160 : Ref sig .tc := ⟨.hbm, 249, rfl⟩
abbrev main_v161 : Ref sig .tc := ⟨.hbm, 250, rfl⟩
abbrev main_v162 : Ref sig .tc := ⟨.hbm, 251, rfl⟩
abbrev main_v163 : Ref sig .tc := ⟨.hbm, 252, rfl⟩
abbrev main_v164 : Ref sig .tc := ⟨.hbm, 253, rfl⟩

abbrev nD : Nat := 1
abbrev τ : Topo := Topo.v7x

variable {F : FTy → Type} [FloatOps F]
-- ==== Kernel2.lean ====
abbrev S32768x1024 : Shape := ⟨2, ![32768, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S512x1024 : Shape := ⟨2, ![512, 1024]⟩
abbrev S1024x1408 : Shape := ⟨2, ![1024, 1408]⟩
abbrev S1408x1024 : Shape := ⟨2, ![1408, 1024]⟩
abbrev S512 : Shape := ⟨1, ![512]⟩
abbrev S512x1 : Shape := ⟨2, ![512, 1]⟩
abbrev S512x1408 : Shape := ⟨2, ![512, 1408]⟩

abbrev nBuf : Space → Nat
  | .hbm => 10
  | .vmem => 13
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1x1024, .f32⟩
  | .hbm, ⟨6, _⟩ => ⟨S1024x2816, .bf16⟩
  | .hbm, ⟨7, _⟩ => ⟨S1024x2816, .bf16⟩
  | .hbm, ⟨8, _⟩ => ⟨S2816x1024, .bf16⟩
  | .hbm, ⟨9, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1408x1024, .bf16⟩
  | .local _ .vmem, ⟨8, _⟩ => ⟨S1408x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![64, 2], ![false, false]⟩

def k0_cond4 (i : grid0.Coords) : BitVec 1 :=
  let arg1 : BitVec 32 := BitVec.ofNat 32 (i 1).val
  let c1_i32 : BitVec 32 := 1#32
  let v29 : BitVec 1 := Scalar.cmpi .eq arg1 c1_i32
  let v30 : BitVec 32 := Scalar.extui v29
  let c0_i32_17 : BitVec 32 := 0#32
  let v31 : BitVec 1 := Scalar.cmpi .ne v30 c0_i32_17
  v31

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1408x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference2Ideal.lean ====
abbrev S32768x1024 : Shape := ⟨2, ![32768, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x2816 : Shape := ⟨2, ![32768, 2816]⟩

abbrev nBuf : Space → Nat
  | .hbm => 35
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S32768x1024, .f32⟩
  | .hbm, ⟨6, _⟩ => ⟨S_, .f32⟩
  | .hbm, ⟨7, _⟩ => ⟨S32768, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S32768x1, .f32⟩
  | .hbm, ⟨16, _⟩ => ⟨S32768x1024, .f32⟩
  | .hbm, ⟨17, _⟩ => ⟨S32768x1024, .f32⟩
  | .hbm, ⟨18, _⟩ => ⟨S1x1024, .f32⟩
  | .hbm, ⟨19, _⟩ => ⟨S32768x1024, .f32⟩
  | .hbm, ⟨20, _⟩ => ⟨S32768x1024, .f32⟩
  | .hbm, ⟨21, _⟩ => ⟨S32768x2816, .f32⟩
  | .hbm, ⟨22, _⟩ => ⟨S32768x2816, .f32⟩
  | .hbm, ⟨23, _⟩ => ⟨S32768x2816, .f32⟩
  | .hbm, ⟨24, _⟩ => ⟨S_, .f32⟩
  | .hbm, ⟨25, _⟩ => ⟨S32768x2816, .f32⟩
  | .hbm, ⟨26, _⟩ => ⟨S32768x2816, .f32⟩
  | .hbm, ⟨27, _⟩ => ⟨S_, .f32⟩
  | .hbm, ⟨28, _⟩ => ⟨S32768x2816, .f32⟩
  | .hbm, ⟨29, _⟩ => ⟨S32768x2816, .f32⟩
  | .hbm, ⟨30, _⟩ => ⟨S32768x2816, .f32⟩
  | .hbm, ⟨31, _⟩ => ⟨S32768x2816, .f32⟩
  | .hbm, ⟨32, _⟩ => ⟨S32768x2816, .f32⟩
  | .hbm, ⟨33, _⟩ => ⟨S32768x1024, .f32⟩
  | .hbm, ⟨34, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩

abbrev nD : Nat := 1
abbrev τ : Topo := Topo.v7x

variable {F : FTy → Type} [FloatOps F]
-- ==== Kernel3.lean ====
abbrev S128x1024 : Shape := ⟨2, ![128, 1024]⟩
abbrev S8 : Shape := ⟨1, ![8]⟩
abbrev S1024 : Shape := ⟨1, ![1024]⟩
abbrev S1024x1792 : Shape := ⟨2, ![1024, 1792]⟩
abbrev S512 : Shape := ⟨1, ![512]⟩
abbrev S4x128x128 : Shape := ⟨3, ![4, 128, 128]⟩
abbrev S4x128 : Shape := ⟨2, ![4, 128]⟩
abbrev S1024x1024 : Shape := ⟨2, ![1024, 1024]⟩
abbrev S8x128x2x64 : Shape := ⟨4, ![8, 128, 2, 64]⟩
abbrev S128x4 : Shape := ⟨2, ![128, 4]⟩
abbrev S128x4x128 : Shape := ⟨3, ![128, 4, 128]⟩
abbrev S128x512 : Shape := ⟨2, ![128, 512]⟩
abbrev S1x1024 : Shape := ⟨2, ![1, 1024]⟩
abbrev S1x512 : Shape := ⟨2, ![1, 512]⟩
abbrev S8x128x128 : Shape := ⟨3, ![8, 128, 128]⟩
abbrev S8x16x128 : Shape := ⟨3, ![8, 16, 128]⟩
abbrev S16x1024 : Shape := ⟨2, ![16, 1024]⟩
abbrev S1x128x128 : Shape := ⟨3, ![1, 128, 128]⟩
abbrev S1x16x128 : Shape := ⟨3, ![1, 16, 128]⟩
abbrev S16x512 : Shape := ⟨2, ![16, 512]⟩
abbrev S2x144x64 : Shape := ⟨3, ![2, 144, 64]⟩
abbrev S1x128x64 : Shape := ⟨3, ![1, 128, 64]⟩
abbrev S128x64 : Shape := ⟨2, ![128, 64]⟩
abbrev S16 : Shape := ⟨1, ![16]⟩
abbrev S16x1 : Shape := ⟨2, ![16, 1]⟩
abbrev S16x1792 : Shape := ⟨2, ![16, 1792]⟩
abbrev S128x128 : Shape := ⟨2, ![128, 128]⟩
abbrev S16x128 : Shape := ⟨2, ![16, 128]⟩
abbrev S16x64 : Shape := ⟨2, ![16, 64]⟩
abbrev S1x16x64 : Shape := ⟨3, ![1, 16, 64]⟩
abbrev S64x1 : Shape := ⟨2, ![64, 1]⟩
abbrev S1 : Shape := ⟨1, ![1]⟩
abbrev S64x64 : Shape := ⟨2, ![64, 64]⟩
abbrev S1x144x64 : Shape := ⟨3, ![1, 144, 64]⟩
abbrev S144x64 : Shape := ⟨2, ![144, 64]⟩
abbrev S64x144 : Shape := ⟨2, ![64, 144]⟩
abbrev S64 : Shape := ⟨1, ![64]⟩

abbrev nBuf : Space → Nat
  | .hbm => 25
  | .vmem => 26
  | .smem => 1
  | _ => 0

abbrev bufTy : (tb : Table) → Fin (tcTables nBuf tb) → BufTy
  | .hbm, ⟨0, _⟩ => ⟨S128x1024, .f32⟩
  | .hbm, ⟨1, _⟩ => ⟨S8, .f32⟩
  | .hbm, ⟨2, _⟩ => ⟨S1024, .f32⟩
  | .hbm, ⟨3, _⟩ => ⟨S1024x1792, .f32⟩
  | .hbm, ⟨4, _⟩ => ⟨S512, .f32⟩
  | .hbm, ⟨5, _⟩ => ⟨S512, .f32⟩
  | .hbm, ⟨6, _⟩ => ⟨S4x128x128, .f32⟩
  | .hbm, ⟨7, _⟩ => ⟨S4x128, .f32⟩
  | .hbm, ⟨8, _⟩ => ⟨S1024x1024, .f32⟩
  | .hbm, ⟨9, _⟩ => ⟨S8x128x2x64, .f32⟩
  | .hbm, ⟨10, _⟩ => ⟨S8x128x2x64, .f32⟩
  | .hbm, ⟨11, _⟩ => ⟨S128x4, .f32⟩
  | .hbm, ⟨12, _⟩ => ⟨S128x4x128, .f32⟩
  | .hbm, ⟨13, _⟩ => ⟨S128x512, .f32⟩
  | .hbm, ⟨14, _⟩ => ⟨S1x1024, .f32⟩
  | .hbm, ⟨15, _⟩ => ⟨S1024x1792, .bf16⟩
  | .hbm, ⟨16, _⟩ => ⟨S1x512, .f32⟩
  | .hbm, ⟨17, _⟩ => ⟨S1x512, .f32⟩
  | .hbm, ⟨18, _⟩ => ⟨S1024x1024, .bf16⟩
  | .hbm, ⟨19, _⟩ => ⟨S8x128x128, .f32⟩
  | .hbm, ⟨20, _⟩ => ⟨S8x128x128, .f32⟩
  | .hbm, ⟨21, _⟩ => ⟨S128x1024, .f32⟩
  | .hbm, ⟨22, _⟩ => ⟨S8x16x128, .f32⟩
  | .hbm, ⟨23, _⟩ => ⟨S8x16x128, .f32⟩
  | .hbm, ⟨24, _⟩ => ⟨S128x512, .f32⟩
  | .local _ .vmem, ⟨0, _⟩ => ⟨S16x1024, .f32⟩
  | .local _ .vmem, ⟨1, _⟩ => ⟨S16x1024, .f32⟩
  | .local _ .vmem, ⟨2, _⟩ => ⟨S1x1024, .f32⟩
  | .local _ .vmem, ⟨3, _⟩ => ⟨S1024x1792, .bf16⟩
  | .local _ .vmem, ⟨4, _⟩ => ⟨S1x512, .f32⟩
  | .local _ .vmem, ⟨5, _⟩ => ⟨S1x512, .f32⟩
  | .local _ .vmem, ⟨6, _⟩ => ⟨S4x128x128, .f32⟩
  | .local _ .vmem, ⟨7, _⟩ => ⟨S128x512, .f32⟩
  | .local _ .vmem, ⟨8, _⟩ => ⟨S1024x1024, .bf16⟩
  | .local _ .vmem, ⟨9, _⟩ => ⟨S1x128x128, .f32⟩
  | .local _ .vmem, ⟨10, _⟩ => ⟨S1x128x128, .f32⟩
  | .local _ .vmem, ⟨11, _⟩ => ⟨S1x128x128, .f32⟩
  | .local _ .vmem, ⟨12, _⟩ => ⟨S1x128x128, .f32⟩
  | .local _ .vmem, ⟨13, _⟩ => ⟨S16x1024, .f32⟩
  | .local _ .vmem, ⟨14, _⟩ => ⟨S16x1024, .f32⟩
  | .local _ .vmem, ⟨15, _⟩ => ⟨S1x16x128, .f32⟩
  | .local _ .vmem, ⟨16, _⟩ => ⟨S1x16x128, .f32⟩
  | .local _ .vmem, ⟨17, _⟩ => ⟨S1x16x128, .f32⟩
  | .local _ .vmem, ⟨18, _⟩ => ⟨S1x16x128, .f32⟩
  | .local _ .vmem, ⟨19, _⟩ => ⟨S16x512, .f32⟩
  | .local _ .vmem, ⟨20, _⟩ => ⟨S16x512, .f32⟩
  | .local _ .vmem, ⟨21, _⟩ => ⟨S2x144x64, .bf16⟩
  | .local _ .vmem, ⟨22, _⟩ => ⟨S2x144x64, .bf16⟩
  | .local _ .vmem, ⟨23, _⟩ => ⟨S128x512, .bf16⟩
  | .local _ .vmem, ⟨24, _⟩ => ⟨S16x512, .f32⟩
  | .local _ .vmem, ⟨25, _⟩ => ⟨S16x1024, .bf16⟩
  | .local _ .smem, ⟨0, _⟩ => ⟨S8, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .smem, ⟨0, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10_0 : Ref sig .tc := ⟨.hbm, 21, rfl⟩
abbrev main_v10_1 : Ref sig .tc := ⟨.hbm, 22, rfl⟩
abbrev main_v10_2 : Ref sig .tc := ⟨.hbm, 23, rfl⟩
abbrev main_v10_3 : Ref sig .tc := ⟨.hbm, 24, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg9_1 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_scratch4 : Ref sig .tc := ⟨.vmem, 25, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21

abbrev nD : Nat := 1
abbrev τ : Topo := Topo.v7x

variable {F : FTy → Type} [FloatOps F]

abbrev grid0 : Pipeline.Grid := ⟨2, ![8, 1], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1792 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S16x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x16x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x16x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S16x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== Reference3Ideal.lean ====
abbrev S128x1024 : Shape := ⟨2, ![128, 1024]⟩
abbrev S8 : Shape := ⟨1, ![8]⟩
abbrev S1024 : Shape := ⟨1, ![1024]⟩
abbrev S1024x1792 : Shape := ⟨2, ![1024, 1792]⟩
abbrev S512 : Shape := ⟨1, ![512]⟩
abbrev S4x128x128 : Shape := ⟨3, ![4, 128, 128]⟩
abbrev S4x128 : Shape := ⟨2, ![4, 128]⟩
abbrev S1024x1024 : Shape := ⟨2, ![1024, 1024]⟩
abbrev S8x128x2x64 : Shape := ⟨4, ![8, 128, 2, 64]⟩
abbrev S8x16x1024 : Shape := ⟨3, ![8, 16, 1024]⟩
abbrev S_ : Shape := ⟨0, ![]⟩
abbrev S8x16 : Shape := ⟨2, ![8, 16]⟩
abbrev S8x16x1 : Shape := ⟨3, ![8, 16, 1]⟩
abbrev S1x1x1024 : Shape := ⟨3, ![1, 1, 1024]⟩
abbrev S8x16x1792 : Shape := ⟨3, ![8, 16, 1792]⟩
abbrev S8x16x512 : Shape := ⟨3, ![8, 16, 512]⟩
abbrev S8x16x8x64 : Shape := ⟨4, ![8, 16, 8, 64]⟩
abbrev S8x16x128 : Shape := ⟨3, ![8, 16, 128]⟩
abbrev S8x16x2x64 : Shape := ⟨4, ![8, 16, 2, 64]⟩
abbrev S1x1x512 : Shape := ⟨3, ![1, 1, 512]⟩
abbrev S8x128x512 : Shape := ⟨3, ![8, 128, 512]⟩
abbrev S8x1x128x4x128 : Shape := ⟨5, ![8, 1, 128, 4, 128]⟩
abbrev S128x128 : Shape := ⟨2, ![128, 128]⟩
abbrev S1x128x128 : Shape := ⟨3, ![1, 128, 128]⟩
abbrev S4x8x1x128x128 : Shape := ⟨5, ![4, 8, 1, 128, 128]⟩
abbrev S128x4 : Shape := ⟨2, ![128, 4]⟩
abbrev S128x4x1 : Shape := ⟨3, ![128, 4, 1]⟩
abbrev S1x1x128x4x1 : Shape := ⟨5, ![1, 1, 128, 4, 1]⟩
abbrev S8x144x2x64 : Shape := ⟨4, ![8, 144, 2, 64]⟩
abbrev S8x16x2x4x64 : Shape := ⟨5, ![8, 16, 2, 4, 64]⟩
abbrev S8x2x144x16x4 : Shape := ⟨5, ![8, 2, 144, 16, 4]⟩
abbrev S8x2x4x16x144 : Shape := ⟨5, ![8, 2, 4, 16, 144]⟩
abbrev S2x4 : Shape := ⟨2, ![2, 4]⟩
abbrev S2x4x1x1 : Shape := ⟨4, ![2, 4, 1, 1]⟩
abbrev S8x2x4x16 : Shape := ⟨4, ![8, 2, 4, 16]⟩
abbrev S8x2x4x16x1 : Shape := ⟨5, ![8, 2, 4, 16, 1]⟩
abbrev S1x2x4x1x1 : Shape := ⟨5, ![1, 2, 4, 1, 1]⟩
abbrev S8x2x64x4x16 : Shape := ⟨5, ![8, 2, 64, 4, 16]⟩
abbrev S128x512 : Shape := ⟨2, ![128, 512]⟩

abbrev nBuf : Space → Nat
  | .hbm => 143
  | .vmem => 0
  | .smem => 0
  | _ => 0

abbrev hbmTy0_0 (i : Nat) : BufTy := match i % 128 with
  | 0 => ⟨S128x1024, .f32⟩
  | 1 => ⟨S8, .f32⟩
  | 2 => ⟨S1024, .f32⟩
  | 3 => ⟨S1024x1792, .f32⟩
  | 4 => ⟨S512, .f32⟩
  | 5 => ⟨S512, .f32⟩
  | 6 => ⟨S4x128x128, .f32⟩
  | 7 => ⟨S4x128, .f32⟩
  | 8 => ⟨S1024x1024, .f32⟩
  | 9 => ⟨S8x128x2x64, .f32⟩
  | 10 => ⟨S8x128x2x64, .f32⟩
  | 11 => ⟨S8x16x1024, .f32⟩
  | 12 => ⟨S8x16x1024, .f32⟩
  | 13 => ⟨S_, .f32⟩
  | 14 => ⟨S8x16, .f32⟩
  | 15 => ⟨S8x16x1, .f32⟩
  | 16 => ⟨S_, .f32⟩
  | 17 => ⟨S8x16x1, .f32⟩
  | 18 => ⟨S8x16x1, .f32⟩
  | 19 => ⟨S_, .f32⟩
  | 20 => ⟨S8x16x1, .f32⟩
  | 21 => ⟨S8x16x1, .f32⟩
  | 22 => ⟨S8x16x1, .f32⟩
  | 23 => ⟨S8x16x1024, .f32⟩
  | 24 => ⟨S8x16x1024, .f32⟩
  | 25 => ⟨S1x1x1024, .f32⟩
  | 26 => ⟨S8x16x1024, .f32⟩
  | 27 => ⟨S8x16x1024, .f32⟩
  | 28 => ⟨S8x16x1792, .f32⟩
  | 29 => ⟨S8x16x1024, .f32⟩
  | 30 => ⟨S_, .f32⟩
  | 31 => ⟨S8x16x1024, .f32⟩
  | 32 => ⟨S8x16x1024, .f32⟩
  | 33 => ⟨S8x16x1024, .f32⟩
  | 34 => ⟨S_, .f32⟩
  | 35 => ⟨S8x16x1024, .f32⟩
  | 36 => ⟨S8x16x1024, .f32⟩
  | 37 => ⟨S8x16x1024, .f32⟩
  | 38 => ⟨S8x16x1024, .f32⟩
  | 39 => ⟨S8x16x512, .f32⟩
  | 40 => ⟨S8x16x8x64, .f32⟩
  | 41 => ⟨S8x16x128, .f32⟩
  | 42 => ⟨S8x16x2x64, .f32⟩
  | 43 => ⟨S8x16x128, .f32⟩
  | 44 => ⟨S8x16x2x64, .f32⟩
  | 45 => ⟨S8x16x512, .f32⟩
  | 46 => ⟨S8x16x512, .f32⟩
  | 47 => ⟨S_, .f32⟩
  | 48 => ⟨S8x16, .f32⟩
  | 49 => ⟨S8x16x1, .f32⟩
  | 50 => ⟨S_, .f32⟩
  | 51 => ⟨S8x16x1, .f32⟩
  | 52 => ⟨S8x16x1, .f32⟩
  | 53 => ⟨S8x16x512, .f32⟩
  | 54 => ⟨S8x16x512, .f32⟩
  | 55 => ⟨S8x16x512, .f32⟩
  | 56 => ⟨S_, .f32⟩
  | 57 => ⟨S8x16, .f32⟩
  | 58 => ⟨S8x16x1, .f32⟩
  | 59 => ⟨S_, .f32⟩
  | 60 => ⟨S8x16x1, .f32⟩
  | 61 => ⟨S8x16x1, .f32⟩
  | 62 => ⟨S_, .f32⟩
  | 63 => ⟨S8x16x1, .f32⟩
  | 64 => ⟨S8x16x1, .f32⟩
  | 65 => ⟨S8x16x1, .f32⟩
  | 66 => ⟨S8x16x512, .f32⟩
  | 67 => ⟨S8x16x512, .f32⟩
  | 68 => ⟨S1x1x512, .f32⟩
  | 69 => ⟨S8x16x512, .f32⟩
  | 70 => ⟨S8x16x512, .f32⟩
  | 71 => ⟨S1x1x512, .f32⟩
  | 72 => ⟨S8x16x512, .f32⟩
  | 73 => ⟨S8x16x512, .f32⟩
  | 74 => ⟨S_, .i32⟩
  | 75 => ⟨S_, .f32⟩
  | 76 => ⟨S8x128x512, .f32⟩
  | 77 => ⟨S8x1x128x4x128, .f32⟩
  | 78 => ⟨S_, .i1⟩
  | 79 => ⟨S128x128, .i1⟩
  | 80 => ⟨S128x128, .i32⟩
  | 81 => ⟨S_, .i32⟩
  | 82 => ⟨S128x128, .i32⟩
  | 83 => ⟨S128x128, .i32⟩
  | 84 => ⟨S128x128, .i32⟩
  | 85 => ⟨S128x128, .i1⟩
  | 86 => ⟨S_, .i1⟩
  | 87 => ⟨S128x128, .i1⟩
  | 88 => ⟨S128x128, .i1⟩
  | 89 => ⟨S1x128x128, .i1⟩
  | 90 => ⟨S_, .f32⟩
  | 91 => ⟨S4x128x128, .f32⟩
  | 92 => ⟨S4x128x128, .i1⟩
  | 93 => ⟨S4x128x128, .f32⟩
  | 94 => ⟨S4x8x1x128x128, .f32⟩
  | 95 => ⟨S8x1x128x4x128, .f32⟩
  | 96 => ⟨S128x4, .f32⟩
  | 97 => ⟨S128x4x1, .f32⟩
  | 98 => ⟨S1x1x128x4x1, .f32⟩
  | 99 => ⟨S8x1x128x4x128, .f32⟩
  | 100 => ⟨S8x1x128x4x128, .f32⟩
  | 101 => ⟨S8x128x512, .f32⟩
  | 102 => ⟨S8x16x512, .f32⟩
  | 103 => ⟨S8x16x512, .f32⟩
  | 104 => ⟨S8x144x2x64, .f32⟩
  | 105 => ⟨S8x144x2x64, .f32⟩
  | 106 => ⟨S8x16x2x4x64, .f32⟩
  | 107 => ⟨S8x2x144x16x4, .f32⟩
  | 108 => ⟨S8x2x4x16x144, .f32⟩
  | 109 => ⟨S_, .f32⟩
  | 110 => ⟨S8x2x4x16x144, .f32⟩
  | 111 => ⟨S8x2x4x16x144, .f32⟩
  | 112 => ⟨S2x4, .f32⟩
  | 113 => ⟨S2x4x1x1, .f32⟩
  | 114 => ⟨S_, .f32⟩
  | 115 => ⟨S8x2x4x16, .f32⟩
  | 116 => ⟨S8x2x4x16x1, .f32⟩
  | 117 => ⟨S1x2x4x1x1, .f32⟩
  | 118 => ⟨S8x2x4x16x1, .f32⟩
  | 119 => ⟨S8x2x4x16x1, .f32⟩
  | 120 => ⟨S8x2x4x16x144, .f32⟩
  | 121 => ⟨S8x2x4x16x144, .f32⟩
  | 122 => ⟨S8x2x4x16x144, .f32⟩
  | 123 => ⟨S_, .f32⟩
  | 124 => ⟨S8x2x4x16, .f32⟩
  | 125 => ⟨S8x2x4x16x1, .f32⟩
  | 126 => ⟨S1x2x4x1x1, .f32⟩
  | 127 => ⟨S8x2x4x16x1, .f32⟩
  | _ => ⟨S128x1024, .f32⟩

abbrev hbmTy0_1 (i : Nat) : BufTy := match i % 128 with
  | 0 => ⟨S8x2x4x16x1, .f32⟩
  | 1 => ⟨S8x2x4x16x1, .f32⟩
  | 2 => ⟨S8x2x4x16x1, .f32⟩
  | 3 => ⟨S8x2x4x16x144, .f32⟩
  | 4 => ⟨S8x2x4x16x144, .f32⟩
  | 5 => ⟨S8x2x64x4x16, .f32⟩
  | 6 => ⟨S8x16x2x4x64, .f32⟩
  | 7 => ⟨S8x16x512, .f32⟩
  | 8 => ⟨S8x16x1024, .f32⟩
  | 9 => ⟨S8x16x1024, .f32⟩
  | 10 => ⟨S8x16x1024, .f32⟩
  | 11 => ⟨S128x1024, .f32⟩
  | 12 => ⟨S8x16x128, .f32⟩
  | 13 => ⟨S8x16x128, .f32⟩
  | 14 => ⟨S128x512, .f32⟩
  | _ => ⟨S128x1024, .f32⟩

abbrev hbmTy (i : Nat) : BufTy := match i / 128 with
  | 0 => hbmTy0_0 i
  | 1 => hbmTy0_1 i
  | _ => ⟨S128x1024, .f32⟩

abbrev bufTy : (tb : Table) → Fin (tcTables nBuf tb) → BufTy
  | .hbm, ⟨i, _⟩ => hbmTy i
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_2 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_3 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_4 : Ref sig .tc := ⟨.hbm, 47, rfl⟩
abbrev main_v31 : Ref sig .tc := ⟨.hbm, 48, rfl⟩
abbrev main_v32 : Ref sig .tc := ⟨.hbm, 49, rfl⟩
abbrev main_cst_5 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_6 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_v41 : Ref sig .tc := ⟨.hbm, 61, rfl⟩
abbrev main_cst_8 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_c : Ref sig .tc := ⟨.hbm, 74, rfl⟩
abbrev main_call0_v0 : Ref sig .tc := ⟨.hbm, 75, rfl⟩
abbrev main_v53 : Ref sig .tc := ⟨.hbm, 76, rfl⟩
abbrev main_v54 : Ref sig .tc := ⟨.hbm, 77, rfl⟩
abbrev main_c_9 : Ref sig .tc := ⟨.hbm, 78, rfl⟩
abbrev main_v55 : Ref sig .tc := ⟨.hbm, 79, rfl⟩
abbrev main_call1_v0 : Ref sig .tc := ⟨.hbm, 80, rfl⟩
abbrev main_call1_c : Ref sig .tc := ⟨.hbm, 81, rfl⟩
abbrev main_call1_v1 : Ref sig .tc := ⟨.hbm, 82, rfl⟩
abbrev main_call1_v2 : Ref sig .tc := ⟨.hbm, 83, rfl⟩
abbrev main_call1_v3 : Ref sig .tc := ⟨.hbm, 84, rfl⟩
abbrev main_call1_v4 : Ref sig .tc := ⟨.hbm, 85, rfl⟩
abbrev main_call1_c_0 : Ref sig .tc := ⟨.hbm, 86, rfl⟩
abbrev main_call1_v5 : Ref sig .tc := ⟨.hbm, 87, rfl⟩
abbrev main_v56 : Ref sig .tc := ⟨.hbm, 88, rfl⟩
abbrev main_v57 : Ref sig .tc := ⟨.hbm, 89, rfl⟩
abbrev main_cst_10 : Ref sig .tc := ⟨.hbm, 90, rfl⟩
abbrev main_v58 : Ref sig .tc := ⟨.hbm, 91, rfl⟩
abbrev main_call2_v0 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_cst_11 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_cst_12 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_cst_13 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩

abbrev nD : Nat := 1
abbrev τ : Topo := Topo.v7x

variable {F : FTy → Type} [FloatOps F]
-- ==== Kernel4.lean ====
abbrev S128x1024 : Shape := ⟨2, ![128, 1024]⟩
abbrev S1024 : Shape := ⟨1, ![1024]⟩
abbrev S1024x1536 : Shape := ⟨2, ![1024, 1536]⟩
abbrev S31x512 : Shape := ⟨2, ![31, 512]⟩
abbrev S512 : Shape := ⟨1, ![512]⟩
abbrev S4x128x128 : Shape := ⟨3, ![4, 128, 128]⟩
abbrev S1024x1024 : Shape := ⟨2, ![1024, 1024]⟩
abbrev S8x30x512 : Shape := ⟨3, ![8, 30, 512]⟩
abbrev S8x15x512 : Shape := ⟨3, ![8, 15, 512]⟩
abbrev S1x1024 : Shape := ⟨2, ![1, 1024]⟩
abbrev S1x512 : Shape := ⟨2, ![1, 512]⟩
abbrev S16x1024 : Shape := ⟨2, ![16, 1024]⟩
abbrev S1x30x512 : Shape := ⟨3, ![1, 30, 512]⟩
abbrev S1x15x512 : Shape := ⟨3, ![1, 15, 512]⟩
abbrev S48x512 : Shape := ⟨2, ![48, 512]⟩
abbrev S32x512 : Shape := ⟨2, ![32, 512]⟩
abbrev S2x512 : Shape := ⟨2, ![2, 512]⟩
abbrev S30x512 : Shape := ⟨2, ![30, 512]⟩
abbrev S15x512 : Shape := ⟨2, ![15, 512]⟩
abbrev S16 : Shape := ⟨1, ![16]⟩
abbrev S16x1 : Shape := ⟨2, ![16, 1]⟩
abbrev S16x1536 : Shape := ⟨2, ![16, 1536]⟩
abbrev S16x512 : Shape := ⟨2, ![16, 512]⟩
abbrev S16x128 : Shape := ⟨2, ![16, 128]⟩
abbrev S1x128 : Shape := ⟨2, ![1, 128]⟩
abbrev S1x128x128 : Shape := ⟨3, ![1, 128, 128]⟩
abbrev S128x128 : Shape := ⟨2, ![128, 128]⟩

abbrev nBuf : Space → Nat
  | .hbm => 23
  | .vmem => 24
  | .smem => 0
  | _ => 0

abbrev bufTy : (tb : Table) → Fin (tcTables nBuf tb) → BufTy
  | .hbm, ⟨0, _⟩ => ⟨S128x1024, .f32⟩
  | .hbm, ⟨1, _⟩ => ⟨S1024, .f32⟩
  | .hbm, ⟨2, _⟩ => ⟨S1024x1536, .f32⟩
  | .hbm, ⟨3, _⟩ => ⟨S31x512, .f32⟩
  | .hbm, ⟨4, _⟩ => ⟨S512, .f32⟩
  | .hbm, ⟨5, _⟩ => ⟨S512, .f32⟩
  | .hbm, ⟨6, _⟩ => ⟨S512, .f32⟩
  | .hbm, ⟨7, _⟩ => ⟨S4x128x128, .f32⟩
  | .hbm, ⟨8, _⟩ => ⟨S512, .f32⟩
  | .hbm, ⟨9, _⟩ => ⟨S1024x1024, .f32⟩
  | .hbm, ⟨10, _⟩ => ⟨S8x30x512, .f32⟩
  | .hbm, ⟨11, _⟩ => ⟨S8x15x512, .f32⟩
  | .hbm, ⟨12, _⟩ => ⟨S1x1024, .f32⟩
  | .hbm, ⟨13, _⟩ => ⟨S1024x1536, .bf16⟩
  | .hbm, ⟨14, _⟩ => ⟨S1x512, .f32⟩
  | .hbm, ⟨15, _⟩ => ⟨S1x512, .f32⟩
  | .hbm, ⟨16, _⟩ => ⟨S1x512, .f32⟩
  | .hbm, ⟨17, _⟩ => ⟨S4x128x128, .bf16⟩
  | .hbm, ⟨18, _⟩ => ⟨S1x512, .f32⟩
  | .hbm, ⟨19, _⟩ => ⟨S1024x1024, .bf16⟩
  | .hbm, ⟨20, _⟩ => ⟨S128x1024, .f32⟩
  | .hbm, ⟨21, _⟩ => ⟨S8x30x512, .f32⟩
  | .hbm, ⟨22, _⟩ => ⟨S8x15x512, .f32⟩
  | .local _ .vmem, ⟨0, _⟩ => ⟨S16x1024, .f32⟩
  | .local _ .vmem, ⟨1, _⟩ => ⟨S16x1024, .f32⟩
  | .local _ .vmem, ⟨2, _⟩ => ⟨S1x1024, .f32⟩
  | .local _ .vmem, ⟨3, _⟩ => ⟨S1024x1536, .bf16⟩
  | .local _ .vmem, ⟨4, _⟩ => ⟨S31x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S4x128x128, .bf16⟩
  | .local _ .vmem, ⟨9, _⟩ => ⟨S1x512, .f32⟩
  | .local _ .vmem, ⟨10, _⟩ => ⟨S1024x1024, .bf16⟩
  | .local _ .vmem, ⟨11, _⟩ => ⟨S1x30x512, .f32⟩
  | .local _ .vmem, ⟨12, _⟩ => ⟨S1x30x512, .f32⟩
  | .local _ .vmem, ⟨13, _⟩ => ⟨S1x15x512, .f32⟩
  | .local _ .vmem, ⟨14, _⟩ => ⟨S1x15x512, .f32⟩
  | .local _ .vmem, ⟨15, _⟩ => ⟨S16x1024, .f32⟩
  | .local _ .vmem, ⟨16, _⟩ => ⟨S16x1024, .f32⟩
  | .local _ .vmem, ⟨17, _⟩ => ⟨S1x30x512, .f32⟩
  | .local _ .vmem, ⟨18, _⟩ => ⟨S1x30x512, .f32⟩
  | .local _ .vmem, ⟨19, _⟩ => ⟨S1x15x512, .f32⟩
  | .local _ .vmem, ⟨20, _⟩ => ⟨S1x15x512, .f32⟩
  | .local _ .vmem, ⟨21, _⟩ => ⟨S48x512, .f32⟩
  | .local _ .vmem, ⟨22, _⟩ => ⟨S32x512, .f32⟩
  | .local _ .vmem, ⟨23, _⟩ => ⟨S16x1024, .bf16⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8_0 : Ref sig .tc := ⟨.hbm, 20, rfl⟩
abbrev main_v8_1 : Ref sig .tc := ⟨.hbm, 21, rfl⟩
abbrev main_v8_2 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S31x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S4x128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x30x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x15x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S16x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x30x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x15x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]
-- ==== Reference4Ideal.lean ====
abbrev S128x1024 : Shape := ⟨2, ![128, 1024]⟩
abbrev S1024 : Shape := ⟨1, ![1024]⟩
abbrev S1024x1536 : Shape := ⟨2, ![1024, 1536]⟩
abbrev S31x512 : Shape := ⟨2, ![31, 512]⟩
abbrev S512 : Shape := ⟨1, ![512]⟩
abbrev S4x128x128 : Shape := ⟨3, ![4, 128, 128]⟩
abbrev S1024x1024 : Shape := ⟨2, ![1024, 1024]⟩
abbrev S8x30x512 : Shape := ⟨3, ![8, 30, 512]⟩
abbrev S8x15x512 : Shape := ⟨3, ![8, 15, 512]⟩
abbrev S8x16x1024 : Shape := ⟨3, ![8, 16, 1024]⟩
abbrev S_ : Shape := ⟨0, ![]⟩
abbrev S8x16 : Shape := ⟨2, ![8, 16]⟩
abbrev S8x16x1 : Shape := ⟨3, ![8, 16, 1]⟩
abbrev S1x1x1024 : Shape := ⟨3, ![1, 1, 1024]⟩
abbrev S8x16x1536 : Shape := ⟨3, ![8, 16, 1536]⟩
abbrev S8x16x512 : Shape := ⟨3, ![8, 16, 512]⟩
abbrev S8x46x512 : Shape := ⟨3, ![8, 46, 512]⟩
abbrev S1x512 : Shape := ⟨2, ![1, 512]⟩
abbrev S1x1x512 : Shape := ⟨3, ![1, 1, 512]⟩
abbrev S8x31x512 : Shape := ⟨3, ![8, 31, 512]⟩
abbrev S8x32x512 : Shape := ⟨3, ![8, 32, 512]⟩
abbrev S16 : Shape := ⟨1, ![16]⟩
abbrev S8x16x128 : Shape := ⟨3, ![8, 16, 128]⟩
abbrev S1x16x1 : Shape := ⟨3, ![1, 16, 1]⟩
abbrev S8x16x1x128 : Shape := ⟨4, ![8, 16, 1, 128]⟩
abbrev S8x16x4x128 : Shape := ⟨4, ![8, 16, 4, 128]⟩
abbrev S4x128x8x16 : Shape := ⟨4, ![4, 128, 8, 16]⟩

abbrev nBuf : Space → Nat
  | .hbm => 389
  | .vmem => 0
  | .smem => 0
  | _ => 0

abbrev hbmTy0_0 (i : Nat) : BufTy := match i % 128 with
  | 0 => ⟨S128x1024, .f32⟩
  | 1 => ⟨S1024, .f32⟩
  | 2 => ⟨S1024x1536, .f32⟩
  | 3 => ⟨S31x512, .f32⟩
  | 4 => ⟨S512, .f32⟩
  | 5 => ⟨S512, .f32⟩
  | 6 => ⟨S512, .f32⟩
  | 7 => ⟨S4x128x128, .f32⟩
  | 8 => ⟨S512, .f32⟩
  | 9 => ⟨S1024x1024, .f32⟩
  | 10 => ⟨S8x30x512, .f32⟩
  | 11 => ⟨S8x15x512, .f32⟩
  | 12 => ⟨S8x16x1024, .f32⟩
  | 13 => ⟨S8x16x1024, .f32⟩
  | 14 => ⟨S_, .f32⟩
  | 15 => ⟨S8x16, .f32⟩
  | 16 => ⟨S8x16x1, .f32⟩
  | 17 => ⟨S_, .f32⟩
  | 18 => ⟨S8x16x1, .f32⟩
  | 19 => ⟨S8x16x1, .f32⟩
  | 20 => ⟨S_, .f32⟩
  | 21 => ⟨S8x16x1, .f32⟩
  | 22 => ⟨S8x16x1, .f32⟩
  | 23 => ⟨S8x16x1, .f32⟩
  | 24 => ⟨S8x16x1024, .f32⟩
  | 25 => ⟨S8x16x1024, .f32⟩
  | 26 => ⟨S1x1x1024, .f32⟩
  | 27 => ⟨S8x16x1024, .f32⟩
  | 28 => ⟨S8x16x1024, .f32⟩
  | 29 => ⟨S8x16x1536, .f32⟩
  | 30 => ⟨S8x16x512, .f32⟩
  | 31 => ⟨S8x16x512, .f32⟩
  | 32 => ⟨S8x16x512, .f32⟩
  | 33 => ⟨S8x16x512, .f32⟩
  | 34 => ⟨S_, .f32⟩
  | 35 => ⟨S8x16x512, .f32⟩
  | 36 => ⟨S8x16x512, .f32⟩
  | 37 => ⟨S_, .f32⟩
  | 38 => ⟨S8x16x512, .f32⟩
  | 39 => ⟨S8x16x512, .f32⟩
  | 40 => ⟨S8x16x512, .f32⟩
  | 41 => ⟨S8x46x512, .f32⟩
  | 42 => ⟨S8x16x512, .f32⟩
  | 43 => ⟨S1x512, .f32⟩
  | 44 => ⟨S512, .f32⟩
  | 45 => ⟨S1x1x512, .f32⟩
  | 46 => ⟨S8x16x512, .f32⟩
  | 47 => ⟨S8x16x512, .f32⟩
  | 48 => ⟨S_, .f32⟩
  | 49 => ⟨S8x16x512, .f32⟩
  | 50 => ⟨S8x16x512, .f32⟩
  | 51 => ⟨S8x16x512, .f32⟩
  | 52 => ⟨S1x512, .f32⟩
  | 53 => ⟨S512, .f32⟩
  | 54 => ⟨S1x1x512, .f32⟩
  | 55 => ⟨S8x16x512, .f32⟩
  | 56 => ⟨S8x16x512, .f32⟩
  | 57 => ⟨S8x16x512, .f32⟩
  | 58 => ⟨S8x16x512, .f32⟩
  | 59 => ⟨S1x512, .f32⟩
  | 60 => ⟨S512, .f32⟩
  | 61 => ⟨S1x1x512, .f32⟩
  | 62 => ⟨S8x16x512, .f32⟩
  | 63 => ⟨S8x16x512, .f32⟩
  | 64 => ⟨S8x16x512, .f32⟩
  | 65 => ⟨S8x16x512, .f32⟩
  | 66 => ⟨S1x512, .f32⟩
  | 67 => ⟨S512, .f32⟩
  | 68 => ⟨S1x1x512, .f32⟩
  | 69 => ⟨S8x16x512, .f32⟩
  | 70 => ⟨S8x16x512, .f32⟩
  | 71 => ⟨S8x16x512, .f32⟩
  | 72 => ⟨S8x16x512, .f32⟩
  | 73 => ⟨S1x512, .f32⟩
  | 74 => ⟨S512, .f32⟩
  | 75 => ⟨S1x1x512, .f32⟩
  | 76 => ⟨S8x16x512, .f32⟩
  | 77 => ⟨S8x16x512, .f32⟩
  | 78 => ⟨S8x16x512, .f32⟩
  | 79 => ⟨S8x16x512, .f32⟩
  | 80 => ⟨S1x512, .f32⟩
  | 81 => ⟨S512, .f32⟩
  | 82 => ⟨S1x1x512, .f32⟩
  | 83 => ⟨S8x16x512, .f32⟩
  | 84 => ⟨S8x16x512, .f32⟩
  | 85 => ⟨S8x16x512, .f32⟩
  | 86 => ⟨S8x16x512, .f32⟩
  | 87 => ⟨S1x512, .f32⟩
  | 88 => ⟨S512, .f32⟩
  | 89 => ⟨S1x1x512, .f32⟩
  | 90 => ⟨S8x16x512, .f32⟩
  | 91 => ⟨S8x16x512, .f32⟩
  | 92 => ⟨S8x16x512, .f32⟩
  | 93 => ⟨S8x16x512, .f32⟩
  | 94 => ⟨S1x512, .f32⟩
  | 95 => ⟨S512, .f32⟩
  | 96 => ⟨S1x1x512, .f32⟩
  | 97 => ⟨S8x16x512, .f32⟩
  | 98 => ⟨S8x16x512, .f32⟩
  | 99 => ⟨S8x16x512, .f32⟩
  | 100 => ⟨S8x16x512, .f32⟩
  | 101 => ⟨S1x512, .f32⟩
  | 102 => ⟨S512, .f32⟩
  | 103 => ⟨S1x1x512, .f32⟩
  | 104 => ⟨S8x16x512, .f32⟩
  | 105 => ⟨S8x16x512, .f32⟩
  | 106 => ⟨S8x16x512, .f32⟩
  | 107 => ⟨S8x16x512, .f32⟩
  | 108 => ⟨S1x512, .f32⟩
  | 109 => ⟨S512, .f32⟩
  | 110 => ⟨S1x1x512, .f32⟩
  | 111 => ⟨S8x16x512, .f32⟩
  | 112 => ⟨S8x16x512, .f32⟩
  | 113 => ⟨S8x16x512, .f32⟩
  | 114 => ⟨S8x16x512, .f32⟩
  | 115 => ⟨S1x512, .f32⟩
  | 116 => ⟨S512, .f32⟩
  | 117 => ⟨S1x1x512, .f32⟩
  | 118 => ⟨S8x16x512, .f32⟩
  | 119 => ⟨S8x16x512, .f32⟩
  | 120 => ⟨S8x16x512, .f32⟩
  | 121 => ⟨S8x16x512, .f32⟩
  | 122 => ⟨S1x512, .f32⟩
  | 123 => ⟨S512, .f32⟩
  | 124 => ⟨S1x1x512, .f32⟩
  | 125 => ⟨S8x16x512, .f32⟩
  | 126 => ⟨S8x16x512, .f32⟩
  | 127 => ⟨S8x16x512, .f32⟩
  | _ => ⟨S128x1024, .f32⟩

abbrev hbmTy0_1 (i : Nat) : BufTy := match i % 128 with
  | 0 => ⟨S8x16x512, .f32⟩
  | 1 => ⟨S1x512, .f32⟩
  | 2 => ⟨S512, .f32⟩
  | 3 => ⟨S1x1x512, .f32⟩
  | 4 => ⟨S8x16x512, .f32⟩
  | 5 => ⟨S8x16x512, .f32⟩
  | 6 => ⟨S8x16x512, .f32⟩
  | 7 => ⟨S8x16x512, .f32⟩
  | 8 => ⟨S1x512, .f32⟩
  | 9 => ⟨S512, .f32⟩
  | 10 => ⟨S1x1x512, .f32⟩
  | 11 => ⟨S8x16x512, .f32⟩
  | 12 => ⟨S8x16x512, .f32⟩
  | 13 => ⟨S8x16x512, .f32⟩
  | 14 => ⟨S8x16x512, .f32⟩
  | 15 => ⟨S1x512, .f32⟩
  | 16 => ⟨S512, .f32⟩
  | 17 => ⟨S1x1x512, .f32⟩
  | 18 => ⟨S8x16x512, .f32⟩
  | 19 => ⟨S8x16x512, .f32⟩
  | 20 => ⟨S8x16x512, .f32⟩
  | 21 => ⟨S8x16x512, .f32⟩
  | 22 => ⟨S1x512, .f32⟩
  | 23 => ⟨S512, .f32⟩
  | 24 => ⟨S1x1x512, .f32⟩
  | 25 => ⟨S8x16x512, .f32⟩
  | 26 => ⟨S8x16x512, .f32⟩
  | 27 => ⟨S8x16x512, .f32⟩
  | 28 => ⟨S8x16x512, .f32⟩
  | 29 => ⟨S1x512, .f32⟩
  | 30 => ⟨S512, .f32⟩
  | 31 => ⟨S1x1x512, .f32⟩
  | 32 => ⟨S8x16x512, .f32⟩
  | 33 => ⟨S8x16x512, .f32⟩
  | 34 => ⟨S8x16x512, .f32⟩
  | 35 => ⟨S8x16x512, .f32⟩
  | 36 => ⟨S1x512, .f32⟩
  | 37 => ⟨S512, .f32⟩
  | 38 => ⟨S1x1x512, .f32⟩
  | 39 => ⟨S8x16x512, .f32⟩
  | 40 => ⟨S8x16x512, .f32⟩
  | 41 => ⟨S8x16x512, .f32⟩
  | 42 => ⟨S8x16x512, .f32⟩
  | 43 => ⟨S1x512, .f32⟩
  | 44 => ⟨S512, .f32⟩
  | 45 => ⟨S1x1x512, .f32⟩
  | 46 => ⟨S8x16x512, .f32⟩
  | 47 => ⟨S8x16x512, .f32⟩
  | 48 => ⟨S8x16x512, .f32⟩
  | 49 => ⟨S8x16x512, .f32⟩
  | 50 => ⟨S1x512, .f32⟩
  | 51 => ⟨S512, .f32⟩
  | 52 => ⟨S1x1x512, .f32⟩
  | 53 => ⟨S8x16x512, .f32⟩
  | 54 => ⟨S8x16x512, .f32⟩
  | 55 => ⟨S8x16x512, .f32⟩
  | 56 => ⟨S8x16x512, .f32⟩
  | 57 => ⟨S1x512, .f32⟩
  | 58 => ⟨S512, .f32⟩
  | 59 => ⟨S1x1x512, .f32⟩
  | 60 => ⟨S8x16x512, .f32⟩
  | 61 => ⟨S8x16x512, .f32⟩
  | 62 => ⟨S8x16x512, .f32⟩
  | 63 => ⟨S8x16x512, .f32⟩
  | 64 => ⟨S1x512, .f32⟩
  | 65 => ⟨S512, .f32⟩
  | 66 => ⟨S1x1x512, .f32⟩
  | 67 => ⟨S8x16x512, .f32⟩
  | 68 => ⟨S8x16x512, .f32⟩
  | 69 => ⟨S8x16x512, .f32⟩
  | 70 => ⟨S8x16x512, .f32⟩
  | 71 => ⟨S1x512, .f32⟩
  | 72 => ⟨S512, .f32⟩
  | 73 => ⟨S1x1x512, .f32⟩
  | 74 => ⟨S8x16x512, .f32⟩
  | 75 => ⟨S8x16x512, .f32⟩
  | 76 => ⟨S8x16x512, .f32⟩
  | 77 => ⟨S8x16x512, .f32⟩
  | 78 => ⟨S1x512, .f32⟩
  | 79 => ⟨S512, .f32⟩
  | 80 => ⟨S1x1x512, .f32⟩
  | 81 => ⟨S8x16x512, .f32⟩
  | 82 => ⟨S8x16x512, .f32⟩
  | 83 => ⟨S8x16x512, .f32⟩
  | 84 => ⟨S8x16x512, .f32⟩
  | 85 => ⟨S1x512, .f32⟩
  | 86 => ⟨S512, .f32⟩
  | 87 => ⟨S1x1x512, .f32⟩
  | 88 => ⟨S8x16x512, .f32⟩
  | 89 => ⟨S8x16x512, .f32⟩
  | 90 => ⟨S8x16x512, .f32⟩
  | 91 => ⟨S8x16x512, .f32⟩
  | 92 => ⟨S1x512, .f32⟩
  | 93 => ⟨S512, .f32⟩
  | 94 => ⟨S1x1x512, .f32⟩
  | 95 => ⟨S8x16x512, .f32⟩
  | 96 => ⟨S8x16x512, .f32⟩
  | 97 => ⟨S8x16x512, .f32⟩
  | 98 => ⟨S8x16x512, .f32⟩
  | 99 => ⟨S1x512, .f32⟩
  | 100 => ⟨S512, .f32⟩
  | 101 => ⟨S1x1x512, .f32⟩
  | 102 => ⟨S8x16x512, .f32⟩
  | 103 => ⟨S8x16x512, .f32⟩
  | 104 => ⟨S8x16x512, .f32⟩
  | 105 => ⟨S8x16x512, .f32⟩
  | 106 => ⟨S1x512, .f32⟩
  | 107 => ⟨S512, .f32⟩
  | 108 => ⟨S1x1x512, .f32⟩
  | 109 => ⟨S8x16x512, .f32⟩
  | 110 => ⟨S8x16x512, .f32⟩
  | 111 => ⟨S8x16x512, .f32⟩
  | 112 => ⟨S8x16x512, .f32⟩
  | 113 => ⟨S1x512, .f32⟩
  | 114 => ⟨S512, .f32⟩
  | 115 => ⟨S1x1x512, .f32⟩
  | 116 => ⟨S8x16x512, .f32⟩
  | 117 => ⟨S8x16x512, .f32⟩
  | 118 => ⟨S8x16x512, .f32⟩
  | 119 => ⟨S8x16x512, .f32⟩
  | 120 => ⟨S1x512, .f32⟩
  | 121 => ⟨S512, .f32⟩
  | 122 => ⟨S1x1x512, .f32⟩
  | 123 => ⟨S8x16x512, .f32⟩
  | 124 => ⟨S8x16x512, .f32⟩
  | 125 => ⟨S8x16x512, .f32⟩
  | 126 => ⟨S8x16x512, .f32⟩
  | 127 => ⟨S1x512, .f32⟩
  | _ => ⟨S128x1024, .f32⟩

abbrev hbmTy0_2 (i : Nat) : BufTy := match i % 128 with
  | 0 => ⟨S512, .f32⟩
  | 1 => ⟨S1x1x512, .f32⟩
  | 2 => ⟨S8x16x512, .f32⟩
  | 3 => ⟨S8x16x512, .f32⟩
  | 4 => ⟨S8x16x512, .f32⟩
  | 5 => ⟨S1x1x512, .f32⟩
  | 6 => ⟨S8x16x512, .f32⟩
  | 7 => ⟨S8x16x512, .f32⟩
  | 8 => ⟨S8x30x512, .f32⟩
  | 9 => ⟨S_, .f32⟩
  | 10 => ⟨S8x16, .f32⟩
  | 11 => ⟨S8x16x1, .f32⟩
  | 12 => ⟨S_, .f32⟩
  | 13 => ⟨S8x16x1, .f32⟩
  | 14 => ⟨S8x16x1, .f32⟩
  | 15 => ⟨S8x16x512, .f32⟩
  | 16 => ⟨S8x16x512, .f32⟩
  | 17 => ⟨S8x16x512, .f32⟩
  | 18 => ⟨S_, .f32⟩
  | 19 => ⟨S8x16, .f32⟩
  | 20 => ⟨S8x16x1, .f32⟩
  | 21 => ⟨S_, .f32⟩
  | 22 => ⟨S8x16x1, .f32⟩
  | 23 => ⟨S8x16x1, .f32⟩
  | 24 => ⟨S_, .f32⟩
  | 25 => ⟨S8x16x1, .f32⟩
  | 26 => ⟨S8x16x1, .f32⟩
  | 27 => ⟨S8x16x1, .f32⟩
  | 28 => ⟨S8x16x512, .f32⟩
  | 29 => ⟨S8x16x512, .f32⟩
  | 30 => ⟨S1x1x512, .f32⟩
  | 31 => ⟨S8x16x512, .f32⟩
  | 32 => ⟨S8x16x512, .f32⟩
  | 33 => ⟨S1x1x512, .f32⟩
  | 34 => ⟨S8x16x512, .f32⟩
  | 35 => ⟨S8x16x512, .f32⟩
  | 36 => ⟨S8x16x512, .f32⟩
  | 37 => ⟨S8x16x512, .f32⟩
  | 38 => ⟨S_, .f32⟩
  | 39 => ⟨S8x16x512, .f32⟩
  | 40 => ⟨S8x16x512, .f32⟩
  | 41 => ⟨S_, .f32⟩
  | 42 => ⟨S8x16x512, .f32⟩
  | 43 => ⟨S8x16x512, .f32⟩
  | 44 => ⟨S8x16x512, .f32⟩
  | 45 => ⟨S8x16x512, .f32⟩
  | 46 => ⟨S8x31x512, .f32⟩
  | 47 => ⟨S_, .i32⟩
  | 48 => ⟨S_, .f32⟩
  | 49 => ⟨S8x32x512, .f32⟩
  | 50 => ⟨S_, .f32⟩
  | 51 => ⟨S_, .f32⟩
  | 52 => ⟨S8x32x512, .f32⟩
  | 53 => ⟨S16, .i32⟩
  | 54 => ⟨S_, .i32⟩
  | 55 => ⟨S16, .i32⟩
  | 56 => ⟨S16, .i32⟩
  | 57 => ⟨S8x16x128, .f32⟩
  | 58 => ⟨S8x16x128, .f32⟩
  | 59 => ⟨S8x16x128, .f32⟩
  | 60 => ⟨S_, .i32⟩
  | 61 => ⟨S16, .i32⟩
  | 62 => ⟨S16, .i32⟩
  | 63 => ⟨S_, .i32⟩
  | 64 => ⟨S16, .i32⟩
  | 65 => ⟨S16, .i32⟩
  | 66 => ⟨S16, .f32⟩
  | 67 => ⟨S1x16x1, .f32⟩
  | 68 => ⟨S8x16x128, .f32⟩
  | 69 => ⟨S8x16x128, .f32⟩
  | 70 => ⟨S8x16x128, .f32⟩
  | 71 => ⟨S8x16x128, .f32⟩
  | 72 => ⟨S8x16x128, .f32⟩
  | 73 => ⟨S8x16x128, .f32⟩
  | 74 => ⟨S8x16x128, .f32⟩
  | 75 => ⟨S_, .i32⟩
  | 76 => ⟨S16, .i32⟩
  | 77 => ⟨S16, .i32⟩
  | 78 => ⟨S_, .i32⟩
  | 79 => ⟨S16, .i32⟩
  | 80 => ⟨S16, .i32⟩
  | 81 => ⟨S16, .f32⟩
  | 82 => ⟨S1x16x1, .f32⟩
  | 83 => ⟨S8x16x128, .f32⟩
  | 84 => ⟨S8x16x128, .f32⟩
  | 85 => ⟨S8x16x128, .f32⟩
  | 86 => ⟨S8x16x128, .f32⟩
  | 87 => ⟨S8x16x128, .f32⟩
  | 88 => ⟨S8x16x128, .f32⟩
  | 89 => ⟨S8x16x128, .f32⟩
  | 90 => ⟨S_, .i32⟩
  | 91 => ⟨S16, .i32⟩
  | 92 => ⟨S16, .i32⟩
  | 93 => ⟨S_, .i32⟩
  | 94 => ⟨S16, .i32⟩
  | 95 => ⟨S16, .i32⟩
  | 96 => ⟨S16, .f32⟩
  | 97 => ⟨S1x16x1, .f32⟩
  | 98 => ⟨S8x16x128, .f32⟩
  | 99 => ⟨S8x16x128, .f32⟩
  | 100 => ⟨S8x16x128, .f32⟩
  | 101 => ⟨S8x16x128, .f32⟩
  | 102 => ⟨S8x16x128, .f32⟩
  | 103 => ⟨S8x16x128, .f32⟩
  | 104 => ⟨S8x16x128, .f32⟩
  | 105 => ⟨S_, .i32⟩
  | 106 => ⟨S16, .i32⟩
  | 107 => ⟨S16, .i32⟩
  | 108 => ⟨S_, .i32⟩
  | 109 => ⟨S16, .i32⟩
  | 110 => ⟨S16, .i32⟩
  | 111 => ⟨S16, .f32⟩
  | 112 => ⟨S1x16x1, .f32⟩
  | 113 => ⟨S8x16x128, .f32⟩
  | 114 => ⟨S8x16x128, .f32⟩
  | 115 => ⟨S8x16x128, .f32⟩
  | 116 => ⟨S8x16x128, .f32⟩
  | 117 => ⟨S8x16x1x128, .f32⟩
  | 118 => ⟨S8x16x1x128, .f32⟩
  | 119 => ⟨S8x16x1x128, .f32⟩
  | 120 => ⟨S8x16x1x128, .f32⟩
  | 121 => ⟨S8x16x4x128, .f32⟩
  | 122 => ⟨S4x128x8x16, .f32⟩
  | 123 => ⟨S8x16x4x128, .f32⟩
  | 124 => ⟨S8x16x512, .f32⟩
  | 125 => ⟨S1x1x512, .f32⟩
  | 126 => ⟨S8x16x512, .f32⟩
  | 127 => ⟨S8x16x512, .f32⟩
  | _ => ⟨S128x1024, .f32⟩

abbrev hbmTy0_3 (i : Nat) : BufTy := match i % 128 with
  | 0 => ⟨S8x15x512, .f32⟩
  | 1 => ⟨S8x16x1024, .f32⟩
  | 2 => ⟨S8x16x1024, .f32⟩
  | 3 => ⟨S8x16x1024, .f32⟩
  | 4 => ⟨S128x1024, .f32⟩
  | _ => ⟨S128x1024, .f32⟩

abbrev hbmTy (i : Nat) : BufTy := match i / 128 with
  | 0 => hbmTy0_0 i
  | 1 => hbmTy0_1 i
  | 2 => hbmTy0_2 i
  | 3 => hbmTy0_3 i
  | _ => ⟨S128x1024, .f32⟩

abbrev bufTy : (tb : Table) → Fin (tcTables nBuf tb) → BufTy
  | .hbm, ⟨i, _⟩ => hbmTy i
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_v3 : Ref sig .tc := ⟨.hbm, 16, rfl⟩
abbrev main_cst_0 : Ref sig .tc := ⟨.hbm, 17, rfl⟩
abbrev main_v4 : Ref sig .tc := ⟨.hbm, 18, rfl⟩
abbrev main_v5 : Ref sig .tc := ⟨.hbm, 19, rfl⟩
abbrev main_cst_1 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_2 : Ref sig .tc := ⟨.hbm, 34, rfl⟩
abbrev main_v19 : Ref sig .tc := ⟨.hbm, 35, rfl⟩
abbrev main_v20 : Ref sig .tc := ⟨.hbm, 36, rfl⟩
abbrev main_cst_3 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_4 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_v118 : Ref sig .tc := ⟨.hbm, 136, rfl⟩
abbrev main_v119 : Ref sig .tc := ⟨.hbm, 137, rfl⟩
abbrev main_v120 : Ref sig .tc := ⟨.hbm, 138, rfl⟩
abbrev main_v121 : Ref sig .tc := ⟨.hbm, 139, rfl⟩
abbrev main_v122 : Ref sig .tc := ⟨.hbm, 140, rfl⟩
abbrev main_v123 : Ref sig .tc := ⟨.hbm, 141, rfl⟩
abbrev main_v124 : Ref sig .tc := ⟨.hbm, 142, rfl⟩
abbrev main_v125 : Ref sig .tc := ⟨.hbm, 143, rfl⟩
abbrev main_v126 : Ref sig .tc := ⟨.hbm, 144, rfl⟩
abbrev main_v127 : Ref sig .tc := ⟨.hbm, 145, rfl⟩
abbrev main_v128 : Ref sig .tc := ⟨.hbm, 146, rfl⟩
abbrev main_v129 : Ref sig .tc := ⟨.hbm, 147, rfl⟩
abbrev main_v130 : Ref sig .tc := ⟨.hbm, 148, rfl⟩
abbrev main_v131 : Ref sig .tc := ⟨.hbm, 149, rfl⟩
abbrev main_v132 : Ref sig .tc := ⟨.hbm, 150, rfl⟩
abbrev main_v133 : Ref sig .tc := ⟨.hbm, 151, rfl⟩
abbrev main_v134 : Ref sig .tc := ⟨.hbm, 152, rfl⟩
abbrev main_v135 : Ref sig .tc := ⟨.hbm, 153, rfl⟩
abbrev main_v136 : Ref sig .tc := ⟨.hbm, 154, rfl⟩
abbrev main_v137 : Ref sig .tc := ⟨.hbm, 155, rfl⟩
abbrev main_v138 : Ref sig .tc := ⟨.hbm, 156, rfl⟩
abbrev main_v139 : Ref sig .tc := ⟨.hbm, 157, rfl⟩
abbrev main_v140 : Ref sig .tc := ⟨.hbm, 158, rfl⟩
abbrev main_v141 : Ref sig .tc := ⟨.hbm, 159, rfl⟩
abbrev main_v142 : Ref sig .tc := ⟨.hbm, 160, rfl⟩
abbrev main_v143 : Ref sig .tc := ⟨.hbm, 161, rfl⟩
abbrev main_v144 : Ref sig .tc := ⟨.hbm, 162, rfl⟩
abbrev main_v145 : Ref sig .tc := ⟨.hbm, 163, rfl⟩
abbrev main_v146 : Ref sig .tc := ⟨.hbm, 164, rfl⟩
abbrev main_v147 : Ref sig .tc := ⟨.hbm, 165, rfl⟩
abbrev main_v148 : Ref sig .tc := ⟨.hbm, 166, rfl⟩
abbrev main_v149 : Ref sig .tc := ⟨.hbm, 167, rfl⟩
abbrev main_v150 : Ref sig .tc := ⟨.hbm, 168, rfl⟩
abbrev main_v151 : Ref sig .tc := ⟨.hbm, 169, rfl⟩
abbrev main_v152 : Ref sig .tc := ⟨.hbm, 170, rfl⟩
abbrev main_v153 : Ref sig .tc := ⟨.hbm, 171, rfl⟩
abbrev main_v154 : Ref sig .tc := ⟨.hbm, 172, rfl⟩
abbrev main_v155 : Ref sig .tc := ⟨.hbm, 173, rfl⟩
abbrev main_v156 : Ref sig .tc := ⟨.hbm, 174, rfl⟩
abbrev main_v157 : Ref sig .tc := ⟨.hbm, 175, rfl⟩
abbrev main_v158 : Ref sig .tc := ⟨.hbm, 176, rfl⟩
abbrev main_v159 : Ref sig .tc := ⟨.hbm, 177, rfl⟩
abbrev main_v160 : Ref sig .tc := ⟨.hbm, 178, rfl⟩
abbrev main_v161 : Ref sig .tc := ⟨.hbm, 179, rfl⟩
abbrev main_v162 : Ref sig .tc := ⟨.hbm, 180, rfl⟩
abbrev main_v163 : Ref sig .tc := ⟨.hbm, 181, rfl⟩
abbrev main_v164 : Ref sig .tc := ⟨.hbm, 182, rfl⟩
abbrev main_v165 : Ref sig .tc := ⟨.hbm, 183, rfl⟩
abbrev main_v166 : Ref sig .tc := ⟨.hbm, 184, rfl⟩
abbrev main_v167 : Ref sig .tc := ⟨.hbm, 185, rfl⟩
abbrev main_v168 : Ref sig .tc := ⟨.hbm, 186, rfl⟩
abbrev main_v169 : Ref sig .tc := ⟨.hbm, 187, rfl⟩
abbrev main_v170 : Ref sig .tc := ⟨.hbm, 188, rfl⟩
abbrev main_v171 : Ref sig .tc := ⟨.hbm, 189, rfl⟩
abbrev main_v172 : Ref sig .tc := ⟨.hbm, 190, rfl⟩
abbrev main_v173 : Ref sig .tc := ⟨.hbm, 191, rfl⟩
abbrev main_v174 : Ref sig .tc := ⟨.hbm, 192, rfl⟩
abbrev main_v175 : Ref sig .tc := ⟨.hbm, 193, rfl⟩
abbrev main_v176 : Ref sig .tc := ⟨.hbm, 194, rfl⟩
abbrev main_v177 : Ref sig .tc := ⟨.hbm, 195, rfl⟩
abbrev main_v178 : Ref sig .tc := ⟨.hbm, 196, rfl⟩
abbrev main_v179 : Ref sig .tc := ⟨.hbm, 197, rfl⟩
abbrev main_v180 : Ref sig .tc := ⟨.hbm, 198, rfl⟩
abbrev main_v181 : Ref sig .tc := ⟨.hbm, 199, rfl⟩
abbrev main_v182 : Ref sig .tc := ⟨.hbm, 200, rfl⟩
abbrev main_v183 : Ref sig .tc := ⟨.hbm, 201, rfl⟩
abbrev main_v184 : Ref sig .tc := ⟨.hbm, 202, rfl⟩
abbrev main_v185 : Ref sig .tc := ⟨.hbm, 203, rfl⟩
abbrev main_v186 : Ref sig .tc := ⟨.hbm, 204, rfl⟩
abbrev main_v187 : Ref sig .tc := ⟨.hbm, 205, rfl⟩
abbrev main_v188 : Ref sig .tc := ⟨.hbm, 206, rfl⟩
abbrev main_v189 : Ref sig .tc := ⟨.hbm, 207, rfl⟩
abbrev main_v190 : Ref sig .tc := ⟨.hbm, 208, rfl⟩
abbrev main_v191 : Ref sig .tc := ⟨.hbm, 209, rfl⟩
abbrev main_v192 : Ref sig .tc := ⟨.hbm, 210, rfl⟩
abbrev main_v193 : Ref sig .tc := ⟨.hbm, 211, rfl⟩
abbrev main_v194 : Ref sig .tc := ⟨.hbm, 212, rfl⟩
abbrev main_v195 : Ref sig .tc := ⟨.hbm, 213, rfl⟩
abbrev main_v196 : Ref sig .tc := ⟨.hbm, 214, rfl⟩
abbrev main_v197 : Ref sig .tc := ⟨.hbm, 215, rfl⟩
abbrev main_v198 : Ref sig .tc := ⟨.hbm, 216, rfl⟩
abbrev main_v199 : Ref sig .tc := ⟨.hbm, 217, rfl⟩
abbrev main_v200 : Ref sig .tc := ⟨.hbm, 218, rfl⟩
abbrev main_v201 : Ref sig .tc := ⟨.hbm, 219, rfl⟩
abbrev main_v202 : Ref sig .tc := ⟨.hbm, 220, rfl⟩
abbrev main_v203 : Ref sig .tc := ⟨.hbm, 221, rfl⟩
abbrev main_v204 : Ref sig .tc := ⟨.hbm, 222, rfl⟩
abbrev main_v205 : Ref sig .tc := ⟨.hbm, 223, rfl⟩
abbrev main_v206 : Ref sig .tc := ⟨.hbm, 224, rfl⟩
abbrev main_v207 : Ref sig .tc := ⟨.hbm, 225, rfl⟩
abbrev main_v208 : Ref sig .tc := ⟨.hbm, 226, rfl⟩
abbrev main_v209 : Ref sig .tc := ⟨.hbm, 227, rfl⟩
abbrev main_v210 : Ref sig .tc := ⟨.hbm, 228, rfl⟩
abbrev main_v211 : Ref sig .tc := ⟨.hbm, 229, rfl⟩
abbrev main_v212 : Ref sig .tc := ⟨.hbm, 230, rfl⟩
abbrev main_v213 : Ref sig .tc := ⟨.hbm, 231, rfl⟩
abbrev main_v214 : Ref sig .tc := ⟨.hbm, 232, rfl⟩
abbrev main_v215 : Ref sig .tc := ⟨.hbm, 233, rfl⟩
abbrev main_v216 : Ref sig .tc := ⟨.hbm, 234, rfl⟩
abbrev main_v217 : Ref sig .tc := ⟨.hbm, 235, rfl⟩
abbrev main_v218 : Ref sig .tc := ⟨.hbm, 236, rfl⟩
abbrev main_v219 : Ref sig .tc := ⟨.hbm, 237, rfl⟩
abbrev main_v220 : Ref sig .tc := ⟨.hbm, 238, rfl⟩
abbrev main_v221 : Ref sig .tc := ⟨.hbm, 239, rfl⟩
abbrev main_v222 : Ref sig .tc := ⟨.hbm, 240, rfl⟩
abbrev main_v223 : Ref sig .tc := ⟨.hbm, 241, rfl⟩
abbrev main_v224 : Ref sig .tc := ⟨.hbm, 242, rfl⟩
abbrev main_v225 : Ref sig .tc := ⟨.hbm, 243, rfl⟩
abbrev main_v226 : Ref sig .tc := ⟨.hbm, 244, rfl⟩
abbrev main_v227 : Ref sig .tc := ⟨.hbm, 245, rfl⟩
abbrev main_v228 : Ref sig .tc := ⟨.hbm, 246, rfl⟩
abbrev main_v229 : Ref sig .tc := ⟨.hbm, 247, rfl⟩
abbrev main_v230 : Ref sig .tc := ⟨.hbm, 248, rfl⟩
abbrev main_v231 : Ref sig .tc := ⟨.hbm, 249, rfl⟩
abbrev main_v232 : Ref sig .tc := ⟨.hbm, 250, rfl⟩
abbrev main_v233 : Ref sig .tc := ⟨.hbm, 251, rfl⟩
abbrev main_v234 : Ref sig .tc := ⟨.hbm, 252, rfl⟩
abbrev main_v235 : Ref sig .tc := ⟨.hbm, 253, rfl⟩
abbrev main_v236 : Ref sig .tc := ⟨.hbm, 254, rfl⟩
abbrev main_v237 : Ref sig .tc := ⟨.hbm, 255, rfl⟩
abbrev main_v238 : Ref sig .tc := ⟨.hbm, 256, rfl⟩
abbrev main_v239 : Ref sig .tc := ⟨.hbm, 257, rfl⟩
abbrev main_v240 : Ref sig .tc := ⟨.hbm, 258, rfl⟩
abbrev main_v241 : Ref sig .tc := ⟨.hbm, 259, rfl⟩
abbrev main_v242 : Ref sig .tc := ⟨.hbm, 260, rfl⟩
abbrev main_v243 : Ref sig .tc := ⟨.hbm, 261, rfl⟩
abbrev main_v244 : Ref sig .tc := ⟨.hbm, 262, rfl⟩
abbrev main_v245 : Ref sig .tc := ⟨.hbm, 263, rfl⟩
abbrev main_v246 : Ref sig .tc := ⟨.hbm, 264, rfl⟩
abbrev main_cst_5 : Ref sig .tc := ⟨.hbm, 265, rfl⟩
abbrev main_v247 : Ref sig .tc := ⟨.hbm, 266, rfl⟩
abbrev main_v248 : Ref sig .tc := ⟨.hbm, 267, rfl⟩
abbrev main_cst_6 : Ref sig .tc := ⟨.hbm, 268, rfl⟩
abbrev main_v249 : Ref sig .tc := ⟨.hbm, 269, rfl⟩
abbrev main_v250 : Ref sig .tc := ⟨.hbm, 270, rfl⟩
abbrev main_v251 : Ref sig .tc := ⟨.hbm, 271, rfl⟩
abbrev main_v252 : Ref sig .tc := ⟨.hbm, 272, rfl⟩
abbrev main_v253 : Ref sig .tc := ⟨.hbm, 273, rfl⟩
abbrev main_cst_7 : Ref sig .tc := ⟨.hbm, 274, rfl⟩
abbrev main_v254 : Ref sig .tc := ⟨.hbm, 275, rfl⟩
abbrev main_v255 : Ref sig .tc := ⟨.hbm, 276, rfl⟩
abbrev main_cst_8 : Ref sig .tc := ⟨.hbm, 277, rfl⟩
abbrev main_v256 : Ref sig .tc := ⟨.hbm, 278, rfl⟩
abbrev main_v257 : Ref sig .tc := ⟨.hbm, 279, rfl⟩
abbrev main_cst_9 : Ref sig .tc := ⟨.hbm, 280, rfl⟩
abbrev main_v258 : Ref sig .tc := ⟨.hbm, 281, rfl⟩
abbrev main_v259 : Ref sig .tc := ⟨.hbm, 282, rfl⟩
abbrev main_v260 : Ref sig .tc := ⟨.hbm, 283, rfl⟩
abbrev main_v261 : Ref sig .tc := ⟨.hbm, 284, rfl⟩
abbrev main_v262 : Ref sig .tc := ⟨.hbm, 285, rfl⟩
abbrev main_v263 : Ref sig .tc := ⟨.hbm, 286, rfl⟩
abbrev main_v264 : Ref sig .tc := ⟨.hbm, 287, rfl⟩
abbrev main_v265 : Ref sig .tc := ⟨.hbm, 288, rfl⟩
abbrev main_v266 : Ref sig .tc := ⟨.hbm, 289, rfl⟩
abbrev main_v267 : Ref sig .tc := ⟨.hbm, 290, rfl⟩
abbrev main_v268 : Ref sig .tc := ⟨.hbm, 291, rfl⟩
abbrev main_call0_v0 : Ref sig .tc := ⟨.hbm, 292, rfl⟩
abbrev main_call0_v1 : Ref sig .tc := ⟨.hbm, 293, rfl⟩
abbrev main_call0_cst : Ref sig .tc := ⟨.hbm, 294, rfl⟩
abbrev main_call0_v2 : Ref sig .tc := ⟨.hbm, 295, rfl⟩
abbrev main_call0_v3 : Ref sig .tc := ⟨.hbm, 296, rfl⟩
abbrev main_call0_cst_0 : Ref sig .tc := ⟨.hbm, 297, rfl⟩
abbrev main_call0_v4 : Ref sig .tc := ⟨.hbm, 298, rfl⟩
abbrev main_call0_v5 : Ref sig .tc := ⟨.hbm, 299, rfl⟩
abbrev main_v269 : Ref sig .tc := ⟨.hbm, 300, rfl⟩
abbrev main_v270 : Ref sig .tc := ⟨.hbm, 301, rfl⟩
abbrev main_v271 : Ref sig .tc := ⟨.hbm, 302, rfl⟩
abbrev main_c : Ref sig .tc := ⟨.hbm, 303, rfl⟩
abbrev main_call1_v0 : Ref sig .tc := ⟨.hbm, 304, rfl⟩
abbrev main_v272 : Ref sig .tc := ⟨.hbm, 305, rfl⟩
abbrev main_call2_call0_cst : Ref sig .tc := ⟨.hbm, 306, rfl⟩
abbrev main_call2_call0_v0 : Ref sig .tc := ⟨.hbm, 307, rfl⟩
abbrev main_v273 : Ref sig .tc := ⟨.hbm, 308, rfl⟩
abbrev main_v274 : Ref sig .tc := ⟨.hbm, 309, rfl⟩
abbrev main_c_10 : Ref sig .tc := ⟨.hbm, 310, rfl⟩
abbrev main_v275 : Ref sig .tc := ⟨.hbm, 311, rfl⟩
abbrev main_v276 : Ref sig .tc := ⟨.hbm, 312, rfl⟩
abbrev main_v277 : Ref sig .tc := ⟨.hbm, 313, rfl⟩
abbrev main_v278 : Ref sig .tc := ⟨.hbm, 314, rfl⟩
abbrev main_v279 : Ref sig .tc := ⟨.hbm, 315, rfl⟩
abbrev main_c_11 : Ref sig .tc := ⟨.hbm, 316, rfl⟩
abbrev main_v280 : Ref sig .tc := ⟨.hbm, 317, rfl⟩
abbrev main_v281 : Ref sig .tc := ⟨.hbm, 318, rfl⟩
abbrev main_c_12 : Ref sig .tc := ⟨.hbm, 319, rfl⟩
abbrev main_v282 : Ref sig .tc := ⟨.hbm, 320, rfl⟩
abbrev main_v283 : Ref sig .tc := ⟨.hbm, 321, rfl⟩
abbrev main_v284 : Ref sig .tc := ⟨.hbm, 322, rfl⟩
abbrev main_v285 : Ref sig .tc := ⟨.hbm, 323, rfl⟩
abbrev main_v286 : Ref sig .tc := ⟨.hbm, 324, rfl⟩
abbrev main_v287 : Ref sig .tc := ⟨.hbm, 325, rfl⟩
abbrev main_v288 : Ref sig .tc := ⟨.hbm, 326, rfl⟩
abbrev main_v289 : Ref sig .tc := ⟨.hbm, 327, rfl⟩
abbrev main_v290 : Ref sig .tc := ⟨.hbm, 328, rfl⟩
abbrev main_v291 : Ref sig .tc := ⟨.hbm, 329, rfl⟩
abbrev main_v292 : Ref sig .tc := ⟨.hbm, 330, rfl⟩
abbrev main_c_13 : Ref sig .tc := ⟨.hbm, 331, rfl⟩
abbrev main_v293 : Ref sig .tc := ⟨.hbm, 332, rfl⟩
abbrev main_v294 : Ref sig .tc := ⟨.hbm, 333, rfl⟩
abbrev main_c_14 : Ref sig .tc := ⟨.hbm, 334, rfl⟩
abbrev main_v295 : Ref sig .tc := ⟨.hbm, 335, rfl⟩
abbrev main_v296 : Ref sig .tc := ⟨.hbm, 336, rfl⟩
abbrev main_v297 : Ref sig .tc := ⟨.hbm, 337, rfl⟩
abbrev main_v298 : Ref sig .tc := ⟨.hbm, 338, rfl⟩
abbrev main_v299 : Ref sig .tc := ⟨.hbm, 339, rfl⟩
abbrev main_v300 : Ref sig .tc := ⟨.hbm, 340, rfl⟩
abbrev main_v301 : Ref sig .tc := ⟨.hbm, 341, rfl⟩
abbrev main_v302 : Ref sig .tc := ⟨.hbm, 342, rfl⟩
abbrev main_v303 : Ref sig .tc := ⟨.hbm, 343, rfl⟩
abbrev main_v304 : Ref sig .tc := ⟨.hbm, 344, rfl⟩
abbrev main_v305 : Ref sig .tc := ⟨.hbm, 345, rfl⟩
abbrev main_c_15 : Ref sig .tc := ⟨.hbm, 346, rfl⟩
abbrev main_v306 : Ref sig .tc := ⟨.hbm, 347, rfl⟩
abbrev main_v307 : Ref sig .tc := ⟨.hbm, 348, rfl⟩
abbrev main_c_16 : Ref sig .tc := ⟨.hbm, 349, rfl⟩
abbrev main_v308 : Ref sig .tc := ⟨.hbm, 350, rfl⟩
abbrev main_v309 : Ref sig .tc := ⟨.hbm, 351, rfl⟩
abbrev main_v310 : Ref sig .tc := ⟨.hbm, 352, rfl⟩
abbrev main_v311 : Ref sig .tc := ⟨.hbm, 353, rfl⟩
abbrev main_v312 : Ref sig .tc := ⟨.hbm, 354, rfl⟩
abbrev main_v313 : Ref sig .tc := ⟨.hbm, 355, rfl⟩
abbrev main_v314 : Ref sig .tc := ⟨.hbm, 356, rfl⟩
abbrev main_v315 : Ref sig .tc := ⟨.hbm, 357, rfl⟩
abbrev main_v316 : Ref sig .tc := ⟨.hbm, 358, rfl⟩
abbrev main_v317 : Ref sig .tc := ⟨.hbm, 359, rfl⟩
abbrev main_v318 : Ref sig .tc := ⟨.hbm, 360, rfl⟩
abbrev main_c_17 : Ref sig .tc := ⟨.hbm, 361, rfl⟩
abbrev main_v319 : Ref sig .tc := ⟨.hbm, 362, rfl⟩
abbrev main_v320 : Ref sig .tc := ⟨.hbm, 363, rfl⟩
abbrev main_c_18 : Ref sig .tc := ⟨.hbm, 364, rfl⟩
abbrev main_v321 : Ref sig .tc := ⟨.hbm, 365, rfl⟩
abbrev main_v322 : Ref sig .tc := ⟨.hbm, 366, rfl⟩
abbrev main_v323 : Ref sig .tc := ⟨.hbm, 367, rfl⟩
abbrev main_v324 : Ref sig .tc := ⟨.hbm, 368, rfl⟩
abbrev main_v325 : Ref sig .tc := ⟨.hbm, 369, rfl⟩
abbrev main_v326 : Ref sig .tc := ⟨.hbm, 370, rfl⟩
abbrev main_v327 : Ref sig .tc := ⟨.hbm, 371, rfl⟩
abbrev main_v328 : Ref sig .tc := ⟨.hbm, 372, rfl⟩
abbrev main_v329 : Ref sig .tc := ⟨.hbm, 373, rfl⟩
abbrev main_v330 : Ref sig .tc := ⟨.hbm, 374, rfl⟩
abbrev main_v331 : Ref sig .tc := ⟨.hbm, 375, rfl⟩
abbrev main_v332 : Ref sig .tc := ⟨.hbm, 376, rfl⟩
abbrev main_v333 : Ref sig .tc := ⟨.hbm, 377, rfl⟩
abbrev main_v334 : Ref sig .tc := ⟨.hbm, 378, rfl⟩
abbrev main_v335 : Ref sig .tc := ⟨.hbm, 379, rfl⟩
abbrev main_v336 : Ref sig .tc := ⟨.hbm, 380, rfl⟩
abbrev main_v337 : Ref sig .tc := ⟨.hbm, 381, rfl⟩
abbrev main_v338 : Ref sig .tc := ⟨.hbm, 382, rfl⟩
abbrev main_v339 : Ref sig .tc := ⟨.hbm, 383, rfl⟩
abbrev main_v340 : Ref sig .tc := ⟨.hbm, 384, rfl⟩
abbrev main_v341 : Ref sig .tc := ⟨.hbm, 385, rfl⟩
abbrev main_v342 : Ref sig .tc := ⟨.hbm, 386, rfl⟩
abbrev main_v343 : Ref sig .tc := ⟨.hbm, 387, rfl⟩
abbrev main_v344 : Ref sig .tc := ⟨.hbm, 388, rfl⟩

abbrev nD : Nat := 1
abbrev τ : Topo := Topo.v7x

variable {F : FTy → Type} [FloatOps F]
-- ==== Kernel5.lean ====
abbrev S32768x1024 : Shape := ⟨2, ![32768, 1024]⟩
abbrev S8 : Shape := ⟨1, ![8]⟩
abbrev S1024 : Shape := ⟨1, ![1024]⟩
abbrev S1024x1792 : Shape := ⟨2, ![1024, 1792]⟩
abbrev S512 : Shape := ⟨1, ![512]⟩
abbrev S4x128x128 : Shape := ⟨3, ![4, 128, 128]⟩
abbrev S4x128 : Shape := ⟨2, ![4, 128]⟩
abbrev S1024x1024 : Shape := ⟨2, ![1024, 1024]⟩
abbrev S128x4 : Shape := ⟨2, ![128, 4]⟩
abbrev S128x4x128 : Shape := ⟨3, ![128, 4, 128]⟩
abbrev S128x512 : Shape := ⟨2, ![128, 512]⟩
abbrev S_ : Shape := ⟨0, ![]⟩
abbrev S8x128x128 : Shape := ⟨3, ![8, 128, 128]⟩
abbrev S1x1024 : Shape := ⟨2, ![1, 1024]⟩
abbrev S1x512 : Shape := ⟨2, ![1, 512]⟩
abbrev S512x1024 : Shape := ⟨2, ![512, 1024]⟩
abbrev S1x128x128 : Shape := ⟨3, ![1, 128, 128]⟩
abbrev S2x640x64 : Shape := ⟨3, ![2, 640, 64]⟩
abbrev S512x512 : Shape := ⟨2, ![512, 512]⟩
abbrev S1x128x64 : Shape := ⟨3, ![1, 128, 64]⟩
abbrev S128x64 : Shape := ⟨2, ![128, 64]⟩
abbrev S512x1 : Shape := ⟨2, ![512, 1]⟩
abbrev S512x1792 : Shape := ⟨2, ![512, 1792]⟩
abbrev S128x128 : Shape := ⟨2, ![128, 128]⟩
abbrev S512x128 : Shape := ⟨2, ![512, 128]⟩
abbrev S512x64 : Shape := ⟨2, ![512, 64]⟩
abbrev S1x512x64 : Shape := ⟨3, ![1, 512, 64]⟩
abbrev S256x1 : Shape := ⟨2, ![256, 1]⟩
abbrev S1 : Shape := ⟨1, ![1]⟩
abbrev S64x64 : Shape := ⟨2, ![64, 64]⟩
abbrev S256x64 : Shape := ⟨2, ![256, 64]⟩
abbrev S1x192x64 : Shape := ⟨3, ![1, 192, 64]⟩
abbrev S192x64 : Shape := ⟨2, ![192, 64]⟩
abbrev S256x192 : Shape := ⟨2, ![256, 192]⟩
abbrev S1x192 : Shape := ⟨2, ![1, 192]⟩
abbrev S256 : Shape := ⟨1, ![256]⟩

abbrev nBuf : Space → Nat
  | .hbm => 22
  | .vmem => 24
  | .smem => 1
  | _ => 0

abbrev bufTy : (tb : Table) → Fin (tcTables nBuf tb) → BufTy
  | .hbm, ⟨0, _⟩ => ⟨S32768x1024, .f32⟩
  | .hbm, ⟨1, _⟩ => ⟨S8, .f32⟩
  | .hbm, ⟨2, _⟩ => ⟨S1024, .f32⟩
  | .hbm, ⟨3, _⟩ => ⟨S1024x1792, .f32⟩
  | .hbm, ⟨4, _⟩ => ⟨S512, .f32⟩
  | .hbm, ⟨5, _⟩ => ⟨S512, .f32⟩
  | .hbm, ⟨6, _⟩ => ⟨S4x128x128, .f32⟩
  | .hbm, ⟨7, _⟩ => ⟨S4x128, .f32⟩
  | .hbm, ⟨8, _⟩ => ⟨S1024x1024, .f32⟩
  | .hbm, ⟨9, _⟩ => ⟨S128x4, .f32⟩
  | .hbm, ⟨10, _⟩ => ⟨S128x4x128, .f32⟩
  | .hbm, ⟨11, _⟩ => ⟨S128x512, .f32⟩
  | .hbm, ⟨12, _⟩ => ⟨S_, .f32⟩
  | .hbm, ⟨13, _⟩ => ⟨S8x128x128, .f32⟩
  | .hbm, ⟨14, _⟩ => ⟨S1x1024, .f32⟩
  | .hbm, ⟨15, _⟩ => ⟨S1024x1792, .bf16⟩
  | .hbm, ⟨16, _⟩ => ⟨S1x512, .f32⟩
  | .hbm, ⟨17, _⟩ => ⟨S1x512, .f32⟩
  | .hbm, ⟨18, _⟩ => ⟨S1024x1024, .bf16⟩
  | .hbm, ⟨19, _⟩ => ⟨S32768x1024, .f32⟩
  | .hbm, ⟨20, _⟩ => ⟨S8x128x128, .f32⟩
  | .hbm, ⟨21, _⟩ => ⟨S8x128x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1792, .bf16⟩
  | .local _ .vmem, ⟨4, _⟩ => ⟨S1x512, .f32⟩
  | .local _ .vmem, ⟨5, _⟩ => ⟨S1x512, .f32⟩
  | .local _ .vmem, ⟨6, _⟩ => ⟨S4x128x128, .f32⟩
  | .local _ .vmem, ⟨7, _⟩ => ⟨S128x512, .f32⟩
  | .local _ .vmem, ⟨8, _⟩ => ⟨S1024x1024, .bf16⟩
  | .local _ .vmem, ⟨9, _⟩ => ⟨S1x128x128, .f32⟩
  | .local _ .vmem, ⟨10, _⟩ => ⟨S1x128x128, .f32⟩
  | .local _ .vmem, ⟨11, _⟩ => ⟨S1x128x128, .f32⟩
  | .local _ .vmem, ⟨12, _⟩ => ⟨S1x128x128, .f32⟩
  | .local _ .vmem, ⟨13, _⟩ => ⟨S512x1024, .f32⟩
  | .local _ .vmem, ⟨14, _⟩ => ⟨S512x1024, .f32⟩
  | .local _ .vmem, ⟨15, _⟩ => ⟨S1x128x128, .f32⟩
  | .local _ .vmem, ⟨16, _⟩ => ⟨S1x128x128, .f32⟩
  | .local _ .vmem, ⟨17, _⟩ => ⟨S1x128x128, .f32⟩
  | .local _ .vmem, ⟨18, _⟩ => ⟨S1x128x128, .f32⟩
  | .local _ .vmem, ⟨19, _⟩ => ⟨S2x640x64, .bf16⟩
  | .local _ .vmem, ⟨20, _⟩ => ⟨S2x640x64, .bf16⟩
  | .local _ .vmem, ⟨21, _⟩ => ⟨S512x512, .bf16⟩
  | .local _ .vmem, ⟨22, _⟩ => ⟨S512x512, .f32⟩
  | .local _ .vmem, ⟨23, _⟩ => ⟨S512x1024, .bf16⟩
  | .local _ .smem, ⟨0, _⟩ => ⟨S8, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .smem, ⟨0, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9_0 : Ref sig .tc := ⟨.hbm, 19, rfl⟩
abbrev main_v9_1 : Ref sig .tc := ⟨.hbm, 20, rfl⟩
abbrev main_v9_2 : Ref sig .tc := ⟨.hbm, 21, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg9_1 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_scratch4 : Ref sig .tc := ⟨.vmem, 23, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19

abbrev nD : Nat := 1
abbrev τ : Topo := Topo.v7x

variable {F : FTy → Type} [FloatOps F]

abbrev grid0 : Pipeline.Grid := ⟨2, ![8, 8], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1792 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x128x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x128x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== Reference5Ideal.lean ====
abbrev S32768x1024 : Shape := ⟨2, ![32768, 1024]⟩
abbrev S8 : Shape := ⟨1, ![8]⟩
abbrev S1024 : Shape := ⟨1, ![1024]⟩
abbrev S1024x1792 : Shape := ⟨2, ![1024, 1792]⟩
abbrev S512 : Shape := ⟨1, ![512]⟩
abbrev S4x128x128 : Shape := ⟨3, ![4, 128, 128]⟩
abbrev S4x128 : Shape := ⟨2, ![4, 128]⟩
abbrev S1024x1024 : Shape := ⟨2, ![1024, 1024]⟩
abbrev S8x4096x1024 : Shape := ⟨3, ![8, 4096, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x1792 : Shape := ⟨3, ![8, 4096, 1792]⟩
abbrev S8x4096x128 : Shape := ⟨3, ![8, 4096, 128]⟩
abbrev S8x4096x2x64 : Shape := ⟨4, ![8, 4096, 2, 64]⟩
abbrev S8x128x2x64 : Shape := ⟨4, ![8, 128, 2, 64]⟩
abbrev S8x128x128 : Shape := ⟨3, ![8, 128, 128]⟩

abbrev nBuf : Space → Nat
  | .hbm => 35
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S8, .f32⟩
  | .hbm, ⟨2, _⟩ => ⟨S1024, .f32⟩
  | .hbm, ⟨3, _⟩ => ⟨S1024x1792, .f32⟩
  | .hbm, ⟨4, _⟩ => ⟨S512, .f32⟩
  | .hbm, ⟨5, _⟩ => ⟨S512, .f32⟩
  | .hbm, ⟨6, _⟩ => ⟨S4x128x128, .f32⟩
  | .hbm, ⟨7, _⟩ => ⟨S4x128, .f32⟩
  | .hbm, ⟨8, _⟩ => ⟨S1024x1024, .f32⟩
  | .hbm, ⟨9, _⟩ => ⟨S8x4096x1024, .f32⟩
  | .hbm, ⟨10, _⟩ => ⟨S8x4096x1024, .f32⟩
  | .hbm, ⟨11, _⟩ => ⟨S_, .f32⟩
  | .hbm, ⟨12, _⟩ => ⟨S8x4096, .f32⟩
  | .hbm, ⟨13, _⟩ => ⟨S8x4096x1, .f32⟩
  | .hbm, ⟨14, _⟩ => ⟨S_, .f32⟩
  | .hbm, ⟨15, _⟩ => ⟨S8x4096x1, .f32⟩
  | .hbm, ⟨16, _⟩ => ⟨S8x4096x1, .f32⟩
  | .hbm, ⟨17, _⟩ => ⟨S_, .f32⟩
  | .hbm, ⟨18, _⟩ => ⟨S8x4096x1, .f32⟩
  | .hbm, ⟨19, _⟩ => ⟨S8x4096x1, .f32⟩
  | .hbm, ⟨20, _⟩ => ⟨S8x4096x1, .f32⟩
  | .hbm, ⟨21, _⟩ => ⟨S8x4096x1024, .f32⟩
  | .hbm, ⟨22, _⟩ => ⟨S8x4096x1024, .f32⟩
  | .hbm, ⟨23, _⟩ => ⟨S1x1x1024, .f32⟩
  | .hbm, ⟨24, _⟩ => ⟨S8x4096x1024, .f32⟩
  | .hbm, ⟨25, _⟩ => ⟨S8x4096x1024, .f32⟩
  | .hbm, ⟨26, _⟩ => ⟨S8x4096x1792, .f32⟩
  | .hbm, ⟨27, _⟩ => ⟨S8x4096x128, .f32⟩
  | .hbm, ⟨28, _⟩ => ⟨S8x4096x2x64, .f32⟩
  | .hbm, ⟨29, _⟩ => ⟨S8x4096x128, .f32⟩
  | .hbm, ⟨30, _⟩ => ⟨S8x4096x2x64, .f32⟩
  | .hbm, ⟨31, _⟩ => ⟨S8x128x2x64, .f32⟩
  | .hbm, ⟨32, _⟩ => ⟨S8x128x128, .f32⟩
  | .hbm, ⟨33, _⟩ => ⟨S8x128x2x64, .f32⟩
  | .hbm, ⟨34, _⟩ => ⟨S8x128x128, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩

abbrev nD : Nat := 1
abbrev τ : Topo := Topo.v7x

variable {F : FTy → Type} [FloatOps F]
-- ==== Kernel6.lean ====
abbrev S32768x1024 : Shape := ⟨2, ![32768, 1024]⟩
abbrev S1024 : Shape := ⟨1, ![1024]⟩
abbrev S1024x1536 : Shape := ⟨2, ![1024, 1536]⟩
abbrev S31x512 : Shape := ⟨2, ![31, 512]⟩
abbrev S512 : Shape := ⟨1, ![512]⟩
abbrev S4x128x128 : Shape := ⟨3, ![4, 128, 128]⟩
abbrev S1024x1024 : Shape := ⟨2, ![1024, 1024]⟩
abbrev S1x1024 : Shape := ⟨2, ![1, 1024]⟩
abbrev S1x512 : Shape := ⟨2, ![1, 512]⟩
abbrev S_ : Shape := ⟨0, ![]⟩
abbrev S8x30x512 : Shape := ⟨3, ![8, 30, 512]⟩
abbrev S8x15x512 : Shape := ⟨3, ![8, 15, 512]⟩
abbrev S512x1024 : Shape := ⟨2, ![512, 1024]⟩
abbrev S1x30x512 : Shape := ⟨3, ![1, 30, 512]⟩
abbrev S1x15x512 : Shape := ⟨3, ![1, 15, 512]⟩
abbrev S544x512 : Shape := ⟨2, ![544, 512]⟩
abbrev S528x512 : Shape := ⟨2, ![528, 512]⟩
abbrev S2x512 : Shape := ⟨2, ![2, 512]⟩
abbrev S30x512 : Shape := ⟨2, ![30, 512]⟩
abbrev S15x512 : Shape := ⟨2, ![15, 512]⟩
abbrev S512x1 : Shape := ⟨2, ![512, 1]⟩
abbrev S512x1536 : Shape := ⟨2, ![512, 1536]⟩
abbrev S512x512 : Shape := ⟨2, ![512, 512]⟩
abbrev S64x128 : Shape := ⟨2, ![64, 128]⟩
abbrev S1x128 : Shape := ⟨2, ![1, 128]⟩
abbrev S64x512 : Shape := ⟨2, ![64, 512]⟩
abbrev S64 : Shape := ⟨1, ![64]⟩
abbrev S64x1 : Shape := ⟨2, ![64, 1]⟩
abbrev S1x128x128 : Shape := ⟨3, ![1, 128, 128]⟩
abbrev S128x128 : Shape := ⟨2, ![128, 128]⟩
abbrev S32x512 : Shape := ⟨2, ![32, 512]⟩
abbrev S16x512 : Shape := ⟨2, ![16, 512]⟩

abbrev nBuf : Space → Nat
  | .hbm => 25
  | .vmem => 24
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x1536, .f32⟩
  | .hbm, ⟨3, _⟩ => ⟨S31x512, .f32⟩
  | .hbm, ⟨4, _⟩ => ⟨S512, .f32⟩
  | .hbm, ⟨5, _⟩ => ⟨S512, .f32⟩
  | .hbm, ⟨6, _⟩ => ⟨S512, .f32⟩
  | .hbm, ⟨7, _⟩ => ⟨S4x128x128, .f32⟩
  | .hbm, ⟨8, _⟩ => ⟨S512, .f32⟩
  | .hbm, ⟨9, _⟩ => ⟨S1024x1024, .f32⟩
  | .hbm, ⟨10, _⟩ => ⟨S1x1024, .f32⟩
  | .hbm, ⟨11, _⟩ => ⟨S1024x1536, .bf16⟩
  | .hbm, ⟨12, _⟩ => ⟨S1x512, .f32⟩
  | .hbm, ⟨13, _⟩ => ⟨S1x512, .f32⟩
  | .hbm, ⟨14, _⟩ => ⟨S1x512, .f32⟩
  | .hbm, ⟨15, _⟩ => ⟨S4x128x128, .bf16⟩
  | .hbm, ⟨16, _⟩ => ⟨S1x512, .f32⟩
  | .hbm, ⟨17, _⟩ => ⟨S1024x1024, .bf16⟩
  | .hbm, ⟨18, _⟩ => ⟨S_, .f32⟩
  | .hbm, ⟨19, _⟩ => ⟨S8x30x512, .f32⟩
  | .hbm, ⟨20, _⟩ => ⟨S_, .f32⟩
  | .hbm, ⟨21, _⟩ => ⟨S8x15x512, .f32⟩
  | .hbm, ⟨22, _⟩ => ⟨S32768x1024, .f32⟩
  | .hbm, ⟨23, _⟩ => ⟨S8x30x512, .f32⟩
  | .hbm, ⟨24, _⟩ => ⟨S8x15x512, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1536, .bf16⟩
  | .local _ .vmem, ⟨4, _⟩ => ⟨S31x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S4x128x128, .bf16⟩
  | .local _ .vmem, ⟨9, _⟩ => ⟨S1x512, .f32⟩
  | .local _ .vmem, ⟨10, _⟩ => ⟨S1024x1024, .bf16⟩
  | .local _ .vmem, ⟨11, _⟩ => ⟨S1x30x512, .f32⟩
  | .local _ .vmem, ⟨12, _⟩ => ⟨S1x30x512, .f32⟩
  | .local _ .vmem, ⟨13, _⟩ => ⟨S1x15x512, .f32⟩
  | .local _ .vmem, ⟨14, _⟩ => ⟨S1x15x512, .f32⟩
  | .local _ .vmem, ⟨15, _⟩ => ⟨S512x1024, .f32⟩
  | .local _ .vmem, ⟨16, _⟩ => ⟨S512x1024, .f32⟩
  | .local _ .vmem, ⟨17, _⟩ => ⟨S1x30x512, .f32⟩
  | .local _ .vmem, ⟨18, _⟩ => ⟨S1x30x512, .f32⟩
  | .local _ .vmem, ⟨19, _⟩ => ⟨S1x15x512, .f32⟩
  | .local _ .vmem, ⟨20, _⟩ => ⟨S1x15x512, .f32⟩
  | .local _ .vmem, ⟨21, _⟩ => ⟨S544x512, .f32⟩
  | .local _ .vmem, ⟨22, _⟩ => ⟨S528x512, .f32⟩
  | .local _ .vmem, ⟨23, _⟩ => ⟨S512x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10_0 : Ref sig .tc := ⟨.hbm, 22, rfl⟩
abbrev main_v10_1 : Ref sig .tc := ⟨.hbm, 23, rfl⟩
abbrev main_v10_2 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S31x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S4x128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x30x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x15x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x30x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x15x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]
-- ==== Reference6Ideal.lean ====
abbrev S32768x1024 : Shape := ⟨2, ![32768, 1024]⟩
abbrev S1024 : Shape := ⟨1, ![1024]⟩
abbrev S1024x1536 : Shape := ⟨2, ![1024, 1536]⟩
abbrev S31x512 : Shape := ⟨2, ![31, 512]⟩
abbrev S512 : Shape := ⟨1, ![512]⟩
abbrev S4x128x128 : Shape := ⟨3, ![4, 128, 128]⟩
abbrev S1024x1024 : Shape := ⟨2, ![1024, 1024]⟩
abbrev S8x4096x1024 : Shape := ⟨3, ![8, 4096, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x1536 : Shape := ⟨3, ![8, 4096, 1536]⟩
abbrev S8x4096x512 : Shape := ⟨3, ![8, 4096, 512]⟩
abbrev S8x30x512 : Shape := ⟨3, ![8, 30, 512]⟩
abbrev S8x4126x512 : Shape := ⟨3, ![8, 4126, 512]⟩
abbrev S8x15x512 : Shape := ⟨3, ![8, 15, 512]⟩
abbrev S8x4111x512 : Shape := ⟨3, ![8, 4111, 512]⟩

abbrev nBuf : Space → Nat
  | .hbm => 48
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x1536, .f32⟩
  | .hbm, ⟨3, _⟩ => ⟨S31x512, .f32⟩
  | .hbm, ⟨4, _⟩ => ⟨S512, .f32⟩
  | .hbm, ⟨5, _⟩ => ⟨S512, .f32⟩
  | .hbm, ⟨6, _⟩ => ⟨S512, .f32⟩
  | .hbm, ⟨7, _⟩ => ⟨S4x128x128, .f32⟩
  | .hbm, ⟨8, _⟩ => ⟨S512, .f32⟩
  | .hbm, ⟨9, _⟩ => ⟨S1024x1024, .f32⟩
  | .hbm, ⟨10, _⟩ => ⟨S8x4096x1024, .f32⟩
  | .hbm, ⟨11, _⟩ => ⟨S8x4096x1024, .f32⟩
  | .hbm, ⟨12, _⟩ => ⟨S_, .f32⟩
  | .hbm, ⟨13, _⟩ => ⟨S8x4096, .f32⟩
  | .hbm, ⟨14, _⟩ => ⟨S8x4096x1, .f32⟩
  | .hbm, ⟨15, _⟩ => ⟨S_, .f32⟩
  | .hbm, ⟨16, _⟩ => ⟨S8x4096x1, .f32⟩
  | .hbm, ⟨17, _⟩ => ⟨S8x4096x1, .f32⟩
  | .hbm, ⟨18, _⟩ => ⟨S_, .f32⟩
  | .hbm, ⟨19, _⟩ => ⟨S8x4096x1, .f32⟩
  | .hbm, ⟨20, _⟩ => ⟨S8x4096x1, .f32⟩
  | .hbm, ⟨21, _⟩ => ⟨S8x4096x1, .f32⟩
  | .hbm, ⟨22, _⟩ => ⟨S8x4096x1024, .f32⟩
  | .hbm, ⟨23, _⟩ => ⟨S8x4096x1024, .f32⟩
  | .hbm, ⟨24, _⟩ => ⟨S1x1x1024, .f32⟩
  | .hbm, ⟨25, _⟩ => ⟨S8x4096x1024, .f32⟩
  | .hbm, ⟨26, _⟩ => ⟨S8x4096x1024, .f32⟩
  | .hbm, ⟨27, _⟩ => ⟨S8x4096x1536, .f32⟩
  | .hbm, ⟨28, _⟩ => ⟨S8x4096x512, .f32⟩
  | .hbm, ⟨29, _⟩ => ⟨S8x4096x512, .f32⟩
  | .hbm, ⟨30, _⟩ => ⟨S8x4096x512, .f32⟩
  | .hbm, ⟨31, _⟩ => ⟨S8x4096x512, .f32⟩
  | .hbm, ⟨32, _⟩ => ⟨S_, .f32⟩
  | .hbm, ⟨33, _⟩ => ⟨S8x4096x512, .f32⟩
  | .hbm, ⟨34, _⟩ => ⟨S8x4096x512, .f32⟩
  | .hbm, ⟨35, _⟩ => ⟨S_, .f32⟩
  | .hbm, ⟨36, _⟩ => ⟨S8x4096x512, .f32⟩
  | .hbm, ⟨37, _⟩ => ⟨S8x4096x512, .f32⟩
  | .hbm, ⟨38, _⟩ => ⟨S8x4096x512, .f32⟩
  | .hbm, ⟨39, _⟩ => ⟨S_, .f32⟩
  | .hbm, ⟨40, _⟩ => ⟨S8x30x512, .f32⟩
  | .hbm, ⟨41, _⟩ => ⟨S8x4126x512, .f32⟩
  | .hbm, ⟨42, _⟩ => ⟨S8x30x512, .f32⟩
  | .hbm, ⟨43, _⟩ => ⟨S_, .f32⟩
  | .hbm, ⟨44, _⟩ => ⟨S8x15x512, .f32⟩
  | .hbm, ⟨45, _⟩ => ⟨S8x4096x512, .f32⟩
  | .hbm, ⟨46, _⟩ => ⟨S8x4111x512, .f32⟩
  | .hbm, ⟨47, _⟩ => ⟨S8x15x512, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_2 : Ref sig .tc := ⟨.hbm, 32, rfl⟩
abbrev main_v19 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_4 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩

abbrev nD : Nat := 1
abbrev τ : Topo := Topo.v7x

variable {F : FTy → Type} [FloatOps F]
-- ==== Kernel7.lean ====
abbrev S128x1024 : Shape := ⟨2, ![128, 1024]⟩
abbrev S1024 : Shape := ⟨1, ![1024]⟩
abbrev S1024x8 : Shape := ⟨2, ![1024, 8]⟩
abbrev S8x1024x1408 : Shape := ⟨3, ![8, 1024, 1408]⟩
abbrev S8x1408x1024 : Shape := ⟨3, ![8, 1408, 1024]⟩
abbrev S_ : Shape := ⟨0, ![]⟩
abbrev S1024x128 : Shape := ⟨2, ![1024, 128]⟩
abbrev S1x1024 : Shape := ⟨2, ![1, 1024]⟩
abbrev S1x1024x1408 : Shape := ⟨3, ![1, 1024, 1408]⟩
abbrev S1x1408x1024 : Shape := ⟨3, ![1, 1408, 1024]⟩
abbrev S128x128 : Shape := ⟨2, ![128, 128]⟩
abbrev S128 : Shape := ⟨1, ![128]⟩
abbrev S128x1 : Shape := ⟨2, ![128, 1]⟩
abbrev S1024x1408 : Shape := ⟨2, ![1024, 1408]⟩
abbrev S128x1408 : Shape := ⟨2, ![128, 1408]⟩
abbrev S1408x1024 : Shape := ⟨2, ![1408, 1024]⟩

abbrev nBuf : Space → Nat
  | .hbm => 17
  | .vmem => 14
  | .smem => 0
  | _ => 0

abbrev bufTy : (tb : Table) → Fin (tcTables nBuf tb) → BufTy
  | .hbm, ⟨0, _⟩ => ⟨S128x1024, .f32⟩
  | .hbm, ⟨1, _⟩ => ⟨S1024, .f32⟩
  | .hbm, ⟨2, _⟩ => ⟨S1024x8, .f32⟩
  | .hbm, ⟨3, _⟩ => ⟨S8x1024x1408, .f32⟩
  | .hbm, ⟨4, _⟩ => ⟨S8x1024x1408, .f32⟩
  | .hbm, ⟨5, _⟩ => ⟨S8x1408x1024, .f32⟩
  | .hbm, ⟨6, _⟩ => ⟨S1024, .f32⟩
  | .hbm, ⟨7, _⟩ => ⟨S1024x8, .bf16⟩
  | .hbm, ⟨8, _⟩ => ⟨S_, .i32⟩
  | .hbm, ⟨9, _⟩ => ⟨S_, .bf16⟩
  | .hbm, ⟨10, _⟩ => ⟨S1024x128, .bf16⟩
  | .hbm, ⟨11, _⟩ => ⟨S1x1024, .f32⟩
  | .hbm, ⟨12, _⟩ => ⟨S8x1024x1408, .bf16⟩
  | .hbm, ⟨13, _⟩ => ⟨S8x1024x1408, .bf16⟩
  | .hbm, ⟨14, _⟩ => ⟨S8x1408x1024, .bf16⟩
  | .hbm, ⟨15, _⟩ => ⟨S1x1024, .f32⟩
  | .hbm, ⟨16, _⟩ => ⟨S128x1024, .f32⟩
  | .local _ .vmem, ⟨0, _⟩ => ⟨S128x1024, .f32⟩
  | .local _ .vmem, ⟨1, _⟩ => ⟨S1x1024, .f32⟩
  | .local _ .vmem, ⟨2, _⟩ => ⟨S1024x128, .bf16⟩
  | .local _ .vmem, ⟨3, _⟩ => ⟨S1x1024x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1x1024x1408, .bf16⟩
  | .local _ .vmem, ⟨7, _⟩ => ⟨S1x1408x1024, .bf16⟩
  | .local _ .vmem, ⟨8, _⟩ => ⟨S1x1408x1024, .bf16⟩
  | .local _ .vmem, ⟨9, _⟩ => ⟨S1x1024, .f32⟩
  | .local _ .vmem, ⟨10, _⟩ => ⟨S128x1024, .f32⟩
  | .local _ .vmem, ⟨11, _⟩ => ⟨S128x1024, .bf16⟩
  | .local _ .vmem, ⟨12, _⟩ => ⟨S128x1024, .f32⟩
  | .local _ .vmem, ⟨13, _⟩ => ⟨S128x128, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10

abbrev nD : Nat := 1
abbrev τ : Topo := Topo.v7x

variable {F : FTy → Type} [FloatOps F]

abbrev grid0 : Pipeline.Grid := ⟨2, ![1, 8], ![false, false]⟩

def k0_cond4 (i : grid0.Coords) : BitVec 1 :=
  let arg1 : BitVec 32 := BitVec.ofNat 32 (i 1).val
  let c7_i32 : BitVec 32 := 7#32
  let v39 : BitVec 1 := Scalar.cmpi .eq arg1 c7_i32
  let v40 : BitVec 32 := Scalar.extui v39
  let c0_i32_24 : BitVec 32 := 0#32
  let v41 : BitVec 1 := Scalar.cmpi .ne v40 c0_i32_24
  v41

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1408x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]
-- ==== Reference7Ideal.lean ====
abbrev S128x1024 : Shape := ⟨2, ![128, 1024]⟩
abbrev S1024 : Shape := ⟨1, ![1024]⟩
abbrev S1024x8 : Shape := ⟨2, ![1024, 8]⟩
abbrev S8x1024x1408 : Shape := ⟨3, ![8, 1024, 1408]⟩
abbrev S8x1408x1024 : Shape := ⟨3, ![8, 1408, 1024]⟩
abbrev S_ : Shape := ⟨0, ![]⟩
abbrev S128 : Shape := ⟨1, ![128]⟩
abbrev S128x1 : Shape := ⟨2, ![128, 1]⟩
abbrev S1x1024 : Shape := ⟨2, ![1, 1024]⟩
abbrev S128x8 : Shape := ⟨2, ![128, 8]⟩
abbrev S128x2 : Shape := ⟨2, ![128, 2]⟩
abbrev S128x2x1 : Shape := ⟨3, ![128, 2, 1]⟩
abbrev S1x1x8 : Shape := ⟨3, ![1, 1, 8]⟩
abbrev S128x2x8 : Shape := ⟨3, ![128, 2, 8]⟩
abbrev S1x1024x1408 : Shape := ⟨3, ![1, 1024, 1408]⟩
abbrev S1024x1408 : Shape := ⟨2, ![1024, 1408]⟩
abbrev S1x1408x1024 : Shape := ⟨3, ![1, 1408, 1024]⟩
abbrev S1408x1024 : Shape := ⟨2, ![1408, 1024]⟩
abbrev S128x1408 : Shape := ⟨2, ![128, 1408]⟩

abbrev nBuf : Space → Nat
  | .hbm => 254
  | .vmem => 0
  | .smem => 0
  | _ => 0

abbrev hbmTy0_0 (i : Nat) : BufTy := match i % 128 with
  | 0 => ⟨S128x1024, .f32⟩
  | 1 => ⟨S1024, .f32⟩
  | 2 => ⟨S1024x8, .f32⟩
  | 3 => ⟨S8x1024x1408, .f32⟩
  | 4 => ⟨S8x1024x1408, .f32⟩
  | 5 => ⟨S8x1408x1024, .f32⟩
  | 6 => ⟨S1024, .f32⟩
  | 7 => ⟨S128x1024, .f32⟩
  | 8 => ⟨S_, .f32⟩
  | 9 => ⟨S128, .f32⟩
  | 10 => ⟨S128x1, .f32⟩
  | 11 => ⟨S_, .f32⟩
  | 12 => ⟨S128x1, .f32⟩
  | 13 => ⟨S128x1, .f32⟩
  | 14 => ⟨S_, .f32⟩
  | 15 => ⟨S128x1, .f32⟩
  | 16 => ⟨S128x1, .f32⟩
  | 17 => ⟨S128x1, .f32⟩
  | 18 => ⟨S128x1024, .f32⟩
  | 19 => ⟨S128x1024, .f32⟩
  | 20 => ⟨S1x1024, .f32⟩
  | 21 => ⟨S128x1024, .f32⟩
  | 22 => ⟨S128x1024, .f32⟩
  | 23 => ⟨S128x8, .f32⟩
  | 24 => ⟨S128x2, .f32⟩
  | 25 => ⟨S128x2, .i32⟩
  | 26 => ⟨S_, .f32⟩
  | 27 => ⟨S128, .f32⟩
  | 28 => ⟨S_, .f32⟩
  | 29 => ⟨S128, .f32⟩
  | 30 => ⟨S128, .f32⟩
  | 31 => ⟨S128x1, .f32⟩
  | 32 => ⟨S128x2, .f32⟩
  | 33 => ⟨S128x2, .f32⟩
  | 34 => ⟨S128x2, .f32⟩
  | 35 => ⟨S_, .f32⟩
  | 36 => ⟨S128, .f32⟩
  | 37 => ⟨S128x1, .f32⟩
  | 38 => ⟨S128x2, .f32⟩
  | 39 => ⟨S128x2, .f32⟩
  | 40 => ⟨S128x2x1, .i32⟩
  | 41 => ⟨S1x1x8, .i32⟩
  | 42 => ⟨S128x2x8, .i32⟩
  | 43 => ⟨S128x2x8, .i32⟩
  | 44 => ⟨S128x2x8, .i1⟩
  | 45 => ⟨S128x2x8, .f32⟩
  | 46 => ⟨S128x2x1, .f32⟩
  | 47 => ⟨S128x2x8, .f32⟩
  | 48 => ⟨S128x2x8, .f32⟩
  | 49 => ⟨S_, .f32⟩
  | 50 => ⟨S128x8, .f32⟩
  | 51 => ⟨S_, .f32⟩
  | 52 => ⟨S128x1024, .f32⟩
  | 53 => ⟨S128x1, .f32⟩
  | 54 => ⟨S1x1024x1408, .f32⟩
  | 55 => ⟨S1024x1408, .f32⟩
  | 56 => ⟨S1x1024x1408, .f32⟩
  | 57 => ⟨S1024x1408, .f32⟩
  | 58 => ⟨S1x1408x1024, .f32⟩
  | 59 => ⟨S1408x1024, .f32⟩
  | 60 => ⟨S128x1408, .f32⟩
  | 61 => ⟨S128x1408, .f32⟩
  | 62 => ⟨S128x1408, .f32⟩
  | 63 => ⟨S_, .f32⟩
  | 64 => ⟨S128x1408, .f32⟩
  | 65 => ⟨S128x1408, .f32⟩
  | 66 => ⟨S_, .f32⟩
  | 67 => ⟨S128x1408, .f32⟩
  | 68 => ⟨S128x1408, .f32⟩
  | 69 => ⟨S128x1408, .f32⟩
  | 70 => ⟨S128x1408, .f32⟩
  | 71 => ⟨S128x1408, .f32⟩
  | 72 => ⟨S128x1024, .f32⟩
  | 73 => ⟨S128x1024, .f32⟩
  | 74 => ⟨S128x1024, .f32⟩
  | 75 => ⟨S128x1024, .f32⟩
  | 76 => ⟨S128x1, .f32⟩
  | 77 => ⟨S1x1024x1408, .f32⟩
  | 78 => ⟨S1024x1408, .f32⟩
  | 79 => ⟨S1x1024x1408, .f32⟩
  | 80 => ⟨S1024x1408, .f32⟩
  | 81 => ⟨S1x1408x1024, .f32⟩
  | 82 => ⟨S1408x1024, .f32⟩
  | 83 => ⟨S128x1408, .f32⟩
  | 84 => ⟨S128x1408, .f32⟩
  | 85 => ⟨S128x1408, .f32⟩
  | 86 => ⟨S_, .f32⟩
  | 87 => ⟨S128x1408, .f32⟩
  | 88 => ⟨S128x1408, .f32⟩
  | 89 => ⟨S_, .f32⟩
  | 90 => ⟨S128x1408, .f32⟩
  | 91 => ⟨S128x1408, .f32⟩
  | 92 => ⟨S128x1408, .f32⟩
  | 93 => ⟨S128x1408, .f32⟩
  | 94 => ⟨S128x1408, .f32⟩
  | 95 => ⟨S128x1024, .f32⟩
  | 96 => ⟨S128x1024, .f32⟩
  | 97 => ⟨S128x1024, .f32⟩
  | 98 => ⟨S128x1024, .f32⟩
  | 99 => ⟨S128x1, .f32⟩
  | 100 => ⟨S1x1024x1408, .f32⟩
  | 101 => ⟨S1024x1408, .f32⟩
  | 102 => ⟨S1x1024x1408, .f32⟩
  | 103 => ⟨S1024x1408, .f32⟩
  | 104 => ⟨S1x1408x1024, .f32⟩
  | 105 => ⟨S1408x1024, .f32⟩
  | 106 => ⟨S128x1408, .f32⟩
  | 107 => ⟨S128x1408, .f32⟩
  | 108 => ⟨S128x1408, .f32⟩
  | 109 => ⟨S_, .f32⟩
  | 110 => ⟨S128x1408, .f32⟩
  | 111 => ⟨S128x1408, .f32⟩
  | 112 => ⟨S_, .f32⟩
  | 113 => ⟨S128x1408, .f32⟩
  | 114 => ⟨S128x1408, .f32⟩
  | 115 => ⟨S128x1408, .f32⟩
  | 116 => ⟨S128x1408, .f32⟩
  | 117 => ⟨S128x1408, .f32⟩
  | 118 => ⟨S128x1024, .f32⟩
  | 119 => ⟨S128x1024, .f32⟩
  | 120 => ⟨S128x1024, .f32⟩
  | 121 => ⟨S128x1024, .f32⟩
  | 122 => ⟨S128x1, .f32⟩
  | 123 => ⟨S1x1024x1408, .f32⟩
  | 124 => ⟨S1024x1408, .f32⟩
  | 125 => ⟨S1x1024x1408, .f32⟩
  | 126 => ⟨S1024x1408, .f32⟩
  | 127 => ⟨S1x1408x1024, .f32⟩
  | _ => ⟨S128x1024, .f32⟩

abbrev hbmTy0_1 (i : Nat) : BufTy := match i % 128 with
  | 0 => ⟨S1408x1024, .f32⟩
  | 1 => ⟨S128x1408, .f32⟩
  | 2 => ⟨S128x1408, .f32⟩
  | 3 => ⟨S128x1408, .f32⟩
  | 4 => ⟨S_, .f32⟩
  | 5 => ⟨S128x1408, .f32⟩
  | 6 => ⟨S128x1408, .f32⟩
  | 7 => ⟨S_, .f32⟩
  | 8 => ⟨S128x1408, .f32⟩
  | 9 => ⟨S128x1408, .f32⟩
  | 10 => ⟨S128x1408, .f32⟩
  | 11 => ⟨S128x1408, .f32⟩
  | 12 => ⟨S128x1408, .f32⟩
  | 13 => ⟨S128x1024, .f32⟩
  | 14 => ⟨S128x1024, .f32⟩
  | 15 => ⟨S128x1024, .f32⟩
  | 16 => ⟨S128x1024, .f32⟩
  | 17 => ⟨S128x1, .f32⟩
  | 18 => ⟨S1x1024x1408, .f32⟩
  | 19 => ⟨S1024x1408, .f32⟩
  | 20 => ⟨S1x1024x1408, .f32⟩
  | 21 => ⟨S1024x1408, .f32⟩
  | 22 => ⟨S1x1408x1024, .f32⟩
  | 23 => ⟨S1408x1024, .f32⟩
  | 24 => ⟨S128x1408, .f32⟩
  | 25 => ⟨S128x1408, .f32⟩
  | 26 => ⟨S128x1408, .f32⟩
  | 27 => ⟨S_, .f32⟩
  | 28 => ⟨S128x1408, .f32⟩
  | 29 => ⟨S128x1408, .f32⟩
  | 30 => ⟨S_, .f32⟩
  | 31 => ⟨S128x1408, .f32⟩
  | 32 => ⟨S128x1408, .f32⟩
  | 33 => ⟨S128x1408, .f32⟩
  | 34 => ⟨S128x1408, .f32⟩
  | 35 => ⟨S128x1408, .f32⟩
  | 36 => ⟨S128x1024, .f32⟩
  | 37 => ⟨S128x1024, .f32⟩
  | 38 => ⟨S128x1024, .f32⟩
  | 39 => ⟨S128x1024, .f32⟩
  | 40 => ⟨S128x1, .f32⟩
  | 41 => ⟨S1x1024x1408, .f32⟩
  | 42 => ⟨S1024x1408, .f32⟩
  | 43 => ⟨S1x1024x1408, .f32⟩
  | 44 => ⟨S1024x1408, .f32⟩
  | 45 => ⟨S1x1408x1024, .f32⟩
  | 46 => ⟨S1408x1024, .f32⟩
  | 47 => ⟨S128x1408, .f32⟩
  | 48 => ⟨S128x1408, .f32⟩
  | 49 => ⟨S128x1408, .f32⟩
  | 50 => ⟨S_, .f32⟩
  | 51 => ⟨S128x1408, .f32⟩
  | 52 => ⟨S128x1408, .f32⟩
  | 53 => ⟨S_, .f32⟩
  | 54 => ⟨S128x1408, .f32⟩
  | 55 => ⟨S128x1408, .f32⟩
  | 56 => ⟨S128x1408, .f32⟩
  | 57 => ⟨S128x1408, .f32⟩
  | 58 => ⟨S128x1408, .f32⟩
  | 59 => ⟨S128x1024, .f32⟩
  | 60 => ⟨S128x1024, .f32⟩
  | 61 => ⟨S128x1024, .f32⟩
  | 62 => ⟨S128x1024, .f32⟩
  | 63 => ⟨S128x1, .f32⟩
  | 64 => ⟨S1x1024x1408, .f32⟩
  | 65 => ⟨S1024x1408, .f32⟩
  | 66 => ⟨S1x1024x1408, .f32⟩
  | 67 => ⟨S1024x1408, .f32⟩
  | 68 => ⟨S1x1408x1024, .f32⟩
  | 69 => ⟨S1408x1024, .f32⟩
  | 70 => ⟨S128x1408, .f32⟩
  | 71 => ⟨S128x1408, .f32⟩
  | 72 => ⟨S128x1408, .f32⟩
  | 73 => ⟨S_, .f32⟩
  | 74 => ⟨S128x1408, .f32⟩
  | 75 => ⟨S128x1408, .f32⟩
  | 76 => ⟨S_, .f32⟩
  | 77 => ⟨S128x1408, .f32⟩
  | 78 => ⟨S128x1408, .f32⟩
  | 79 => ⟨S128x1408, .f32⟩
  | 80 => ⟨S128x1408, .f32⟩
  | 81 => ⟨S128x1408, .f32⟩
  | 82 => ⟨S128x1024, .f32⟩
  | 83 => ⟨S128x1024, .f32⟩
  | 84 => ⟨S128x1024, .f32⟩
  | 85 => ⟨S128x1024, .f32⟩
  | 86 => ⟨S128x1, .f32⟩
  | 87 => ⟨S1x1024x1408, .f32⟩
  | 88 => ⟨S1024x1408, .f32⟩
  | 89 => ⟨S1x1024x1408, .f32⟩
  | 90 => ⟨S1024x1408, .f32⟩
  | 91 => ⟨S1x1408x1024, .f32⟩
  | 92 => ⟨S1408x1024, .f32⟩
  | 93 => ⟨S128x1408, .f32⟩
  | 94 => ⟨S128x1408, .f32⟩
  | 95 => ⟨S128x1408, .f32⟩
  | 96 => ⟨S_, .f32⟩
  | 97 => ⟨S128x1408, .f32⟩
  | 98 => ⟨S128x1408, .f32⟩
  | 99 => ⟨S_, .f32⟩
  | 100 => ⟨S128x1408, .f32⟩
  | 101 => ⟨S128x1408, .f32⟩
  | 102 => ⟨S128x1408, .f32⟩
  | 103 => ⟨S128x1408, .f32⟩
  | 104 => ⟨S128x1408, .f32⟩
  | 105 => ⟨S128x1024, .f32⟩
  | 106 => ⟨S128x1024, .f32⟩
  | 107 => ⟨S128x1024, .f32⟩
  | 108 => ⟨S128x1024, .f32⟩
  | 109 => ⟨S128x1024, .f32⟩
  | 110 => ⟨S128x1024, .f32⟩
  | 111 => ⟨S_, .f32⟩
  | 112 => ⟨S128, .f32⟩
  | 113 => ⟨S128x1, .f32⟩
  | 114 => ⟨S_, .f32⟩
  | 115 => ⟨S128x1, .f32⟩
  | 116 => ⟨S128x1, .f32⟩
  | 117 => ⟨S_, .f32⟩
  | 118 => ⟨S128x1, .f32⟩
  | 119 => ⟨S128x1, .f32⟩
  | 120 => ⟨S128x1, .f32⟩
  | 121 => ⟨S128x1024, .f32⟩
  | 122 => ⟨S128x1024, .f32⟩
  | 123 => ⟨S1x1024, .f32⟩
  | 124 => ⟨S128x1024, .f32⟩
  | 125 => ⟨S128x1024, .f32⟩
  | _ => ⟨S128x1024, .f32⟩

abbrev hbmTy (i : Nat) : BufTy := match i / 128 with
  | 0 => hbmTy0_0 i
  | 1 => hbmTy0_1 i
  | _ => ⟨S128x1024, .f32⟩

abbrev bufTy : (tb : Table) → Fin (tcTables nBuf tb) → BufTy
  | .hbm, ⟨i, _⟩ => hbmTy i
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_values : Ref sig .tc := ⟨.hbm, 24, rfl⟩
abbrev main_indices : Ref sig .tc := ⟨.hbm, 25, rfl⟩
abbrev main_cst_2 : Ref sig .tc := ⟨.hbm, 26, rfl⟩
abbrev main_v14 : Ref sig .tc := ⟨.hbm, 27, rfl⟩
abbrev main_cst_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_call0_v3 : Ref sig .tc := ⟨.hbm, 43, rfl⟩
abbrev main_call0_v4 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_5 : Ref sig .tc := ⟨.hbm, 49, rfl⟩
abbrev main_v29 : Ref sig .tc := ⟨.hbm, 50, rfl⟩
abbrev main_cst_6 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_call1_v0 : Ref sig .tc := ⟨.hbm, 61, rfl⟩
abbrev main_call1_v1 : Ref sig .tc := ⟨.hbm, 62, rfl⟩
abbrev main_call1_cst : Ref sig .tc := ⟨.hbm, 63, rfl⟩
abbrev main_call1_v2 : Ref sig .tc := ⟨.hbm, 64, rfl⟩
abbrev main_call1_v3 : Ref sig .tc := ⟨.hbm, 65, rfl⟩
abbrev main_call1_cst_0 : Ref sig .tc := ⟨.hbm, 66, rfl⟩
abbrev main_call1_v4 : Ref sig .tc := ⟨.hbm, 67, rfl⟩
abbrev main_call1_v5 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_call2_v0 : Ref sig .tc := ⟨.hbm, 84, rfl⟩
abbrev main_call2_v1 : Ref sig .tc := ⟨.hbm, 85, rfl⟩
abbrev main_call2_cst : Ref sig .tc := ⟨.hbm, 86, rfl⟩
abbrev main_call2_v2 : Ref sig .tc := ⟨.hbm, 87, rfl⟩
abbrev main_call2_v3 : Ref sig .tc := ⟨.hbm, 88, rfl⟩
abbrev main_call2_cst_0 : Ref sig .tc := ⟨.hbm, 89, rfl⟩
abbrev main_call2_v4 : Ref sig .tc := ⟨.hbm, 90, rfl⟩
abbrev main_call2_v5 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_call3_v0 : Ref sig .tc := ⟨.hbm, 107, rfl⟩
abbrev main_call3_v1 : Ref sig .tc := ⟨.hbm, 108, rfl⟩
abbrev main_call3_cst : Ref sig .tc := ⟨.hbm, 109, rfl⟩
abbrev main_call3_v2 : Ref sig .tc := ⟨.hbm, 110, rfl⟩
abbrev main_call3_v3 : Ref sig .tc := ⟨.hbm, 111, rfl⟩
abbrev main_call3_cst_0 : Ref sig .tc := ⟨.hbm, 112, rfl⟩
abbrev main_call3_v4 : Ref sig .tc := ⟨.hbm, 113, rfl⟩
abbrev main_call3_v5 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_call4_v0 : Ref sig .tc := ⟨.hbm, 130, rfl⟩
abbrev main_call4_v1 : Ref sig .tc := ⟨.hbm, 131, rfl⟩
abbrev main_call4_cst : Ref sig .tc := ⟨.hbm, 132, rfl⟩
abbrev main_call4_v2 : Ref sig .tc := ⟨.hbm, 133, rfl⟩
abbrev main_call4_v3 : Ref sig .tc := ⟨.hbm, 134, rfl⟩
abbrev main_call4_cst_0 : Ref sig .tc := ⟨.hbm, 135, rfl⟩
abbrev main_call4_v4 : Ref sig .tc := ⟨.hbm, 136, rfl⟩
abbrev main_call4_v5 : Ref sig .tc := ⟨.hbm, 137, rfl⟩
abbrev main_v84 : Ref sig .tc := ⟨.hbm, 138, rfl⟩
abbrev main_v85 : Ref sig .tc := ⟨.hbm, 139, rfl⟩
abbrev main_v86 : Ref sig .tc := ⟨.hbm, 140, rfl⟩
abbrev main_v87 : Ref sig .tc := ⟨.hbm, 141, rfl⟩
abbrev main_v88 : Ref sig .tc := ⟨.hbm, 142, rfl⟩
abbrev main_v89 : Ref sig .tc := ⟨.hbm, 143, rfl⟩
abbrev main_v90 : Ref sig .tc := ⟨.hbm, 144, rfl⟩
abbrev main_v91 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev main_v95 : Ref sig .tc := ⟨.hbm, 149, rfl⟩
abbrev main_v96 : Ref sig .tc := ⟨.hbm, 150, rfl⟩
abbrev main_v97 : Ref sig .tc := ⟨.hbm, 151, rfl⟩
abbrev main_v98 : Ref sig .tc := ⟨.hbm, 152, rfl⟩
abbrev main_call5_v0 : Ref sig .tc := ⟨.hbm, 153, rfl⟩
abbrev main_call5_v1 : Ref sig .tc := ⟨.hbm, 154, rfl⟩
abbrev main_call5_cst : Ref sig .tc := ⟨.hbm, 155, rfl⟩
abbrev main_call5_v2 : Ref sig .tc := ⟨.hbm, 156, rfl⟩
abbrev main_call5_v3 : Ref sig .tc := ⟨.hbm, 157, rfl⟩
abbrev main_call5_cst_0 : Ref sig .tc := ⟨.hbm, 158, rfl⟩
abbrev main_call5_v4 : Ref sig .tc := ⟨.hbm, 159, rfl⟩
abbrev main_call5_v5 : Ref sig .tc := ⟨.hbm, 160, rfl⟩
abbrev main_v99 : Ref sig .tc := ⟨.hbm, 161, rfl⟩
abbrev main_v100 : Ref sig .tc := ⟨.hbm, 162, rfl⟩
abbrev main_v101 : Ref sig .tc := ⟨.hbm, 163, rfl⟩
abbrev main_v102 : Ref sig .tc := ⟨.hbm, 164, rfl⟩
abbrev main_v103 : Ref sig .tc := ⟨.hbm, 165, rfl⟩
abbrev main_v104 : Ref sig .tc := ⟨.hbm, 166, rfl⟩
abbrev main_v105 : Ref sig .tc := ⟨.hbm, 167, rfl⟩
abbrev main_v106 : Ref sig .tc := ⟨.hbm, 168, rfl⟩
abbrev main_v107 : Ref sig .tc := ⟨.hbm, 169, rfl⟩
abbrev main_v108 : Ref sig .tc := ⟨.hbm, 170, rfl⟩
abbrev main_v109 : Ref sig .tc := ⟨.hbm, 171, rfl⟩
abbrev main_v110 : Ref sig .tc := ⟨.hbm, 172, rfl⟩
abbrev main_v111 : Ref sig .tc := ⟨.hbm, 173, rfl⟩
abbrev main_v112 : Ref sig .tc := ⟨.hbm, 174, rfl⟩
abbrev main_v113 : Ref sig .tc := ⟨.hbm, 175, rfl⟩
abbrev main_call6_v0 : Ref sig .tc := ⟨.hbm, 176, rfl⟩
abbrev main_call6_v1 : Ref sig .tc := ⟨.hbm, 177, rfl⟩
abbrev main_call6_cst : Ref sig .tc := ⟨.hbm, 178, rfl⟩
abbrev main_call6_v2 : Ref sig .tc := ⟨.hbm, 179, rfl⟩
abbrev main_call6_v3 : Ref sig .tc := ⟨.hbm, 180, rfl⟩
abbrev main_call6_cst_0 : Ref sig .tc := ⟨.hbm, 181, rfl⟩
abbrev main_call6_v4 : Ref sig .tc := ⟨.hbm, 182, rfl⟩
abbrev main_call6_v5 : Ref sig .tc := ⟨.hbm, 183, rfl⟩
abbrev main_v114 : Ref sig .tc := ⟨.hbm, 184, rfl⟩
abbrev main_v115 : Ref sig .tc := ⟨.hbm, 185, rfl⟩
abbrev main_v116 : Ref sig .tc := ⟨.hbm, 186, rfl⟩
abbrev main_v117 : Ref sig .tc := ⟨.hbm, 187, rfl⟩
abbrev main_v118 : Ref sig .tc := ⟨.hbm, 188, rfl⟩
abbrev main_v119 : Ref sig .tc := ⟨.hbm, 189, rfl⟩
abbrev main_v120 : Ref sig .tc := ⟨.hbm, 190, rfl⟩
abbrev main_v121 : Ref sig .tc := ⟨.hbm, 191, rfl⟩
abbrev main_v122 : Ref sig .tc := ⟨.hbm, 192, rfl⟩
abbrev main_v123 : Ref sig .tc := ⟨.hbm, 193, rfl⟩
abbrev main_v124 : Ref sig .tc := ⟨.hbm, 194, rfl⟩
abbrev main_v125 : Ref sig .tc := ⟨.hbm, 195, rfl⟩
abbrev main_v126 : Ref sig .tc := ⟨.hbm, 196, rfl⟩
abbrev main_v127 : Ref sig .tc := ⟨.hbm, 197, rfl⟩
abbrev main_v128 : Ref sig .tc := ⟨.hbm, 198, rfl⟩
abbrev main_call7_v0 : Ref sig .tc := ⟨.hbm, 199, rfl⟩
abbrev main_call7_v1 : Ref sig .tc := ⟨.hbm, 200, rfl⟩
abbrev main_call7_cst : Ref sig .tc := ⟨.hbm, 201, rfl⟩
abbrev main_call7_v2 : Ref sig .tc := ⟨.hbm, 202, rfl⟩
abbrev main_call7_v3 : Ref sig .tc := ⟨.hbm, 203, rfl⟩
abbrev main_call7_cst_0 : Ref sig .tc := ⟨.hbm, 204, rfl⟩
abbrev main_call7_v4 : Ref sig .tc := ⟨.hbm, 205, rfl⟩
abbrev main_call7_v5 : Ref sig .tc := ⟨.hbm, 206, rfl⟩
abbrev main_v129 : Ref sig .tc := ⟨.hbm, 207, rfl⟩
abbrev main_v130 : Ref sig .tc := ⟨.hbm, 208, rfl⟩
abbrev main_v131 : Ref sig .tc := ⟨.hbm, 209, rfl⟩
abbrev main_v132 : Ref sig .tc := ⟨.hbm, 210, rfl⟩
abbrev main_v133 : Ref sig .tc := ⟨.hbm, 211, rfl⟩
abbrev main_v134 : Ref sig .tc := ⟨.hbm, 212, rfl⟩
abbrev main_v135 : Ref sig .tc := ⟨.hbm, 213, rfl⟩
abbrev main_v136 : Ref sig .tc := ⟨.hbm, 214, rfl⟩
abbrev main_v137 : Ref sig .tc := ⟨.hbm, 215, rfl⟩
abbrev main_v138 : Ref sig .tc := ⟨.hbm, 216, rfl⟩
abbrev main_v139 : Ref sig .tc := ⟨.hbm, 217, rfl⟩
abbrev main_v140 : Ref sig .tc := ⟨.hbm, 218, rfl⟩
abbrev main_v141 : Ref sig .tc := ⟨.hbm, 219, rfl⟩
abbrev main_v142 : Ref sig .tc := ⟨.hbm, 220, rfl⟩
abbrev main_v143 : Ref sig .tc := ⟨.hbm, 221, rfl⟩
abbrev main_call8_v0 : Ref sig .tc := ⟨.hbm, 222, rfl⟩
abbrev main_call8_v1 : Ref sig .tc := ⟨.hbm, 223, rfl⟩
abbrev main_call8_cst : Ref sig .tc := ⟨.hbm, 224, rfl⟩
abbrev main_call8_v2 : Ref sig .tc := ⟨.hbm, 225, rfl⟩
abbrev main_call8_v3 : Ref sig .tc := ⟨.hbm, 226, rfl⟩
abbrev main_call8_cst_0 : Ref sig .tc := ⟨.hbm, 227, rfl⟩
abbrev main_call8_v4 : Ref sig .tc := ⟨.hbm, 228, rfl⟩
abbrev main_call8_v5 : Ref sig .tc := ⟨.hbm, 229, rfl⟩
abbrev main_v144 : Ref sig .tc := ⟨.hbm, 230, rfl⟩
abbrev main_v145 : Ref sig .tc := ⟨.hbm, 231, rfl⟩
abbrev main_v146 : Ref sig .tc := ⟨.hbm, 232, rfl⟩
abbrev main_v147 : Ref sig .tc := ⟨.hbm, 233, rfl⟩
abbrev main_v148 : Ref sig .tc := ⟨.hbm, 234, rfl⟩
abbrev main_v149 : Ref sig .tc := ⟨.hbm, 235, rfl⟩
abbrev main_v150 : Ref sig .tc := ⟨.hbm, 236, rfl⟩
abbrev main_v151 : Ref sig .tc := ⟨.hbm, 237, rfl⟩
abbrev main_v152 : Ref sig .tc := ⟨.hbm, 238, rfl⟩
abbrev main_cst_7 : Ref sig .tc := ⟨.hbm, 239, rfl⟩
abbrev main_v153 : Ref sig .tc := ⟨.hbm, 240, rfl⟩
abbrev main_v154 : Ref sig .tc := ⟨.hbm, 241, rfl⟩
abbrev main_cst_8 : Ref sig .tc := ⟨.hbm, 242, rfl⟩
abbrev main_v155 : Ref sig .tc := ⟨.hbm, 243, rfl⟩
abbrev main_v156 : Ref sig .tc := ⟨.hbm, 244, rfl⟩
abbrev main_cst_9 : Ref sig .tc := ⟨.hbm, 245, rfl⟩
abbrev main_v157 : Ref sig .tc := ⟨.hbm, 246, rfl⟩
abbrev main_v158 : Ref sig .tc := ⟨.hbm, 247, rfl⟩
abbrev main_v159 : Ref sig .tc := ⟨.hbm, 248, rfl⟩
abbrev main_v160 : Ref sig .tc := ⟨.hbm, 249, rfl⟩
abbrev main_v161 : Ref sig .tc := ⟨.hbm, 250, rfl⟩
abbrev main_v162 : Ref sig .tc := ⟨.hbm, 251, rfl⟩
abbrev main_v163 : Ref sig .tc := ⟨.hbm, 252, rfl⟩
abbrev main_v164 : Ref sig .tc := ⟨.hbm, 253, rfl⟩

abbrev nD : Nat := 1
abbrev τ : Topo := Topo.v7x

variable {F : FTy → Type} [FloatOps F]
-- ==== Kernel8.lean ====
abbrev S128x1024 : Shape := ⟨2, ![128, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S1024x1408 : Shape := ⟨2, ![1024, 1408]⟩
abbrev S1408x1024 : Shape := ⟨2, ![1408, 1024]⟩
abbrev S128 : Shape := ⟨1, ![128]⟩
abbrev S128x1 : Shape := ⟨2, ![128, 1]⟩
abbrev S128x1408 : Shape := ⟨2, ![128, 1408]⟩

abbrev nBuf : Space → Nat
  | .hbm => 10
  | .vmem => 11
  | .smem => 0
  | _ => 0

abbrev bufTy : (tb : Table) → Fin (tcTables nBuf tb) → BufTy
  | .hbm, ⟨0, _⟩ => ⟨S128x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1x1024, .f32⟩
  | .hbm, ⟨6, _⟩ => ⟨S1024x2816, .bf16⟩
  | .hbm, ⟨7, _⟩ => ⟨S1024x2816, .bf16⟩
  | .hbm, ⟨8, _⟩ => ⟨S2816x1024, .bf16⟩
  | .hbm, ⟨9, _⟩ => ⟨S128x1024, .f32⟩
  | .local _ .vmem, ⟨0, _⟩ => ⟨S128x1024, .f32⟩
  | .local _ .vmem, ⟨1, _⟩ => ⟨S1x1024, .f32⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1408x1024, .bf16⟩
  | .local _ .vmem, ⟨7, _⟩ => ⟨S1408x1024, .bf16⟩
  | .local _ .vmem, ⟨8, _⟩ => ⟨S128x1024, .f32⟩
  | .local _ .vmem, ⟨9, _⟩ => ⟨S128x1024, .bf16⟩
  | .local _ .vmem, ⟨10, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨2, ![1, 2], ![false, false]⟩

def k0_cond4 (i : grid0.Coords) : BitVec 1 :=
  let arg1 : BitVec 32 := BitVec.ofNat 32 (i 1).val
  let c1_i32 : BitVec 32 := 1#32
  let v29 : BitVec 1 := Scalar.cmpi .eq arg1 c1_i32
  let v30 : BitVec 32 := Scalar.extui v29
  let c0_i32_17 : BitVec 32 := 0#32
  let v31 : BitVec 1 := Scalar.cmpi .ne v30 c0_i32_17
  v31

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1408x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]
-- ==== Reference8Ideal.lean ====
abbrev S128x1024 : Shape := ⟨2, ![128, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S128 : Shape := ⟨1, ![128]⟩
abbrev S128x1 : Shape := ⟨2, ![128, 1]⟩
abbrev S1x1024 : Shape := ⟨2, ![1, 1024]⟩
abbrev S128x2816 : Shape := ⟨2, ![128, 2816]⟩

abbrev nBuf : Space → Nat
  | .hbm => 35
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S128x1024, .f32⟩
  | .hbm, ⟨6, _⟩ => ⟨S_, .f32⟩
  | .hbm, ⟨7, _⟩ => ⟨S128, .f32⟩
  | .hbm, ⟨8, _⟩ => ⟨S128x1, .f32⟩
  | .hbm, ⟨9, _⟩ => ⟨S_, .f32⟩
  | .hbm, ⟨10, _⟩ => ⟨S128x1, .f32⟩
  | .hbm, ⟨11, _⟩ => ⟨S128x1, .f32⟩
  | .hbm, ⟨12, _⟩ => ⟨S_, .f32⟩
  | .hbm, ⟨13, _⟩ => ⟨S128x1, .f32⟩
  | .hbm, ⟨14, _⟩ => ⟨S128x1, .f32⟩
  | .hbm, ⟨15, _⟩ => ⟨S128x1, .f32⟩
  | .hbm, ⟨16, _⟩ => ⟨S128x1024, .f32⟩
  | .hbm, ⟨17, _⟩ => ⟨S128x1024, .f32⟩
  | .hbm, ⟨18, _⟩ => ⟨S1x1024, .f32⟩
  | .hbm, ⟨19, _⟩ => ⟨S128x1024, .f32⟩
  | .hbm, ⟨20, _⟩ => ⟨S128x1024, .f32⟩
  | .hbm, ⟨21, _⟩ => ⟨S128x2816, .f32⟩
  | .hbm, ⟨22, _⟩ => ⟨S128x2816, .f32⟩
  | .hbm, ⟨23, _⟩ => ⟨S128x2816, .f32⟩
  | .hbm, ⟨24, _⟩ => ⟨S_, .f32⟩
  | .hbm, ⟨25, _⟩ => ⟨S128x2816, .f32⟩
  | .hbm, ⟨26, _⟩ => ⟨S128x2816, .f32⟩
  | .hbm, ⟨27, _⟩ => ⟨S_, .f32⟩
  | .hbm, ⟨28, _⟩ => ⟨S128x2816, .f32⟩
  | .hbm, ⟨29, _⟩ => ⟨S128x2816, .f32⟩
  | .hbm, ⟨30, _⟩ => ⟨S128x2816, .f32⟩
  | .hbm, ⟨31, _⟩ => ⟨S128x2816, .f32⟩
  | .hbm, ⟨32, _⟩ => ⟨S128x2816, .f32⟩
  | .hbm, ⟨33, _⟩ => ⟨S128x1024, .f32⟩
  | .hbm, ⟨34, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩

abbrev nD : Nat := 1
abbrev τ : Topo := Topo.v7x

variable {F : FTy → Type} [FloatOps F]
-- ==== Proof.Rows.lean ====
/-
  The mathematics of one row of the feed-forward layer over the extended reals: root-mean-square normalisation, the gated
  two-matrix feed-forward map, and the fact that finite data keep the normalised row and the router's products finite.
-/
module

public import Idealize.ShloMosaic.PureOps.Ideal
public import Idealize.ShloMosaic.Lib.IdealHost

@[expose] public section

noncomputable section

namespace Cert.Layer

open Idealize.ShloMosaic

/-- The root-mean-square normalisation of a row `x` of 1024 entries with gain `g`, at entry `k`. -/
def rms (x g : Fin 1024 → EReal) (k : Fin 1024) : EReal :=
  x k * Ideal.rsqrt (Ideal.div (∑ i, x i * x i) (Ideal.ofBits .f32 0x44800000#32) + Ideal.ofBits .f32 0x358637BD#32) * g k

/-- The gated feed-forward map of a row `n`, at output entry `d`: gate and up products per hidden unit, the gate through
    `z / (1 + e^(-z))`, their product through the down matrix. -/
def swiglu {H : ℕ} (n : Fin 1024 → EReal) (wg wu : Fin 1024 → Fin H → EReal) (wd : Fin H → Fin 1024 → EReal) (d : Fin 1024) : EReal :=
  ∑ f, ((∑ k, n k * wg k f) * Ideal.div 1 (1 + Ideal.exp (-∑ k, n k * wg k f)) * ∑ k, n k * wu k f) * wd f d

/-- The router's product of a row `n` with expert `e`'s column. -/
def score (n : Fin 1024 → EReal) (r : Fin 1024 → Fin 8 → EReal) (e : Fin 8) : EReal := ∑ k, n k * r k e

/-- A finite extended real: a real. -/
def Finite (x : EReal) : Prop := ∃ y : ℝ, x = (y : EReal)

theorem Finite.mul {x y : EReal} (hx : Finite x) (hy : Finite y) : Finite (x * y) := by
  obtain ⟨a, rfl⟩ := hx; obtain ⟨b, rfl⟩ := hy
  exact ⟨a * b, (EReal.coe_mul a b).symm⟩

theorem Finite.add {x y : EReal} (hx : Finite x) (hy : Finite y) : Finite (x + y) := by
  obtain ⟨a, rfl⟩ := hx; obtain ⟨b, rfl⟩ := hy
  exact ⟨a + b, (EReal.coe_add a b).symm⟩

/-- A finite sum of finite terms is finite. -/
theorem Finite.sum {ι : Type} (s : Finset ι) (f : ι → EReal) (h : ∀ i, Finite (f i)) : Finite (∑ i ∈ s, f i) := by
  classical
  induction s using Finset.induction_on with
  | empty => exact ⟨0, by simp⟩
  | insert a s ha ih => rw [Finset.sum_insert ha]; exact (h a).add ih

/-- A finite sum of finite squares is a real that is not negative. -/
theorem sum_squares (x : Fin 1024 → EReal) (h : ∀ k, Finite (x k)) : ∃ s : ℝ, 0 ≤ s ∧ ∑ i, x i * x i = (s : EReal) := by
  obtain ⟨s, hs⟩ := Finite.sum Finset.univ (fun i => x i * x i) fun i => (h i).mul (h i)
  refine ⟨s, ?_, hs⟩
  have : (0 : EReal) ≤ ∑ i, x i * x i := Finset.sum_nonneg fun i _ => by
    obtain ⟨a, ha⟩ := h i
    rw [ha, ← EReal.coe_mul]
    exact_mod_cast mul_self_nonneg a
  rw [hs] at this
  exact_mod_cast this

theorem width_literal : Ideal.ofBits .f32 0x44800000#32 = ((1024 : ℝ) : EReal) := by
  simp [Ideal.ofBits, Ideal.ieee]
  rw [← EReal.coe_mul]
  norm_num

theorem eps_literal : ∃ e : ℝ, 0 < e ∧ Ideal.ofBits .f32 0x358637BD#32 = (e : EReal) := by
  refine ⟨_, ?_, by simp [Ideal.ofBits, Ideal.ieee]; rfl⟩
  positivity

theorem infinity_literal : Ideal.ofBits .f32 0x7F800000#32 = ⊤ := by simp [Ideal.ofBits, Ideal.ieee]

theorem neg_infinity_literal : Ideal.ofBits .f32 0xFF800000#32 = ⊥ := by simp [Ideal.ofBits, Ideal.ieee]

/-- A finite row normalises to a finite row. -/
theorem rms_finite (x g : Fin 1024 → EReal) (hx : ∀ k, Finite (x k)) (hg : ∀ k, Finite (g k)) (k : Fin 1024) :
    Finite (rms x g k) := by
  unfold rms
  obtain ⟨s, h0, hs⟩ := sum_squares x hx
  obtain ⟨e, he, hl⟩ := eps_literal
  rw [hs, hl, width_literal, Ideal.div_coe (by norm_num), ← EReal.coe_mul, ← EReal.coe_add]
  have hp : 0 < s * (1 / 1024) + e := by positivity
  refine ((hx k).mul ?_).mul (hg k)
  rw [Ideal.rsqrt_coe, if_neg (not_lt.mpr hp.le), if_neg hp.ne']
  exact ⟨_, rfl⟩

/-- Finite data have finite scores. -/
theorem score_finite (n : Fin 1024 → EReal) (r : Fin 1024 → Fin 8 → EReal) (hn : ∀ k, Finite (n k)) (hr : ∀ k e, Finite (r k e))
    (e : Fin 8) : Finite (score n r e) :=
  Finite.sum _ _ fun k => (hn k).mul (hr k e)

end Cert.Layer

end
-- ==== Proof.Pre.lean ====
/-
  What the precondition says: every entry of the layer's input, of its gain and of the router's matrix is a finite number.
-/
module

public import proofs.«01_k».proof.Proof.Gen.Pre_finite_routing
public import proofs.«01_k».proof.Proof.Rows
public import Idealize.ShloMosaic.Lib.ReduceAll

@[expose] public section

noncomputable section

namespace Cert.Pre

open Idealize.ShloMosaic Cert.Pre_finite_routing Cert.Layer

/-- A number whose absolute value is below infinity is finite. -/
theorem finite_of_abs_lt {x : EReal} (h : Ideal.cmp .olt (max x (-x)) ⊤ = 1#1) : Finite x := by
  have hlt : max x (-x) < ⊤ := by
    by_contra hn
    unfold Ideal.cmp at h
    simp [hn] at h
  induction x with
  | bot => simp at hlt
  | top => simp at hlt
  | coe y => exact ⟨y, rfl⟩

theorem and_one {a b : BitVec 1} (h : IntOp.andi a b = 1#1) : a = 1#1 ∧ b = 1#1 := by
  revert a b
  decide

variable (x : FVec Ideal S32768x1024 .f32) (g : FVec Ideal S1024 .f32) (r : FVec Ideal S1024x8 .f32)
  (wg wu : FVec Ideal S8x1024x1408 .f32) (wd : FVec Ideal S8x1408x1024 .f32) (gf : FVec Ideal S1024 .f32)

instance : Subsingleton S_.Idx := ⟨fun a b => funext fun i => i.elim0⟩

theorem finite_inputs (h : fn (F := Ideal) x g r wg wu wd gf = fun _ => 1#1) :
    (∀ i, Finite (x i)) ∧ (∀ i, Finite (g i)) ∧ (∀ i, Finite (r i)) := by
  have h0 := congrFun h (fun a => a.elim0)
  unfold fn at h0
  obtain ⟨h1, hr⟩ := and_one h0
  obtain ⟨hx, hg⟩ := and_one h1
  refine ⟨fun i => ?_, fun i => ?_, fun i => ?_⟩
  · exact finite_of_abs_lt (infinity_literal ▸ Host.reduce_andi_all _ _ _ _ _ hx i)
  · exact finite_of_abs_lt (infinity_literal ▸ Host.reduce_andi_all _ _ _ _ _ hg i)
  · exact finite_of_abs_lt (infinity_literal ▸ Host.reduce_andi_all _ _ _ _ _ hr i)

end Cert.Pre

end
-- ==== Proof.TopTwo.lean ====
/-
  The two greatest of eight scores, and the weights a top-2 routing gives them. The two positions are those a stable
  descending sort puts first (`best`, `second`); `TopTwo` says what that makes of them. The last part finds the same two
  positions by two rounds of "the maximum over 128 lanes, the least lane that holds it", the lanes past the eighth masked.
-/
module

public import proofs.«01_k».proof.Proof.Rows
public import Idealize.ShloMosaic.Lib.SortFacts

@[expose] public section

noncomputable section

namespace Cert.Layer

open Idealize.ShloMosaic

/-- `k` stands before `k'` in a descending sort of the scores. -/
def before (L : Fin 8 → EReal) (k k' : Fin 8) : Bool := Ideal.cmp .ogt (L k) (L k') == 1#1

theorem before_eq (L : Fin 8 → EReal) (k k' : Fin 8) : before L k k' = decide (L k' < L k) := by
  unfold before Ideal.cmp
  by_cases h : L k' < L k <;> simp [h]

/-- The positions of the greatest and of the second greatest score, the lower position first among equals. -/
def best (L : Fin 8 → EReal) : Fin 8 := sortedFrom (before L) 0
def second (L : Fin 8 → EReal) : Fin 8 := sortedFrom (before L) 1

/-- The weight of expert `e`: the softmax over the two greatest scores, at the chosen experts. -/
def weight (L : Fin 8 → EReal) (e : Fin 8) : EReal :=
  (if e = best L then Ideal.div 1 (1 + Ideal.exp (L (second L) - L (best L))) else 0)
    + (if e = second L then Ideal.div (Ideal.exp (L (second L) - L (best L))) (1 + Ideal.exp (L (second L) - L (best L))) else 0)

/-- `p` is the first position of the greatest score, `q` the first of the greatest among the others. -/
structure TopTwo (L : Fin 8 → EReal) (p q : Fin 8) : Prop where
  ne : q ≠ p
  le_best : ∀ e, L e ≤ L p
  first_best : ∀ e, L e = L p → p ≤ e
  le_second : ∀ e, e ≠ p → L e ≤ L q
  first_second : ∀ e, e ≠ p → L e = L q → q ≤ e

/-! ## The stable sort -/

/-- The order a stable descending sort leaves: greater score first, then lower position. -/
def Ahead (L : Fin 8 → EReal) (a b : Fin 8) : Prop := L b < L a ∨ (L a = L b ∧ a < b)

theorem insert_ahead (L : Fin 8 → EReal) (a : Fin 8) (l : List (Fin 8)) (ha : ∀ b ∈ l, a < b) (hl : l.Pairwise (Ahead L)) :
    (insertBefore (before L) a l).Pairwise (Ahead L) := by
  induction l with
  | nil => simp [insertBefore]
  | cons b l ih =>
    have ⟨hb, hl'⟩ := List.pairwise_cons.mp hl
    unfold insertBefore
    rw [before_eq]
    by_cases h : L a < L b
    · rw [if_pos (decide_eq_true h)]
      refine List.pairwise_cons.mpr ⟨fun x hx => ?_, ih (fun x hx => ha x (List.mem_cons_of_mem _ hx)) hl'⟩
      rcases List.mem_cons.mp ((perm_insertBefore _ a l).mem_iff.mp hx) with rfl | hx'
      · exact Or.inl h
      · exact hb x hx'
    · rw [if_neg (by simpa using h)]
      refine List.pairwise_cons.mpr ⟨fun x hx => ?_, hl⟩
      have hle : L x ≤ L a := by
        rcases List.mem_cons.mp hx with rfl | hx'
        · exact not_lt.mp h
        · rcases hb x hx' with h1 | ⟨h1, -⟩
          · exact h1.le.trans (not_lt.mp h)
          · exact h1 ▸ not_lt.mp h
      rcases lt_or_eq_of_le hle with h1 | h1
      · exact Or.inl h1
      · exact Or.inr ⟨h1.symm, ha x hx⟩

theorem sort_ahead (L : Fin 8 → EReal) (l : List (Fin 8)) (hl : l.Pairwise (· < ·)) : (stableSort (before L) l).Pairwise (Ahead L) := by
  induction l with
  | nil => simp [stableSort]
  | cons a l ih =>
    obtain ⟨ha, hl'⟩ := List.pairwise_cons.mp hl
    unfold stableSort
    exact insert_ahead L a _ (fun b hb => ha b ((perm_stableSort _ l).mem_iff.mp hb)) (ih hl')

/-- Of two places of the sort, the earlier one's position is ahead. -/
theorem sortedFrom_ahead (L : Fin 8 → EReal) (i j : Fin 8) (h : i < j) :
    Ahead L (sortedFrom (before L) i) (sortedFrom (before L) j) := by
  have hp := sort_ahead L (List.finRange 8) (List.pairwise_lt_finRange 8)
  exact List.pairwise_iff_get.mp hp _ _ h

/-- A position other than those at the places before `i` is the one at `i` or behind it. -/
theorem ahead_of_later (L : Fin 8 → EReal) (i : Fin 8) (e : Fin 8) (h : ∀ j < i, e ≠ sortedFrom (before L) j) :
    e = sortedFrom (before L) i ∨ Ahead L (sortedFrom (before L) i) e := by
  obtain ⟨j, rfl⟩ := sortedFrom_surjective (before L) e
  rcases lt_trichotomy j i with hj | rfl | hj
  · exact absurd rfl (h j hj)
  · exact Or.inl rfl
  · exact Or.inr (sortedFrom_ahead L i j hj)

theorem topTwo (L : Fin 8 → EReal) : TopTwo L (best L) (second L) := by
  have h0 : ∀ e, e = best L ∨ Ahead L (best L) e := fun e => ahead_of_later L 0 e fun j hj => absurd hj (by omega)
  have h1 : ∀ e, e ≠ best L → e = second L ∨ Ahead L (second L) e := fun e he => ahead_of_later L 1 e fun j hj => by
    have : j = 0 := by omega
    subst this; exact he
  refine ⟨fun h => ?_, fun e => ?_, fun e he => ?_, fun e hp => ?_, fun e hp he => ?_⟩
  · have := sortedFrom_injective (before L) h
    exact absurd this (by decide)
  · rcases h0 e with rfl | h | ⟨h, -⟩
    exacts [le_refl _, h.le, h.ge]
  · rcases h0 e with rfl | h | ⟨-, h⟩
    exacts [le_refl _, absurd (he ▸ h) (lt_irrefl _), h.le]
  · rcases h1 e hp with rfl | h | ⟨h, -⟩
    exacts [le_refl _, h.le, h.ge]
  · rcases h1 e hp with rfl | h | ⟨-, h⟩
    exacts [le_refl _, absurd (he ▸ h) (lt_irrefl _), h.le]

/-! ## Two rounds over the lanes -/

/-- Expert `e`'s lane of 128. -/
def lane (e : Fin 8) : Fin 128 := ⟨e.val, by omega⟩

theorem lane_injective {a b : Fin 8} (h : lane a = lane b) : a = b := Fin.ext (congrArg (fun x : Fin 128 => x.val) h)

/-- The maximum over the lanes, from `⊥`, when one lane is at least every other. -/
theorem lanes_max (V : Fin 128 → EReal) (p : Fin 128) (h : ∀ l, V l ≤ V p) : Finset.univ.fold max ⊥ V = V p :=
  le_antisymm (Finset.fold_max_le (V p) |>.mpr ⟨bot_le, fun l _ => h l⟩)
    (Finset.le_fold_max (V p) |>.mpr (Or.inr ⟨p, Finset.mem_univ _, le_refl _⟩))

/-- The least lane with a property, found as the signed minimum of the lane number where it holds and 128 elsewhere. -/
theorem lanes_first (P : Fin 128 → Prop) [DecidablePred P] (p : Fin 128) (hp : P p) (h : ∀ l, P l → p ≤ l) :
    Finset.univ.fold IntOp.minsi 2147483647#32 (fun l : Fin 128 => if P l then BitVec.ofNat 32 l.val else 128#32)
      = BitVec.ofNat 32 p.val := by
  have toInt_min : ∀ a b : BitVec 32, (IntOp.minsi a b).toInt = min a.toInt b.toInt := fun a b => by
    show (if a.slt b then a else b).toInt = _
    by_cases h : a.toInt < b.toInt
    · rw [show a.slt b = true from decide_eq_true h, if_pos rfl, min_eq_left h.le]
    · rw [show a.slt b = false from decide_eq_false h, if_neg Bool.false_ne_true, min_eq_right (not_lt.mp h)]
  have toInt_lane : ∀ l : Fin 128, (BitVec.ofNat 32 l.val).toInt = l.val := by decide
  have toInt_fold : ∀ (s : Finset (Fin 128)) (f : Fin 128 → BitVec 32),
      (s.fold IntOp.minsi 2147483647#32 f).toInt = s.fold min (2147483647 : ℤ) fun l => (f l).toInt := fun s f => by
    induction s using Finset.induction_on with
    | empty => rfl
    | insert a s ha ih => rw [Finset.fold_insert ha, Finset.fold_insert ha, toInt_min, ih]
  apply BitVec.eq_of_toInt_eq
  rw [toInt_fold, toInt_lane]
  refine le_antisymm (Finset.fold_min_le _ |>.mpr (Or.inr ⟨p, Finset.mem_univ _, ?_⟩)) (Finset.le_fold_min _ |>.mpr ⟨by omega, fun l _ => ?_⟩)
  · rw [if_pos hp, toInt_lane]
  · by_cases hl : P l
    · rw [if_pos hl, toInt_lane]; exact_mod_cast h l hl
    · rw [if_neg hl, show (128#32 : BitVec 32).toInt = 128 from rfl]; omega

/-- The scores on the lanes, `⊥` past the eighth. -/
def masked (L : Fin 8 → EReal) (l : Fin 128) : EReal := if h : l.val < 8 then L ⟨l.val, h⟩ else ⊥

@[simp] theorem masked_lane (L : Fin 8 → EReal) (e : Fin 8) : masked L (lane e) = L e := dif_pos e.isLt

theorem masked_past (L : Fin 8 → EReal) {l : Fin 128} (h : ¬l.val < 8) : masked L l = ⊥ := dif_neg h

theorem eq_lane {l : Fin 128} (h : l.val < 8) : l = lane ⟨l.val, h⟩ := rfl

/-- The masked scores with the best one's lane overwritten by `⊥`. -/
def rest (L : Fin 8 → EReal) (l : Fin 128) : EReal := if l = lane (best L) then ⊥ else masked L l

section Lanes
variable (L : Fin 8 → EReal) (hL : ∀ e, Finite (L e))
include hL

theorem ne_bot (e : Fin 8) : L e ≠ ⊥ := by obtain ⟨y, hy⟩ := hL e; rw [hy]; exact EReal.coe_ne_bot y

theorem max_masked : Finset.univ.fold max ⊥ (masked L) = L (best L) := by
  rw [lanes_max (masked L) (lane (best L)) (fun l => ?_), masked_lane]
  by_cases h : l.val < 8
  · rw [eq_lane h, masked_lane, masked_lane]; exact (topTwo L).le_best _
  · rw [masked_past L h]; exact bot_le

theorem first_masked : Finset.univ.fold IntOp.minsi 2147483647#32
    (fun l : Fin 128 => if masked L l = L (best L) then BitVec.ofNat 32 l.val else 128#32) = BitVec.ofNat 32 (lane (best L)).val := by
  refine lanes_first (fun l => masked L l = L (best L)) _ (masked_lane L _) fun l hl => ?_
  by_cases h : l.val < 8
  · rw [eq_lane h, masked_lane] at hl; exact (topTwo L).first_best _ hl
  · rw [masked_past L h] at hl; exact absurd hl.symm (ne_bot L hL _)

theorem rest_second : rest L (lane (second L)) = L (second L) := by
  unfold rest
  rw [if_neg fun h => (topTwo L).ne (lane_injective h), masked_lane]

theorem rest_le (l : Fin 128) : rest L l = ⊥ ∨ ∃ e, e ≠ best L ∧ l = lane e ∧ rest L l = L e := by
  unfold rest
  by_cases hb : l = lane (best L)
  · exact Or.inl (if_pos hb)
  · rw [if_neg hb]
    by_cases h : l.val < 8
    · exact Or.inr ⟨⟨l.val, h⟩, fun e => hb (by rw [eq_lane h, e]), eq_lane h, dif_pos h⟩
    · exact Or.inl (masked_past L h)

theorem max_rest : Finset.univ.fold max ⊥ (rest L) = L (second L) := by
  rw [lanes_max (rest L) (lane (second L)) (fun l => ?_), rest_second L hL]
  rw [rest_second L hL]
  rcases rest_le L hL l with h | ⟨e, he, -, h⟩
  · rw [h]; exact bot_le
  · rw [h]; exact (topTwo L).le_second e he

theorem first_rest : Finset.univ.fold IntOp.minsi 2147483647#32
    (fun l : Fin 128 => if rest L l = L (second L) then BitVec.ofNat 32 l.val else 128#32) = BitVec.ofNat 32 (lane (second L)).val := by
  refine lanes_first (fun l => rest L l = L (second L)) _ (rest_second L hL) fun l hl => ?_
  rcases rest_le L hL l with h | ⟨e, he, rfl, h⟩
  · exact absurd (h ▸ hl).symm (ne_bot L hL _)
  · exact (topTwo L).first_second e he (h ▸ hl)

end Lanes

end Cert.Layer

end
-- ==== Proof.Spec.lean ====
/-
  The routed feed-forward layer as plain mathematics, one row at a time: normalise, score the eight experts, weigh the two
  best, add their gated feed-forward outputs to the row, normalise again.
-/
module

public import proofs.«01_k».proof.Proof.TopTwo

@[expose] public section

noncomputable section

namespace Cert.Layer

/-- Expert `e`'s weighted contribution to entry `d` of the row whose normalised entries are `n`. -/
def part (n : Fin 1024 → EReal) (r : Fin 1024 → Fin 8 → EReal) (wg wu : Fin 8 → Fin 1024 → Fin 1408 → EReal)
    (wd : Fin 8 → Fin 1408 → Fin 1024 → EReal) (e : Fin 8) (d : Fin 1024) : EReal :=
  weight (score n r) e * swiglu n (wg e) (wu e) (wd e) d

/-- The layer's output row for the input row `x`. -/
def routedRow (x g : Fin 1024 → EReal) (r : Fin 1024 → Fin 8 → EReal) (wg wu : Fin 8 → Fin 1024 → Fin 1408 → EReal)
    (wd : Fin 8 → Fin 1408 → Fin 1024 → EReal) (gf : Fin 1024 → EReal) (d : Fin 1024) : EReal :=
  rms (fun k => x k + ∑ e, part (rms x g) r wg wu wd e k) gf d

end Cert.Layer

end
-- ==== Proof.Experts.lean ====
/-
  The routed layer over `R` rows, from its seven arguments, and what a call that takes the experts one after the other
  holds in between: the rows normalised, their weights, and the sum over the experts so far. Neither the number of rows
  nor the size of a block is fixed here.
-/
module

public import proofs.«01_k».proof.Proof.Spec

@[expose] public section

noncomputable section

namespace Cert.Layer

/-- The arguments of the layer, entry by entry. -/
structure Args (R : ℕ) where
  input : Fin R → Fin 1024 → EReal
  gain : Fin 1024 → EReal
  router : Fin 1024 → Fin 8 → EReal
  gate : Fin 8 → Fin 1024 → Fin 1408 → EReal
  up : Fin 8 → Fin 1024 → Fin 1408 → EReal
  down : Fin 8 → Fin 1408 → Fin 1024 → EReal
  lastGain : Fin 1024 → EReal

namespace Args
variable {R : ℕ} (P : Args R) (r : Fin R)

/-- Row `r`, normalised. -/
def normed : Fin 1024 → EReal := rms (P.input r) P.gain

/-- Row `r`'s scores. -/
def scored : Fin 8 → EReal := score (P.normed r) P.router

/-- Expert `e`'s weighted output for row `r`. -/
def share (e : Fin 8) (d : Fin 1024) : EReal := part (P.normed r) P.router P.gate P.up P.down e d

/-- Row `r` of the layer's output. -/
def outRow : Fin 1024 → EReal := routedRow (P.input r) P.gain P.router P.gate P.up P.down P.lastGain

/-- The first `n` experts' weighted outputs, summed. -/
def sumTo (n : ℕ) (d : Fin 1024) : EReal := ∑ e ∈ Finset.range n, if h : e < 8 then P.share r ⟨e, h⟩ d else 0

theorem sumTo_zero (d : Fin 1024) : P.sumTo r 0 d = 0 := by
  unfold sumTo
  rw [Finset.range_zero, Finset.sum_empty]

theorem sumTo_succ (e : Fin 8) (d : Fin 1024) : P.sumTo r (e.val + 1) d = P.sumTo r e.val d + P.share r e d := by
  unfold sumTo
  rw [Finset.sum_range_succ, dif_pos e.isLt]

theorem sumTo_all (d : Fin 1024) : P.sumTo r 8 d = ∑ e, P.share r e d := by
  unfold sumTo
  rw [Finset.sum_range]
  exact Finset.sum_congr rfl fun e _ => dif_pos e.isLt

/-- The output row from the sum over all experts. -/
theorem outRow_eq (d : Fin 1024) : P.outRow r d = rms (fun k => P.input r k + P.sumTo r 8 k) P.lastGain d := by
  simp only [sumTo_all]
  rfl

/-- Finite rows, gain and router make finite scores. -/
theorem scored_finite (hx : ∀ k, Finite (P.input r k)) (hg : ∀ k, Finite (P.gain k)) (hr : ∀ k e, Finite (P.router k e)) (e : Fin 8) :
    Finite (P.scored r e) :=
  score_finite _ _ (fun k => rms_finite _ _ hx hg k) hr e

/-- What is held for the rows `row a` of a block after `n` experts. -/
structure Held {A : ℕ} (row : Fin A → Fin R) (n : ℕ) (N : Fin A → Fin 1024 → EReal) (W : Fin A → Fin 8 → EReal)
    (Y : Fin A → Fin 1024 → EReal) : Prop where
  norm : ∀ a k, N a k = P.normed (row a) k
  weight : ∀ a e, W a e = weight (P.scored (row a)) e
  sum : ∀ a d, Y a d = P.sumTo (row a) n d

section Step
variable {A : ℕ} (row : Fin A → Fin R) (e : Fin 8) {N : Fin A → Fin 1024 → EReal} {W : Fin A → Fin 8 → EReal}
  {wg wu : Fin 1024 → Fin 1408 → EReal} {wd : Fin 1408 → Fin 1024 → EReal}

/-- One expert's step over rows and weights that are right is that expert's share. -/
theorem step_share (hn : ∀ a k, N a k = P.normed (row a) k) (hw : ∀ a e, W a e = Layer.weight (P.scored (row a)) e) (hg : wg = P.gate e)
    (hu : wu = P.up e) (hd : wd = P.down e) (a : Fin A) (d : Fin 1024) :
    W a e * swiglu (N a) wg wu wd d = P.share (row a) e d := by
  rw [hw, hg, hu, hd, funext (hn a)]
  rfl

/-- The first expert's sum. -/
theorem Held.first (hn : ∀ a k, N a k = P.normed (row a) k) (hw : ∀ a e, W a e = Layer.weight (P.scored (row a)) e)
    (hg : wg = P.gate 0) (hu : wu = P.up 0) (hd : wd = P.down 0) :
    P.Held row 1 N W fun a d => W a 0 * swiglu (N a) wg wu wd d :=
  ⟨hn, hw, fun a d => by
    rw [P.step_share row 0 hn hw hg hu hd, show (1 : ℕ) = (0 : Fin 8).val + 1 from rfl, sumTo_succ]
    rw [show (0 : Fin 8).val = 0 from rfl, sumTo_zero, zero_add]⟩

/-- A later expert's sum, over what was held before it. -/
theorem Held.next {Y : Fin A → Fin 1024 → EReal} (h : P.Held row e.val N W Y) (hg : wg = P.gate e) (hu : wu = P.up e)
    (hd : wd = P.down e) : P.Held row (e.val + 1) N W fun a d => Y a d + W a e * swiglu (N a) wg wu wd d :=
  ⟨h.norm, h.weight, fun a d => by rw [P.step_share row e h.norm h.weight hg hu hd, h.sum, sumTo_succ]⟩

end Step

end Args

end Cert.Layer

end
-- ==== Proof.Blocks.lean ====
/-
  What each input block of the routed call holds at a grid point, read off the argument arrays: point `t` works on the
  512 rows from `512 · (t / 8)` and on expert `t % 8`; the router's matrix is padded with zeros from 8 to 128 columns.
-/
module

public import proofs.«01_k».proof.Proof.Gen.KernelIdeal.Value
public import Idealize.ShloMosaic.Lib.Pipeline.ValueKit
public import Idealize.ShloMosaic.Lib.Pointwise
public import proofs.«01_k».proof.Proof.Experts

@[expose] public section

set_option maxRecDepth 16384

noncomputable section

namespace Cert.Routed

open Cert.KernelIdeal Cert.KernelIdeal.Gen Idealize.ShloMosaic Idealize.ShloMosaic.TcCoe Idealize.SL.Sem

variable (m : (ℓ : Loc nD τ sig) → Buf (Elt Ideal) ℓ) (c : Dev nD)

/-! ## The arguments, entry by entry -/

def args : Layer.Args 32768 where
  input r k := m ((c : Thread nD τ).loc main_arg0) (ix2 r k)
  gain k := m ((c : Thread nD τ).loc main_arg1) (ix1 k)
  router k e := m ((c : Thread nD τ).loc main_arg2) (ix2 k e)
  gate e k f := m ((c : Thread nD τ).loc main_arg3) (ix3 e k f)
  up e k f := m ((c : Thread nD τ).loc main_arg4) (ix3 e k f)
  down e f d := m ((c : Thread nD τ).loc main_arg5) (ix3 e f d)
  lastGain k := m ((c : Thread nD τ).loc main_arg6) (ix1 k)

/-- The array's row at place `a` of point `t`'s block, and the point's expert. -/
def rowOf (t : Fin cfg0.N) (a : Fin 512) : Fin 32768 := ⟨512 * (t.val / 8) + a.val, by have := t.isLt.trans_eq N_0; omega⟩
def expertOf (t : Fin cfg0.N) : Fin 8 := ⟨t.val % 8, Nat.mod_lt _ (by decide)⟩

/-! ## The operands the host computes before the call -/

theorem V_gain : V m c main_v2 = shapeCast S1x1024 (m ((c : Thread nD τ).loc main_arg1)) shapeCasts_S1024_S1x1024 := rfl

theorem V_lastGain : V m c main_v6 = shapeCast S1x1024 (m ((c : Thread nD τ).loc main_arg6)) shapeCasts_S1024_S1x1024 := rfl

theorem V_router : V m c main_v1 = pad S1024x128 ![0, 0] ![0, 120] ![0, 0]
    (truncf .bf16 (show FVec Ideal S1024x8 .f32 from m ((c : Thread nD τ).loc main_arg2)) bitsLt_bf16_f32)
    (sitofp .bf16 (constantI S_ 32 0#32)) pads_S1024x8_S1024x128_000_01200 h_S_ := by
  unfold V
  simp only [hostOps0, hostOps0_1, hostOps0_2, List.flatten_cons, List.flatten_nil, List.append_nil, List.cons_append, List.nil_append]
  entry_read
  rfl

/-! ## The blocks -/

theorem idx : ∀ t : Fin cfg0.N, win0_0.index t = ![t.val / 8, 0] ∧ win0_1.index t = ![0, 0] ∧ win0_2.index t = ![0, 0]
    ∧ win0_3.index t = ![t.val % 8, 0, 0] ∧ win0_4.index t = ![t.val % 8, 0, 0] ∧ win0_5.index t = ![t.val % 8, 0, 0] ∧ win0_6.index t = ![0, 0] :=
  (by decide +kernel : ∀ t : Fin grid0.N, _)

theorem block_input (t : Fin cfg0.N) (a : Fin 512) (k : Fin 1024) : iblk m c 0 t (ix2 a k) = (args m c).input (rowOf t a) k := by
  unfold args rowOf
  blk_ext [iblk, V, idx t]

theorem block_gain (t : Fin cfg0.N) (k : Fin 1024) : iblk m c 1 t (ix2 0 k) = (args m c).gain k := by
  show V m c main_v2 (((cfg0.win 1).blk t).view.emb (ix2 0 k)) = _
  rw [show ((cfg0.win 1).blk t).view.emb (ix2 0 k) = ix2 0 k by blk_ext [idx t], V_gain m c]
  unfold args
  pointwise []

theorem block_router (t : Fin cfg0.N) (k : Fin 1024) (e : Fin 8) : iblk m c 2 t (ix2 k (Layer.lane e)) = (args m c).router k e := by
  show V m c main_v1 (((cfg0.win 2).blk t).view.emb (ix2 k (Layer.lane e))) = _
  rw [show ((cfg0.win 2).blk t).view.emb (ix2 k (Layer.lane e)) = ix2 k (Layer.lane e) by blk_ext [idx t], V_router m c]
  unfold args
  pointwise []
  exact dif_pos e.isLt

theorem block_gate (t : Fin cfg0.N) (k : Fin 1024) (f : Fin 1408) : iblk m c 3 t (ix3 0 k f) = (args m c).gate (expertOf t) k f := by
  unfold args expertOf
  blk_ext [iblk, V, idx t]

theorem block_up (t : Fin cfg0.N) (k : Fin 1024) (f : Fin 1408) : iblk m c 4 t (ix3 0 k f) = (args m c).up (expertOf t) k f := by
  unfold args expertOf
  blk_ext [iblk, V, idx t]

theorem block_down (t : Fin cfg0.N) (f : Fin 1408) (d : Fin 1024) : iblk m c 5 t (ix3 0 f d) = (args m c).down (expertOf t) f d := by
  unfold args expertOf
  blk_ext [iblk, V, idx t]

theorem block_lastGain (t : Fin cfg0.N) (k : Fin 1024) : iblk m c 6 t (ix2 0 k) = (args m c).lastGain k := by
  show V m c main_v6 (((cfg0.win 6).blk t).view.emb (ix2 0 k)) = _
  rw [show ((cfg0.win 6).blk t).view.emb (ix2 0 k) = ix2 0 k by blk_ext [idx t], V_lastGain m c]
  unfold args
  pointwise []

end Cert.Routed

end
-- ==== Proof.BlockRows.lean ====
/-
  The rows of a block as the routed call reads them, for any number of rows, and the words of the 128 lanes.
-/
module

public import Idealize.ShloMosaic.Lib.Pipeline.ValueKit
public import Idealize.ShloMosaic.Lib.Pointwise
public import proofs.«01_k».proof.Proof.Spec

@[expose] public section

noncomputable section

namespace Cert.Layer

open Idealize.ShloMosaic Idealize.ShloMosaic.TcCoe Idealize.SL.Sem

variable {n : ℕ} (x : Vec Ideal ⟨2, ![n, 1024]⟩ .f32) (g : Vec Ideal ⟨2, ![1, 1024]⟩ .f32) (r : Vec Ideal ⟨2, ![1024, 128]⟩ .bf16)

/-- The normalised row `a` of the block. -/
def normRow (a : Fin n) : Fin 1024 → EReal := rms (fun k => x (ix2 a k)) (fun k => g (ix2 0 k))

/-- Row `a`'s scores. -/
def scores (a : Fin n) : Fin 8 → EReal := score (normRow x g a) fun k e => r (ix2 k (lane e))

/-- A lane's word is below 8 exactly on the first eight lanes. -/
theorem lane_below : ∀ l : Fin 128, IntOp.cmpi .slt (BitVec.ofNat 32 l.val) 8#32 = BitVec.ofBool (decide (l.val < 8)) := by decide

/-- Two lanes' words are equal exactly when the lanes are. -/
theorem lane_eq (l p : Fin 128) : IntOp.cmpi .eq (BitVec.ofNat 32 l.val) (BitVec.ofNat 32 p.val) = BitVec.ofBool (decide (l = p)) := by
  show BitVec.ofBool (BitVec.ofNat 32 l.val == BitVec.ofNat 32 p.val) = _
  congr 1
  rw [Bool.eq_iff_iff, beq_iff_eq, decide_eq_true_iff]
  refine ⟨fun h => Fin.ext ?_, fun h => h ▸ rfl⟩
  have := congrArg BitVec.toNat h
  rwa [BitVec.toNat_ofNat, BitVec.toNat_ofNat, Nat.mod_eq_of_lt (by omega), Nat.mod_eq_of_lt (by omega)] at this

theorem select_decide (P : Prop) [Decidable P] (a b : EReal) : Scalar.select (BitVec.ofBool (decide P)) a b = if P then a else b := by
  by_cases h : P <;> simp [h, Scalar.select]

/-- Only the expert's own lane counts in its sum over the lanes. -/
theorem sum_lane (w : Fin 128 → EReal) (e : Fin 8) :
    ∑ l : Fin 128, Scalar.select (IntOp.cmpi .eq (BitVec.ofNat 32 l.val) (BitVec.ofNat 32 e.val)) (w l) 0 = w (lane e) := by
  simp only [show ∀ l : Fin 128, IntOp.cmpi .eq (BitVec.ofNat 32 l.val) (BitVec.ofNat 32 e.val) = BitVec.ofBool (decide (l = lane e)) from
    fun l => lane_eq l (lane e), select_decide]
  rw [Finset.sum_ite_eq' Finset.univ (lane e), if_pos (Finset.mem_univ _)]

/-- The two choices that make an expert's weight, on its lane. -/
theorem weight_lane (L : Fin 8 → EReal) (e : Fin 8) :
    (Scalar.select (IntOp.cmpi .eq (BitVec.ofNat 32 (lane e).val) (BitVec.ofNat 32 (lane (best L)).val))
        (Ideal.div 1 (1 + Ideal.exp (L (second L) - L (best L)))) 0 : EReal)
      + Scalar.select (IntOp.cmpi .eq (BitVec.ofNat 32 (lane e).val) (BitVec.ofNat 32 (lane (second L)).val))
        (Ideal.div (Ideal.exp (L (second L) - L (best L))) (1 + Ideal.exp (L (second L) - L (best L)))) 0 = weight L e := by
  rw [lane_eq, lane_eq, select_decide, select_decide]
  unfold weight
  simp only [show ∀ a b : Fin 8, (lane a = lane b) = (a = b) from fun a b => propext ⟨lane_injective, congrArg lane⟩]

/-- A lane's masked score. -/
theorem score_lane (L : Fin 8 → EReal) (s : Fin 128 → EReal) (hs : ∀ e, s (lane e) = L e) (l : Fin 128) :
    Scalar.select (IntOp.cmpi .slt (BitVec.ofNat 32 l.val) 8#32) (s l) ⊥ = masked L l := by
  rw [lane_below, select_decide]
  unfold masked
  by_cases h : l.val < 8
  · rw [if_pos h, dif_pos h]
    exact hs ⟨l.val, h⟩
  · rw [if_neg h, dif_neg h]

end Cert.Layer

end
-- ==== Proof.Block.lean ====
/-
  What one grid point of the routed call computes from its blocks, row by row: the normalised rows, the masked scores,
  the two rounds that find the best two experts, their weights, one expert's weighted output, and the closing normalisation.
-/
module

public import proofs.«01_k».proof.Proof.Gen.KernelIdeal.Value
public import Idealize.ShloMosaic.Lib.Pipeline.ValueKit
public import Idealize.ShloMosaic.Lib.Pointwise
public import proofs.«01_k».proof.Proof.BlockRows

@[expose] public section

set_option maxRecDepth 16384

noncomputable section

namespace Cert.Routed

open Cert.KernelIdeal Cert.KernelIdeal.Gen Idealize.ShloMosaic Idealize.ShloMosaic.TcCoe Idealize.SL.Sem

open Cert.Layer

variable (x : Vec Ideal S512x1024 .f32) (g : Vec Ideal S1x1024 .f32) (r : Vec Ideal S1024x128 .bf16)

theorem norm_apply (a : Fin 512) (k : Fin 1024) : k0_pay4 x g (ix2 a k) = normRow x g a k := by
  pointwise [k0_pay4]
  rfl

theorem stored_norm_apply (a : Fin 512) (k : Fin 1024) : k0_pay5 x g (ix2 a k) = normRow x g a k := by
  pointwise [k0_pay5, k0_pay4]
  rfl

theorem score_apply (a : Fin 512) (l : Fin 128) : k0_pay6 x g r (ix2 a l) = masked (scores x g r a) l := by
  unfold k0_pay6
  pointwise []
  rw [neg_infinity_literal]
  simp only [norm_apply]
  exact score_lane _ (fun l => ∑ k, normRow x g a k * r (ix2 k l)) (fun _ => rfl) l

section Rounds
variable (a : Fin 512) (hL : ∀ e, Finite (scores x g r a e))
include hL

theorem max_apply : k0_pay7 x g r (ix2 a 0) = scores x g r a (best (scores x g r a)) := by
  unfold k0_pay7
  pointwise []
  rw [neg_infinity_literal, ← max_masked _ hL]
  exact congrArg (fun f => Finset.univ.fold max ⊥ f) (funext fun l => score_apply x g r a l)

theorem arg_apply : k0_pay8 x g r (ix2 a 0) = BitVec.ofNat 32 (lane (best (scores x g r a))).val := by
  unfold k0_pay8
  pointwise []
  rw [← first_masked _ hL]
  simp only [score_apply]
  rw [max_apply x g r a hL]

theorem rest_apply (l : Fin 128) : k0_pay9 x g r (ix2 a l) = rest (scores x g r a) l := by
  unfold k0_pay9
  pointwise []
  rw [arg_apply x g r a hL, lane_eq, select_decide, neg_infinity_literal, score_apply]
  rfl

theorem max2_apply : k0_pay10 x g r (ix1 a) = scores x g r a (second (scores x g r a)) := by
  unfold k0_pay10
  pointwise []
  rw [neg_infinity_literal, ← max_rest _ hL]
  exact congrArg (fun f => Finset.univ.fold max ⊥ f) (funext fun l => rest_apply x g r a hL l)

/-- The weights the point keeps for row `a`, on the experts' lanes. -/
theorem weight_apply (e : Fin 8) : k0_pay11 (iota Kind.tc S512x128 32 [1] iota_S512x128_d1_w32) (k0_pay7 x g r) (k0_pay8 x g r)
    (k0_pay9 x g r) (k0_pay10 x g r) (ix2 a (lane e)) = weight (scores x g r a) e := by
  unfold k0_pay11
  pointwise []
  simp only [rest_apply x g r a hL]
  rw [max2_apply x g r a hL, max_apply x g r a hL, arg_apply x g r a hL, first_rest _ hL]
  exact weight_lane _ e

end Rounds

/-- One expert's output for row `a`, times the kept weight on that expert's lane. -/
theorem expert_apply (i : grid0.Coords) (n : Vec Ideal S512x1024 .bf16) (wg wu : Vec Ideal S1x1024x1408 .bf16)
    (wd : Vec Ideal S1x1408x1024 .bf16) (w : Vec Ideal S512x128 .f32) (e : Fin 8) (hi : (i 1).val = e.val) (a : Fin 512) (d : Fin 1024) :
    k0_pay12 i n wg wu wd w (ix2 a d)
      = w (ix2 a (lane e)) * swiglu (fun k => n (ix2 a k)) (fun k f => wg (ix3 0 k f)) (fun k f => wu (ix3 0 k f)) (fun f d => wd (ix3 0 f d)) d := by
  pointwise [k0_pay12]
  rw [hi, mul_comm]
  congr 1
  · exact sum_lane (fun l => w (ix2 a l)) e
  · unfold swiglu
    exact Finset.sum_congr rfl fun f _ => by rw [zero_sub]

theorem last_apply (y : Vec Ideal S512x1024 .f32) (gf : Vec Ideal S1x1024 .f32) (a : Fin 512) (d : Fin 1024) :
    k0_pay3 x y gf (ix2 a d) = rms (fun k => x (ix2 a k) + y (ix2 a k)) (fun k => gf (ix2 0 k)) d := by
  pointwise [k0_pay3]
  rfl

theorem first_sum_eq (y : FVec Ideal S512x1024 .f32) : k0_pay1 y = y := by
  funext j
  pointwise [k0_pay1]

theorem next_sum_apply (y s : Vec Ideal S512x1024 .f32) (j) : k0_pay2 y s j = s j + y j := by
  pointwise [k0_pay2]

end Cert.Routed

end
-- ==== Proof.Steps.lean ====
/-
  What one grid point of the routed call leaves in its output block and its three scratch arrays: at the first expert
  everything is computed from the blocks, at the others over what the point before left.
-/
module

public import proofs.«01_k».proof.Proof.Gen.KernelIdeal.Value
public import Idealize.ShloMosaic.Lib.Pipeline.ValueKit
public import Idealize.ShloMosaic.Lib.Pointwise

@[expose] public section

set_option maxRecDepth 16384

noncomputable section

namespace Cert.Routed

open Cert.KernelIdeal Cert.KernelIdeal.Gen Idealize.ShloMosaic Idealize.ShloMosaic.TcCoe Idealize.SL.Sem

variable (m : (ℓ : Loc nD τ sig) → Buf (Elt Ideal) ℓ) (c : Dev nD) (t : Fin cfg0.N)

/-- What the point before `t` left. -/
abbrev before := outsAt0 m c (t.val - 1) (Nat.lt_of_le_of_lt (Nat.sub_le _ _) t.isLt)

/-- A later expert's step depends on the three scratch arrays only through their contents. -/
theorem step_congr {n n' : Vec Ideal S512x1024 .bf16} {y y' : Vec Ideal S512x1024 .f32} {w w' : Vec Ideal S512x128 .f32}
    (hn : n = n') (hy : y = y') (hw : w = w') :
    k0_pay2 (k0_pay12 (grid0.coords t) n (iblk m c 3 t) (iblk m c 4 t) (iblk m c 5 t) w) y
      = k0_pay2 (k0_pay12 (grid0.coords t) n' (iblk m c 3 t) (iblk m c 4 t) (iblk m c 5 t) w') y' := by
  rw [hn, hy, hw]

section First
variable (h : t.val % 8 = 0)
include h

theorem first_norm : (outsAt0 m c t.val t.isLt).2.1 = k0_pay5 (iblk m c 0 t) (iblk m c 1 t) := by
  rw [outsAt0_A m c t h h (by omega) (by omega)]
  frame_out

theorem first_weight : (outsAt0 m c t.val t.isLt).2.2.2 = (k0_pay11 (iota Kind.tc S512x128 32 [1] iota_S512x128_d1_w32)
      (k0_pay7 (iblk m c 0 t) (iblk m c 1 t) (iblk m c 2 t)) (k0_pay8 (iblk m c 0 t) (iblk m c 1 t) (iblk m c 2 t))
      (k0_pay9 (iblk m c 0 t) (iblk m c 1 t) (iblk m c 2 t)) (k0_pay10 (iblk m c 0 t) (iblk m c 1 t) (iblk m c 2 t))) := by
  rw [outsAt0_A m c t h h (by omega) (by omega)]
  frame_out

theorem first_sum : (outsAt0 m c t.val t.isLt).2.2.1 = k0_pay1 (k0_pay12 (grid0.coords t) (k0_pay5 (iblk m c 0 t) (iblk m c 1 t))
    (iblk m c 3 t) (iblk m c 4 t) (iblk m c 5 t) (k0_pay11 (iota Kind.tc S512x128 32 [1] iota_S512x128_d1_w32)
      (k0_pay7 (iblk m c 0 t) (iblk m c 1 t) (iblk m c 2 t)) (k0_pay8 (iblk m c 0 t) (iblk m c 1 t) (iblk m c 2 t))
      (k0_pay9 (iblk m c 0 t) (iblk m c 1 t) (iblk m c 2 t)) (k0_pay10 (iblk m c 0 t) (iblk m c 1 t) (iblk m c 2 t)))) := by
  rw [outsAt0_A m c t h h (by omega) (by omega)]
  frame_out

end First

section Middle
variable (h : ¬t.val % 8 = 0) (h' : ¬t.val % 8 = 7)
include h h'

theorem middle_norm : (outsAt0 m c t.val t.isLt).2.1 = (before m c t).2.1 := by
  rw [outsAt0_B m c t h h (by omega) h']
  frame_out
  rfl

theorem middle_weight : (outsAt0 m c t.val t.isLt).2.2.2 = (before m c t).2.2.2 := by
  rw [outsAt0_B m c t h h (by omega) h']
  frame_out
  rfl

theorem middle_sum : (outsAt0 m c t.val t.isLt).2.2.1 = k0_pay2 (k0_pay12 (grid0.coords t) (before m c t).2.1 (iblk m c 3 t) (iblk m c 4 t) (iblk m c 5 t) (before m c t).2.2.2) (before m c t).2.2.1 := by
  rw [outsAt0_B m c t h h (by omega) h']
  frame_out
  exact step_congr m c t (Memref.IsWhole.read_unread _ _) (Memref.IsWhole.read_unread _ _) (Memref.IsWhole.read_unread _ _)

end Middle

section Last
variable (h : ¬t.val % 8 = 0) (h' : t.val % 8 = 7)
include h h'

theorem last_norm : (outsAt0 m c t.val t.isLt).2.1 = (before m c t).2.1 := by
  rw [outsAt0_C m c t h h (by omega) h']
  frame_out
  rfl

theorem last_weight : (outsAt0 m c t.val t.isLt).2.2.2 = (before m c t).2.2.2 := by
  rw [outsAt0_C m c t h h (by omega) h']
  frame_out
  rfl

theorem last_sum : (outsAt0 m c t.val t.isLt).2.2.1 = k0_pay2 (k0_pay12 (grid0.coords t) (before m c t).2.1 (iblk m c 3 t) (iblk m c 4 t) (iblk m c 5 t) (before m c t).2.2.2) (before m c t).2.2.1 := by
  rw [outsAt0_C m c t h h (by omega) h']
  frame_out
  exact step_congr m c t (Memref.IsWhole.read_unread _ _) (Memref.IsWhole.read_unread _ _) (Memref.IsWhole.read_unread _ _)

theorem last_output : (outsAt0 m c t.val t.isLt).1 = k0_pay3 (iblk m c 0 t)
    (k0_pay2 (k0_pay12 (grid0.coords t) (before m c t).2.1 (iblk m c 3 t) (iblk m c 4 t) (iblk m c 5 t) (before m c t).2.2.2) (before m c t).2.2.1) (iblk m c 6 t) := by
  rw [outsAt0_C m c t h h (by omega) h']
  frame_out
  exact congrArg (fun y => k0_pay3 (iblk m c 0 t) y (iblk m c 6 t))
    (step_congr m c t (Memref.IsWhole.read_unread _ _) (Memref.IsWhole.read_unread _ _) (Memref.IsWhole.read_unread _ _))

end Last

end Cert.Routed

end
-- ==== Proof.State.lean ====
/-
  What the routed call's scratch arrays hold after every grid point, by induction on the points, and the block it writes
  at the last expert: the layer's rows.
-/
module

public import proofs.«01_k».proof.Proof.Gen.KernelIdeal.Value
public import Idealize.ShloMosaic.Lib.Pipeline.ValueKit
public import Idealize.ShloMosaic.Lib.Pointwise
public import proofs.«01_k».proof.Proof.Blocks
public import proofs.«01_k».proof.Proof.Block
public import proofs.«01_k».proof.Proof.Steps

@[expose] public section

set_option maxRecDepth 16384

noncomputable section

namespace Cert.Routed

open Cert.KernelIdeal Cert.KernelIdeal.Gen Idealize.ShloMosaic Idealize.ShloMosaic.TcCoe Idealize.SL.Sem

open Cert.Layer

variable (m : (ℓ : Loc nD τ sig) → Buf (Elt Ideal) ℓ) (c : Dev nD)

theorem block_norm (t : Fin cfg0.N) (a : Fin 512) : normRow (iblk m c 0 t) (iblk m c 1 t) a = (args m c).normed (rowOf t a) := by
  unfold normRow Args.normed
  rw [show (fun k => iblk m c 0 t (ix2 a k)) = (args m c).input (rowOf t a) from funext fun k => block_input m c t a k,
    show (fun k => iblk m c 1 t (ix2 0 k)) = (args m c).gain from funext fun k => block_gain m c t k]

theorem block_scores (t : Fin cfg0.N) (a : Fin 512) :
    scores (iblk m c 0 t) (iblk m c 1 t) (iblk m c 2 t) a = (args m c).scored (rowOf t a) := by
  unfold scores Args.scored
  rw [block_norm, show (fun k e => iblk m c 2 t (ix2 k (lane e))) = (args m c).router from
    funext fun k => funext fun e => block_router m c t k e]

theorem coords_expert : ∀ t : Fin cfg0.N, (grid0.coords t 1).val = t.val % 8 := (by decide +kernel : ∀ t : Fin grid0.N, _)

/-- What the scratch arrays hold after point `t`. -/
def Holds (t : Fin cfg0.N) : Prop := (args m c).Held (rowOf t) (t.val % 8 + 1)
  (fun a k => (outsAt0 m c t.val t.isLt).2.1 (ix2 a k)) (fun a e => (outsAt0 m c t.val t.isLt).2.2.2 (ix2 a (lane e)))
  fun a d => (outsAt0 m c t.val t.isLt).2.2.1 (ix2 a d)

/-- The point before `t`. -/
def prev (t : Fin cfg0.N) : Fin cfg0.N := ⟨t.val - 1, Nat.lt_of_le_of_lt (Nat.sub_le _ _) t.isLt⟩

theorem rowOf_prev (t : Fin cfg0.N) (h : ¬t.val % 8 = 0) : rowOf (prev t) = rowOf t := funext fun a =>
  Fin.ext (by show 512 * ((t.val - 1) / 8) + a.val = 512 * (t.val / 8) + a.val; omega)

theorem holds_first (hL : ∀ r e, Finite ((args m c).scored r e)) (t : Fin cfg0.N) (h : t.val % 8 = 0) : Holds m c t := by
  have hs : ∀ a e, Finite (scores (iblk m c 0 t) (iblk m c 1 t) (iblk m c 2 t) a e) := fun a e => by
    rw [block_scores]
    exact hL _ e
  have he : expertOf t = 0 := Fin.ext h
  unfold Holds
  rw [first_norm m c t h, first_weight m c t h, first_sum m c t h, first_sum_eq, h]
  simp only [expert_apply (grid0.coords t) _ _ _ _ _ 0 ((coords_expert t).trans h)]
  exact Args.Held.first (args m c) (rowOf t)
    (fun a k => (stored_norm_apply (iblk m c 0 t) (iblk m c 1 t) a k).trans (congrFun (block_norm m c t a) k))
    (fun a e => (weight_apply (iblk m c 0 t) (iblk m c 1 t) (iblk m c 2 t) a (hs a) e).trans
      (congrArg (fun L => Layer.weight L e) (block_scores m c t a)))
    (funext fun k => funext fun f => he ▸ block_gate m c t k f) (funext fun k => funext fun f => he ▸ block_up m c t k f)
    (funext fun f => funext fun d => he ▸ block_down m c t f d)

/-- A later expert's step, over what the point before left. -/
theorem step_held (t : Fin cfg0.N) (h : ¬t.val % 8 = 0) (ih : Holds m c (prev t)) :
    (args m c).Held (rowOf t) (t.val % 8 + 1) (fun a k => (before m c t).2.1 (ix2 a k)) (fun a e => (before m c t).2.2.2 (ix2 a (lane e)))
      fun a d => k0_pay2 (k0_pay12 (grid0.coords t) (before m c t).2.1 (iblk m c 3 t) (iblk m c 4 t) (iblk m c 5 t) (before m c t).2.2.2)
        (before m c t).2.2.1 (ix2 a d) := by
  unfold Holds at ih
  rw [rowOf_prev t h, show (prev t).val % 8 + 1 = (expertOf t).val by show (t.val - 1) % 8 + 1 = t.val % 8; omega] at ih
  simp only [next_sum_apply, expert_apply (grid0.coords t) _ _ _ _ _ (expertOf t) (coords_expert t)]
  exact Args.Held.next (args m c) (rowOf t) (expertOf t) ih (funext fun k => funext fun f => block_gate m c t k f)
    (funext fun k => funext fun f => block_up m c t k f) (funext fun f => funext fun d => block_down m c t f d)

theorem holds_next (t : Fin cfg0.N) (h : ¬t.val % 8 = 0) (ih : Holds m c (prev t)) : Holds m c t := by
  unfold Holds
  by_cases h' : t.val % 8 = 7
  · rw [last_norm m c t h h', last_weight m c t h h', last_sum m c t h h']
    exact step_held m c t h ih
  · rw [middle_norm m c t h h', middle_weight m c t h h', middle_sum m c t h h']
    exact step_held m c t h ih

theorem holds (hL : ∀ r e, Finite ((args m c).scored r e)) : ∀ (n : ℕ) (hn : n < cfg0.N), Holds m c ⟨n, hn⟩
  | 0, hn => holds_first m c hL _ rfl
  | n + 1, hn => by
    by_cases h : (n + 1) % 8 = 0
    · exact holds_first m c hL ⟨n + 1, hn⟩ h
    · exact holds_next m c ⟨n + 1, hn⟩ h (holds hL n (Nat.lt_of_succ_lt hn))

/-- The block the call writes at a row block's last expert. -/
theorem block_output (hL : ∀ r e, Finite ((args m c).scored r e)) (t : Fin cfg0.N) (h : t.val % 8 = 7) (a : Fin 512) (d : Fin 1024) :
    (outsAt0 m c t.val t.isLt).1 (ix2 a d) = (args m c).outRow (rowOf t a) d := by
  have h0 : ¬t.val % 8 = 0 := by omega
  have hs := (step_held m c t h0 (holds m c hL _ _)).sum
  rw [last_output m c t h0 h, last_apply, Args.outRow_eq,
    show (fun k => iblk m c 6 t (ix2 0 k)) = (args m c).lastGain from funext fun k => block_lastGain m c t k]
  refine congrArg (fun f => rms f _ d) (funext fun k => ?_)
  rw [block_input, hs a k, h]

end Cert.Routed

end
-- ==== Proof.Array.lean ====
/-
  The array the routed call leaves: row by row the layer's output.
-/
module

public import proofs.«01_k».proof.Proof.Gen.KernelIdeal.Value
public import Idealize.ShloMosaic.Lib.Pipeline.ValueKit
public import Idealize.ShloMosaic.Lib.Pointwise
public import proofs.«01_k».proof.Proof.State

@[expose] public section

set_option maxRecDepth 16384

noncomputable section

namespace Cert.Routed

open Cert.KernelIdeal Cert.KernelIdeal.Gen Idealize.ShloMosaic Idealize.ShloMosaic.TcCoe Idealize.SL.Sem

variable (m : (ℓ : Loc nD τ sig) → Buf (Elt Ideal) ℓ) (c : Dev nD)

theorem idx_output : ∀ t : Fin cfg0.N, win0_7.index t = ![t.val / 8, 0] := (by decide +kernel : ∀ t : Fin grid0.N, _)

theorem array_eq (hL : ∀ r e, Layer.Finite ((args m c).scored r e)) :
    Cert.KernelIdeal.Value.G7 m c = fun i : S32768x1024.Idx => (args m c).outRow (i 0) (i 1) := by
  rw [← Cert.KernelIdeal.Value.final7]
  refine (dats m 0 c).arrAt_eq_of_covers 7 _ (by decide +kernel) fun t hf y => ?_
  blk_simp
  rw [after0_7]
  have h := (flush0_7 t).mp hf
  refine (congrArg (outsAt0 m c t.val t.isLt).1 (eq_ix2 _)).trans ((block_output m c hL t h _ _).trans ?_)
  have e0 : rowOf t (y 0) = (win0_7.blk t).view.emb y 0 := Fin.ext (by
    blk_simp [idx_output t]
    show 512 * (t.val / 8) + _ = _
    omega)
  have e1 : (show Fin 1024 from y 1) = (win0_7.blk t).view.emb y 1 := Fin.ext (by
    blk_simp [idx_output t])
  rw [e0]
  exact congrArg ((args m c).outRow _) e1

end Cert.Routed

end
-- ==== Proof.SortRows.lean ====
/-
  The two best entries of every row of an array with rows of eight, as a stable descending sort along the rows gives
  them, for any number of rows.
-/
module

public import proofs.«01_k».proof.Proof.Spec
public import Idealize.ShloMosaic.Lib.Pipeline.ValueKit
public import Idealize.ShloMosaic.Lib.Pointwise

@[expose] public section

set_option maxRecDepth 16384

noncomputable section

namespace Cert.Layer

open Idealize.ShloMosaic Idealize.ShloMosaic.TcCoe Idealize.SL.Sem

variable {n : ℕ}

/-- Arrays with `n` rows of eight, and with `n` rows of two. -/
abbrev Eights (n : ℕ) : Shape := ⟨2, ![n, 8]⟩
abbrev Pairs (n : ℕ) : Shape := ⟨2, ![n, 2]⟩

theorem along_row (r : Fin n) (k e : Fin 8) :
    Shape.Idx.along (s := Eights n) (ix2 r k) ⟨1, Nat.lt_succ_self 1⟩ e = ix2 r e := by
  funext a
  match a with
  | 0 => rfl
  | 1 => rfl

/-- The order `Host.topK` sorts by, at the ideal values. -/
abbrev greater : EReal × BitVec 32 → EReal × BitVec 32 → BitVec 1 :=
  fun l r => FloatOps.cmpfTotal (F := Ideal) (φ := .f32) .gt l.1 r.1

theorem sort_position (x : (Eights n).Idx → EReal) (r : Fin n) (k : Fin 8) :
    sortedFrom (n := 8) (fun a b => FloatOps.cmpfTotal (F := Ideal) (φ := .f32) .gt
        (x (Shape.Idx.along (s := Eights n) (ix2 r k) ⟨1, Nat.lt_succ_self 1⟩ a))
        (x (Shape.Idx.along (s := Eights n) (ix2 r k) ⟨1, Nat.lt_succ_self 1⟩ b)) == 1#1) k
      = sortedFrom (before fun e => x (ix2 r e)) k := by
  simp only [along_row]
  rfl

theorem sort_value (x : (Eights n).Idx → EReal) (y : (Eights n).Idx → BitVec 32) (r : Fin n) (k : Fin 8) :
    (Host.sort2 (Eights n) 1 greater x y).1 (ix2 r k) = x (ix2 r (sortedFrom (before fun e => x (ix2 r e)) k)) := by
  unfold Host.sort2
  rw [dif_pos (show 1 < (Eights n).rank from Nat.lt_succ_self 1)]
  exact (congrArg (fun p : Fin 8 => x (Shape.Idx.along (s := Eights n) (ix2 r k) ⟨1, Nat.lt_succ_self 1⟩ p))
    (sort_position x r k)).trans (congrArg x (along_row r k _))

theorem sort_carried (x : (Eights n).Idx → EReal) (y : (Eights n).Idx → BitVec 32) (r : Fin n) (k : Fin 8) :
    (Host.sort2 (Eights n) 1 greater x y).2 (ix2 r k) = y (ix2 r (sortedFrom (before fun e => x (ix2 r e)) k)) := by
  unfold Host.sort2
  rw [dif_pos (show 1 < (Eights n).rank from Nat.lt_succ_self 1)]
  exact (congrArg (fun p : Fin 8 => y (Shape.Idx.along (s := Eights n) (ix2 r k) ⟨1, Nat.lt_succ_self 1⟩ p))
    (sort_position x r k)).trans (congrArg y (along_row r k _))

variable (hf : (Eights n).Slices (fun _ => 0) (Pairs n))

/-- The first two places of a row. -/
theorem slice_apply {α : Type} (z : (Eights n).Idx → α) (r : Fin n) (s : Fin 2) :
    extractStridedSlice (Pairs n) (fun _ => 0) z hf (ix2 r s) = z (ix2 r ⟨s.val, by omega⟩) := by
  unfold extractStridedSlice
  refine congrArg z (funext fun a => ?_)
  match a with
  | 0 => exact Fin.ext (Nat.zero_add _)
  | 1 => exact Fin.ext (Nat.zero_add _)

/-- The eight places of a row, as words. -/
abbrev places (n : ℕ) : (Eights n).Idx → BitVec 32 := fun i => if hd : 1 < (Eights n).rank then iotaInDim (Eights n) 32 ⟨1, hd⟩ i else 0#32

theorem top_value (x : (Eights n).Idx → EReal) (r : Fin n) (s : Fin 2) :
    (Host.topK (Pairs n) 1 (FloatOps.cmpfTotal (F := Ideal) (φ := .f32) .gt) x hf).1 (ix2 r s)
      = x (ix2 r (sortedFrom (before fun e => x (ix2 r e)) ⟨s.val, by omega⟩)) :=
  (slice_apply hf (Host.sort2 (Eights n) 1 greater x (places n)).1 r s).trans (sort_value x (places n) r _)

theorem top_place (x : (Eights n).Idx → EReal) (r : Fin n) (s : Fin 2) :
    (Host.topK (Pairs n) 1 (FloatOps.cmpfTotal (F := Ideal) (φ := .f32) .gt) x hf).2 (ix2 r s)
      = BitVec.ofNat 32 (sortedFrom (before fun e => x (ix2 r e)) ⟨s.val, by omega⟩).val :=
  (slice_apply hf (Host.sort2 (Eights n) 1 greater x (places n)).2 r s).trans (sort_carried x (places n) r _)

/-! ## The softmax over the two -/

/-- The position the sort puts at place `s` of a row with scores `L`. -/
def chosen (L : Fin 8 → EReal) (s : Fin 2) : Fin 8 := sortedFrom (before L) ⟨s.val, by omega⟩

theorem chosen_zero (L : Fin 8 → EReal) : chosen L 0 = best L := rfl
theorem chosen_one (L : Fin 8 → EReal) : chosen L 1 = second L := rfl

/-- The greater of a row's two best, as a maximum over the array's entries in that row. -/
theorem row_max (y : (Pairs n).Idx → EReal) {s : Shape} (hs : (Pairs n).ReducesTo [1] s) (i0 : s.Idx) (r : Fin n) (L : Fin 8 → EReal)
    (hy : ∀ s, y (ix2 r s) = L (chosen L s)) (hd : ∀ i, hs.drop i = i0 ↔ (i 0 : Fin n) = r) :
    Finset.fold (max : EReal → EReal → EReal) ⊥ y {i | hs.drop i = i0} = L (best L) := by
  refine le_antisymm (Finset.fold_max_le _ |>.mpr ⟨bot_le, fun i h => ?_⟩) (Finset.le_fold_max _ |>.mpr (Or.inr ⟨ix2 r 0, ?_, ?_⟩))
  · have h0 : (i 0 : Fin n) = r := (hd i).mp (Finset.mem_filter.mp h).2
    rw [show i = ix2 r (i 1) from (eq_ix2 i).trans (congrArg (fun z => ix2 z (i 1)) h0)]
    exact le_of_eq_of_le (hy (i 1)) ((topTwo L).le_best _)
  · exact Finset.mem_filter.mpr ⟨Finset.mem_univ _, (hd _).mpr rfl⟩
  · exact le_of_eq (hy 0).symm

/-- The best score's exponential, once the best score is taken off. -/
theorem exp_best (L : Fin 8 → EReal) (hL : ∀ e, Finite (L e)) : Ideal.exp (L (best L) - L (best L)) = (1 : EReal) := by
  obtain ⟨y, hy⟩ := hL (best L)
  rw [hy, ← EReal.coe_sub, sub_self, Ideal.exp_coe, Real.exp_zero, EReal.coe_one]

theorem bit_eq : ∀ p e : Fin 8, IntOp.cmpi .eq (BitVec.ofNat 32 p.val) (BitVec.ofNat 32 e.val) = BitVec.ofBool (decide (e = p)) := by
  decide

/-- A comparison's bit as a number, times anything: a choice. -/
theorem bit_mul (p e : Fin 8) (x : EReal) :
    @HMul.hMul EReal EReal EReal _ (FloatOps.uitofp (F := Ideal) .f32 (IntOp.cmpi .eq (BitVec.ofNat 32 p.val) (BitVec.ofNat 32 e.val))) x
      = if e = p then x else 0 := by
  rw [show IntOp.cmpi .eq (BitVec.ofNat 32 p.val) (BitVec.ofNat 32 e.val) = BitVec.ofBool (decide (e = p)) from
    bit_eq p e]
  by_cases h : e = p
  · rw [if_pos h, decide_eq_true h]
    refine (congrArg (· * x) ?_).trans (one_mul x)
    show (((1 : ℕ) : ℝ) : EReal) = 1
    norm_num
  · rw [if_neg h, decide_eq_false h]
    refine (congrArg (· * x) ?_).trans (zero_mul x)
    show (((0 : ℕ) : ℝ) : EReal) = 0
    norm_num

end Cert.Layer

end
-- ==== Proof.RefWeights.lean ====
/-
  The routed layer's reference, up to its expert weights: normalised rows, scores, the two best by a stable sort, the
  softmax over them, spread back over the eight experts.
-/
module

public import proofs.«01_k».proof.Proof.Gen.ReferenceIdeal.Run
public import Idealize.ShloMosaic.Lib.Pipeline.ValueKit
public import Idealize.ShloMosaic.Lib.Pointwise
public import proofs.«01_k».proof.Proof.Experts
public import proofs.«01_k».proof.Proof.SortRows

@[expose] public section

set_option maxRecDepth 16384

noncomputable section

namespace Cert.RoutedRef

open Cert.ReferenceIdeal Cert.ReferenceIdeal.Gen Cert.ReferenceIdeal.Value Cert.Layer Idealize.ShloMosaic Idealize.ShloMosaic.TcCoe Idealize.SL.Sem

/-! ## The arguments, entry by entry -/

variable (V0 : Valuation τ sig (Elt Ideal))

def args : Layer.Args 32768 where
  input r k := V0 (Proc.devRef .tc main_arg0) (ix2 r k)
  gain k := V0 (Proc.devRef .tc main_arg1) (ix1 k)
  router k e := V0 (Proc.devRef .tc main_arg2) (ix2 k e)
  gate e k f := V0 (Proc.devRef .tc main_arg3) (ix3 e k f)
  up e k f := V0 (Proc.devRef .tc main_arg4) (ix3 e k f)
  down e f d := V0 (Proc.devRef .tc main_arg5) (ix3 e f d)
  lastGain k := V0 (Proc.devRef .tc main_arg6) (ix1 k)

theorem norm_apply (r : Fin 32768) (k : Fin 1024) : res_main_v12 V0 (ix2 r k) = (args V0).normed r k := by
  unfold res_main_v12
  pointwise []
  rfl

theorem score_apply (r : Fin 32768) (e : Fin 8) : res_main_v13 V0 (ix2 r e) = (args V0).scored r e := by
  unfold res_main_v13
  pointwise []
  simp only [norm_apply]
  rfl

/-! ## The two best and their weights -/

theorem value_apply (r : Fin 32768) (s : Fin 2) : res_main_values V0 (ix2 r s) = (args V0).scored r (chosen ((args V0).scored r) s) := by
  unfold res_main_values
  rw [top_value, show (fun e => res_main_v13 V0 (ix2 r e)) = (args V0).scored r from funext (score_apply V0 r), score_apply]
  rfl

theorem place_apply (r : Fin 32768) (s : Fin 2) :
    (Host.topK S32768x2 1 (FloatOps.cmpfTotal (F := Ideal) (φ := .f32) .gt) (res_main_v13 V0) sliceFits_S32768x8_S32768x2).2 (ix2 r s)
      = BitVec.ofNat 32 (chosen ((args V0).scored r) s).val := by
  rw [top_place, show (fun e => res_main_v13 V0 (ix2 r e)) = (args V0).scored r from funext (score_apply V0 r)]
  rfl

theorem row_max (r : Fin 32768) : Finset.fold (max : EReal → EReal → EReal) ⊥ (fun i : S32768x2.Idx => (res_main_values V0 i : EReal))
    {i | reducesTo_S32768x2_S32768_d1.drop i = ix1 r} = (args V0).scored r (best ((args V0).scored r)) :=
  Layer.row_max (res_main_values V0) reducesTo_S32768x2_S32768_d1 (ix1 r) r ((args V0).scored r) (value_apply V0 r) fun _ =>
    ⟨fun h => congrFun h 0, fun h => funext fun a => match a with | 0 => h⟩

theorem exp_apply (r : Fin 32768) (s : Fin 2) :
    res_main_v20 V0 (ix2 r s) = Ideal.exp ((args V0).scored r (chosen ((args V0).scored r) s) - (args V0).scored r (best ((args V0).scored r))) := by
  unfold res_main_v20
  pointwise []
  rw [neg_infinity_literal, value_apply]
  exact congrArg (fun z => Ideal.exp ((args V0).scored r (chosen ((args V0).scored r) s) - z)) ((max_eq_right bot_le).trans (row_max V0 r))

theorem weight_apply (r : Fin 32768) (hL : ∀ e, Finite ((args V0).scored r e)) (e : Fin 8) : res_main_v29 V0 (ix2 r e) = weight ((args V0).scored r) e := by
  unfold res_main_v29
  pointwise []
  simp only [place_apply]
  rw [Fin.sum_univ_two, Fin.sum_univ_two, exp_apply, exp_apply, chosen_zero, chosen_one, exp_best _ hL]
  exact congrArg₂ (· + ·) (bit_mul _ _ _) (bit_mul _ _ _)

end Cert.RoutedRef

end
-- ==== Proof.RefLayer.lean ====
/-
  The routed layer's reference, entry by entry: eight weighted experts added to the row, and the closing normalisation.
-/
module

public import proofs.«01_k».proof.Proof.Gen.ReferenceIdeal.Run
public import Idealize.ShloMosaic.Lib.Pipeline.ValueKit
public import Idealize.ShloMosaic.Lib.Pointwise
public import proofs.«01_k».proof.Proof.RefWeights

@[expose] public section

set_option maxRecDepth 16384

noncomputable section

namespace Cert.RoutedRef

open Cert.ReferenceIdeal Cert.ReferenceIdeal.Gen Cert.ReferenceIdeal.Value Cert.Layer Idealize.ShloMosaic Idealize.ShloMosaic.TcCoe Idealize.SL.Sem

variable (V0 : Valuation τ sig (Elt Ideal))

theorem gate_apply_0 (r : Fin 32768) (f : Fin 1408) : res_main_v38 V0 (ix2 r f) = ∑ k, (args V0).normed r k * (args V0).gate 0 k f := by
  unfold res_main_v38
  pointwise []
  simp only [norm_apply]
  rfl

theorem gate_apply_1 (r : Fin 32768) (f : Fin 1408) : res_main_v53 V0 (ix2 r f) = ∑ k, (args V0).normed r k * (args V0).gate 1 k f := by
  unfold res_main_v53
  pointwise []
  simp only [norm_apply]
  rfl

theorem gate_apply_2 (r : Fin 32768) (f : Fin 1408) : res_main_v68 V0 (ix2 r f) = ∑ k, (args V0).normed r k * (args V0).gate 2 k f := by
  unfold res_main_v68
  pointwise []
  simp only [norm_apply]
  rfl

theorem gate_apply_3 (r : Fin 32768) (f : Fin 1408) : res_main_v83 V0 (ix2 r f) = ∑ k, (args V0).normed r k * (args V0).gate 3 k f := by
  unfold res_main_v83
  pointwise []
  simp only [norm_apply]
  rfl

theorem gate_apply_4 (r : Fin 32768) (f : Fin 1408) : res_main_v98 V0 (ix2 r f) = ∑ k, (args V0).normed r k * (args V0).gate 4 k f := by
  unfold res_main_v98
  pointwise []
  simp only [norm_apply]
  rfl

theorem gate_apply_5 (r : Fin 32768) (f : Fin 1408) : res_main_v113 V0 (ix2 r f) = ∑ k, (args V0).normed r k * (args V0).gate 5 k f := by
  unfold res_main_v113
  pointwise []
  simp only [norm_apply]
  rfl

theorem gate_apply_6 (r : Fin 32768) (f : Fin 1408) : res_main_v128 V0 (ix2 r f) = ∑ k, (args V0).normed r k * (args V0).gate 6 k f := by
  unfold res_main_v128
  pointwise []
  simp only [norm_apply]
  rfl

theorem gate_apply_7 (r : Fin 32768) (f : Fin 1408) : res_main_v143 V0 (ix2 r f) = ∑ k, (args V0).normed r k * (args V0).gate 7 k f := by
  unfold res_main_v143
  pointwise []
  simp only [norm_apply]
  rfl

theorem first_five (r : Fin 32768) (hL : ∀ e, Finite ((args V0).scored r e)) (d : Fin 1024) : res_main_v105 V0 (ix2 r d)
    = ((args V0).share r 0 d + (args V0).share r 1 d + (args V0).share r 2 d + (args V0).share r 3 d + (args V0).share r 4 d : EReal) := by
  unfold res_main_v105
  pointwise []
  simp only [weight_apply V0 r hL, norm_apply, gate_apply_0, gate_apply_1, gate_apply_2, gate_apply_3, gate_apply_4, gate_apply_5, gate_apply_6, gate_apply_7]
  rfl

theorem sum_apply (r : Fin 32768) (hL : ∀ e, Finite ((args V0).scored r e)) (d : Fin 1024) : res_main_v151 V0 (ix2 r d)
    = ((args V0).input r d + ∑ e, (args V0).share r e d : EReal) := by
  rw [Fin.sum_univ_eight]
  unfold res_main_v151
  pointwise []
  simp only [weight_apply V0 r hL, norm_apply, gate_apply_0, gate_apply_1, gate_apply_2, gate_apply_3, gate_apply_4, gate_apply_5, gate_apply_6, gate_apply_7]
  rw [first_five V0 r hL]
  rfl

end Cert.RoutedRef

end
-- ==== Proof.RoutedClaim.lean ====
/-
  The routed layer's value claim: on finite inputs the call leaves what the reference computes.
-/
module

public import proofs.«01_k».proof.Defs
public import proofs.«01_k».proof.Proof.Gen.Pre_finite_routing
public import proofs.«01_k».proof.Proof.Pre
public import proofs.«01_k».proof.Proof.Array
public import proofs.«01_k».proof.Proof.RefLayer

@[expose] public section

set_option maxRecDepth 16384

noncomputable section

namespace Cert.Routed

open Idealize.ShloMosaic Idealize.ShloMosaic.StableHlo Idealize.SL.Sem

/-- Finite inputs make finite scores. -/
theorem scored_finite (m : (ℓ : Loc Cert.KernelIdeal.nD Cert.KernelIdeal.τ Cert.KernelIdeal.sig) → Buf (Elt Ideal) ℓ)
    (hPre : Cert.Pre_KernelIdeal_finite_routing m) (c : Dev Cert.KernelIdeal.nD) (r : Fin 32768) (e : Fin 8) :
    Layer.Finite ((args m c).scored r e) := by
  obtain ⟨hx, hg, hr⟩ := Cert.Pre.finite_inputs _ _ _ _ _ _ _ (hPre c)
  exact Layer.Args.scored_finite _ r (fun k => hx _) (fun k => hg _) (fun k e => hr _) e

theorem algebraic : Cert.algebraic_KernelIdeal_ReferenceIdeal_pre_finite_routing := by
  intro m ρ m' ρ' hPre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  obtain ⟨h0, h1, h2, h3, h4, h5, h6⟩ := hagree c
  have ha : RoutedRef.args (launchContents m' c) = args m c := by
    unfold RoutedRef.args args
    congr 1
    exacts [funext fun r => funext fun k => congrFun h0 (ix2 r k), funext fun k => congrFun h1 (ix1 k),
      funext fun k => funext fun e => congrFun h2 (ix2 k e), funext fun e => funext fun k => funext fun f => congrFun h3 (ix3 e k f),
      funext fun e => funext fun k => funext fun f => congrFun h4 (ix3 e k f),
      funext fun e => funext fun f => funext fun d => congrFun h5 (ix3 e f d), funext fun k => congrFun h6 (ix1 k)]
  have hs : ∀ r e, Layer.Finite ((RoutedRef.args (launchContents m' c)).scored r e) := ha ▸ scored_finite m hPre c
  rw [array_eq m c (scored_finite m hPre c)]
  refine Eq.trans (funext fun i => ?_) (funext fun i => congrFun (congrFun (congrArg Layer.Args.outRow ha) (i 0)) (i 1))
  rw [eq_ix2 i]
  pointwise []
  simp only [RoutedRef.sum_apply _ _ (hs (i 0))]
  rw [show Cert.ReferenceIdeal.Value.res_main_v151 (launchContents m' c) i = _ from
    (congrArg (Cert.ReferenceIdeal.Value.res_main_v151 (launchContents m' c)) (eq_ix2 i)).trans (RoutedRef.sum_apply _ _ (hs (i 0)) (i 1))]
  rfl

end Cert.Routed

end
-- ==== Proof.Halves.lean ====
/-
  The dense layer's row, and its hidden width of 2816 taken in two halves.
-/
module

public import proofs.«01_k».proof.Proof.Rows

@[expose] public section

noncomputable section

namespace Cert.Layer

open Idealize.ShloMosaic

/-- The dense layer's output row for the input row `x`. -/
def denseRow (x g : Fin 1024 → EReal) (wg wu : Fin 1024 → Fin 2816 → EReal) (wd : Fin 2816 → Fin 1024 → EReal) (d : Fin 1024) : EReal :=
  x d + swiglu (rms x g) wg wu wd d

/-- What the hidden places `hidden f` add to the gated feed-forward output of a normalised row. -/
def halfOf (n : Fin 1024 → EReal) (wg wu : Fin 1024 → Fin 2816 → EReal) (wd : Fin 2816 → Fin 1024 → EReal) (hidden : Fin 1408 → Fin 2816)
    (d : Fin 1024) : EReal :=
  swiglu n (fun k f => wg k (hidden f)) (fun k f => wu k (hidden f)) (fun f d => wd (hidden f) d) d

/-- The two halves are the whole width. -/
theorem halves (n : Fin 1024 → EReal) (wg wu : Fin 1024 → Fin 2816 → EReal) (wd : Fin 2816 → Fin 1024 → EReal) (h0 h1 : Fin 1408 → Fin 2816)
    (e0 : ∀ f, (h0 f).val = f.val) (e1 : ∀ f, (h1 f).val = 1408 + f.val) (d : Fin 1024) :
    halfOf n wg wu wd h0 d + halfOf n wg wu wd h1 d = swiglu n wg wu wd d := by
  have e0 : ∀ f, h0 f = Fin.castAdd 1408 f := fun f => Fin.ext (e0 f)
  have e1 : ∀ f, h1 f = Fin.natAdd 1408 f := fun f => Fin.ext (e1 f)
  unfold halfOf swiglu
  simp only [e0, e1]
  exact (Fin.sum_univ_add (M := EReal) (a := 1408) (b := 1408) fun f : Fin (1408 + 1408) =>
    ((∑ k, n k * wg k f) * Ideal.div 1 (1 + Ideal.exp (-∑ k, n k * wg k f)) * ∑ k, n k * wu k f) * wd f d).symm

end Cert.Layer

end
-- ==== Proof.DenseBlock.lean ====
/-
  The dense feed-forward call at one grid point: what its blocks hold of the arguments (point `t` works on the 512 rows
  from `512 · (t / 2)` and on the hidden half `t % 2`), and what the body computes from blocks, row by row.
-/
module

public import proofs.«01_k».proof.Proof.Gen.Kernel2Ideal.Value
public import Idealize.ShloMosaic.Lib.Pipeline.ValueKit
public import Idealize.ShloMosaic.Lib.Pointwise
public import proofs.«01_k».proof.Proof.Halves

@[expose] public section

set_option maxRecDepth 16384

noncomputable section

namespace Cert.Dense

open Cert.Kernel2Ideal Cert.Kernel2Ideal.Gen Idealize.ShloMosaic Idealize.ShloMosaic.TcCoe Idealize.SL.Sem

open Cert.Layer

variable (m : (ℓ : Loc nD τ sig) → Buf (Elt Ideal) ℓ) (c : Dev nD)

/-! ## The arguments, entry by entry -/

def input (r : Fin 32768) (k : Fin 1024) : EReal := m ((c : Thread nD τ).loc main_arg0) (ix2 r k)
def gain (k : Fin 1024) : EReal := m ((c : Thread nD τ).loc main_arg1) (ix1 k)
def gate (k : Fin 1024) (f : Fin 2816) : EReal := m ((c : Thread nD τ).loc main_arg2) (ix2 k f)
def up (k : Fin 1024) (f : Fin 2816) : EReal := m ((c : Thread nD τ).loc main_arg3) (ix2 k f)
def down (f : Fin 2816) (d : Fin 1024) : EReal := m ((c : Thread nD τ).loc main_arg4) (ix2 f d)

/-- The array's row at place `a` of point `t`'s block, and hidden place `f` of the point's half. -/
def rowOf (t : Fin cfg0.N) (a : Fin 512) : Fin 32768 := ⟨512 * (t.val / 2) + a.val, by have := t.isLt.trans_eq N_0; omega⟩
def hidden (t : Fin cfg0.N) (f : Fin 1408) : Fin 2816 := ⟨1408 * (t.val % 2) + f.val, by omega⟩

/-! ## The blocks -/

theorem idx : ∀ t : Fin cfg0.N, win0_0.index t = ![t.val / 2, 0] ∧ win0_1.index t = ![0, 0] ∧ win0_2.index t = ![0, t.val % 2]
    ∧ win0_3.index t = ![0, t.val % 2] ∧ win0_4.index t = ![t.val % 2, 0] ∧ win0_5.index t = ![t.val / 2, 0] :=
  (by decide +kernel : ∀ t : Fin grid0.N, _)

theorem V_gain : V m c main_v0 = shapeCast S1x1024 (m ((c : Thread nD τ).loc main_arg1)) shapeCasts_S1024_S1x1024 := rfl

theorem block_input (t : Fin cfg0.N) (a : Fin 512) (k : Fin 1024) : iblk m c 0 t (ix2 a k) = input m c (rowOf t a) k := by
  unfold input rowOf
  blk_ext [iblk, V, idx t]

theorem block_gain (t : Fin cfg0.N) (k : Fin 1024) : iblk m c 1 t (ix2 0 k) = gain m c k := by
  show V m c main_v0 (((cfg0.win 1).blk t).view.emb (ix2 0 k)) = _
  rw [show ((cfg0.win 1).blk t).view.emb (ix2 0 k) = ix2 0 k by blk_ext [idx t], V_gain m c]
  unfold gain
  pointwise []

theorem block_gate (t : Fin cfg0.N) (k : Fin 1024) (f : Fin 1408) : iblk m c 2 t (ix2 k f) = gate m c k (hidden t f) := by
  show m ((c : Thread nD τ).loc main_arg2) (((cfg0.win 2).blk t).view.emb (ix2 k f)) = _
  rw [show ((cfg0.win 2).blk t).view.emb (ix2 k f) = ix2 k (hidden t f) by unfold hidden; blk_ext [idx t]]
  rfl

theorem block_up (t : Fin cfg0.N) (k : Fin 1024) (f : Fin 1408) : iblk m c 3 t (ix2 k f) = up m c k (hidden t f) := by
  show m ((c : Thread nD τ).loc main_arg3) (((cfg0.win 3).blk t).view.emb (ix2 k f)) = _
  rw [show ((cfg0.win 3).blk t).view.emb (ix2 k f) = ix2 k (hidden t f) by unfold hidden; blk_ext [idx t]]
  rfl

theorem block_down (t : Fin cfg0.N) (f : Fin 1408) (d : Fin 1024) : iblk m c 4 t (ix2 f d) = down m c (hidden t f) d := by
  show m ((c : Thread nD τ).loc main_arg4) (((cfg0.win 4).blk t).view.emb (ix2 f d)) = _
  rw [show ((cfg0.win 4).blk t).view.emb (ix2 f d) = ix2 (hidden t f) d by unfold hidden; blk_ext [idx t]]
  rfl

/-! ## The body -/

theorem norm_apply (x : Vec Ideal S512x1024 .f32) (g : Vec Ideal S1x1024 .f32) (a : Fin 512) (k : Fin 1024) :
    k0_pay1 x g (ix2 a k) = rms (fun k => x (ix2 a k)) (fun k => g (ix2 0 k)) k := by
  pointwise [k0_pay1]
  rfl

section Half
variable (n : Vec Ideal S512x1024 .bf16) (wg wu : Vec Ideal S1024x1408 .bf16) (wd : Vec Ideal S1408x1024 .bf16)

theorem half_apply (a : Fin 512) (d : Fin 1024) : k0_pay2 n wg wu wd (ix2 a d)
    = swiglu (fun k => n (ix2 a k)) (fun k f => wg (ix2 k f)) (fun k f => wu (ix2 k f)) (fun f d => wd (ix2 f d)) d := by
  pointwise [k0_pay2]
  unfold swiglu
  exact Finset.sum_congr rfl fun f _ => by rw [zero_sub]

theorem first_half_eq : k0_pay3 n wg wu wd = k0_pay2 n wg wu wd := by
  funext j
  pointwise [k0_pay3]

theorem second_half_apply (y : Vec Ideal S512x1024 .f32) (a : Fin 512) (d : Fin 1024) :
    k0_pay4 n wg wu wd y (ix2 a d) = y (ix2 a d) + k0_pay2 n wg wu wd (ix2 a d) := by
  unfold k0_pay4
  pointwise []

end Half

theorem last_apply (x y : Vec Ideal S512x1024 .f32) (a : Fin 512) (d : Fin 1024) :
    k0_pay5 x y (ix2 a d) = x (ix2 a d) + y (ix2 a d) := by
  pointwise [k0_pay5]

/-! ## One point's step -/

def before (t : Fin cfg0.N) := outsAt0 m c (t.val - 1) (Nat.lt_of_le_of_lt (Nat.sub_le _ _) t.isLt)

theorem first_norm (t : Fin cfg0.N) (h : t.val % 2 = 0) :
    (outsAt0 m c t.val t.isLt).2.1 = k0_pay1 (iblk m c 0 t) (iblk m c 1 t) := by
  rw [outsAt0_A m c t h h (by omega) (by omega)]
  frame_out

theorem first_sum (t : Fin cfg0.N) (h : t.val % 2 = 0) : (outsAt0 m c t.val t.isLt).2.2
    = k0_pay3 (k0_pay1 (iblk m c 0 t) (iblk m c 1 t)) (iblk m c 2 t) (iblk m c 3 t) (iblk m c 4 t) := by
  rw [outsAt0_A m c t h h (by omega) (by omega)]
  frame_out

theorem step_congr (t : Fin cfg0.N) {n n' : Vec Ideal S512x1024 .bf16} {y y' : Vec Ideal S512x1024 .f32} (hn : n = n') (hy : y = y') :
    k0_pay5 (iblk m c 0 t) (k0_pay4 n (iblk m c 2 t) (iblk m c 3 t) (iblk m c 4 t) y)
      = k0_pay5 (iblk m c 0 t) (k0_pay4 n' (iblk m c 2 t) (iblk m c 3 t) (iblk m c 4 t) y') := by
  rw [hn, hy]

theorem last_output (t : Fin cfg0.N) (h : ¬t.val % 2 = 0) (h' : t.val % 2 = 1) : (outsAt0 m c t.val t.isLt).1
    = k0_pay5 (iblk m c 0 t) (k0_pay4 (before m c t).2.1 (iblk m c 2 t) (iblk m c 3 t) (iblk m c 4 t) (before m c t).2.2) := by
  rw [outsAt0_B m c t h h h' h']
  frame_out
  exact step_congr m c t (Memref.IsWhole.read_unread _ _) (Memref.IsWhole.read_unread _ _)

end Cert.Dense

end
-- ==== Proof.DenseState.lean ====
/-
  The dense feed-forward call over the whole grid: the two hidden halves of a row block add up to the layer's rows.
-/
module

public import proofs.«01_k».proof.Proof.Gen.Kernel2Ideal.Value
public import Idealize.ShloMosaic.Lib.Pipeline.ValueKit
public import Idealize.ShloMosaic.Lib.Pointwise
public import proofs.«01_k».proof.Proof.DenseBlock

@[expose] public section

set_option maxRecDepth 16384

noncomputable section

namespace Cert.Dense

open Cert.Kernel2Ideal Cert.Kernel2Ideal.Gen Idealize.ShloMosaic Idealize.ShloMosaic.TcCoe Idealize.SL.Sem

open Cert.Layer

variable (m : (ℓ : Loc nD τ sig) → Buf (Elt Ideal) ℓ) (c : Dev nD)

/-- Row `r`, normalised. -/
def normed (r : Fin 32768) : Fin 1024 → EReal := rms (input m c r) (gain m c)

/-- Row `r` of the layer's output. -/
def outRow (r : Fin 32768) : Fin 1024 → EReal := denseRow (input m c r) (gain m c) (gate m c) (up m c) (down m c)

/-- The point's half of the hidden width. -/
def half (r : Fin 32768) (t : Fin cfg0.N) : Fin 1024 → EReal := halfOf (normed m c r) (gate m c) (up m c) (down m c) (hidden t)

theorem block_half (t : Fin cfg0.N) (n : Vec Ideal S512x1024 .bf16) (a : Fin 512) (hn : ∀ k, n (ix2 a k) = normed m c (rowOf t a) k)
    (d : Fin 1024) : k0_pay2 n (iblk m c 2 t) (iblk m c 3 t) (iblk m c 4 t) (ix2 a d) = half m c (rowOf t a) t d := by
  rw [half_apply]
  unfold half halfOf
  rw [show (fun k => n (ix2 a k)) = normed m c (rowOf t a) from funext hn,
    show (fun k f => iblk m c 2 t (ix2 k f)) = _ from funext fun k => funext fun f => block_gate m c t k f,
    show (fun k f => iblk m c 3 t (ix2 k f)) = _ from funext fun k => funext fun f => block_up m c t k f,
    show (fun f d => iblk m c 4 t (ix2 f d)) = _ from funext fun f => funext fun d => block_down m c t f d]

theorem block_norm (t : Fin cfg0.N) (a : Fin 512) (k : Fin 1024) :
    k0_pay1 (iblk m c 0 t) (iblk m c 1 t) (ix2 a k) = normed m c (rowOf t a) k := by
  rw [norm_apply]
  unfold normed
  rw [show (fun k => iblk m c 0 t (ix2 a k)) = input m c (rowOf t a) from funext fun k => block_input m c t a k,
    show (fun k => iblk m c 1 t (ix2 0 k)) = gain m c from funext fun k => block_gain m c t k]

/-- The point before `t`. -/
def prev (t : Fin cfg0.N) : Fin cfg0.N := ⟨t.val - 1, Nat.lt_of_le_of_lt (Nat.sub_le _ _) t.isLt⟩

theorem block_output (t : Fin cfg0.N) (h : t.val % 2 = 1) (a : Fin 512) (d : Fin 1024) :
    (outsAt0 m c t.val t.isLt).1 (ix2 a d) = outRow m c (rowOf t a) d := by
  have h0 : ¬t.val % 2 = 0 := by omega
  have hp : (prev t).val % 2 = 0 := by show (t.val - 1) % 2 = 0; omega
  have hr : rowOf (prev t) a = rowOf t a := Fin.ext (by show 512 * ((t.val - 1) / 2) + a.val = 512 * (t.val / 2) + a.val; omega)
  have hn : ∀ k, (before m c t).2.1 (ix2 a k) = normed m c (rowOf t a) k := fun k => by
    rw [← hr, ← block_norm m c (prev t) a k, ← first_norm m c (prev t) hp]
    rfl
  have hy : (before m c t).2.2 (ix2 a d) = half m c (rowOf t a) (prev t) d := by
    rw [← hr, ← block_half m c (prev t) _ a (block_norm m c (prev t) a) d, ← first_half_eq, ← first_sum m c (prev t) hp]
    rfl
  rw [last_output m c t h0 h, last_apply, second_half_apply, block_half m c t _ a hn, hy, block_input, half, half,
    halves _ _ _ _ (hidden (prev t)) (hidden t) (fun f => by show 1408 * ((t.val - 1) % 2) + f.val = f.val; omega)
      (fun f => by show 1408 * (t.val % 2) + f.val = 1408 + f.val; omega)]
  rfl

theorem array_eq : Cert.Kernel2Ideal.Value.G5 m c = fun i : S32768x1024.Idx => outRow m c (i 0) (i 1) := by
  rw [← Cert.Kernel2Ideal.Value.final5]
  refine (dats m 0 c).arrAt_eq_of_covers 5 _ (by decide +kernel) fun t hf y => ?_
  blk_simp
  rw [after0_5]
  have h := (flush0_5 t).mp hf
  refine (congrArg (outsAt0 m c t.val t.isLt).1 (eq_ix2 _)).trans ((block_output m c t h _ _).trans ?_)
  have e0 : rowOf t (y 0) = (win0_5.blk t).view.emb y 0 := Fin.ext (by
    blk_simp [idx t]
    show 512 * (t.val / 2) + _ = _
    omega)
  have e1 : (show Fin 1024 from y 1) = (win0_5.blk t).view.emb y 1 := Fin.ext (by
    blk_simp [idx t])
  rw [e0]
  exact congrArg (outRow m c _) e1

end Cert.Dense

end
-- ==== Proof.DenseClaim.lean ====
/-
  The dense feed-forward layer's value claim: the call leaves what the reference computes.
-/
module

public import proofs.«01_k».proof.Defs
public import proofs.«01_k».proof.Proof.DenseState
public import proofs.«01_k».proof.Proof.Gen.Reference2Ideal.Run

@[expose] public section

set_option maxRecDepth 16384

noncomputable section

namespace Cert.Dense

open Idealize.ShloMosaic Idealize.ShloMosaic.StableHlo Idealize.SL.Sem

theorem algebraic : Cert.algebraic_Kernel2Ideal_Reference2Ideal := by
  intro m ρ m' ρ' _ hagree
  refine ⟨_, Cert.Kernel2Ideal.Value.run (F := Ideal) m ρ, ?_⟩
  refine (θ_run Cert.Reference2Ideal.defs _ _).mono (fun _ h c => ⟨?_, (h c).2⟩) (Cert.Reference2Ideal.Value.run (F := Ideal) m' ρ')
  rw [(h c).1]
  simp only [hagree c]
  rw [array_eq m c]
  funext i
  pointwise []
  unfold outRow Layer.denseRow
  exact congrArg₂ (fun a b : EReal => a + b) (congrArg (m ((c.tc : Thread _ _).loc Cert.Kernel2Ideal.main_arg0)) (eq_ix2 i)) rfl

end Cert.Dense

end
-- ==== Proof.OddSpec.lean ====
/-
  The mathematics of the odd layers' mixer over the extended reals, row by row: the input projection of a normalised row, the
  error-function unit, the layer normalisation of the gating half, the causal mixing of 128 positions, and the attention of
  one query row over 144 key rows with a sink.
-/
module

public import proofs.«01_k».proof.Proof.Rows

@[expose] public section

noncomputable section

namespace Cert.Odd

open Idealize.ShloMosaic Cert.Layer

/-- The projection of a row `x` normalised with gain `g`, at column `j`. -/
def project (x g : Fin 1024 → EReal) (w : Fin 1024 → Fin 1792 → EReal) (j : Fin 1792) : EReal := ∑ k, rms x g k * w k j

/-- The error-function unit `(z / 2) · (1 + erf (z · c))`, with `c` the single-precision word nearest `1 / √2`. -/
def gelu (z : EReal) : EReal :=
  Ideal.ofBits .f32 0x3F000000#32 * z * (1 + Ideal.erf (z * Ideal.ofBits .f32 0x3F3504F3#32))

/-- The mean of 512 entries. -/
def mean (v : Fin 512 → EReal) : EReal := Ideal.div (∑ i, v i) (Ideal.ofBits .f32 0x44000000#32)

/-- The layer normalisation of a row of 512 entries. -/
def lnorm (v g b : Fin 512 → EReal) (j : Fin 512) : EReal :=
  (v j - mean v) * Ideal.rsqrt (mean (fun i => (v i - mean v) * (v i - mean v)) + Ideal.ofBits .f32 0x358637BD#32) * g j + b j

/-- Sixteen rows' entries followed by zeros, at position `s` of 128. -/
def late (v : Fin 16 → EReal) (s : Fin 128) : EReal := if h : s.val < 16 then v ⟨s.val, h⟩ else 0

/-- The causal mixing at position `p` of 128. -/
def mix (w : Fin 128 → EReal) (v : Fin 16 → EReal) (p : Fin 128) : EReal :=
  ∑ s : Fin 128, if s.val ≤ p.val then w s * late v s else 0

/-- The scaled products of a query row with the key rows. -/
def scores (q : Fin 64 → EReal) (k : Fin 144 → Fin 64 → EReal) (j : Fin 144) : EReal :=
  (∑ d, q d * k j d) * Ideal.ofBits .f32 0x3E000000#32

/-- The softmax weights of the scores `s` with the sink in the denominator. -/
def weights (s : Fin 144 → EReal) (sink : EReal) (j : Fin 144) : EReal :=
  Ideal.div (Ideal.exp (s j - max (Finset.univ.fold max (Ideal.ofBits .f32 0xFF800000#32) s) sink))
    ((∑ i, Ideal.exp (s i - max (Finset.univ.fold max (Ideal.ofBits .f32 0xFF800000#32) s) sink)) + Ideal.exp (sink - max (Finset.univ.fold max (Ideal.ofBits .f32 0xFF800000#32) s) sink))

/-- The attention of one query row, at entry `d`. -/
def attend (q : Fin 64 → EReal) (k v : Fin 144 → Fin 64 → EReal) (sink : EReal) (d : Fin 64) : EReal :=
  ∑ j, weights (scores q k) sink j * v j d

/-! ## The layer on one batch row of sixteen positions -/

/-- What the layer reads for one batch entry. -/
structure Inputs where
  x : Fin 16 → Fin 1024 → EReal
  gain : Fin 1024 → EReal
  w : Fin 1024 → Fin 1792 → EReal
  lg : Fin 512 → EReal
  lb : Fin 512 → EReal
  mixW : Fin 4 → Fin 128 → Fin 128 → EReal
  mixB : Fin 4 → Fin 128 → EReal
  sink : Fin 8 → EReal
  oldK : Fin 128 → Fin 2 → Fin 64 → EReal
  oldV : Fin 128 → Fin 2 → Fin 64 → EReal
  wo : Fin 1024 → Fin 1024 → EReal

namespace Inputs
variable (I : Inputs)

/-- The projection: gate units, queries, keys and values side by side. -/
def proj (r : Fin 16) (j : Fin 1792) : EReal := project (I.x r) I.gain I.w j

/-- The first 1024 projected columns through the error-function unit. -/
def unit (r : Fin 16) (j : Fin 1024) : EReal := gelu (I.proj r ⟨j.val, by omega⟩)

/-- The second half of the units, normalised. -/
def normed (r : Fin 16) (j : Fin 512) : EReal := lnorm (fun i => I.unit r ⟨512 + i.val, by omega⟩) I.lg I.lb j

/-- The gated head `h` at row `r`. -/
def gated (r : Fin 16) (h : Fin 4) (j : Fin 128) : EReal := I.unit r ⟨128 * h.val + j.val, by omega⟩
  * (mix (I.mixW h ⟨r.val, by omega⟩) (fun s => I.normed s ⟨128 * h.val + j.val, by omega⟩) ⟨r.val, by omega⟩ + I.mixB h ⟨r.val, by omega⟩)

/-- The key rows of group `g`: the cached ones, then the new ones. -/
def key (g : Fin 2) (j : Fin 144) (d : Fin 64) : EReal :=
  if h : j.val < 128 then I.oldK ⟨j.val, h⟩ g d else I.proj ⟨j.val - 128, by omega⟩ ⟨1536 + (64 * g.val + d.val), by omega⟩

/-- The value rows of group `g`. -/
def val (g : Fin 2) (j : Fin 144) (d : Fin 64) : EReal :=
  if h : j.val < 128 then I.oldV ⟨j.val, h⟩ g d else I.proj ⟨j.val - 128, by omega⟩ ⟨1664 + (64 * g.val + d.val), by omega⟩

/-- Attention head `h` at row `r`. -/
def head (r : Fin 16) (h : Fin 8) (d : Fin 64) : EReal :=
  attend (fun d => I.proj r ⟨1024 + (64 * h.val + d.val), by omega⟩) (I.key ⟨h.val / 4, by omega⟩) (I.val ⟨h.val / 4, by omega⟩) (I.sink h) d

/-- Gated heads and attention heads side by side. -/
def cat (r : Fin 16) (j : Fin 1024) : EReal :=
  if h : j.val < 512 then I.gated r ⟨j.val / 128, by omega⟩ ⟨j.val % 128, by omega⟩
  else I.head r ⟨(j.val - 512) / 64, by omega⟩ ⟨(j.val - 512) % 64, by omega⟩

/-- The layer's output row. -/
def out (r : Fin 16) (j : Fin 1024) : EReal := I.x r j + ∑ k, I.cat r k * I.wo k j

end Inputs

end Cert.Odd

end
-- ==== Proof.OddSteps.lean ====
/-
  The odd layers' mixer: what its body's vector operations compute, entry by entry.
-/
module

public import proofs.«01_k».proof.Proof.Gen.Kernel3Ideal.Value
public import Idealize.ShloMosaic.Lib.Pipeline.ValueKit
public import Idealize.ShloMosaic.Lib.Pointwise
public import proofs.«01_k».proof.Proof.OddSpec

@[expose] public section

set_option maxRecDepth 16384

noncomputable section

namespace Cert.Odd

open Cert.Kernel3Ideal Cert.Kernel3Ideal.Gen Idealize.ShloMosaic Idealize.ShloMosaic.TcCoe Idealize.SL.Sem

open Cert.Layer

theorem project_apply (x : Vec Ideal S16x1024 .f32) (g : Vec Ideal S1x1024 .f32) (w : Vec Ideal S1024x1792 .bf16) (r : Fin 16) (j : Fin 1792) :
    k0_pay9 x g w (ix2 r j) = project (fun k => x (ix2 r k)) (fun k => g (ix2 0 k)) (fun k j => w (ix2 k j)) j := by
  pointwise [k0_pay9]
  rfl

theorem gelu_apply (x : Vec Ideal S16x1024 .f32) (g : Vec Ideal S1x1024 .f32) (w : Vec Ideal S1024x1792 .bf16) (r : Fin 16) (j : Fin 1024) :
    k0_pay10 x g w (ix2 r j) = gelu (k0_pay9 x g w (ix2 r (Fin.castLE (by decide) j))) := by
  unfold k0_pay10
  pointwise []
  rfl

theorem lnorm_apply (v : Vec Ideal S16x512 .f32) (g b : Vec Ideal S1x512 .f32) (r : Fin 16) (j : Fin 512) :
    k0_pay15 v (k0_pay13 g) (k0_pay14 b) (ix2 r j) = lnorm (fun j => v (ix2 r j)) (fun j => g (ix2 0 j)) (fun j => b (ix2 0 j)) j := by
  pointwise [k0_pay15, k0_pay13, k0_pay14]
  rfl

theorem mix_apply (w : Vec Ideal S1x128x128 .f32) (v : Vec Ideal S128x128 .bf16) (p : Fin 128) (j : Fin 128) :
    k0_pay18 w v (ix2 p j) = ∑ s : Fin 128, if s.val ≤ p.val then w (ix3 0 p s) * v (ix2 s j) else 0 := by
  pointwise [k0_pay18]
  refine Finset.sum_congr rfl fun s _ => ?_
  have := p.isLt
  have := s.isLt
  word_cmp

theorem mix_eq (w : Vec Ideal S1x128x128 .f32) (v : Vec Ideal S128x128 .bf16) :
    k0_pay21 (iota Kind.tc S128x128 32 [0] iota_S128x128_d0_w32) (iota Kind.tc S128x128 32 [1] iota_S128x128_d1_w32) w v = k0_pay18 w v := rfl

/-- The query row at place `a` of the four stacked heads. -/
def stacked (q : FVec Ideal S16x512 .bf16) (a : Fin 64) (d : Fin 64) : EReal :=
  if h : a.val < 16 then q (ix2 ⟨a.val, h⟩ ⟨d.val, by omega⟩) else
    if h : a.val - 16 < 16 then q (ix2 ⟨a.val - 16, h⟩ ⟨64 + d.val, by omega⟩) else
      if h : a.val - 16 - 16 < 16 then q (ix2 ⟨a.val - 16 - 16, h⟩ ⟨128 + d.val, by omega⟩) else
        q (ix2 ⟨a.val - 16 - 16 - 16, by omega⟩ ⟨192 + d.val, by omega⟩)

/-- The sink at place `a` of the four stacked heads. -/
def sinkAt (s0 s1 s2 s3 : EReal) (a : Fin 64) : EReal :=
  if a.val < 16 then s0 else if a.val < 32 then s1 else if a.val < 48 then s2 else s3

/-- The sinks of the four stacked heads, chosen by comparing places. -/
theorem sink_select (s0 s1 s2 s3 : EReal) (a : Fin 64) : Scalar.select
    (IntOp.andi (IntOp.cmpi CmpIPredicate.sge (BitVec.ofNat 32 a.val) 48#32) (IntOp.cmpi CmpIPredicate.slt (BitVec.ofNat 32 a.val) 64#32)) s3
    (Scalar.select (IntOp.andi (IntOp.cmpi CmpIPredicate.sge (BitVec.ofNat 32 a.val) 32#32) (IntOp.cmpi CmpIPredicate.slt (BitVec.ofNat 32 a.val) 48#32)) s2
      (Scalar.select (k0_pay34 (ix2 a 0)) s1 (k0_pay33 (F := Ideal) s0 (ix2 a 0)))) = sinkAt s0 s1 s2 s3 a := by
  pointwise [k0_pay33, k0_pay34]
  have := a.isLt
  word_cmp
  unfold sinkAt
  split_ifs <;> first | rfl | omega

theorem w_apply (q : FVec Ideal S16x512 .bf16) (s0 s1 s2 s3 : EReal) (k : Vec Ideal S1x144x64 .bf16) (a : Fin 64) (j : Fin 144) :
    k0_pay35 q (iota Kind.tc S64x1 32 [0] iota_S64x1_d0_w32) (k0_pay33 (F := Ideal) s0) k0_pay34 s1 s2 s3 k (ix2 a j)
      = weights (scores (stacked q a) fun j d => k (ix3 0 j d)) (sinkAt s0 s1 s2 s3 a) j := by
  rw [← sink_select]
  pointwise [k0_pay35]
  rfl

/-- A masked sum: the mask compares two places' words. -/
theorem mask_sum (p : Fin 128) (f : Fin 128 → EReal) :
    ∑ s : Fin 128, Scalar.select (IntOp.cmpi CmpIPredicate.sge (BitVec.ofNat 32 p.val) (BitVec.ofNat 32 s.val)) (f s) 0
      = ∑ s : Fin 128, if s.val ≤ p.val then f s else 0 := by
  refine Finset.sum_congr rfl fun s _ => ?_
  have := p.isLt
  have := s.isLt
  word_cmp

section Gate
variable (u : Vec Ideal S16x512 .f32) (w : Vec Ideal S1x128x128 .f32) (v : Vec Ideal S128x128 .bf16) (b : Vec Ideal S128x128 .f32) (r : Fin 16) (j : Fin 128)

/-- The gate of head `h` at row `r`, column `j` of the head. -/
def gateAt (h : Fin 4) : EReal := u (ix2 r ⟨128 * h.val + j.val, by omega⟩)
  * ((∑ s : Fin 128, if s.val ≤ r.val then w (ix3 0 ⟨r.val, by omega⟩ s) * v (ix2 s j) else 0) + b (ix2 ⟨r.val, by omega⟩ j))

theorem gate0_apply : k0_pay19 u (k0_pay18 w v) b (ix2 r j) = gateAt u w v b r j 0 := by
  pointwise [k0_pay19, k0_pay18]
  rw [mask_sum ⟨r.val, by omega⟩]
  unfold gateAt
  simp
theorem gate1_apply : k0_pay20 u (iota Kind.tc S128x128 32 [0] iota_S128x128_d0_w32) (iota Kind.tc S128x128 32 [1] iota_S128x128_d1_w32) w v b (ix2 r j)
    = gateAt u w v b r j 1 := by
  pointwise [k0_pay20]
  rw [mask_sum ⟨r.val, by omega⟩]
  rfl
theorem gate2_apply : k0_pay22 u (k0_pay21 (iota Kind.tc S128x128 32 [0] iota_S128x128_d0_w32) (iota Kind.tc S128x128 32 [1] iota_S128x128_d1_w32) w v) b (ix2 r j)
    = gateAt u w v b r j 2 := by
  pointwise [k0_pay22, k0_pay21]
  rw [mask_sum ⟨r.val, by omega⟩]
  rfl
theorem gate3_apply : k0_pay23 u (iota Kind.tc S128x128 32 [0] iota_S128x128_d0_w32) (iota Kind.tc S128x128 32 [1] iota_S128x128_d1_w32) w v b (ix2 r j)
    = gateAt u w v b r j 3 := by
  pointwise [k0_pay23]
  rw [mask_sum ⟨r.val, by omega⟩]
  rfl

end Gate

/-- Head `g`, row `r` stands at place `16 · g + r` of the stack. -/
def place (g : Fin 4) (r : Fin 16) : Fin 64 := ⟨16 * g.val + r.val, by omega⟩

theorem stacked_place (q : FVec Ideal S16x512 .bf16) (g : Fin 4) (r : Fin 16) (d : Fin 64) :
    stacked q (place g r) d = q (ix2 r ⟨64 * g.val + d.val, by omega⟩) := by
  have hp : (place g r).val = 16 * g.val + r.val := rfl
  unfold stacked
  split_ifs <;> refine congrArg q (congrArg₂ ix2 (Fin.ext ?_) (Fin.ext ?_)) <;> dsimp only <;> omega

theorem sinkAt_place (s : Fin 4 → EReal) (g : Fin 4) (r : Fin 16) : sinkAt (s 0) (s 1) (s 2) (s 3) (place g r) = s g := by
  have hp : (place g r).val = 16 * g.val + r.val := rfl
  unfold sinkAt
  split_ifs <;> refine congrArg s (Fin.ext ?_) <;> simp <;> omega

/-- The four heads of the first group: the weights, then their products with the value rows. -/
def group (q : FVec Ideal S16x512 .bf16) (s0 s1 s2 s3 : EReal) (k v : Vec Ideal S1x144x64 .bf16) : FVec Ideal S64x64 .f32 :=
  k0_pay36 (k0_pay35 q (iota Kind.tc S64x1 32 [0] iota_S64x1_d0_w32) (k0_pay33 (F := Ideal) s0) k0_pay34 s1 s2 s3 k) v

theorem group_apply (q : FVec Ideal S16x512 .bf16) (s : Fin 4 → EReal) (k v : Vec Ideal S1x144x64 .bf16) (g : Fin 4) (r : Fin 16) (d : Fin 64) :
    group q (s 0) (s 1) (s 2) (s 3) k v (ix2 (place g r) d) = attend (fun d => q (ix2 r ⟨64 * g.val + d.val, by omega⟩))
      (fun j d => k (ix3 0 j d)) (fun j d => v (ix3 0 j d)) (s g) d := by
  unfold group
  pointwise [k0_pay36]
  refine Finset.sum_congr rfl fun j _ => congrArg (fun e : EReal => e * v (ix3 0 j d)) ((w_apply q (s 0) (s 1) (s 2) (s 3) k (place g r) j).trans ?_)
  rw [sinkAt_place, show stacked q (place g r) = _ from funext fun d => stacked_place q g r d]

/-- The query columns of the second group, where the first group's were. -/
def upper (q : FVec Ideal S16x512 .bf16) : FVec Ideal S16x512 .bf16 := fun i => q (ix2 (i 0) ⟨((i 1).val + 256) % 512, by omega⟩)

theorem slice_upper (q : FVec Ideal S16x512 .bf16) (o o' : ℕ) (ho : o' = o + 256) (ho' : o ≤ 192) (h : S16x512.Slices ![0, o] S16x64) (h' : S16x512.Slices ![0, o'] S16x64) :
    extractStridedSlice S16x64 ![0, o'] q h' = extractStridedSlice S16x64 ![0, o] (upper q) h := by
  funext i
  pointwise [upper]
  exact congrArg q (congrArg (ix2 (i 0)) (Fin.ext (by have hi : (i 1).val < 64 := (i 1).isLt; dsimp only; omega)))

theorem second_group (q : FVec Ideal S16x512 .bf16) (s0 s1 s2 s3 : EReal) (k v : Vec Ideal S1x144x64 .bf16) :
    k0_pay43 q (iota Kind.tc S64x1 32 [0] iota_S64x1_d0_w32) (k0_pay41 (F := Ideal) (iota Kind.tc S64x1 32 [0] iota_S64x1_d0_w32) s0 s1)
      (k0_pay42 (iota Kind.tc S64x1 32 [0] iota_S64x1_d0_w32)) 48#32 s2 s3 k v = group (upper q) s0 s1 s2 s3 k v := by
  unfold k0_pay43
  rw [slice_upper q 0 256 rfl (by omega) slices_S16x512_o0_0_S16x64, slice_upper q 64 320 rfl (by omega) slices_S16x512_o0_64_S16x64, slice_upper q 128 384 rfl (by omega) slices_S16x512_o0_128_S16x64,
    slice_upper q 192 448 rfl (by omega) slices_S16x512_o0_192_S16x64]
  rfl

end Cert.Odd

end
-- ==== Proof.OddScratch.lean ====
/-
  The odd layers' mixer: what its scratch buffers hold when the body reads them back.
-/
module

public import proofs.«01_k».proof.Proof.OddSteps
public import Idealize.ShloMosaic.Lib.Pipeline.ReadBack

@[expose] public section

set_option maxRecDepth 16384

noncomputable section

namespace Cert.Odd

open Cert.Kernel3Ideal Cert.Kernel3Ideal.Gen Idealize.ShloMosaic Idealize.ShloMosaic.TcCoe Idealize.SL.Sem Cert.Layer

/-- The cached rows of one head and, behind them, the sixteen new ones. -/
def past (old : Vec Ideal S1x128x128 .f32) (new : FVec Ideal S16x128 .f32) (g : Fin 2) (j : Fin 144) (d : Fin 64) : EReal :=
  if h : j.val < 128 then old (ix3 0 ⟨j.val, h⟩ ⟨64 * g.val + d.val, by omega⟩) else new (ix2 ⟨j.val - 128, by omega⟩ ⟨64 * g.val + d.val, by omega⟩)

/-- The four stores that fill such a buffer, the last one first. -/
def pastPieces (old : Vec Ideal S1x128x128 .f32) (new : FVec Ideal S16x128 .f32) : List (View.Piece (Elt Ideal) S2x144x64 .bf16) :=
  [⟨Rect.unit ![1, 128, 0] ![1, 16, 64] inb_S2x144x64_S1x16x64_1_128_0, k0_pay30 new⟩,
   ⟨Rect.unit ![0, 128, 0] ![1, 16, 64] inb_S2x144x64_S1x16x64_0_128_0, k0_pay28 new⟩,
   ⟨Rect.unit ![1, 0, 0] ![1, 128, 64] inb_S2x144x64_S1x128x64_1_0_0,
     k0_pay7 (View.ld old (Rect.unit ![0, 0, 64] ![1, 128, 64] inb_S1x128x128_S1x128x64_0_0_64))⟩,
   ⟨Rect.unit ![0, 0, 0] ![1, 128, 64] inb_S2x144x64_S1x128x64_0_0_0,
     k0_pay5 (View.ld old (Rect.unit ![0, 0, 0] ![1, 128, 64] inb_S1x128x128_S1x128x64_0_0_0))⟩]

theorem past_canon (old : Vec Ideal S1x128x128 .f32) (new : FVec Ideal S16x128 .f32) (y : S2x144x64.Idx) :
    View.canon (pastPieces old new) y = past old new (y 0) (y 1) (y 2) := by
  have hc : ∃ p ∈ pastPieces old new, y ∈ p.1.set := by
    unfold pastPieces
    have h0 : (y 0).val < 2 := (y 0).isLt
    have h1 : (y 1).val < 144 := (y 1).isLt
    have h2 : (y 2).val < 64 := (y 2).isLt
    obtain h | h | h | h : ((y 0).val = 1 ∧ 128 ≤ (y 1).val) ∨ ((y 0).val = 0 ∧ 128 ≤ (y 1).val) ∨ ((y 0).val = 1 ∧ (y 1).val < 128)
        ∨ ((y 0).val = 0 ∧ (y 1).val < 128) := by omega
    · exact ⟨_, .head _, by rw [Rect.mem_set_unit]; exact Fin.forall_fin_succ.2 ⟨by simp; omega, Fin.forall_fin_two.2 ⟨by simp; omega, by simp; omega⟩⟩⟩
    · exact ⟨_, .tail _ (.head _), by rw [Rect.mem_set_unit]; exact Fin.forall_fin_succ.2 ⟨by simp; omega, Fin.forall_fin_two.2 ⟨by simp; omega, by simp; omega⟩⟩⟩
    · exact ⟨_, .tail _ (.tail _ (.head _)), by rw [Rect.mem_set_unit]; exact Fin.forall_fin_succ.2 ⟨by simp; omega, Fin.forall_fin_two.2 ⟨by simp; omega, by simp; omega⟩⟩⟩
    · exact ⟨_, .tail _ (.tail _ (.tail _ (.head _))), by rw [Rect.mem_set_unit]; exact Fin.forall_fin_succ.2 ⟨by simp; omega, Fin.forall_fin_two.2 ⟨by simp; omega, by simp; omega⟩⟩⟩
  unfold pastPieces at hc ⊢
  canon_tiles x h using hc
  all_goals
    rw [eq_ix3 x]
    unfold past
    first
      | (pointwise [k0_pay30]; done)
      | pointwise [k0_pay28, k0_pay30, k0_pay5, k0_pay7, View.ld_unit_apply_of]
    first
      | (rw [dif_neg (by omega)]; exact congrArg new (congrArg₂ ix2 (Fin.ext (by dsimp only; omega)) (Fin.ext (by dsimp only; omega))))
      | (rw [dif_pos (by omega)]; exact congrArg old (congrArg₂ (ix3 0) (Fin.ext (by dsimp only; omega)) (Fin.ext (by dsimp only; omega))))

/-- The rows the gate mixes: the new ones, then nothing. -/
def lateRows (w : FVec Ideal S16x512 .bf16) (s : Fin 128) (j : Fin 512) : EReal := if h : s.val < 16 then w (ix2 ⟨s.val, h⟩ j) else 0

def latePieces (w : FVec Ideal S16x512 .bf16) : List (View.Piece (Elt Ideal) S128x512 .bf16) :=
  [⟨Rect.unit ![0, 0] ![16, 512] inb_S128x512_S16x512_0_0, w⟩, ⟨Rect.unit ![0, 0] ![128, 512] inb_S128x512_S128x512_0_0, k0_pay16 (F := Ideal)⟩]

theorem late_canon (w : FVec Ideal S16x512 .bf16) (y : S128x512.Idx) : View.canon (latePieces w) y = lateRows w (y 0) (y 1) := by
  unfold latePieces lateRows
  by_cases h : (y 0).val < 16
  · rw [dif_pos h]
    have hy : y = (Rect.unit (s := S128x512) ![0, 0] ![16, 512] inb_S128x512_S16x512_0_0).emb (ix2 (⟨(y 0).val, h⟩ : Fin 16) (y 1 : Fin 512)) := by
      refine funext (Fin.forall_fin_two.2 ⟨Fin.ext ?_, Fin.ext ?_⟩)
      · show (y 0).val = 0 + 1 * (y 0).val
        omega
      · show (y 1).val = 0 + 1 * (y 1).val
        omega
    exact (congrArg _ hy).trans (View.canon_cons_emb _ _ _ _)
  · rw [dif_neg h, View.canon_cons_of_not_mem _ _ (fun hm => h (by rw [Rect.mem_set_unit] at hm; have h16 : (y 0).val < 0 + 16 := (hm 0).2; omega))]
    rw [View.canon_cons_unit_lit _ _ _ (by decide)]
    pointwise [k0_pay16]

/-- The products of the two groups of heads, one head after another. -/
def heads (A B : FVec Ideal S64x64 .f32) (r : Fin 16) (j : Fin 512) : EReal :=
  if h : j.val < 256 then A (ix2 (place ⟨j.val / 64, by omega⟩ r) ⟨j.val % 64, by omega⟩)
  else B (ix2 (place ⟨j.val / 64 - 4, by omega⟩ r) ⟨j.val % 64, by omega⟩)

def headPieces (A B : FVec Ideal S64x64 .f32) : List (View.Piece (Elt Ideal) S16x512 .f32) :=
  [⟨Rect.unit ![0, 448] ![16, 64] inb_S16x512_S16x64_0_448, k0_pay48 B⟩,
   ⟨Rect.unit ![0, 384] ![16, 64] inb_S16x512_S16x64_0_384, k0_pay47 B⟩,
   ⟨Rect.unit ![0, 320] ![16, 64] inb_S16x512_S16x64_0_320, k0_pay46 B⟩,
   ⟨Rect.unit ![0, 256] ![16, 64] inb_S16x512_S16x64_0_256, k0_pay45 (extractStridedSlice S16x64 ![0, 0] B slices_S64x64_o0_0_S16x64)⟩,
   ⟨Rect.unit ![0, 192] ![16, 64] inb_S16x512_S16x64_0_192, k0_pay48 A⟩,
   ⟨Rect.unit ![0, 128] ![16, 64] inb_S16x512_S16x64_0_128, k0_pay47 A⟩,
   ⟨Rect.unit ![0, 64] ![16, 64] inb_S16x512_S16x64_0_64, k0_pay46 A⟩,
   ⟨Rect.unit ![0, 0] ![16, 64] inb_S16x512_S16x64_0_0, k0_pay45 (extractStridedSlice S16x64 ![0, 0] A slices_S64x64_o0_0_S16x64)⟩]

theorem heads_canon (A B : FVec Ideal S64x64 .f32) (y : S16x512.Idx) : View.canon (headPieces A B) y = heads A B (y 0) (y 1) := by
  unfold headPieces
  canon_tiles x h
  all_goals
    rw [eq_ix2 x]
    unfold heads place
    pointwise [k0_pay48, k0_pay47, k0_pay46, k0_pay45]
    first
      | (rw [dif_pos (by omega)]; exact congrArg A (congrArg₂ ix2 (Fin.ext (by dsimp only; omega)) (Fin.ext (by dsimp only; omega))))
      | (rw [dif_neg (by omega)]; exact congrArg B (congrArg₂ ix2 (Fin.ext (by dsimp only; omega)) (Fin.ext (by dsimp only; omega))))

/-- The row that enters the last product: the four gates, then the heads. -/
def joined (a0 a1 a2 a3 : FVec Ideal S16x128 .bf16) (b : FVec Ideal S16x512 .bf16) (r : Fin 16) (j : Fin 1024) : EReal :=
  if h : j.val < 128 then a0 (ix2 r ⟨j.val, h⟩) else if h : j.val < 256 then a1 (ix2 r ⟨j.val - 128, by omega⟩)
  else if h : j.val < 384 then a2 (ix2 r ⟨j.val - 256, by omega⟩) else if h : j.val < 512 then a3 (ix2 r ⟨j.val - 384, by omega⟩)
  else b (ix2 r ⟨j.val - 512, by omega⟩)

def joinedPieces (a0 a1 a2 a3 : FVec Ideal S16x128 .bf16) (b : FVec Ideal S16x512 .bf16) : List (View.Piece (Elt Ideal) S16x1024 .bf16) :=
  [⟨Rect.unit ![0, 512] ![16, 512] inb_S16x1024_S16x512_0_512, b⟩,
   ⟨Rect.unit ![0, 384] ![16, 128] inb_S16x1024_S16x128_0_384, a3⟩,
   ⟨Rect.unit ![0, 256] ![16, 128] inb_S16x1024_S16x128_0_256, a2⟩,
   ⟨Rect.unit ![0, 128] ![16, 128] inb_S16x1024_S16x128_0_128, a1⟩,
   ⟨Rect.unit ![0, 0] ![16, 128] inb_S16x1024_S16x128_0_0, a0⟩]

theorem joined_canon (a0 a1 a2 a3 : FVec Ideal S16x128 .bf16) (b : FVec Ideal S16x512 .bf16) (y : S16x1024.Idx) :
    View.canon (joinedPieces a0 a1 a2 a3 b) y = joined a0 a1 a2 a3 b (y 0) (y 1) := by
  have hc : ∃ p ∈ joinedPieces a0 a1 a2 a3 b, y ∈ p.1.set := by
    unfold joinedPieces
    have h0 : (y 0).val < 16 := (y 0).isLt
    have h1 : (y 1).val < 1024 := (y 1).isLt
    obtain h | h | h | h | h : 512 ≤ (y 1).val ∨ (384 ≤ (y 1).val ∧ (y 1).val < 512) ∨ (256 ≤ (y 1).val ∧ (y 1).val < 384)
        ∨ (128 ≤ (y 1).val ∧ (y 1).val < 256) ∨ (y 1).val < 128 := by omega
    · exact ⟨_, .head _, by rw [Rect.mem_set_unit]; exact Fin.forall_fin_two.2 ⟨by simp; omega, by simp; omega⟩⟩
    · exact ⟨_, .tail _ (.head _), by rw [Rect.mem_set_unit]; exact Fin.forall_fin_two.2 ⟨by simp; omega, by simp; omega⟩⟩
    · exact ⟨_, .tail _ (.tail _ (.head _)), by rw [Rect.mem_set_unit]; exact Fin.forall_fin_two.2 ⟨by simp; omega, by simp; omega⟩⟩
    · exact ⟨_, .tail _ (.tail _ (.tail _ (.head _))), by rw [Rect.mem_set_unit]; exact Fin.forall_fin_two.2 ⟨by simp; omega, by simp; omega⟩⟩
    · exact ⟨_, .tail _ (.tail _ (.tail _ (.tail _ (.head _)))), by rw [Rect.mem_set_unit]; exact Fin.forall_fin_two.2 ⟨by simp; omega, by simp; omega⟩⟩
  unfold joinedPieces at hc ⊢
  canon_tiles x h using hc
  all_goals
    conv_lhs => rw [eq_ix2 x]
    unfold joined
    split_ifs <;> first
      | omega
      | exact congrArg _ (congrArg₂ ix2 (Fin.ext (by dsimp only; omega)) (Fin.ext (by dsimp only; omega)))

end Cert.Odd

end
-- ==== Proof.OddBody.lean ====
/-
  What one grid point of the odd layers' mixer leaves in its four output blocks, from the blocks it reads.
-/
module

public import proofs.«01_k».proof.Proof.Gen.Kernel3Ideal.Value
public import proofs.«01_k».proof.Proof.OddScratch

@[expose] public section

set_option maxRecDepth 16384

noncomputable section

namespace Cert.Odd

open Cert.Kernel3Ideal Cert.Kernel3Ideal.Gen Idealize.ShloMosaic Idealize.ShloMosaic.TcCoe Idealize.SL.Sem Cert.Layer

/-! ## The buffers read back -/

/-- The key or value rows of head group 0, as the body reads them. -/
def pastRead0 (B : View sig Kind.tc Space.vmem S2x144x64 .bf16) (old : Vec Ideal S1x128x128 .f32) (new : FVec Ideal S16x128 .f32) :
    Vec Ideal S1x144x64 .bf16 :=
  (B.readCov (Val := Elt Ideal) (pastPieces old new) (Rect.unit ![0, 0, 0] ![1, 144, 64] inb_S2x144x64_S1x144x64_0_0_0).toLoadRect :)

/-- The key or value rows of head group 1. -/
def pastRead1 (B : View sig Kind.tc Space.vmem S2x144x64 .bf16) (old : Vec Ideal S1x128x128 .f32) (new : FVec Ideal S16x128 .f32) :
    Vec Ideal S1x144x64 .bf16 :=
  (B.readCov (Val := Elt Ideal) (pastPieces old new) (Rect.unit ![1, 0, 0] ![1, 144, 64] inb_S2x144x64_S1x144x64_1_0_0).toLoadRect :)

theorem pastRead0_apply (B : View sig Kind.tc Space.vmem S2x144x64 .bf16) (old : Vec Ideal S1x128x128 .f32) (new : FVec Ideal S16x128 .f32)
    (j : Fin 144) (d : Fin 64) : pastRead0 B old new (ix3 0 j d) = past old new 0 j d := by
  unfold pastRead0
  refine (congrFun (View.readCov_eq_canon' _ _ _) _).trans ((past_canon _ _ _).trans ?_)
  exact congrArg₂ (past old new 0) (Fin.ext (by simp)) (Fin.ext (by simp))

theorem pastRead1_apply (B : View sig Kind.tc Space.vmem S2x144x64 .bf16) (old : Vec Ideal S1x128x128 .f32) (new : FVec Ideal S16x128 .f32)
    (j : Fin 144) (d : Fin 64) : pastRead1 B old new (ix3 0 j d) = past old new 1 j d := by
  unfold pastRead1
  refine (congrFun (View.readCov_eq_canon' _ _ _) _).trans ((past_canon _ _ _).trans ?_)
  exact congrArg₂ (past old new 1) (Fin.ext (by simp)) (Fin.ext (by simp))

/-- One gated head's share of the rows to mix: 128 columns from column `128 · h`. -/
def lateRead (w : FVec Ideal S16x512 .bf16) (h : Fin 4) (inb : ∀ a, (![0, 128 * h.val] : Fin 2 → ℕ) a + (![128, 128] : Fin 2 → ℕ) a ≤ S128x512.size a) :
    Vec Ideal S128x128 .bf16 :=
  ((View.whole cc0_scratch2).readCov (Val := Elt Ideal) (latePieces w) (Rect.unit ![0, 128 * h.val] ![128, 128] inb).toLoadRect :)

theorem lateRead_apply (w : FVec Ideal S16x512 .bf16) (h : Fin 4) (inb) (s j : Fin 128) :
    lateRead w h inb (ix2 s j) = lateRows w s ⟨128 * h.val + j.val, by omega⟩ := by
  unfold lateRead
  refine (congrFun (View.readCov_eq_canon' _ _ _) _).trans ((late_canon _ _).trans ?_)
  exact congrArg₂ (lateRows w) (Fin.ext (by simp)) (Fin.ext (by simp))

/-! ## The output block -/

section Block
variable (x0 : Vec Ideal S8 .f32) (P : FVec Ideal S16x1792 .f32) (x9 x10 : Vec Ideal S1x128x128 .f32)

/-- The sink of head `n`. -/
def sinkOf (n : ℕ) (inb : ∀ a, (![n] : Fin 1 → ℕ) a + (![1] : Fin 1 → ℕ) a ≤ S8.size a) : EReal :=
  View.ld x0 (Rect.unit ![n] ![1] inb) (Shape.Idx.first (Nat.one_pos))

def headsA : FVec Ideal S64x64 .f32 :=
  group (k0_pay32 P) (sinkOf x0 0 inb_S8_S1_0) (sinkOf x0 1 inb_S8_S1_1) (sinkOf x0 2 inb_S8_S1_2) (sinkOf x0 3 inb_S8_S1_3)
    (pastRead0 (View.whole cc0_scratch0) x9 (k0_pay24 P)) (pastRead0 (View.whole cc0_scratch1) x10 (k0_pay25 P))

def headsB : FVec Ideal S64x64 .f32 :=
  k0_pay43 (k0_pay32 P) (iota Kind.tc S64x1 32 [0] iota_S64x1_d0_w32)
    (k0_pay41 (F := Ideal) (iota Kind.tc S64x1 32 [0] iota_S64x1_d0_w32) (sinkOf x0 4 inb_S8_S1_4) (sinkOf x0 5 inb_S8_S1_5))
    (k0_pay42 (iota Kind.tc S64x1 32 [0] iota_S64x1_d0_w32)) 48#32 (sinkOf x0 6 inb_S8_S1_6) (sinkOf x0 7 inb_S8_S1_7)
    (pastRead1 (View.whole cc0_scratch0) x9 (k0_pay24 P)) (pastRead1 (View.whole cc0_scratch1) x10 (k0_pay25 P))

/-- The eight heads side by side. -/
def headsRead : Vec Ideal S16x512 .f32 :=
  ((View.whole cc0_scratch3).readCov (Val := Elt Ideal) (headPieces (headsA x0 P x9 x10) (headsB x0 P x9 x10))
    (Rect.unit ![0, 0] ![16, 512] inb_S16x512_S16x512_0_0).toLoadRect :)

variable (U : FVec Ideal S16x512 .f32) (w : FVec Ideal S16x512 .bf16) (x6 : Vec Ideal S4x128x128 .f32) (x7 : Vec Ideal S128x512 .f32)

/-- The row that enters the last product. -/
def joinedRead : Vec Ideal S16x1024 .bf16 :=
  ((View.whole cc0_scratch4).readCov (Val := Elt Ideal) (joinedPieces
    (k0_pay19 U (k0_pay18 (View.ld x6 (Rect.unit ![0, 0, 0] ![1, 128, 128] inb_S4x128x128_S1x128x128_0_0_0)) (lateRead w 0 inb_S128x512_S128x128_0_0))
      (View.ld x7 (Rect.unit ![0, 0] ![128, 128] inb_S128x512_S128x128_0_0)))
    (k0_pay20 U (iota Kind.tc S128x128 32 [0] iota_S128x128_d0_w32) (iota Kind.tc S128x128 32 [1] iota_S128x128_d1_w32)
      (View.ld x6 (Rect.unit ![1, 0, 0] ![1, 128, 128] inb_S4x128x128_S1x128x128_1_0_0)) (lateRead w 1 inb_S128x512_S128x128_0_128)
      (View.ld x7 (Rect.unit ![0, 128] ![128, 128] inb_S128x512_S128x128_0_128)))
    (k0_pay22 U (k0_pay21 (iota Kind.tc S128x128 32 [0] iota_S128x128_d0_w32) (iota Kind.tc S128x128 32 [1] iota_S128x128_d1_w32)
      (View.ld x6 (Rect.unit ![2, 0, 0] ![1, 128, 128] inb_S4x128x128_S1x128x128_2_0_0)) (lateRead w 2 inb_S128x512_S128x128_0_256))
      (View.ld x7 (Rect.unit ![0, 256] ![128, 128] inb_S128x512_S128x128_0_256)))
    (k0_pay23 U (iota Kind.tc S128x128 32 [0] iota_S128x128_d0_w32) (iota Kind.tc S128x128 32 [1] iota_S128x128_d1_w32)
      (View.ld x6 (Rect.unit ![3, 0, 0] ![1, 128, 128] inb_S4x128x128_S1x128x128_3_0_0)) (lateRead w 3 inb_S128x512_S128x128_0_384)
      (View.ld x7 (Rect.unit ![0, 384] ![128, 128] inb_S128x512_S128x128_0_384)))
    (k0_pay49 (headsRead x0 P x9 x10)))
    (Rect.unit ![0, 0] ![16, 1024] inb_S16x1024_S16x1024_0_0).toLoadRect :)

end Block

section Point
variable (m : (ℓ : Loc nD τ sig) → Buf (Elt Ideal) ℓ) (c : Dev nD) (t : Fin cfg0.N)

theorem out_k : (outsAt0 m c t).2.1 = k0_pay26 (k0_pay9 (iblk m c 1 t) (iblk m c 2 t) (iblk m c 3 t)) := by
  unfold outsAt0
  frame_out

theorem out_v : (outsAt0 m c t).2.2.1 = k0_pay27 (k0_pay9 (iblk m c 1 t) (iblk m c 2 t) (iblk m c 3 t)) := by
  unfold outsAt0
  frame_out

theorem out_s : (outsAt0 m c t).2.2.2 = k0_pay15 (k0_pay12 (iblk m c 1 t) (iblk m c 2 t) (iblk m c 3 t)) (k0_pay13 (iblk m c 4 t)) (k0_pay14 (iblk m c 5 t)) := by
  unfold outsAt0
  frame_out

set_option maxHeartbeats 400000 in
theorem out_o : (outsAt0 m c t).1 = k0_pay50 (iblk m c 1 t) (joinedRead (iblk m c 0 t) (k0_pay9 (iblk m c 1 t) (iblk m c 2 t) (iblk m c 3 t))
    (iblk m c 9 t) (iblk m c 10 t) (k0_pay11 (iblk m c 1 t) (iblk m c 2 t) (iblk m c 3 t))
    (k0_pay17 (k0_pay12 (iblk m c 1 t) (iblk m c 2 t) (iblk m c 3 t)) (k0_pay13 (iblk m c 4 t)) (k0_pay14 (iblk m c 5 t)))
    (iblk m c 6 t) (iblk m c 7 t)) (iblk m c 8 t) := by
  generalize hz : k0_pay50 (F := Ideal) _ _ _ = z
  unfold outsAt0
  frame_out
  subst hz
  generalize k0_pay9 (iblk m c 1 t) (iblk m c 2 t) (iblk m c 3 t) = P
  generalize k0_pay11 (iblk m c 1 t) (iblk m c 2 t) (iblk m c 3 t) = U
  generalize k0_pay12 (iblk m c 1 t) (iblk m c 2 t) (iblk m c 3 t) = V
  refine congrArg (fun x => k0_pay50 (iblk m c 1 t) x (iblk m c 8 t)) ?_
  unfold joinedRead joinedPieces lateRead latePieces headsRead headPieces headsA headsB group pastRead0 pastRead1 pastPieces sinkOf
  rfl

end Point

end Cert.Odd

end
-- ==== Proof.OddBlock.lean ====
/-
  The odd layers' mixer: the output blocks of a grid point, entry by entry, from what its input blocks hold.
-/
module

public import proofs.«01_k».proof.Proof.OddBody

@[expose] public section

set_option maxRecDepth 16384

noncomputable section

namespace Cert.Odd

open Cert.Kernel3Ideal Cert.Kernel3Ideal.Gen Idealize.ShloMosaic Idealize.ShloMosaic.TcCoe Idealize.SL.Sem Cert.Layer

/-- The blocks hold the layer's inputs. -/
structure Holds (x0 : Vec Ideal S8 .f32) (x1 : Vec Ideal S16x1024 .f32) (x2 : Vec Ideal S1x1024 .f32) (x3 : Vec Ideal S1024x1792 .bf16)
    (x4 x5 : Vec Ideal S1x512 .f32) (x6 : Vec Ideal S4x128x128 .f32) (x7 : Vec Ideal S128x512 .f32) (x8 : Vec Ideal S1024x1024 .bf16)
    (x9 x10 : Vec Ideal S1x128x128 .f32) (I : Inputs) : Prop where
  sink : ∀ n, x0 (ix1 n) = I.sink n
  x : ∀ r k, x1 (ix2 r k) = I.x r k
  gain : ∀ k, x2 (ix2 0 k) = I.gain k
  w : ∀ k j, x3 (ix2 k j) = I.w k j
  lg : ∀ j, x4 (ix2 0 j) = I.lg j
  lb : ∀ j, x5 (ix2 0 j) = I.lb j
  mixW : ∀ h p s, x6 (ix3 h p s) = I.mixW h p s
  mixB : ∀ (h : Fin 4) (p j : Fin 128), x7 (ix2 p ⟨128 * h.val + j.val, by omega⟩) = I.mixB h p
  wo : ∀ k j, x8 (ix2 k j) = I.wo k j
  oldK : ∀ (s : Fin 128) (g : Fin 2) (d : Fin 64), x9 (ix3 0 s ⟨64 * g.val + d.val, by omega⟩) = I.oldK s g d
  oldV : ∀ (s : Fin 128) (g : Fin 2) (d : Fin 64), x10 (ix3 0 s ⟨64 * g.val + d.val, by omega⟩) = I.oldV s g d

section
variable {x0 : Vec Ideal S8 .f32} {x1 : Vec Ideal S16x1024 .f32} {x2 : Vec Ideal S1x1024 .f32} {x3 : Vec Ideal S1024x1792 .bf16}
  {x4 x5 : Vec Ideal S1x512 .f32} {x6 : Vec Ideal S4x128x128 .f32} {x7 : Vec Ideal S128x512 .f32} {x8 : Vec Ideal S1024x1024 .bf16}
  {x9 x10 : Vec Ideal S1x128x128 .f32} {I : Inputs} (H : Holds x0 x1 x2 x3 x4 x5 x6 x7 x8 x9 x10 I)
include H

theorem proj_at (r : Fin 16) (j : Fin 1792) : k0_pay9 x1 x2 x3 (ix2 r j) = I.proj r j := by
  rw [project_apply, show (fun k => x1 (ix2 r k)) = _ from funext (H.x r), show (fun k => x2 (ix2 0 k)) = _ from funext H.gain,
    show (fun k j => x3 (ix2 k j)) = _ from funext fun k => funext (H.w k)]
  rfl

theorem unit_at (r : Fin 16) (j : Fin 1024) : k0_pay10 x1 x2 x3 (ix2 r j) = I.unit r j := by
  rw [gelu_apply, proj_at H]
  rfl

theorem gates_at (r : Fin 16) (j : Fin 512) : k0_pay11 x1 x2 x3 (ix2 r j) = I.unit r ⟨j.val, by omega⟩ := by
  rw [← unit_at H]
  pointwise [k0_pay11]

theorem rows_at (r : Fin 16) (j : Fin 512) : k0_pay12 x1 x2 x3 (ix2 r j) = I.unit r ⟨512 + j.val, by omega⟩ := by
  rw [← unit_at H]
  pointwise [k0_pay12]

theorem normed_at (r : Fin 16) (j : Fin 512) : k0_pay15 (k0_pay12 x1 x2 x3) (k0_pay13 x4) (k0_pay14 x5) (ix2 r j) = I.normed r j := by
  rw [lnorm_apply, show (fun j => k0_pay12 x1 x2 x3 (ix2 r j)) = _ from funext (rows_at H r), show (fun j => x4 (ix2 0 j)) = _ from funext H.lg,
    show (fun j => x5 (ix2 0 j)) = _ from funext H.lb]
  rfl

theorem lateRows_at (s : Fin 128) (j : Fin 512) :
    lateRows (k0_pay17 (k0_pay12 x1 x2 x3) (k0_pay13 x4) (k0_pay14 x5)) s j = late (fun s => I.normed s j) s := by
  unfold lateRows late
  split_ifs
  · show _ = I.normed _ j
    rw [← normed_at H]
    pointwise [k0_pay17]
  · rfl

theorem key_at (g : Fin 2) (j : Fin 144) (d : Fin 64) : past x9 (k0_pay24 (k0_pay9 x1 x2 x3)) g j d = I.key g j d := by
  unfold past Inputs.key
  split_ifs
  · exact H.oldK _ _ _
  · rw [← proj_at H]
    pointwise [k0_pay24]

theorem val_at (g : Fin 2) (j : Fin 144) (d : Fin 64) : past x10 (k0_pay25 (k0_pay9 x1 x2 x3)) g j d = I.val g j d := by
  unfold past Inputs.val
  split_ifs
  · exact H.oldV _ _ _
  · rw [← proj_at H]
    pointwise [k0_pay25]

theorem query_at (r : Fin 16) (j : Fin 512) : k0_pay32 (k0_pay9 x1 x2 x3) (ix2 r j) = I.proj r ⟨1024 + j.val, by omega⟩ := by
  rw [← proj_at H]
  pointwise [k0_pay32]

theorem sink_at (n : ℕ) (hn : n < 8) (inb) : sinkOf x0 n inb = I.sink ⟨n, hn⟩ := by
  rw [← H.sink]
  exact congrArg x0 (funext (Fin.forall_fin_one.2 (Fin.ext (by simp [Shape.Idx.first]))))

theorem headA_at (g : Fin 4) (r : Fin 16) (d : Fin 64) :
    headsA x0 (k0_pay9 x1 x2 x3) x9 x10 (ix2 (place g r) d) = I.head r ⟨g.val, by omega⟩ d := by
  unfold headsA
  rw [sink_at H 0 (by omega), sink_at H 1 (by omega), sink_at H 2 (by omega), sink_at H 3 (by omega)]
  refine (group_apply _ (fun g : Fin 4 => I.sink ⟨g.val, by omega⟩) _ _ g r d).trans ?_
  simp only [pastRead0_apply, key_at H, val_at H, query_at H]
  unfold Inputs.head
  rw [show (⟨g.val / 4, by omega⟩ : Fin 2) = 0 from Fin.ext (Nat.div_eq_of_lt g.isLt)]

theorem headB_at (g : Fin 4) (r : Fin 16) (d : Fin 64) :
    headsB x0 (k0_pay9 x1 x2 x3) x9 x10 (ix2 (place g r) d) = I.head r ⟨g.val + 4, by omega⟩ d := by
  unfold headsB
  rw [second_group, sink_at H 4 (by omega), sink_at H 5 (by omega), sink_at H 6 (by omega), sink_at H 7 (by omega)]
  refine (group_apply _ (fun g : Fin 4 => I.sink ⟨g.val + 4, by omega⟩) _ _ g r d).trans ?_
  unfold upper
  simp only [pastRead1_apply, key_at H, val_at H]
  unfold Inputs.head
  rw [show (⟨(g.val + 4) / 4, by omega⟩ : Fin 2) = 1 from Fin.ext (by show (g.val + 4) / 4 = 1; omega)]
  refine congrArg (fun q => attend q _ _ _ d) (funext fun d => (query_at H _ _).trans (congrArg (I.proj r) (Fin.ext ?_)))
  simp
  omega

theorem heads_at (r : Fin 16) (j : Fin 512) : headsRead x0 (k0_pay9 x1 x2 x3) x9 x10 (ix2 r j)
    = I.head r ⟨j.val / 64, by omega⟩ ⟨j.val % 64, by omega⟩ := by
  unfold headsRead
  refine (congrFun (View.readCov_eq_canon' _ _ _) _).trans ((heads_canon _ _ _).trans ?_)
  refine (congrArg₂ (heads _ _) (Fin.ext (by simp)) (Fin.ext (by simp)) : _ = heads _ _ r j).trans ?_
  unfold heads
  split_ifs with h
  · exact headA_at H _ _ _
  · refine (headB_at H _ _ _).trans (congrArg (fun h => I.head r h _) (Fin.ext ?_))
    simp
    omega

theorem gate_at (r : Fin 16) (h : Fin 4) (j : Fin 128) (inb) (wh : Vec Ideal S1x128x128 .f32) (bh : Vec Ideal S128x128 .f32)
    (hw : ∀ p s, wh (ix3 0 p s) = x6 (ix3 h p s)) (hb : ∀ p j : Fin 128, bh (ix2 p j) = x7 (ix2 p ⟨128 * h.val + j.val, by omega⟩)) :
    gateAt (k0_pay11 x1 x2 x3) wh (lateRead (k0_pay17 (k0_pay12 x1 x2 x3) (k0_pay13 x4) (k0_pay14 x5)) h inb) bh r j h = I.gated r h j := by
  unfold gateAt Inputs.gated mix
  simp only [lateRead_apply, lateRows_at H, gates_at H, hw, hb, H.mixW, H.mixB]

omit H in
theorem weight_block (h : Fin 4) (inb : ∀ a, (![h.val, 0, 0] : Fin 3 → ℕ) a + (![1, 128, 128] : Fin 3 → ℕ) a ≤ S4x128x128.size a) (p s : Fin 128) :
    View.ld x6 (Rect.unit ![h.val, 0, 0] ![1, 128, 128] inb) (ix3 0 p s) = x6 (ix3 h p s) :=
  congrArg x6 (funext (Fin.forall_fin_succ.2 ⟨Fin.ext (by simp), Fin.forall_fin_two.2 ⟨Fin.ext (by simp), Fin.ext (by simp)⟩⟩))

omit H in
theorem bias_block (h : Fin 4) (inb : ∀ a, (![0, 128 * h.val] : Fin 2 → ℕ) a + (![128, 128] : Fin 2 → ℕ) a ≤ S128x512.size a) (p j : Fin 128) :
    View.ld x7 (Rect.unit ![0, 128 * h.val] ![128, 128] inb) (ix2 p j) = x7 (ix2 p ⟨128 * h.val + j.val, by omega⟩) :=
  congrArg x7 (funext (Fin.forall_fin_two.2 ⟨Fin.ext (by simp), Fin.ext (by simp)⟩))

theorem joined_at (r : Fin 16) (j : Fin 1024) : joinedRead x0 (k0_pay9 x1 x2 x3) x9 x10 (k0_pay11 x1 x2 x3)
    (k0_pay17 (k0_pay12 x1 x2 x3) (k0_pay13 x4) (k0_pay14 x5)) x6 x7 (ix2 r j) = I.cat r j := by
  unfold joinedRead
  refine (congrFun (View.readCov_eq_canon' _ _ _) _).trans ((joined_canon _ _ _ _ _ _).trans ?_)
  refine (congrArg₂ (joined _ _ _ _ _) (Fin.ext (by simp)) (Fin.ext (by simp)) : _ = joined _ _ _ _ _ r j).trans ?_
  unfold joined Inputs.cat
  split_ifs with h0 h1 h2 h3
  all_goals try omega
  · rw [gate0_apply]
    exact (gate_at H r 0 ⟨j.val, by omega⟩ _ _ _ (weight_block 0 _) (bias_block 0 _)).trans
      (congrArg₂ (I.gated r) (Fin.ext (by show 0 = j.val / 128; omega)) (Fin.ext (by show j.val = j.val % 128; omega)))
  · rw [gate1_apply]
    exact (gate_at H r 1 ⟨j.val - 128, by omega⟩ _ _ _ (weight_block 1 _) (bias_block 1 _)).trans
      (congrArg₂ (I.gated r) (Fin.ext (by show 1 = j.val / 128; omega)) (Fin.ext (by show j.val - 128 = j.val % 128; omega)))
  · rw [gate2_apply]
    exact (gate_at H r 2 ⟨j.val - 256, by omega⟩ _ _ _ (weight_block 2 _) (bias_block 2 _)).trans
      (congrArg₂ (I.gated r) (Fin.ext (by show 2 = j.val / 128; omega)) (Fin.ext (by show j.val - 256 = j.val % 128; omega)))
  · rw [gate3_apply]
    exact (gate_at H r 3 ⟨j.val - 384, by omega⟩ _ _ _ (weight_block 3 _) (bias_block 3 _)).trans
      (congrArg₂ (I.gated r) (Fin.ext (by show 3 = j.val / 128; omega)) (Fin.ext (by show j.val - 384 = j.val % 128; omega)))
  · rw [show k0_pay49 (headsRead x0 (k0_pay9 x1 x2 x3) x9 x10) (ix2 r ⟨j.val - 512, by omega⟩) = headsRead x0 (k0_pay9 x1 x2 x3) x9 x10 (ix2 r ⟨j.val - 512, by omega⟩) by pointwise [k0_pay49]]
    exact heads_at H _ _

theorem out_at (r : Fin 16) (j : Fin 1024) : k0_pay50 x1 (joinedRead x0 (k0_pay9 x1 x2 x3) x9 x10 (k0_pay11 x1 x2 x3)
    (k0_pay17 (k0_pay12 x1 x2 x3) (k0_pay13 x4) (k0_pay14 x5)) x6 x7) x8 (ix2 r j) = I.out r j := by
  pointwise [k0_pay50]
  unfold Inputs.out
  rw [H.x]
  exact congrArg (fun e : EReal => I.x r j + e) (Finset.sum_congr rfl fun k _ => congrArg₂ (fun a b : EReal => a * b) (joined_at H r k) (H.wo k j))

end

end Cert.Odd

end
-- ==== Proof.OddState.lean ====
/-
  The odd layers' mixer over the whole grid: point `t` works on batch entry `t`, and its blocks hold the arguments of
  that entry.
-/
module

public import proofs.«01_k».proof.Proof.OddBlock

@[expose] public section

set_option maxRecDepth 16384

noncomputable section

namespace Cert.Odd

open Cert.Kernel3Ideal Cert.Kernel3Ideal.Gen Idealize.ShloMosaic Idealize.ShloMosaic.TcCoe Idealize.SL.Sem Cert.Layer

variable (m : (ℓ : Loc nD τ sig) → Buf (Elt Ideal) ℓ) (c : Dev nD)

/-- Position `r` of batch entry `b` among all rows. -/
def rowAt (b : Fin 8) (r : Fin 16) : Fin 128 := ⟨16 * b.val + r.val, by omega⟩

/-- What the arguments hold for batch entry `b`. -/
def inputs (b : Fin 8) : Inputs where
  x r k := m ((c : Thread nD τ).loc main_arg0) (ix2 (rowAt b r) k)
  gain k := m ((c : Thread nD τ).loc main_arg2) (ix1 k)
  w k j := m ((c : Thread nD τ).loc main_arg3) (ix2 k j)
  lg j := m ((c : Thread nD τ).loc main_arg4) (ix1 j)
  lb j := m ((c : Thread nD τ).loc main_arg5) (ix1 j)
  mixW h p s := m ((c : Thread nD τ).loc main_arg6) (ix3 h p s)
  mixB h p := m ((c : Thread nD τ).loc main_arg7) (ix2 h p)
  sink n := m ((c : Thread nD τ).loc main_arg1) (ix1 n)
  oldK s g d := m ((c : Thread nD τ).loc main_arg9) (ix4 b s g d)
  oldV s g d := m ((c : Thread nD τ).loc main_arg10) (ix4 b s g d)
  wo k j := m ((c : Thread nD τ).loc main_arg8) (ix2 k j)

/-- The batch entry of point `t`. -/
def entry (t : Fin cfg0.N) : Fin 8 := ⟨t.val, t.isLt.trans_eq N_0⟩

theorem idx : ∀ t : Fin cfg0.N, win0_0.index t = ![0] ∧ win0_1.index t = ![t.val, 0] ∧ win0_2.index t = ![0, 0] ∧ win0_3.index t = ![0, 0]
    ∧ win0_4.index t = ![0, 0] ∧ win0_5.index t = ![0, 0] ∧ win0_6.index t = ![0, 0, 0] ∧ win0_7.index t = ![0, 0] ∧ win0_8.index t = ![0, 0]
    ∧ win0_9.index t = ![t.val, 0, 0] ∧ win0_10.index t = ![t.val, 0, 0] ∧ win0_11.index t = ![t.val, 0] ∧ win0_12.index t = ![t.val, 0, 0]
    ∧ win0_13.index t = ![t.val, 0, 0] ∧ win0_14.index t = ![t.val, 0] :=
  (by decide +kernel : ∀ t : Fin grid0.N, _)

theorem V_gain : V m c main_v3 = shapeCast S1x1024 (m ((c : Thread nD τ).loc main_arg2)) shapeCasts_S1024_S1x1024 := rfl
theorem V_lg : V m c main_v5 = shapeCast S1x512 (m ((c : Thread nD τ).loc main_arg4)) shapeCasts_S512_S1x512 := rfl
theorem V_lb : V m c main_v6 = shapeCast S1x512 (m ((c : Thread nD τ).loc main_arg5)) shapeCasts_S512_S1x512 := rfl
theorem V_bias : V m c main_v2 = shapeCast S128x512 (broadcastInDim S128x4x128 ![0, 1] bcast_S128x4_S128x4x128_0_1 (transpose S128x4 [1, 0] (m ((c : Thread nD τ).loc main_arg7)) transposes_S4x128_S128x4_1_0)) shapeCasts_S128x4x128_S128x512 := rfl
theorem V_oldK : V m c main_v8 = shapeCast S8x128x128 (m ((c : Thread nD τ).loc main_arg9)) shapeCasts_S8x128x2x64_S8x128x128 := rfl
theorem V_oldV : V m c main_v9 = shapeCast S8x128x128 (m ((c : Thread nD τ).loc main_arg10)) shapeCasts_S8x128x2x64_S8x128x128 := rfl

theorem block_sink (t : Fin cfg0.N) (n : Fin 8) : iblk m c 0 t (ix1 n) = (inputs m c (entry t)).sink n := by
  unfold inputs
  blk_ext [iblk, V, idx t]

theorem block_x (t : Fin cfg0.N) (r : Fin 16) (k : Fin 1024) : iblk m c 1 t (ix2 r k) = (inputs m c (entry t)).x r k := by
  unfold inputs rowAt entry
  blk_ext [iblk, V, idx t]

theorem block_gain (t : Fin cfg0.N) (k : Fin 1024) : iblk m c 2 t (ix2 0 k) = (inputs m c (entry t)).gain k := by
  show V m c main_v3 (((cfg0.win 2).blk t).view.emb (ix2 0 k)) = _
  rw [show ((cfg0.win 2).blk t).view.emb (ix2 0 k) = ix2 0 k by blk_ext [idx t], V_gain m c]
  unfold inputs
  pointwise []

theorem block_w (t : Fin cfg0.N) (k : Fin 1024) (j : Fin 1792) : iblk m c 3 t (ix2 k j) = (inputs m c (entry t)).w k j := by
  show m ((c : Thread nD τ).loc main_arg3) (((cfg0.win 3).blk t).view.emb (ix2 k j)) = _
  rw [show ((cfg0.win 3).blk t).view.emb (ix2 k j) = ix2 k j by blk_ext [idx t]]
  rfl

theorem block_lg (t : Fin cfg0.N) (k : Fin 512) : iblk m c 4 t (ix2 0 k) = (inputs m c (entry t)).lg k := by
  show V m c main_v5 (((cfg0.win 4).blk t).view.emb (ix2 0 k)) = _
  rw [show ((cfg0.win 4).blk t).view.emb (ix2 0 k) = ix2 0 k by blk_ext [idx t], V_lg m c]
  unfold inputs
  pointwise []

theorem block_lb (t : Fin cfg0.N) (k : Fin 512) : iblk m c 5 t (ix2 0 k) = (inputs m c (entry t)).lb k := by
  show V m c main_v6 (((cfg0.win 5).blk t).view.emb (ix2 0 k)) = _
  rw [show ((cfg0.win 5).blk t).view.emb (ix2 0 k) = ix2 0 k by blk_ext [idx t], V_lb m c]
  unfold inputs
  pointwise []

theorem block_mixW (t : Fin cfg0.N) (h : Fin 4) (p s : Fin 128) : iblk m c 6 t (ix3 h p s) = (inputs m c (entry t)).mixW h p s := by
  show m ((c : Thread nD τ).loc main_arg6) (((cfg0.win 6).blk t).view.emb (ix3 h p s)) = _
  rw [show ((cfg0.win 6).blk t).view.emb (ix3 h p s) = ix3 h p s by blk_ext [idx t]]
  rfl

theorem block_mixB (t : Fin cfg0.N) (h : Fin 4) (p j : Fin 128) : iblk m c 7 t (ix2 p ⟨128 * h.val + j.val, by omega⟩) = (inputs m c (entry t)).mixB h p := by
  show V m c main_v2 (((cfg0.win 7).blk t).view.emb (ix2 p ⟨128 * h.val + j.val, _⟩)) = _
  rw [show ((cfg0.win 7).blk t).view.emb (ix2 p ⟨128 * h.val + j.val, by omega⟩) = ix2 p ⟨128 * h.val + j.val, by omega⟩ by blk_ext [idx t], V_bias m c]
  unfold inputs
  pointwise []

theorem block_wo (t : Fin cfg0.N) (k j : Fin 1024) : iblk m c 8 t (ix2 k j) = (inputs m c (entry t)).wo k j := by
  show m ((c : Thread nD τ).loc main_arg8) (((cfg0.win 8).blk t).view.emb (ix2 k j)) = _
  rw [show ((cfg0.win 8).blk t).view.emb (ix2 k j) = ix2 k j by blk_ext [idx t]]
  rfl

theorem block_oldK (t : Fin cfg0.N) (s : Fin 128) (g : Fin 2) (d : Fin 64) : iblk m c 9 t (ix3 0 s ⟨64 * g.val + d.val, by omega⟩) = (inputs m c (entry t)).oldK s g d := by
  show V m c main_v8 (((cfg0.win 9).blk t).view.emb (ix3 0 s ⟨64 * g.val + d.val, _⟩)) = _
  rw [show ((cfg0.win 9).blk t).view.emb (ix3 0 s ⟨64 * g.val + d.val, by omega⟩) = ix3 (entry t) s ⟨64 * g.val + d.val, by omega⟩ by
    unfold entry; blk_ext [idx t], V_oldK m c]
  unfold inputs
  pointwise []

theorem block_oldV (t : Fin cfg0.N) (s : Fin 128) (g : Fin 2) (d : Fin 64) : iblk m c 10 t (ix3 0 s ⟨64 * g.val + d.val, by omega⟩) = (inputs m c (entry t)).oldV s g d := by
  show V m c main_v9 (((cfg0.win 10).blk t).view.emb (ix3 0 s ⟨64 * g.val + d.val, _⟩)) = _
  rw [show ((cfg0.win 10).blk t).view.emb (ix3 0 s ⟨64 * g.val + d.val, by omega⟩) = ix3 (entry t) s ⟨64 * g.val + d.val, by omega⟩ by
    unfold entry; blk_ext [idx t], V_oldV m c]
  unfold inputs
  pointwise []

theorem holds (t : Fin cfg0.N) : Holds (iblk m c 0 t) (iblk m c 1 t) (iblk m c 2 t) (iblk m c 3 t) (iblk m c 4 t) (iblk m c 5 t)
    (iblk m c 6 t) (iblk m c 7 t) (iblk m c 8 t) (iblk m c 9 t) (iblk m c 10 t) (inputs m c (entry t)) where
  sink := block_sink m c t
  x := block_x m c t
  gain := block_gain m c t
  w := block_w m c t
  lg := block_lg m c t
  lb := block_lb m c t
  mixW := block_mixW m c t
  mixB := block_mixB m c t
  wo := block_wo m c t
  oldK := block_oldK m c t
  oldV := block_oldV m c t

/-! ## The four output arrays -/

theorem point_out (t : Fin cfg0.N) (r : Fin 16) (j : Fin 1024) : (outsAt0 m c t).1 (ix2 r j) = (inputs m c (entry t)).out r j := by
  rw [out_o]
  exact out_at (holds m c t) r j

theorem point_key (t : Fin cfg0.N) (r : Fin 16) (j : Fin 128) :
    (outsAt0 m c t).2.1 (ix3 0 r j) = (inputs m c (entry t)).proj r ⟨1536 + j.val, by omega⟩ := by
  rw [out_k, ← proj_at (holds m c t)]
  generalize k0_pay9 (F := Ideal) _ _ _ = P
  pointwise [k0_pay26, k0_pay24]

theorem point_val (t : Fin cfg0.N) (r : Fin 16) (j : Fin 128) :
    (outsAt0 m c t).2.2.1 (ix3 0 r j) = (inputs m c (entry t)).proj r ⟨1664 + j.val, by omega⟩ := by
  rw [out_v, ← proj_at (holds m c t)]
  generalize k0_pay9 (F := Ideal) _ _ _ = P
  pointwise [k0_pay27, k0_pay25]

theorem point_rows (t : Fin cfg0.N) (r : Fin 16) (j : Fin 512) : (outsAt0 m c t).2.2.2 (ix2 r j) = (inputs m c (entry t)).normed r j := by
  rw [out_s]
  exact normed_at (holds m c t) r j

/-- The batch entry and the position of row `a`. -/
def batch (a : Fin 128) : Fin 8 := ⟨a.val / 16, by omega⟩
def pos (a : Fin 128) : Fin 16 := ⟨a.val % 16, by omega⟩

theorem array_out : (dats m 0 c).arrAt 11 cfg0.N = fun i : S128x1024.Idx => (inputs m c (batch (i 0))).out (pos (i 0)) (i 1) := by
  refine (dats m 0 c).arrAt_eq_of_covers 11 _ (by decide +kernel) fun t hf y => ?_
  blk_simp
  rw [after0_11]
  refine (congrArg (outsAt0 m c t).1 (eq_ix2 _)).trans ((point_out m c t _ _).trans ?_)
  have hy : (y 0).val < 16 := (y 0).isLt
  have h0 : ((win0_11.blk t).view.emb y 0).val = 16 * t.val + (y 0).val := by
    blk_simp [idx t]
    omega
  have h1 : (y 1).val = ((win0_11.blk t).view.emb y 1).val := by
    blk_simp [idx t]
  have e0 : entry t = batch ((win0_11.blk t).view.emb y 0) := Fin.ext (by
    show t.val = ((win0_11.blk t).view.emb y 0).val / 16
    omega)
  have e1 : (show Fin 16 from y 0) = pos ((win0_11.blk t).view.emb y 0) := Fin.ext (by
    show (y 0).val = ((win0_11.blk t).view.emb y 0).val % 16
    omega)
  have e2 : (show Fin 1024 from y 1) = (win0_11.blk t).view.emb y 1 := Fin.ext h1
  rw [e0]
  exact congrArg₂ (inputs m c _).out e1 e2

theorem array_key : (dats m 0 c).arrAt 12 cfg0.N = fun i : S8x16x128.Idx => (inputs m c (i 0)).proj (i 1) ⟨1536 + (i 2).val, by have : (i 2).val < 128 := (i 2).isLt; omega⟩ := by
  refine (dats m 0 c).arrAt_eq_of_covers 12 _ (by decide +kernel) fun t hf y => ?_
  blk_simp
  rw [after0_12]
  have h0 : (y 0).val < 1 := (y 0).isLt
  refine (congrArg (outsAt0 m c t).2.1 ((eq_ix3 _).trans (congrArg (ix3 · (y 1) (y 2)) (Fin.ext (by show (y 0).val = 0; omega))))).trans ((point_key m c t _ _).trans ?_)
  have g0 : ((win0_12.blk t).view.emb y 0).val = t.val := by
    blk_simp [idx t]
  have e0 : entry t = (win0_12.blk t).view.emb y 0 := Fin.ext g0.symm
  have e1 : (show Fin 16 from y 1) = (win0_12.blk t).view.emb y 1 := Fin.ext (by
    blk_simp [idx t])
  rw [e0]
  exact congrArg₂ (inputs m c _).proj e1 (Fin.ext (by blk_simp [idx t]))

theorem array_val : (dats m 0 c).arrAt 13 cfg0.N = fun i : S8x16x128.Idx => (inputs m c (i 0)).proj (i 1) ⟨1664 + (i 2).val, by have : (i 2).val < 128 := (i 2).isLt; omega⟩ := by
  refine (dats m 0 c).arrAt_eq_of_covers 13 _ (by decide +kernel) fun t hf y => ?_
  blk_simp
  rw [after0_13]
  have h0 : (y 0).val < 1 := (y 0).isLt
  refine (congrArg (outsAt0 m c t).2.2.1 ((eq_ix3 _).trans (congrArg (ix3 · (y 1) (y 2)) (Fin.ext (by show (y 0).val = 0; omega))))).trans ((point_val m c t _ _).trans ?_)
  have g0 : ((win0_13.blk t).view.emb y 0).val = t.val := by
    blk_simp [idx t]
  have e0 : entry t = (win0_13.blk t).view.emb y 0 := Fin.ext g0.symm
  have e1 : (show Fin 16 from y 1) = (win0_13.blk t).view.emb y 1 := Fin.ext (by
    blk_simp [idx t])
  rw [e0]
  exact congrArg₂ (inputs m c _).proj e1 (Fin.ext (by blk_simp [idx t]))

theorem array_rows : (dats m 0 c).arrAt 14 cfg0.N = fun i : S128x512.Idx => (inputs m c (batch (i 0))).normed (pos (i 0)) (i 1) := by
  refine (dats m 0 c).arrAt_eq_of_covers 14 _ (by decide +kernel) fun t hf y => ?_
  blk_simp
  rw [after0_14]
  refine (congrArg (outsAt0 m c t).2.2.2 (eq_ix2 _)).trans ((point_rows m c t _ _).trans ?_)
  have hy : (y 0).val < 16 := (y 0).isLt
  have h0 : ((win0_14.blk t).view.emb y 0).val = 16 * t.val + (y 0).val := by
    blk_simp [idx t]
    omega
  have h1 : (y 1).val = ((win0_14.blk t).view.emb y 1).val := by
    blk_simp [idx t]
  have e0 : entry t = batch ((win0_14.blk t).view.emb y 0) := Fin.ext (by
    show t.val = ((win0_14.blk t).view.emb y 0).val / 16
    omega)
  have e1 : (show Fin 16 from y 0) = pos ((win0_14.blk t).view.emb y 0) := Fin.ext (by
    show (y 0).val = ((win0_14.blk t).view.emb y 0).val % 16
    omega)
  have e2 : (show Fin 512 from y 1) = (win0_14.blk t).view.emb y 1 := Fin.ext h1
  rw [e0]
  exact congrArg₂ (inputs m c _).normed e1 e2

end Cert.Odd

end
-- ==== Proof.OddRef.lean ====
/-
  The reference side of the odd layers' mixer: its operations, grouped into stages, each read at an index; composed, they are
  the layer's mathematics.
-/
module

public import proofs.«01_k».proof.Proof.Gen.Reference3Ideal.Run
public import Idealize.ShloMosaic.Lib.Pipeline.ValueKit
public import Idealize.ShloMosaic.Lib.Pointwise
public import Idealize.ShloMosaic.Lib.WordCmp
public import Idealize.ShloMosaic.Lib.KernelVsHost
public import Idealize.ShloMosaic.PureOps.Ideal.Laws
public import proofs.«01_k».proof.Proof.OddSpec

@[expose] public section

set_option maxRecDepth 16384

noncomputable section

namespace Cert.Odd.Ref

open Cert.Reference3Ideal Cert.Reference3Ideal.Gen Cert.Reference3Ideal.Value Idealize.ShloMosaic Idealize.ShloMosaic.TcCoe Idealize.SL.Sem Idealize.ShloMosaic.StableHlo Cert.Layer

/-! ## The reference's stages -/

/-- The input rows, sixteen to a batch entry. -/
def rowsOf (a0 : Vec Ideal S128x1024 .f32) : FVec Ideal S8x16x1024 .f32 := shapeCast _ a0 shapeCasts_S128x1024_S8x16x1024

/-- The rows normalised by their root mean square, times the gain. -/
def scaled (a0 : Vec Ideal S128x1024 .f32) (a2 : Vec Ideal S1024 .f32) : FVec Ideal S8x16x1024 .f32 :=
  mulf (mulf (rowsOf a0) (broadcastInDim S8x16x1024 ![0, 1, 2] bcast_S8x16x1_S8x16x1024_0_1_2 (Host.rsqrt (addf (Host.divf
      (broadcastInDim S8x16x1 ![0, 1] bcast_S8x16_S8x16x1_0_1 (Host.reduceAdd (mulf (rowsOf a0) (rowsOf a0)) (constant S_ .f32 0x00000000#32) reducesTo_S8x16x1024_S8x16_d2 h_S_))
      (broadcastInDim S8x16x1 ![] bcast_S_S8x16x1 (constant S_ .f32 0x44800000#32)))
      (broadcastInDim S8x16x1 ![] bcast_S_S8x16x1 (constant S_ .f32 0x358637BD#32))))))
    (broadcastInDim S8x16x1024 ![0, 1, 2] bcast_S1x1x1024_S8x16x1024_0_1_2 (broadcastInDim S1x1x1024 ![2] bcast_S1024_S1x1x1024_2 a2))

/-- The projection of the normalised rows. -/
def projected (a0 : Vec Ideal S128x1024 .f32) (a2 : Vec Ideal S1024 .f32) (a3 : Vec Ideal S1024x1792 .f32) : FVec Ideal S8x16x1792 .f32 :=
  Host.dotGeneral (φ₂ := .f32) dot_S8x16x1024_S1024x1792_S8x16x1792_2_0_01_1_n_n none (scaled a0 a2) a3

theorem projected_apply (a0 : Vec Ideal S128x1024 .f32) (a2 : Vec Ideal S1024 .f32) (a3 : Vec Ideal S1024x1792 .f32) (b : Fin 8) (r : Fin 16) (j : Fin 1792) :
    projected a0 a2 a3 (ix3 b r j) = project (fun k => a0 (ix2 ⟨16 * b.val + r.val, by omega⟩ k)) (fun k => a2 (ix1 k)) (fun k j => a3 (ix2 k j)) j := by
  pointwise [projected, scaled, rowsOf]
  exact congrArg (fun q : Fin 128 => project (fun k => a0 (ix2 q k)) (fun k => a2 (ix1 k)) (fun k j => a3 (ix2 k j)) j)
    (Fin.ext (by dsimp only; omega) : (⟨b.val * 16 + r.val, by omega⟩ : Fin 128) = ⟨16 * b.val + r.val, by omega⟩)

/-- The error-function unit over the first 1024 columns. -/
def units (P : FVec Ideal S8x16x1792 .f32) : FVec Ideal S8x16x1024 .f32 :=
  mulf (mulf (broadcastInDim S8x16x1024 ![] bcast_S_S8x16x1024 (constant S_ .f32 0x3F000000#32)) (extractStridedSlice S8x16x1024 ![0, 0, 0] P slices_S8x16x1792_S8x16x1024_0_0_0))
    (Host.erfc (mulf (Host.negf (extractStridedSlice S8x16x1024 ![0, 0, 0] P slices_S8x16x1792_S8x16x1024_0_0_0)) (broadcastInDim S8x16x1024 ![] bcast_S_S8x16x1024 (constant S_ .f32 0x3F3504F3#32))))

theorem units_apply (P : FVec Ideal S8x16x1792 .f32) (b : Fin 8) (r : Fin 16) (j : Fin 1024) :
    units P (ix3 b r j) = gelu (P (ix3 b r ⟨j.val, by omega⟩)) := by
  pointwise [units]
  unfold gelu
  generalize P (ix3 b r ⟨j.val, _⟩) = z
  rw [← Ideal.erfc_neg]
  exact congrArg (fun e : EReal => Ideal.ofBits .f32 0x3F000000#32 * z * Ideal.erfc e) (EReal.neg_mul z _)

/-- The rows less their mean. -/
def centred (V : FVec Ideal S8x16x512 .f32) : FVec Ideal S8x16x512 .f32 :=
  subf V (broadcastInDim S8x16x512 ![0, 1, 2] bcast_S8x16x1_S8x16x512_0_1_2 (Host.divf (broadcastInDim S8x16x1 ![0, 1] bcast_S8x16_S8x16x1_0_1
    (Host.reduceAdd V (constant S_ .f32 0x00000000#32) reducesTo_S8x16x512_S8x16_d2 h_S_)) (broadcastInDim S8x16x1 ![] bcast_S_S8x16x1 (constant S_ .f32 0x44000000#32))))

/-- The layer normalisation. -/
def layerNorm (V : FVec Ideal S8x16x512 .f32) (a4 a5 : Vec Ideal S512 .f32) : FVec Ideal S8x16x512 .f32 :=
  addf (mulf (mulf (centred V) (broadcastInDim S8x16x512 ![0, 1, 2] bcast_S8x16x1_S8x16x512_0_1_2 (Host.rsqrt (addf (Host.divf
      (broadcastInDim S8x16x1 ![0, 1] bcast_S8x16_S8x16x1_0_1 (Host.reduceAdd (mulf (centred V) (centred V)) (constant S_ .f32 0x00000000#32) reducesTo_S8x16x512_S8x16_d2 h_S_))
      (broadcastInDim S8x16x1 ![] bcast_S_S8x16x1 (constant S_ .f32 0x44000000#32)))
      (broadcastInDim S8x16x1 ![] bcast_S_S8x16x1 (constant S_ .f32 0x358637BD#32))))))
    (broadcastInDim S8x16x512 ![0, 1, 2] bcast_S1x1x512_S8x16x512_0_1_2 (broadcastInDim S1x1x512 ![2] bcast_S512_S1x1x512_2 a4)))
    (broadcastInDim S8x16x512 ![0, 1, 2] bcast_S1x1x512_S8x16x512_0_1_2 (broadcastInDim S1x1x512 ![2] bcast_S512_S1x1x512_2 a5))

theorem layerNorm_apply (V : FVec Ideal S8x16x512 .f32) (a4 a5 : Vec Ideal S512 .f32) (b : Fin 8) (r : Fin 16) (j : Fin 512) :
    layerNorm V a4 a5 (ix3 b r j) = lnorm (fun j => V (ix3 b r j)) (fun j => a4 (ix1 j)) (fun j => a5 (ix1 j)) j := by
  pointwise [layerNorm, centred]
  rfl

/-- The second half of the units, normalised. -/
def normedRows (U : FVec Ideal S8x16x1024 .f32) (a4 a5 : Vec Ideal S512 .f32) : FVec Ideal S8x16x512 .f32 :=
  layerNorm (extractStridedSlice S8x16x512 ![0, 0, 512] U slices_S8x16x1024_S8x16x512_0_0_512) a4 a5

/-- The causal mask on the mixing weights. -/
def masked (a6 : Vec Ideal S4x128x128 .f32) : FVec Ideal S4x128x128 .f32 :=
  select (broadcastInDim S4x128x128 ![0, 1, 2] bcast_S1x128x128_S4x128x128_0_1_2 (broadcastInDim S1x128x128 ![1, 2] bcast_S128x128_S1x128x128_1_2
      (select (cmpi .sge (addi (iotaInDim S128x128 32 0) (broadcastInDim S128x128 ![] bcast_S_S128x128 (constantI S_ 32 0#32))) (iotaInDim S128x128 32 1))
        (broadcastInDim S128x128 ![] bcast_S_S128x128 (constantI S_ 1 1#1)) (broadcastInDim S128x128 ![] bcast_S_S128x128 (constantI S_ 1 0#1)))))
    a6 (broadcastInDim S4x128x128 ![] bcast_S_S4x128x128 (constant S_ .f32 0x00000000#32))

theorem masked_apply (a6 : Vec Ideal S4x128x128 .f32) (h : Fin 4) (p s : Fin 128) :
    masked a6 (ix3 h p s) = if s.val ≤ p.val then a6 (ix3 h p s) else 0 := by
  pointwise [masked]
  have := p.isLt
  have := s.isLt
  rw [show IntOp.addi (BitVec.ofNat 32 p.val) 0#32 = BitVec.ofNat 32 p.val from BitVec.add_zero _]
  word_cmp
  split_ifs <;> rfl

/-- The normalised rows followed by rows of zeros. -/
def padded (N : FVec Ideal S8x16x512 .f32) : FVec Ideal S8x128x512 .f32 :=
  pad S8x128x512 ![0, 0, 0] ![0, 112, 0] ![0, 0, 0] N (sitofp .f32 (constantI S_ 32 0#32)) pads_S8x16x512_S8x128x512_000_01120_000 h_S_

theorem padded_apply (N : FVec Ideal S8x16x512 .f32) (b : Fin 8) (s : Fin 128) (j : Fin 512) :
    padded N (ix3 b s j) = late (fun s => N (ix3 b s j)) s := by
  pointwise [padded]
  unfold late
  split_ifs
  · rfl
  · exact sitofp_zero

/-- The causal mixing of the padded rows, with its bias. -/
def mixed (N : FVec Ideal S8x128x512 .f32) (W : FVec Ideal S4x128x128 .f32) (a7 : Vec Ideal S4x128 .f32) : FVec Ideal S8x16x512 .f32 :=
  extractStridedSlice S8x16x512 ![0, 0, 0] (shapeCast S8x128x512 (addf
    (transpose S8x1x128x4x128 [1, 2, 4, 0, 3] (Host.dotGeneral (φ₁ := .f32) (φ₂ := .f32) dot_S8x1x128x4x128_S4x128x128_S4x8x1x128x128_2_2_014_1_3_0 none
      (shapeCast S8x1x128x4x128 N shapeCasts_S8x128x512_S8x1x128x4x128) W) transposes_S4x8x1x128x128_S8x1x128x4x128_1_2_4_0_3)
    (broadcastInDim S8x1x128x4x128 ![0, 1, 2, 3, 4] bcast_S1x1x128x4x1_S8x1x128x4x128_0_1_2_3_4 (broadcastInDim S1x1x128x4x1 ![2, 3, 4] bcast_S128x4x1_S1x1x128x4x1_2_3_4
      (broadcastInDim S128x4x1 ![0, 1] bcast_S128x4_S128x4x1_0_1 (transpose S128x4 [1, 0] a7 transposes_S4x128_S128x4_1_0)))))
    shapeCasts_S8x1x128x4x128_S8x128x512) slices_S8x128x512_S8x16x512_0_0_0

theorem mixed_apply (N : FVec Ideal S8x128x512 .f32) (W : FVec Ideal S4x128x128 .f32) (a7 : Vec Ideal S4x128 .f32) (b : Fin 8) (r : Fin 16) (h : Fin 4) (j : Fin 128) :
    mixed N W a7 (ix3 b r ⟨128 * h.val + j.val, by omega⟩)
      = (∑ s : Fin 128, N (ix3 b s ⟨128 * h.val + j.val, by omega⟩) * W (ix3 h ⟨r.val, by omega⟩ s)) + a7 (ix2 h ⟨r.val, by omega⟩) := by
  pointwise [mixed]
  exact congrArg (fun q : Fin 512 => (∑ s : Fin 128, N (ix3 b s q) * W (ix3 h ⟨r.val, by omega⟩ s)) + a7 (ix2 h ⟨r.val, by omega⟩))
    (Fin.ext (by dsimp only; omega) : (⟨h.val * 128 + j.val, by omega⟩ : Fin 512) = ⟨128 * h.val + j.val, by omega⟩)

/-- The first half of the units times the mixed rows. -/
def gatedRows (U : FVec Ideal S8x16x1024 .f32) (M : FVec Ideal S8x16x512 .f32) : FVec Ideal S8x16x512 .f32 :=
  mulf (extractStridedSlice S8x16x512 ![0, 0, 0] U slices_S8x16x1024_S8x16x512_0_0_0) M

/-- The new key rows. -/
def keyRows (P : FVec Ideal S8x16x1792 .f32) : FVec Ideal S8x16x2x64 .f32 :=
  shapeCast S8x16x2x64 (extractStridedSlice S8x16x128 ![0, 0, 1536] P slices_S8x16x1792_S8x16x128_0_0_1536) shapeCasts_S8x16x128_S8x16x2x64

theorem keyRows_apply (P : FVec Ideal S8x16x1792 .f32) (b : Fin 8) (r : Fin 16) (g : Fin 2) (d : Fin 64) :
    keyRows P (ix4 b r g d) = P (ix3 b r ⟨1536 + (64 * g.val + d.val), by omega⟩) := by
  pointwise [keyRows]
  exact congrArg P (congrArg (ix3 b r) (Fin.ext (by dsimp only; omega)))

/-- The new value rows. -/
def valRows (P : FVec Ideal S8x16x1792 .f32) : FVec Ideal S8x16x2x64 .f32 :=
  shapeCast S8x16x2x64 (extractStridedSlice S8x16x128 ![0, 0, 1664] P slices_S8x16x1792_S8x16x128_0_0_1664) shapeCasts_S8x16x128_S8x16x2x64

theorem valRows_apply (P : FVec Ideal S8x16x1792 .f32) (b : Fin 8) (r : Fin 16) (g : Fin 2) (d : Fin 64) :
    valRows P (ix4 b r g d) = P (ix3 b r ⟨1664 + (64 * g.val + d.val), by omega⟩) := by
  pointwise [valRows]
  exact congrArg P (congrArg (ix3 b r) (Fin.ext (by dsimp only; omega)))

theorem flatKeys_apply (P : FVec Ideal S8x16x1792 .f32) (b : Fin 8) (r : Fin 16) (d : Fin 128) :
    shapeCast S8x16x128 (keyRows P) shapeCasts_S8x16x2x64_S8x16x128 (ix3 b r d) = P (ix3 b r ⟨1536 + d.val, by omega⟩) := by
  pointwise [keyRows]

theorem flatVals_apply (P : FVec Ideal S8x16x1792 .f32) (b : Fin 8) (r : Fin 16) (d : Fin 128) :
    shapeCast S8x16x128 (valRows P) shapeCasts_S8x16x2x64_S8x16x128 (ix3 b r d) = P (ix3 b r ⟨1664 + d.val, by omega⟩) := by
  pointwise [valRows]

theorem flatRows_apply (N : FVec Ideal S8x16x512 .f32) (a : Fin 128) (j : Fin 512) :
    shapeCast S128x512 N shapeCasts_S8x16x512_S128x512 (ix2 a j) = N (ix3 ⟨a.val / 16, by omega⟩ ⟨a.val % 16, by omega⟩ j) := by
  pointwise []

/-- The query rows, by group and head in the group. -/
def queryRows (P : FVec Ideal S8x16x1792 .f32) : FVec Ideal S8x16x2x4x64 .f32 :=
  shapeCast S8x16x2x4x64 (shapeCast S8x16x8x64 (extractStridedSlice S8x16x512 ![0, 0, 1024] P slices_S8x16x1792_S8x16x512_0_0_1024) shapeCasts_S8x16x512_S8x16x8x64) shapeCasts_S8x16x8x64_S8x16x2x4x64

theorem queryRows_apply (P : FVec Ideal S8x16x1792 .f32) (b : Fin 8) (r : Fin 16) (g : Fin 2) (h : Fin 4) (d : Fin 64) :
    queryRows P (ix5 b r g h d) = P (ix3 b r ⟨1024 + (64 * (4 * g.val + h.val) + d.val), by omega⟩) := by
  pointwise [queryRows]
  exact congrArg P (congrArg (ix3 b r) (Fin.ext (by dsimp only; omega)))

/-- The cached rows and the new ones behind them. -/
def extended (old : Vec Ideal S8x128x2x64 .f32) (new : FVec Ideal S8x16x2x64 .f32) : FVec Ideal S8x144x2x64 .f32 := fn_main_v70 (F := Ideal) old new

theorem extended_apply (old : Vec Ideal S8x128x2x64 .f32) (new : FVec Ideal S8x16x2x64 .f32) (b : Fin 8) (j : Fin 144) (g : Fin 2) (d : Fin 64) :
    extended old new (ix4 b j g d) = if h : j.val < 128 then old (ix4 b ⟨j.val, h⟩ g d) else new (ix4 b ⟨j.val - 128, by omega⟩ g d) := by
  pointwise [extended, fn_main_v70]

/-- The scaled products of queries and keys. -/
def scoreRows (K : FVec Ideal S8x144x2x64 .f32) (Q : FVec Ideal S8x16x2x4x64 .f32) : FVec Ideal S8x2x4x16x144 .f32 :=
  mulf (transpose S8x2x4x16x144 [0, 1, 4, 3, 2] (Host.dotGeneral (φ₁ := .f32) (φ₂ := .f32) dot_S8x144x2x64_S8x16x2x4x64_S8x2x144x16x4_3_4_1_13_02_02 none K Q) transposes_S8x2x144x16x4_S8x2x4x16x144_0_1_4_3_2)
    (broadcastInDim S8x2x4x16x144 ![] bcast_S_S8x2x4x16x144 (constant S_ .f32 0x3E000000#32))

theorem scoreRows_apply (K : FVec Ideal S8x144x2x64 .f32) (Q : FVec Ideal S8x16x2x4x64 .f32) (b : Fin 8) (g : Fin 2) (h : Fin 4) (r : Fin 16) (j : Fin 144) :
    scoreRows K Q (ix5 b g h r j) = scores (fun d => Q (ix5 b r g h d)) (fun j d => K (ix4 b j g d)) j := by
  pointwise [scoreRows]
  unfold scores
  exact congrArg (fun e : EReal => e * _) (Finset.sum_congr rfl fun d _ => mul_comm (G := EReal) _ _)

/-- The sinks, one to a head. -/
def sinkRows (a1 : Vec Ideal S8 .f32) : FVec Ideal S8x2x4x16x1 .f32 :=
  broadcastInDim S8x2x4x16x1 ![0, 1, 2, 3, 4] bcast_S1x2x4x1x1_S8x2x4x16x1_0_1_2_3_4 (broadcastInDim S1x2x4x1x1 ![1, 2, 3, 4] bcast_S2x4x1x1_S1x2x4x1x1_1_2_3_4
    (broadcastInDim S2x4x1x1 ![0, 1] bcast_S2x4_S2x4x1x1_0_1 (shapeCast S2x4 a1 shapeCasts_S8_S2x4)))

/-- The largest of a row of scores and the sink. -/
def topRows (S : FVec Ideal S8x2x4x16x144 .f32) (a1 : Vec Ideal S8 .f32) : FVec Ideal S8x2x4x16x1 .f32 :=
  maximumf (broadcastInDim S8x2x4x16x1 ![0, 1, 2, 3] bcast_S8x2x4x16_S8x2x4x16x1_0_1_2_3 (Host.reduce FloatOps.maximumf S (constant S_ .f32 0xFF800000#32) reducesTo_S8x2x4x16x144_S8x2x4x16_d4 h_S_)) (sinkRows a1)

/-- The exponentials of the scores less the largest. -/
def expRows (S : FVec Ideal S8x2x4x16x144 .f32) (a1 : Vec Ideal S8 .f32) : FVec Ideal S8x2x4x16x144 .f32 :=
  Host.exp (subf S (broadcastInDim S8x2x4x16x144 ![0, 1, 2, 3, 4] bcast_S8x2x4x16x1_S8x2x4x16x144_0_1_2_3_4 (topRows S a1)))

/-- The softmax weights with the sink in the denominator. -/
def weightRows (S : FVec Ideal S8x2x4x16x144 .f32) (a1 : Vec Ideal S8 .f32) : FVec Ideal S8x2x4x16x144 .f32 :=
  Host.divf (expRows S a1) (broadcastInDim S8x2x4x16x144 ![0, 1, 2, 3, 4] bcast_S8x2x4x16x1_S8x2x4x16x144_0_1_2_3_4
    (addf (broadcastInDim S8x2x4x16x1 ![0, 1, 2, 3] bcast_S8x2x4x16_S8x2x4x16x1_0_1_2_3 (Host.reduceAdd (expRows S a1) (constant S_ .f32 0x00000000#32) reducesTo_S8x2x4x16x144_S8x2x4x16_d4 h_S_))
      (Host.exp (subf (sinkRows a1) (topRows S a1)))))

theorem weightRows_apply (S : FVec Ideal S8x2x4x16x144 .f32) (a1 : Vec Ideal S8 .f32) (b : Fin 8) (g : Fin 2) (h : Fin 4) (r : Fin 16) (j : Fin 144) :
    weightRows S a1 (ix5 b g h r j) = weights (fun j => S (ix5 b g h r j)) (a1 (ix1 ⟨4 * g.val + h.val, by omega⟩)) j := by
  pointwise [weightRows, expRows, topRows, sinkRows]
  rw [show (⟨g.val * 4 + h.val, by omega⟩ : Fin 8) = ⟨4 * g.val + h.val, by omega⟩ from Fin.ext (by dsimp only; omega)]
  rfl

/-- The heads' outputs, side by side. -/
def headRows (V : FVec Ideal S8x144x2x64 .f32) (W : FVec Ideal S8x2x4x16x144 .f32) : FVec Ideal S8x16x512 .f32 :=
  shapeCast S8x16x512 (transpose S8x16x2x4x64 [0, 4, 1, 3, 2] (Host.dotGeneral (φ₁ := .f32) (φ₂ := .f32) dot_S8x144x2x64_S8x2x4x16x144_S8x2x64x4x16_1_4_3_23_02_01 none V W)
    transposes_S8x2x64x4x16_S8x16x2x4x64_0_4_1_3_2) shapeCasts_S8x16x2x4x64_S8x16x512

theorem headRows_apply (V : FVec Ideal S8x144x2x64 .f32) (W : FVec Ideal S8x2x4x16x144 .f32) (b : Fin 8) (r : Fin 16) (g : Fin 2) (h : Fin 4) (d : Fin 64) :
    headRows V W (ix3 b r ⟨64 * (4 * g.val + h.val) + d.val, by omega⟩) = ∑ j, W (ix5 b g h r j) * V (ix4 b j g d) := by
  pointwise [headRows]
  exact Finset.sum_congr rfl fun x _ => mul_comm (G := EReal) _ _

/-- Gated heads and attention heads side by side. -/
def joinedRows (A B : FVec Ideal S8x16x512 .f32) : FVec Ideal S8x16x1024 .f32 := fn_main_v99 (F := Ideal) A B

theorem joinedRows_apply (A B : FVec Ideal S8x16x512 .f32) (b : Fin 8) (r : Fin 16) (j : Fin 1024) :
    joinedRows A B (ix3 b r j) = if h : j.val < 512 then A (ix3 b r ⟨j.val, h⟩) else B (ix3 b r ⟨j.val - 512, by omega⟩) := by
  pointwise [joinedRows, fn_main_v99]

/-- The output projection added to the input. -/
def outRows (a0 : Vec Ideal S128x1024 .f32) (C : FVec Ideal S8x16x1024 .f32) (a8 : Vec Ideal S1024x1024 .f32) : FVec Ideal S128x1024 .f32 :=
  shapeCast S128x1024 (addf (rowsOf a0) (Host.dotGeneral (φ₁ := .f32) (φ₂ := .f32) dot_S8x16x1024_S1024x1024_S8x16x1024_2_0_01_1_n_n none C a8)) shapeCasts_S8x16x1024_S128x1024

theorem outRows_apply (a0 : Vec Ideal S128x1024 .f32) (C : FVec Ideal S8x16x1024 .f32) (a8 : Vec Ideal S1024x1024 .f32) (b : Fin 8) (r : Fin 16) (j : Fin 1024) :
    outRows a0 C a8 (ix2 ⟨16 * b.val + r.val, by omega⟩ j) = a0 (ix2 ⟨16 * b.val + r.val, by omega⟩ j) + ∑ k, C (ix3 b r k) * a8 (ix2 k j) := by
  pointwise [outRows, rowsOf]
  rw [show (⟨b.val * 16 + r.val, by omega⟩ : Fin 128) = ⟨16 * b.val + r.val, by omega⟩ from Fin.ext (by dsimp only; omega)]

/-! ## The stages composed, against the layer's mathematics -/

section Composed
variable (a0 : Vec Ideal S128x1024 .f32) (a1 : Vec Ideal S8 .f32) (a2 : Vec Ideal S1024 .f32) (a3 : Vec Ideal S1024x1792 .f32) (a4 a5 : Vec Ideal S512 .f32)
  (a6 : Vec Ideal S4x128x128 .f32) (a7 : Vec Ideal S4x128 .f32) (a8 : Vec Ideal S1024x1024 .f32) (a9 a10 : Vec Ideal S8x128x2x64 .f32)

/-- What batch entry `b` reads. -/
def reads (b : Fin 8) : Inputs where
  x r k := a0 (ix2 ⟨16 * b.val + r.val, by omega⟩ k)
  gain k := a2 (ix1 k)
  w k j := a3 (ix2 k j)
  lg j := a4 (ix1 j)
  lb j := a5 (ix1 j)
  mixW h p s := a6 (ix3 h p s)
  mixB h p := a7 (ix2 h p)
  sink n := a1 (ix1 n)
  oldK s g d := a9 (ix4 b s g d)
  oldV s g d := a10 (ix4 b s g d)
  wo k j := a8 (ix2 k j)

/-- The normalised gating rows. -/
def normedAll : FVec Ideal S8x16x512 .f32 := normedRows (units (projected a0 a2 a3)) a4 a5

/-- The gated heads. -/
def gatedAll : FVec Ideal S8x16x512 .f32 := gatedRows (units (projected a0 a2 a3)) (mixed (padded (normedAll a0 a2 a3 a4 a5)) (masked a6) a7)

/-- All key rows. -/
def keyAll : FVec Ideal S8x144x2x64 .f32 := extended a9 (keyRows (projected a0 a2 a3))

/-- All value rows. -/
def valAll : FVec Ideal S8x144x2x64 .f32 := extended a10 (valRows (projected a0 a2 a3))

/-- The attention heads. -/
def headAll : FVec Ideal S8x16x512 .f32 :=
  headRows (valAll a0 a2 a3 a10) (weightRows (scoreRows (keyAll a0 a2 a3 a9) (queryRows (projected a0 a2 a3))) a1)

/-- The output. -/
def outAll : FVec Ideal S128x1024 .f32 :=
  outRows a0 (joinedRows (gatedAll a0 a2 a3 a4 a5 a6 a7) (headAll a0 a1 a2 a3 a9 a10)) a8

theorem proj_eq (b : Fin 8) (r : Fin 16) (j : Fin 1792) : projected a0 a2 a3 (ix3 b r j) = (reads a0 a1 a2 a3 a4 a5 a6 a7 a8 a9 a10 b).proj r j :=
  projected_apply a0 a2 a3 b r j

theorem unit_eq (b : Fin 8) (r : Fin 16) (j : Fin 1024) : units (projected a0 a2 a3) (ix3 b r j) = (reads a0 a1 a2 a3 a4 a5 a6 a7 a8 a9 a10 b).unit r j := by
  rw [units_apply, proj_eq a0 a1 a2 a3 a4 a5 a6 a7 a8 a9 a10]
  rfl

theorem normed_eq (b : Fin 8) (r : Fin 16) (j : Fin 512) : normedAll a0 a2 a3 a4 a5 (ix3 b r j) = (reads a0 a1 a2 a3 a4 a5 a6 a7 a8 a9 a10 b).normed r j := by
  unfold normedAll normedRows
  rw [layerNorm_apply]
  pointwise []
  simp only [unit_eq a0 a1 a2 a3 a4 a5 a6 a7 a8 a9 a10]
  rfl

theorem gated_eq (b : Fin 8) (r : Fin 16) (h : Fin 4) (j : Fin 128) :
    gatedAll a0 a2 a3 a4 a5 a6 a7 (ix3 b r ⟨128 * h.val + j.val, by omega⟩) = (reads a0 a1 a2 a3 a4 a5 a6 a7 a8 a9 a10 b).gated r h j := by
  unfold gatedAll gatedRows
  pointwise []
  rw [mixed_apply]
  simp only [unit_eq a0 a1 a2 a3 a4 a5 a6 a7 a8 a9 a10, padded_apply, masked_apply, normed_eq a0 a1 a2 a3 a4 a5 a6 a7 a8 a9 a10]
  unfold Inputs.gated mix
  refine congrArg₂ (fun u v : EReal => u * v) rfl (congrArg₂ (fun u v : EReal => u + v) (Finset.sum_congr rfl fun s _ => ?_) rfl)
  dsimp only
  split_ifs
  · exact mul_comm (G := EReal) _ _
  · exact mul_zero (M₀ := EReal) _

theorem key_eq (b : Fin 8) (g : Fin 2) (j : Fin 144) (d : Fin 64) : keyAll a0 a2 a3 a9 (ix4 b j g d) = (reads a0 a1 a2 a3 a4 a5 a6 a7 a8 a9 a10 b).key g j d := by
  unfold keyAll
  rw [extended_apply]
  simp only [keyRows_apply, proj_eq a0 a1 a2 a3 a4 a5 a6 a7 a8 a9 a10]
  rfl

theorem val_eq (b : Fin 8) (g : Fin 2) (j : Fin 144) (d : Fin 64) : valAll a0 a2 a3 a10 (ix4 b j g d) = (reads a0 a1 a2 a3 a4 a5 a6 a7 a8 a9 a10 b).val g j d := by
  unfold valAll
  rw [extended_apply]
  simp only [valRows_apply, proj_eq a0 a1 a2 a3 a4 a5 a6 a7 a8 a9 a10]
  rfl

theorem head_eq (b : Fin 8) (r : Fin 16) (n : Fin 8) (d : Fin 64) :
    headAll a0 a1 a2 a3 a9 a10 (ix3 b r ⟨64 * n.val + d.val, by omega⟩) = (reads a0 a1 a2 a3 a4 a5 a6 a7 a8 a9 a10 b).head r n d := by
  have e := headRows_apply (valAll a0 a2 a3 a10) (weightRows (scoreRows (keyAll a0 a2 a3 a9) (queryRows (projected a0 a2 a3))) a1) b r ⟨n.val / 4, by omega⟩ ⟨n.val % 4, by omega⟩ d
  have en : (⟨4 * (n.val / 4) + n.val % 4, by omega⟩ : Fin 8) = n := Fin.ext (by dsimp only; omega)
  have ej : (⟨64 * (4 * (n.val / 4) + n.val % 4) + d.val, by omega⟩ : Fin 512) = ⟨64 * n.val + d.val, by omega⟩ := Fin.ext (by dsimp only; omega)
  have eq : ∀ d : Fin 64, (⟨1024 + (64 * (4 * (n.val / 4) + n.val % 4) + d.val), by omega⟩ : Fin 1792) = ⟨1024 + (64 * n.val + d.val), by omega⟩ := fun d => Fin.ext (by dsimp only; omega)
  simp only [weightRows_apply, scoreRows_apply, queryRows_apply, key_eq a0 a1 a2 a3 a4 a5 a6 a7 a8 a9 a10, val_eq a0 a1 a2 a3 a4 a5 a6 a7 a8 a9 a10, proj_eq a0 a1 a2 a3 a4 a5 a6 a7 a8 a9 a10, en, ej, eq] at e
  exact e

theorem cat_eq (b : Fin 8) (r : Fin 16) (j : Fin 1024) :
    joinedRows (gatedAll a0 a2 a3 a4 a5 a6 a7) (headAll a0 a1 a2 a3 a9 a10) (ix3 b r j) = (reads a0 a1 a2 a3 a4 a5 a6 a7 a8 a9 a10 b).cat r j := by
  rw [joinedRows_apply]
  unfold Inputs.cat
  split_ifs with h
  · rw [← gated_eq]
    exact congrArg (gatedAll a0 a2 a3 a4 a5 a6 a7) (congrArg (ix3 b r) (Fin.ext (by dsimp only; omega)))
  · rw [← head_eq]
    exact congrArg (headAll a0 a1 a2 a3 a9 a10) (congrArg (ix3 b r) (Fin.ext (by dsimp only; omega)))

theorem out_eq (b : Fin 8) (r : Fin 16) (j : Fin 1024) :
    outAll a0 a1 a2 a3 a4 a5 a6 a7 a8 a9 a10 (ix2 ⟨16 * b.val + r.val, by omega⟩ j) = (reads a0 a1 a2 a3 a4 a5 a6 a7 a8 a9 a10 b).out r j := by
  unfold outAll
  rw [outRows_apply]
  simp only [cat_eq a0 a1 a2 a3 a4 a5 a6 a7 a8 a9 a10]
  rfl

end Composed

/-! ## The reference's results are these stages -/

section Results
variable (m : (ℓ : Loc nD τ sig) → Buf (Elt Ideal) ℓ) (c : Dev nD)

theorem res_rows : res_main_v105 m c = shapeCast S128x512 (normedAll (m ((c.tc : Thread nD τ).loc main_arg0)) (m ((c.tc : Thread nD τ).loc main_arg2)) (m ((c.tc : Thread nD τ).loc main_arg3))
    (m ((c.tc : Thread nD τ).loc main_arg4)) (m ((c.tc : Thread nD τ).loc main_arg5))) shapeCasts_S8x16x512_S128x512 := rfl

theorem res_out : res_main_v102 m c = outAll (m ((c.tc : Thread nD τ).loc main_arg0)) (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
    (m ((c.tc : Thread nD τ).loc main_arg9)) (m ((c.tc : Thread nD τ).loc main_arg10)) := rfl

end Results

end Cert.Odd.Ref

end
-- ==== Proof.OddClaim.lean ====
/-
  The odd layers' mixer's value claim: the call leaves what the reference computes.
-/
module

public import proofs.«01_k».proof.Defs
public import proofs.«01_k».proof.Proof.OddState
public import proofs.«01_k».proof.Proof.OddRef

@[expose] public section

set_option maxRecDepth 16384

noncomputable section

namespace Cert.Odd

open Idealize.ShloMosaic Idealize.ShloMosaic.StableHlo Idealize.SL.Sem

/-- A row is the one at its position in its batch entry. -/
theorem row_split (a : Fin 128) : (⟨16 * (batch a).val + (pos a).val, by omega⟩ : Fin 128) = a := Fin.ext (by
  show 16 * (a.val / 16) + a.val % 16 = a.val
  omega)

theorem algebraic : Cert.algebraic_Kernel3Ideal_Reference3Ideal := by
  intro m ρ m' ρ' _ hagree
  refine ⟨_, _, _, _, Cert.Kernel3Ideal.Value.run_blocks (F := Ideal) m ρ, ?_⟩
  refine (θ_run Cert.Reference3Ideal.defs _ _).mono (fun _ h c => ⟨?_, ?_, ?_, ?_, (h c).2.2.2.2⟩) (Cert.Reference3Ideal.Value.run (F := Ideal) m' ρ')
  · rw [(h c).1, Ref.res_out]
    simp only [hagree c]
    rw [array_out m c]
    funext i
    refine (congrArg _ ((eq_ix2 i).trans (congrArg (ix2 · (i 1)) (row_split (i 0)).symm))).trans (Ref.out_eq _ _ _ _ _ _ _ _ _ _ _ (batch (i 0)) (pos (i 0)) (i 1))
  · rw [(h c).2.1]
    simp only [hagree c]
    rw [array_key m c]
    funext i
    refine (congrArg _ (eq_ix3 i)).trans ((Ref.flatKeys_apply (Ref.projected _ _ _) (i 0) (i 1) (i 2)).trans ?_)
    exact Ref.projected_apply _ _ _ _ _ _
  · rw [(h c).2.2.1]
    simp only [hagree c]
    rw [array_val m c]
    funext i
    refine (congrArg _ (eq_ix3 i)).trans ((Ref.flatVals_apply (Ref.projected _ _ _) (i 0) (i 1) (i 2)).trans ?_)
    exact Ref.projected_apply _ _ _ _ _ _
  · rw [(h c).2.2.2.1, Ref.res_rows]
    simp only [hagree c]
    rw [array_rows m c]
    funext i
    refine (congrArg _ (eq_ix2 i)).trans ((Ref.flatRows_apply _ (i 0) (i 1)).trans ?_)
    exact Ref.normed_eq _ _ _ _ _ _ _ _ _ _ _ (batch (i 0)) (pos (i 0)) (i 1)

end Cert.Odd

end
-- ==== Proof.EvenSpec.lean ====
/-
  The mathematics of the even layers' mixer over the extended reals, row by row: the input projection of a normalised row, the
  gated rows, their causal convolution with 31 taps, the differences of a windowed mean and its last row, and the output.
-/
module

public import proofs.«01_k».proof.Proof.OddSpec

@[expose] public section

noncomputable section

namespace Cert.Even

open Idealize.ShloMosaic Cert.Layer

/-- The logistic function. -/
def sigmoid (z : EReal) : EReal := Ideal.div 1 (1 + Ideal.exp (-z))

/-- The number of rows that pooling group `g` averages: 2, 4, 8, 16. -/
def width (g : Fin 4) : ℕ := 2 ^ (g.val + 1)

/-- What the layer reads for one batch entry. -/
structure Inputs where
  x : Fin 16 → Fin 1024 → EReal
  gain : Fin 1024 → EReal
  w : Fin 1024 → Fin 1536 → EReal
  cw : Fin 31 → Fin 512 → EReal
  cb : Fin 512 → EReal
  lg : Fin 512 → EReal
  lb : Fin 512 → EReal
  pw : Fin 4 → Fin 128 → Fin 128 → EReal
  ps : Fin 512 → EReal
  wo : Fin 1024 → Fin 1024 → EReal
  oldA : Fin 30 → Fin 512 → EReal
  oldP : Fin 15 → Fin 512 → EReal

namespace Inputs
variable (I : Inputs)

/-- The projection: rows to convolve, their gates and rows to pool side by side. -/
def proj (r : Fin 16) (j : Fin 1536) : EReal := ∑ k, rms (I.x r) I.gain k * I.w k j

/-- The gated rows. -/
def glu (r : Fin 16) (j : Fin 512) : EReal := I.proj r ⟨j.val, by omega⟩ * sigmoid (I.proj r ⟨512 + j.val, by omega⟩)

/-- The thirty rows kept from before, then the new gated rows. -/
def convIn (n : Fin 46) (j : Fin 512) : EReal := if h : n.val < 30 then I.oldA ⟨n.val, h⟩ j else I.glu ⟨n.val - 30, by omega⟩ j

/-- The convolution. -/
def conv (r : Fin 16) (j : Fin 512) : EReal := (∑ k : Fin 31, I.convIn ⟨r.val + k.val, by omega⟩ j * I.cw k j) + I.cb j

/-- The normalised convolution times its logistic function. -/
def act (r : Fin 16) (j : Fin 512) : EReal := Odd.lnorm (I.conv r) I.lg I.lb j * sigmoid (Odd.lnorm (I.conv r) I.lg I.lb j)

/-- The fifteen rows kept from before, then the new rows to pool. -/
def poolIn (n : Fin 31) (j : Fin 512) : EReal :=
  if h : n.val < 15 then I.oldP ⟨n.val, h⟩ j else I.proj ⟨n.val - 15, by omega⟩ ⟨1024 + j.val, by omega⟩

/-- The sum of the last rows of a window that ends at row `r`. -/
def windowSum (r : Fin 16) (g : Fin 4) (j : Fin 512) : EReal := ∑ i ∈ Finset.range (width g), I.poolIn ⟨15 + r.val - i, by omega⟩ j

/-- The mean over the window less the row itself. -/
def pooled (r : Fin 16) (g : Fin 4) (d : Fin 128) : EReal :=
  Ideal.div (I.windowSum r g ⟨128 * g.val + d.val, by omega⟩) ((width g : ℝ) : EReal) - I.poolIn ⟨15 + r.val, by omega⟩ ⟨128 * g.val + d.val, by omega⟩

/-- The pooled rows of a group through its matrix, scaled. -/
def mixed (r : Fin 16) (g : Fin 4) (d : Fin 128) : EReal := (∑ k, I.pooled r g k * I.pw g k d) * I.ps ⟨128 * g.val + d.val, by omega⟩

/-- The convolved half and the pooled half side by side. -/
def cat (r : Fin 16) (j : Fin 1024) : EReal :=
  if h : j.val < 512 then I.act r ⟨j.val, h⟩ else I.mixed r ⟨(j.val - 512) / 128, by omega⟩ ⟨(j.val - 512) % 128, by omega⟩

/-- The layer's output row. -/
def out (r : Fin 16) (j : Fin 1024) : EReal := I.x r j + ∑ k, I.cat r k * I.wo k j

end Inputs

/-- A sum of 31 terms, written out. -/
theorem sum_taps (f : Fin 31 → EReal) : ∑ k, f k = f 0 + f 1 + f 2 + f 3 + f 4 + f 5 + f 6 + f 7 + f 8 + f 9 + f 10 + f 11 + f 12 + f 13 + f 14 + f 15
    + f 16 + f 17 + f 18 + f 19 + f 20 + f 21 + f 22 + f 23 + f 24 + f 25 + f 26 + f 27 + f 28 + f 29 + f 30 := by
  simp only [Fin.sum_univ_castSucc, Fin.sum_univ_zero, zero_add]
  rfl

/-- The logistic function with the negation written as a difference. -/
theorem sigmoid_sub (z : EReal) : Ideal.div 1 (1 + Ideal.exp (0 - z)) = sigmoid z := by
  rw [zero_sub]
  rfl

end Cert.Even

end
-- ==== Proof.EvenSteps.lean ====
/-
  The even layers' mixer: what its body's vector operations compute, entry by entry.
-/
module

public import proofs.«01_k».proof.Proof.Gen.Kernel4Ideal.Value
public import Idealize.ShloMosaic.Lib.Pipeline.ValueKit
public import Idealize.ShloMosaic.Lib.Pointwise
public import proofs.«01_k».proof.Proof.EvenSpec

@[expose] public section

set_option maxRecDepth 16384

noncomputable section

namespace Cert.Even

open Cert.Kernel4Ideal Cert.Kernel4Ideal.Gen Idealize.ShloMosaic Idealize.ShloMosaic.TcCoe Idealize.SL.Sem Cert.Layer

theorem project_apply (x : Vec Ideal S16x1024 .f32) (g : Vec Ideal S1x1024 .f32) (w : Vec Ideal S1024x1536 .bf16) (r : Fin 16) (j : Fin 1536) :
    k0_pay7 x g w (ix2 r j) = ∑ k, rms (fun k => x (ix2 r k)) (fun k => g (ix2 0 k)) k * w (ix2 k j) := by
  pointwise [k0_pay7]
  rfl

theorem glu_apply (x : Vec Ideal S16x1024 .f32) (g : Vec Ideal S1x1024 .f32) (w : Vec Ideal S1024x1536 .bf16) (r : Fin 16) (j : Fin 512) :
    k0_pay8 x g w (ix2 r j) = k0_pay7 x g w (ix2 r ⟨j.val, by omega⟩) * sigmoid (k0_pay7 x g w (ix2 r ⟨512 + j.val, by omega⟩)) := by
  unfold k0_pay8
  generalize k0_pay7 x g w = P
  pointwise []
  exact congrArg (fun e : EReal => P (ix2 r ⟨j.val, by omega⟩) * e) (sigmoid_sub _)

/-! ## The convolution, 128 columns at a time -/

section Taps
variable (A : Fin 31 → Vec Ideal S16x128 .f32) (W : Fin 31 → Vec Ideal S1x128 .f32)

/-- The products of the first 128 columns added up, as the body does it. -/
def taps0 : FVec Ideal S16x128 .f32 :=
  k0_pay16 (k0_pay15 (k0_pay13 (k0_pay12 (k0_pay11 (A 0) (W 0) (A 1) (W 1) (A 2) (W 2) (A 3) (W 3) (A 4) (W 4) (A 5) (W 5))
    (A 6) (W 6) (A 7) (W 7) (A 8) (W 8) (A 9) (W 9) (A 10) (W 10) (A 11) (W 11) (A 12) (W 12))
    (A 13) (W 13) (A 14) (W 14) (A 15) (W 15) (A 16) (W 16) (A 17) (W 17) (A 18) (W 18))
    (A 19) (k0_pay14 (W 19)) (A 20) (W 20) (A 21) (W 21) (A 22) (W 22) (A 23) (W 23) (A 24) (W 24) (A 25) (W 25))
    (A 26) (W 26) (A 27) (W 27) (A 28) (W 28) (A 29) (W 29) (A 30) (W 30)

/-- The next 128 columns. -/
def taps1 : FVec Ideal S16x128 .f32 :=
  k0_pay24 (k0_pay22 (k0_pay21 (k0_pay20 (k0_pay18 (k0_pay17 (A 0) (W 0) (A 1) (W 1))
    (A 2) (W 2) (A 3) (W 3) (A 4) (W 4) (A 5) (W 5) (A 6) (W 6) (A 7) (W 7)) (k0_pay19 (A 8) (W 8))
    (A 9) (W 9) (A 10) (W 10) (A 11) (W 11) (A 12) (W 12) (A 13) (W 13) (A 14) (W 14))
    (A 15) (W 15) (A 16) (W 16) (A 17) (W 17) (A 18) (W 18) (A 19) (W 19) (A 20) (W 20) (A 21) (W 21))
    (A 22) (W 22) (A 23) (W 23) (A 24) (W 24) (A 25) (W 25) (A 26) (W 26) (A 27) (W 27)) (k0_pay23 (A 28) (W 28)) (A 29) (W 29) (A 30) (W 30)

/-- The third 128 columns. -/
def taps2 : FVec Ideal S16x128 .f32 :=
  k0_pay29 (k0_pay28 (k0_pay27 (k0_pay26 (k0_pay25 (A 0) (W 0) (A 1) (W 1) (A 2) (W 2) (A 3) (W 3))
    (A 4) (W 4) (A 5) (W 5) (A 6) (W 6) (A 7) (W 7) (A 8) (W 8) (A 9) (W 9) (A 10) (W 10))
    (A 11) (W 11) (A 12) (W 12) (A 13) (W 13) (A 14) (W 14) (A 15) (W 15) (A 16) (W 16) (A 17) (W 17))
    (A 18) (W 18) (A 19) (W 19) (A 20) (W 20) (A 21) (W 21) (A 22) (W 22) (A 23) (W 23))
    (A 24) (W 24) (A 25) (W 25) (A 26) (W 26) (A 27) (W 27) (A 28) (W 28) (A 29) (W 29) (A 30) (W 30)

/-- The first 27 products of the last 128 columns. -/
def taps3 : FVec Ideal S16x128 .f32 :=
  k0_pay34 (k0_pay33 (k0_pay31 (k0_pay30 (A 0) (W 0) (A 1) (W 1) (A 2) (W 2) (A 3) (W 3) (A 4) (W 4) (A 5) (W 5) (A 6) (W 6))
    (A 7) (W 7) (A 8) (W 8) (A 9) (W 9) (A 10) (W 10) (A 11) (W 11) (A 12) (W 12))
    (A 13) (k0_pay32 (W 13)) (A 14) (W 14) (A 15) (W 15) (A 16) (W 16) (A 17) (W 17) (A 18) (W 18) (A 19) (W 19))
    (A 20) (W 20) (A 21) (W 21) (A 22) (W 22) (A 23) (W 23) (A 24) (W 24) (A 25) (W 25) (A 26) (W 26)

variable (r : Fin 16) (j : Fin 128)

theorem taps0_apply : taps0 A W (ix2 r j) = ∑ k, A k (ix2 r j) * W k (ix2 0 j) := by
  rw [sum_taps]
  pointwise [taps0, k0_pay16, k0_pay15, k0_pay14, k0_pay13, k0_pay12, k0_pay11]

theorem taps1_apply : taps1 A W (ix2 r j) = ∑ k, A k (ix2 r j) * W k (ix2 0 j) := by
  rw [sum_taps]
  pointwise [taps1, k0_pay24, k0_pay23, k0_pay22, k0_pay21, k0_pay20, k0_pay19, k0_pay18, k0_pay17]

theorem taps2_apply : taps2 A W (ix2 r j) = ∑ k, A k (ix2 r j) * W k (ix2 0 j) := by
  rw [sum_taps]
  pointwise [taps2, k0_pay29, k0_pay28, k0_pay27, k0_pay26, k0_pay25]

/-- The last 128 columns: the first 27 products and four more. -/
def taps3Full : FVec Ideal S16x128 .f32 :=
  addf (addf (addf (addf (taps3 A W) (mulf (A 27) (broadcastTo S16x128 (W 27) broadcasts_S1x128_S16x128))) (mulf (A 28) (broadcastTo S16x128 (W 28) broadcasts_S1x128_S16x128)))
    (mulf (A 29) (broadcastTo S16x128 (W 29) broadcasts_S1x128_S16x128))) (mulf (A 30) (broadcastTo S16x128 (W 30) broadcasts_S1x128_S16x128))

theorem taps3_apply : taps3Full A W (ix2 r j) = ∑ k, A k (ix2 r j) * W k (ix2 0 j) := by
  rw [sum_taps]
  pointwise [taps3Full, taps3, k0_pay34, k0_pay33, k0_pay32, k0_pay31, k0_pay30]

end Taps

section Join
variable (A : Fin 4 → Fin 31 → Vec Ideal S16x128 .f32) (W : Fin 4 → Fin 31 → Vec Ideal S1x128 .f32) (b : Vec Ideal S1x512 .f32)

/-- The convolution with its bias. -/
def convolved : FVec Ideal S16x512 .f32 :=
  addf (concatenate S16x512 1 [⟨S16x128, taps0 (A 0) (W 0)⟩, ⟨S16x128, taps1 (A 1) (W 1)⟩, ⟨S16x128, taps2 (A 2) (W 2)⟩, ⟨S16x128, taps3Full (A 3) (W 3)⟩]
    concatenates_S16x128_S16x128_S16x128_S16x128_S16x512_d1) (broadcastTo S16x512 (shapeCast S1x512 b shapeCasts_S1x512_S1x512) broadcasts_S1x512_S16x512)

theorem convolved_apply (r : Fin 16) (g : Fin 4) (j : Fin 128) :
    convolved A W b (ix2 r ⟨128 * g.val + j.val, by omega⟩) = (∑ k, A g k (ix2 r j) * W g k (ix2 0 j)) + b (ix2 0 ⟨128 * g.val + j.val, by omega⟩) := by
  have h0 := taps0_apply (A 0) (W 0) r
  have h1 := taps1_apply (A 1) (W 1) r
  have h2 := taps2_apply (A 2) (W 2) r
  have h3 := taps3_apply (A 3) (W 3) r
  unfold convolved
  generalize taps0 (A 0) (W 0) = T0 at h0 ⊢
  generalize taps1 (A 1) (W 1) = T1 at h1 ⊢
  generalize taps2 (A 2) (W 2) = T2 at h2 ⊢
  generalize taps3Full (A 3) (W 3) = T3 at h3 ⊢
  pointwise []
  refine congrArg (fun e : EReal => e + b (ix2 0 ⟨128 * g.val + j.val, by omega⟩)) ?_
  have f : ∀ (g' : Fin 4) (j' : Fin 128), 128 * g'.val + j'.val = 128 * g.val + j.val →
      ∑ k, A g' k (ix2 r j') * W g' k (ix2 0 j') = ∑ k, A g k (ix2 r j) * W g k (ix2 0 j) := fun g' j' e => by
    obtain rfl : g' = g := Fin.ext (by omega)
    obtain rfl : j' = j := Fin.ext (by omega)
    rfl
  split_ifs <;> first
    | exact (h0 _).trans (f _ _ (by show 128 * 0 + (128 * g.val + j.val) = _; omega))
    | exact (h1 _).trans (f _ _ (by show 128 * 1 + (128 * g.val + j.val - 128) = _; omega))
    | exact (h2 _).trans (f _ _ (by show 128 * 2 + (128 * g.val + j.val - 128 - 128) = _; omega))
    | exact (h3 _).trans (f _ _ (by show 128 * 3 + (128 * g.val + j.val - 128 - 128 - 128) = _; omega))

end Join

/-- The rows less their mean. -/
def centred (v : FVec Ideal S16x512 .f32) : FVec Ideal S16x512 .f32 :=
  subf v (broadcastTo S16x512 (divf (shapeCast S16x1 (multiReduction .add [1] S16 v 0x00000000#32 reduces_S16x512_S16 (.inl rfl) rfl) shapeCasts_S16_S16x1)
    (broadcast S16x1 (Scalar.ofBits (F := Ideal) .f32 0x44000000#32))) broadcasts_S16x1_S16x512)

theorem centred_eq (A : Fin 4 → Fin 31 → Vec Ideal S16x128 .f32) (W : Fin 4 → Fin 31 → Vec Ideal S1x128 .f32) (b : Vec Ideal S1x512 .f32) :
    k0_pay37 (taps0 (A 0) (W 0)) (taps1 (A 1) (W 1)) (taps2 (A 2) (W 2)) (taps3 (A 3) (W 3)) (A 3 27) (W 3 27) (A 3 28) (W 3 28) (A 3 29) (W 3 29) (A 3 30) (W 3 30) b
      = centred (convolved A W b) := rfl

theorem act_apply (v : FVec Ideal S16x512 .f32) (g b : Vec Ideal S1x512 .f32) (r : Fin 16) (j : Fin 512) :
    k0_pay39 (k0_pay35 g) (k0_pay36 b) (centred v) (mulf (centred v) (centred v)) (ix2 r j)
      = Odd.lnorm (fun j => v (ix2 r j)) (fun j => g (ix2 0 j)) (fun j => b (ix2 0 j)) j
        * sigmoid (Odd.lnorm (fun j => v (ix2 r j)) (fun j => g (ix2 0 j)) (fun j => b (ix2 0 j)) j) := by
  pointwise [k0_pay39, k0_pay35, k0_pay36, centred]
  exact congrArg (fun e : EReal => Odd.lnorm (fun j => v (ix2 r j)) (fun j => g (ix2 0 j)) (fun j => b (ix2 0 j)) j * e) (sigmoid_sub _)

/-! ## The pooled groups -/

section Pool
variable (Q : Fin 16 → Vec Ideal S16x128 .f32) (w : Vec Ideal S1x128x128 .bf16) (s : Vec Ideal S1x128 .f32)

/-- The four groups, as the body computes them. -/
def pool0 : FVec Ideal S16x128 .bf16 := k0_pay42 (k0_pay41 0#32 (Q 0) (Q 1)) w s
def pool1 : FVec Ideal S16x128 .bf16 := k0_pay43 (k0_pay40 (F := Ideal) 0#32) (Q 0) (Q 1) (Q 2) (Q 3) w s
def pool2 : FVec Ideal S16x128 .bf16 := k0_pay44 (k0_pay40 (F := Ideal) 0#32) (Q 0) (Q 1) (Q 2) (Q 3) (Q 4) (Q 5) (Q 6) (Q 7) w s
def pool3 : FVec Ideal S16x128 .bf16 := k0_pay46 (k0_pay40 (F := Ideal) 0#32) (Q 0)
  (k0_pay45 (Q 0) (Q 1) (Q 2) (Q 3) (Q 4) (Q 5) (Q 6) (Q 7) (Q 8) (Q 9) (Q 10) (Q 11) (Q 12) (Q 13) (Q 14) (Q 15)) w s

/-- The pooled rows of a group of width `n`, from the window's sum. -/
def poolAt (n : ℕ) (S : Fin 128 → EReal) (r : Fin 16) (d : Fin 128) : EReal :=
  (∑ k, (Ideal.div (S k) ((n : ℝ) : EReal) - Q 0 (ix2 r k)) * w (ix3 0 k d)) * s (ix2 0 d)

variable (r : Fin 16) (d : Fin 128)

/-- The number of rows up to and including row `r`, as the body counts them. -/
theorem count_rows (r : Fin 16) : FloatOps.sitofp (F := Ideal) .f32
    (IntOp.addi (Scalar.addi (Scalar.addi 1025#32 (Scalar.muli 0#32 16#32)) 0#32) (BitVec.ofNat 32 r.val)) = ((1025 + r.val : ℝ) : EReal) := by
  have h : ∀ r : Fin 16, (IntOp.addi (Scalar.addi (Scalar.addi 1025#32 (Scalar.muli 0#32 16#32)) 0#32) (BitVec.ofNat 32 r.val)).toInt = 1025 + r.val := by decide
  show (((IntOp.addi (Scalar.addi (Scalar.addi 1025#32 (Scalar.muli 0#32 16#32)) 0#32) (BitVec.ofNat 32 r.val)).toInt : ℝ) : EReal) = _
  rw [h]
  push_cast
  rfl

theorem min_count (n : ℕ) (hn : n ≤ 16) (r : Fin 16) (z : EReal) (hz : z = ((n : ℝ) : EReal)) : min z (FloatOps.sitofp (F := Ideal) .f32
    (IntOp.addi (Scalar.addi (Scalar.addi 1025#32 (Scalar.muli 0#32 16#32)) 0#32) (BitVec.ofNat 32 r.val))) = ((n : ℝ) : EReal) := by
  rw [count_rows, hz]
  refine min_eq_left (EReal.coe_le_coe_iff.2 ?_)
  have : (n : ℝ) ≤ 16 := by exact_mod_cast hn
  have : (0 : ℝ) ≤ r.val := Nat.cast_nonneg _
  linarith

theorem two_literal : Ideal.ofBits .f32 0x40000000#32 = ((2 : ℕ) : ℝ) := by
  simp [Ideal.ofBits, Ideal.ieee]
  rw [← EReal.coe_mul]
  norm_num

theorem four_literal : Ideal.ofBits .f32 0x40800000#32 = ((4 : ℕ) : ℝ) := by
  simp [Ideal.ofBits, Ideal.ieee]
  rw [← EReal.coe_mul]
  norm_num

theorem eight_literal : Ideal.ofBits .f32 0x41000000#32 = ((8 : ℕ) : ℝ) := by
  simp [Ideal.ofBits, Ideal.ieee]
  rw [← EReal.coe_mul]
  norm_num

theorem sixteen_literal : Ideal.ofBits .f32 0x41800000#32 = ((16 : ℕ) : ℝ) := by
  simp [Ideal.ofBits, Ideal.ieee]
  rw [← EReal.coe_mul]
  norm_num

theorem pool0_apply : pool0 Q w s (ix2 r d) = poolAt Q w s 2 (fun k => Q 0 (ix2 r k) + Q 1 (ix2 r k)) r d := by
  pointwise [pool0, k0_pay42, k0_pay41, k0_pay40]
  rw [min_count 2 (by decide) r _ two_literal]
  rfl

theorem pool1_apply : pool1 Q w s (ix2 r d) = poolAt Q w s 4 (fun k => Q 0 (ix2 r k) + Q 1 (ix2 r k) + Q 2 (ix2 r k) + Q 3 (ix2 r k)) r d := by
  pointwise [pool1, k0_pay43, k0_pay40]
  rw [min_count 4 (by decide) r _ four_literal]
  rfl

theorem pool2_apply : pool2 Q w s (ix2 r d) = poolAt Q w s 8 (fun k => Q 0 (ix2 r k) + Q 1 (ix2 r k) + Q 2 (ix2 r k) + Q 3 (ix2 r k)
    + Q 4 (ix2 r k) + Q 5 (ix2 r k) + Q 6 (ix2 r k) + Q 7 (ix2 r k)) r d := by
  pointwise [pool2, k0_pay44, k0_pay40]
  rw [min_count 8 (by decide) r _ eight_literal]
  rfl

theorem pool3_apply : pool3 Q w s (ix2 r d) = poolAt Q w s 16 (fun k => Q 0 (ix2 r k) + Q 1 (ix2 r k) + Q 2 (ix2 r k) + Q 3 (ix2 r k)
    + Q 4 (ix2 r k) + Q 5 (ix2 r k) + Q 6 (ix2 r k) + Q 7 (ix2 r k) + Q 8 (ix2 r k) + Q 9 (ix2 r k) + Q 10 (ix2 r k) + Q 11 (ix2 r k)
    + Q 12 (ix2 r k) + Q 13 (ix2 r k) + Q 14 (ix2 r k) + Q 15 (ix2 r k)) r d := by
  pointwise [pool3, k0_pay46, k0_pay45, k0_pay40]
  rw [min_count 16 (by decide) r _ sixteen_literal]
  rfl

end Pool

end Cert.Even

end
-- ==== Proof.EvenScratch.lean ====
/-
  The even layers' mixer: what its scratch buffers hold when the body reads them back.
-/
module

public import proofs.«01_k».proof.Proof.EvenSteps
public import Idealize.ShloMosaic.Lib.Pipeline.ReadBack

@[expose] public section

set_option maxRecDepth 16384

noncomputable section

namespace Cert.Even

open Cert.Kernel4Ideal Cert.Kernel4Ideal.Gen Idealize.ShloMosaic Idealize.ShloMosaic.TcCoe Idealize.SL.Sem Cert.Layer

/-- The rows to convolve: two rows of zeros, the thirty kept ones, the sixteen new ones. -/
def convRows (old : Vec Ideal S1x30x512 .f32) (new : FVec Ideal S16x512 .f32) (n : Fin 48) (j : Fin 512) : EReal :=
  if n.val < 2 then 0 else if h : n.val < 32 then old (ix3 0 ⟨n.val - 2, by omega⟩ j) else new (ix2 ⟨n.val - 32, by omega⟩ j)

def convPieces (old : Vec Ideal S1x30x512 .f32) (new : FVec Ideal S16x512 .f32) : List (View.Piece (Elt Ideal) S48x512 .f32) :=
  [⟨Rect.unit ![32, 0] ![16, 512] inb_S48x512_S16x512_32_0, new⟩,
   ⟨Rect.unit ![2, 0] ![30, 512] inb_S48x512_S30x512_2_0, k0_pay4 old⟩,
   ⟨Rect.unit ![0, 0] ![2, 512] inb_S48x512_S2x512_0_0, k0_pay3 (F := Ideal)⟩]

theorem conv_canon (old : Vec Ideal S1x30x512 .f32) (new : FVec Ideal S16x512 .f32) (y : S48x512.Idx) :
    View.canon (convPieces old new) y = convRows old new (y 0) (y 1) := by
  have hc : ∃ p ∈ convPieces old new, y ∈ p.1.set := by
    unfold convPieces
    have h0 : (y 0).val < 48 := (y 0).isLt
    have h1 : (y 1).val < 512 := (y 1).isLt
    obtain h | h | h : 32 ≤ (y 0).val ∨ (2 ≤ (y 0).val ∧ (y 0).val < 32) ∨ (y 0).val < 2 := by omega
    · exact ⟨_, .head _, by rw [Rect.mem_set_unit]; exact Fin.forall_fin_two.2 ⟨by simp; omega, by simp; omega⟩⟩
    · exact ⟨_, .tail _ (.head _), by rw [Rect.mem_set_unit]; exact Fin.forall_fin_two.2 ⟨by simp; omega, by simp; omega⟩⟩
    · exact ⟨_, .tail _ (.tail _ (.head _)), by rw [Rect.mem_set_unit]; exact Fin.forall_fin_two.2 ⟨by simp; omega, by simp; omega⟩⟩
  unfold convPieces at hc ⊢
  canon_tiles x h using hc
  all_goals
    conv_lhs => rw [eq_ix2 x]
    unfold convRows
    split_ifs <;> first
      | omega
      | exact congrArg new (congrArg₂ ix2 (Fin.ext (by dsimp only; omega)) (Fin.ext (by dsimp only; omega)))
      | pointwise [k0_pay4, k0_pay3]
    try first
      | rfl
      | exact congrArg _ (congrArg₂ ix2 (Fin.ext (by dsimp only; omega)) (Fin.ext (by dsimp only; omega)))
      | exact congrArg _ (congrArg₂ (ix3 0) (Fin.ext (by dsimp only; omega)) (Fin.ext (by dsimp only; omega)))

/-- The rows to pool: one row of zeros, the fifteen kept ones, the sixteen new ones. -/
def poolRows (old : Vec Ideal S1x15x512 .f32) (new : FVec Ideal S16x512 .f32) (n : Fin 32) (j : Fin 512) : EReal :=
  if n.val < 1 then 0 else if h : n.val < 16 then old (ix3 0 ⟨n.val - 1, by omega⟩ j) else new (ix2 ⟨n.val - 16, by omega⟩ j)

def poolPieces (old : Vec Ideal S1x15x512 .f32) (new : FVec Ideal S16x512 .f32) : List (View.Piece (Elt Ideal) S32x512 .f32) :=
  [⟨Rect.unit ![16, 0] ![16, 512] inb_S32x512_S16x512_16_0, k0_pay10 new⟩,
   ⟨Rect.unit ![1, 0] ![15, 512] inb_S32x512_S15x512_1_0, k0_pay6 old⟩,
   ⟨Rect.unit ![0, 0] ![1, 512] inb_S32x512_S1x512_0_0, k0_pay5 (F := Ideal)⟩]

theorem pool_canon (old : Vec Ideal S1x15x512 .f32) (new : FVec Ideal S16x512 .f32) (y : S32x512.Idx) :
    View.canon (poolPieces old new) y = poolRows old new (y 0) (y 1) := by
  have hc : ∃ p ∈ poolPieces old new, y ∈ p.1.set := by
    unfold poolPieces
    have h0 : (y 0).val < 32 := (y 0).isLt
    have h1 : (y 1).val < 512 := (y 1).isLt
    obtain h | h | h : 16 ≤ (y 0).val ∨ (1 ≤ (y 0).val ∧ (y 0).val < 16) ∨ (y 0).val < 1 := by omega
    · exact ⟨_, .head _, by rw [Rect.mem_set_unit]; exact Fin.forall_fin_two.2 ⟨by simp; omega, by simp; omega⟩⟩
    · exact ⟨_, .tail _ (.head _), by rw [Rect.mem_set_unit]; exact Fin.forall_fin_two.2 ⟨by simp; omega, by simp; omega⟩⟩
    · exact ⟨_, .tail _ (.tail _ (.head _)), by rw [Rect.mem_set_unit]; exact Fin.forall_fin_two.2 ⟨by simp; omega, by simp; omega⟩⟩
  unfold poolPieces at hc ⊢
  canon_tiles x h using hc
  all_goals
    conv_lhs => rw [eq_ix2 x]
    unfold poolRows
    split_ifs <;> first
      | omega
      | exact congrArg new (congrArg₂ ix2 (Fin.ext (by dsimp only; omega)) (Fin.ext (by dsimp only; omega)))
      | pointwise [k0_pay10, k0_pay6, k0_pay5]
    try first
      | exact congrArg new ((eq_ix2 x).trans (congrArg₂ ix2 (Fin.ext (by dsimp only; omega)) (Fin.ext (by dsimp only; omega))))
      | rfl
      | exact congrArg _ (congrArg₂ ix2 (Fin.ext (by dsimp only; omega)) (Fin.ext (by dsimp only; omega)))
      | exact congrArg _ (congrArg₂ (ix3 0) (Fin.ext (by dsimp only; omega)) (Fin.ext (by dsimp only; omega)))

/-- The row that enters the last product: the convolved half, then the four pooled groups. -/
def joined (b : FVec Ideal S16x512 .bf16) (a0 a1 a2 a3 : FVec Ideal S16x128 .bf16) (r : Fin 16) (j : Fin 1024) : EReal :=
  if h : j.val < 512 then b (ix2 r ⟨j.val, h⟩) else if h : j.val < 640 then a0 (ix2 r ⟨j.val - 512, by omega⟩)
  else if h : j.val < 768 then a1 (ix2 r ⟨j.val - 640, by omega⟩) else if h : j.val < 896 then a2 (ix2 r ⟨j.val - 768, by omega⟩)
  else a3 (ix2 r ⟨j.val - 896, by omega⟩)

def joinedPieces (b : FVec Ideal S16x512 .bf16) (a0 a1 a2 a3 : FVec Ideal S16x128 .bf16) : List (View.Piece (Elt Ideal) S16x1024 .bf16) :=
  [⟨Rect.unit ![0, 896] ![16, 128] inb_S16x1024_S16x128_0_896, a3⟩,
   ⟨Rect.unit ![0, 768] ![16, 128] inb_S16x1024_S16x128_0_768, a2⟩,
   ⟨Rect.unit ![0, 640] ![16, 128] inb_S16x1024_S16x128_0_640, a1⟩,
   ⟨Rect.unit ![0, 512] ![16, 128] inb_S16x1024_S16x128_0_512, a0⟩,
   ⟨Rect.unit ![0, 0] ![16, 512] inb_S16x1024_S16x512_0_0, b⟩]

theorem joined_canon (b : FVec Ideal S16x512 .bf16) (a0 a1 a2 a3 : FVec Ideal S16x128 .bf16) (y : S16x1024.Idx) :
    View.canon (joinedPieces b a0 a1 a2 a3) y = joined b a0 a1 a2 a3 (y 0) (y 1) := by
  have hc : ∃ p ∈ joinedPieces b a0 a1 a2 a3, y ∈ p.1.set := by
    unfold joinedPieces
    have h0 : (y 0).val < 16 := (y 0).isLt
    have h1 : (y 1).val < 1024 := (y 1).isLt
    obtain h | h | h | h | h : 896 ≤ (y 1).val ∨ (768 ≤ (y 1).val ∧ (y 1).val < 896) ∨ (640 ≤ (y 1).val ∧ (y 1).val < 768)
        ∨ (512 ≤ (y 1).val ∧ (y 1).val < 640) ∨ (y 1).val < 512 := by omega
    · exact ⟨_, .head _, by rw [Rect.mem_set_unit]; exact Fin.forall_fin_two.2 ⟨by simp; omega, by simp; omega⟩⟩
    · exact ⟨_, .tail _ (.head _), by rw [Rect.mem_set_unit]; exact Fin.forall_fin_two.2 ⟨by simp; omega, by simp; omega⟩⟩
    · exact ⟨_, .tail _ (.tail _ (.head _)), by rw [Rect.mem_set_unit]; exact Fin.forall_fin_two.2 ⟨by simp; omega, by simp; omega⟩⟩
    · exact ⟨_, .tail _ (.tail _ (.tail _ (.head _))), by rw [Rect.mem_set_unit]; exact Fin.forall_fin_two.2 ⟨by simp; omega, by simp; omega⟩⟩
    · exact ⟨_, .tail _ (.tail _ (.tail _ (.tail _ (.head _)))), by rw [Rect.mem_set_unit]; exact Fin.forall_fin_two.2 ⟨by simp; omega, by simp; omega⟩⟩
  unfold joinedPieces at hc ⊢
  canon_tiles x h using hc
  all_goals
    conv_lhs => rw [eq_ix2 x]
    unfold joined
    split_ifs <;> first
      | omega
      | exact congrArg _ (congrArg₂ ix2 (Fin.ext (by dsimp only; omega)) (Fin.ext (by dsimp only; omega)))

end Cert.Even

end
-- ==== Proof.EvenBody.lean ====
/-
  What one grid point of the even layers' mixer leaves in its three output blocks, from the blocks it reads.
-/
module

public import proofs.«01_k».proof.Proof.EvenScratch

@[expose] public section

set_option maxRecDepth 16384

noncomputable section

namespace Cert.Even

open Cert.Kernel4Ideal Cert.Kernel4Ideal.Gen Idealize.ShloMosaic Idealize.ShloMosaic.TcCoe Idealize.SL.Sem Cert.Layer

/-! ## The buffers read back -/

section Reads
variable (old : Vec Ideal S1x30x512 .f32) (a : FVec Ideal S16x512 .f32) (oldP : Vec Ideal S1x15x512 .f32) (p : FVec Ideal S16x512 .f32)

theorem inb_tap (g : Fin 4) (k : Fin 31) : ∀ i, (![2 + k.val, 128 * g.val] : Fin 2 → ℕ) i + (![16, 128] : Fin 2 → ℕ) i ≤ S48x512.size i :=
  Fin.forall_fin_two.2 ⟨by show 2 + k.val + 16 ≤ 48; omega, by show 128 * g.val + 128 ≤ 512; omega⟩

/-- Sixteen rows to convolve from row `2 + k` on, 128 columns from column `128 · g` on. -/
def tapRead (g : Fin 4) (k : Fin 31) : Vec Ideal S16x128 .f32 :=
  ((View.whole cc0_scratch0).readCov (Val := Elt Ideal) (convPieces old a) (Rect.unit ![2 + k.val, 128 * g.val] ![16, 128] (inb_tap g k)).toLoadRect :)

theorem tapRead_apply (g : Fin 4) (k : Fin 31) (r : Fin 16) (j : Fin 128) :
    tapRead old a g k (ix2 r j) = convRows old a ⟨2 + k.val + r.val, by omega⟩ ⟨128 * g.val + j.val, by omega⟩ := by
  unfold tapRead
  refine (congrFun (View.readCov_eq_canon' _ _ _) _).trans ((conv_canon _ _ _).trans ?_)
  exact congrArg₂ (convRows old a) (Fin.ext (by simp)) (Fin.ext (by simp))

theorem inb_coef (g : Fin 4) (k : Fin 31) : ∀ i, (![k.val, 128 * g.val] : Fin 2 → ℕ) i + (![1, 128] : Fin 2 → ℕ) i ≤ S31x512.size i :=
  Fin.forall_fin_two.2 ⟨by show k.val + 1 ≤ 31; omega, by show 128 * g.val + 128 ≤ 512; omega⟩

/-- The coefficients of tap `k`, 128 columns from column `128 · g` on. -/
def coefRead (w : Vec Ideal S31x512 .f32) (g : Fin 4) (k : Fin 31) : Vec Ideal S1x128 .f32 :=
  View.ld w (Rect.unit ![k.val, 128 * g.val] ![1, 128] (inb_coef g k))

theorem coefRead_apply (w : Vec Ideal S31x512 .f32) (g : Fin 4) (k : Fin 31) (j : Fin 128) :
    coefRead w g k (ix2 0 j) = w (ix2 k ⟨128 * g.val + j.val, by omega⟩) :=
  congrArg w (funext (Fin.forall_fin_two.2 ⟨Fin.ext (by simp), Fin.ext (by simp)⟩))

theorem inb_back (g : Fin 4) (i : Fin 16) : ∀ a, (![16 - i.val, 128 * g.val] : Fin 2 → ℕ) a + (![16, 128] : Fin 2 → ℕ) a ≤ S32x512.size a :=
  Fin.forall_fin_two.2 ⟨by show 16 - i.val + 16 ≤ 32; omega, by show 128 * g.val + 128 ≤ 512; omega⟩

/-- Sixteen rows to pool from row `16 - i` on, 128 columns from column `128 · g` on. -/
def backRead (g : Fin 4) (i : Fin 16) : Vec Ideal S16x128 .f32 :=
  ((View.whole cc0_scratch1).readCov (Val := Elt Ideal) (poolPieces oldP p) (Rect.unit ![16 - i.val, 128 * g.val] ![16, 128] (inb_back g i)).toLoadRect :)

theorem backRead_apply (g : Fin 4) (i : Fin 16) (r : Fin 16) (j : Fin 128) :
    backRead oldP p g i (ix2 r j) = poolRows oldP p ⟨16 - i.val + r.val, by omega⟩ ⟨128 * g.val + j.val, by omega⟩ := by
  unfold backRead
  refine (congrFun (View.readCov_eq_canon' _ _ _) _).trans ((pool_canon _ _ _).trans ?_)
  exact congrArg₂ (poolRows oldP p) (Fin.ext (by simp)) (Fin.ext (by simp))

theorem inb_mat (g : Fin 4) : ∀ a, (![g.val, 0, 0] : Fin 3 → ℕ) a + (![1, 128, 128] : Fin 3 → ℕ) a ≤ S4x128x128.size a :=
  Fin.forall_fin_succ.2 ⟨by show g.val + 1 ≤ 4; omega, Fin.forall_fin_two.2 ⟨by show 0 + 128 ≤ 128; omega, by show 0 + 128 ≤ 128; omega⟩⟩

/-- The matrix of pooling group `g`. -/
def matRead (w : Vec Ideal S4x128x128 .bf16) (g : Fin 4) : Vec Ideal S1x128x128 .bf16 := View.ld w (Rect.unit ![g.val, 0, 0] ![1, 128, 128] (inb_mat g))

theorem matRead_apply (w : Vec Ideal S4x128x128 .bf16) (g : Fin 4) (k d : Fin 128) : matRead w g (ix3 0 k d) = w (ix3 g k d) :=
  congrArg w (funext (Fin.forall_fin_succ.2 ⟨Fin.ext (by simp), Fin.forall_fin_two.2 ⟨Fin.ext (by simp), Fin.ext (by simp)⟩⟩))

theorem inb_scale (g : Fin 4) : ∀ a, (![0, 128 * g.val] : Fin 2 → ℕ) a + (![1, 128] : Fin 2 → ℕ) a ≤ S1x512.size a :=
  Fin.forall_fin_two.2 ⟨by show 0 + 1 ≤ 1; omega, by show 128 * g.val + 128 ≤ 512; omega⟩

/-- The scales of pooling group `g`. -/
def scaleRead (w : Vec Ideal S1x512 .f32) (g : Fin 4) : Vec Ideal S1x128 .f32 := View.ld w (Rect.unit ![0, 128 * g.val] ![1, 128] (inb_scale g))

theorem scaleRead_apply (w : Vec Ideal S1x512 .f32) (g : Fin 4) (d : Fin 128) : scaleRead w g (ix2 0 d) = w (ix2 0 ⟨128 * g.val + d.val, by omega⟩) :=
  congrArg w (funext (Fin.forall_fin_two.2 ⟨Fin.ext (by simp), Fin.ext (by simp)⟩))

/-- The last 32 rows to convolve. -/
def lateRead : Vec Ideal S32x512 .f32 :=
  ((View.whole cc0_scratch0).readCov (Val := Elt Ideal) (convPieces old a) (Rect.unit ![16, 0] ![32, 512] inb_S48x512_S32x512_16_0).toLoadRect :)

theorem lateRead_apply (n : Fin 32) (j : Fin 512) : lateRead old a (ix2 n j) = convRows old a ⟨16 + n.val, by omega⟩ j := by
  unfold lateRead
  refine (congrFun (View.readCov_eq_canon' _ _ _) _).trans ((conv_canon _ _ _).trans ?_)
  exact congrArg₂ (convRows old a) (Fin.ext (by simp)) (Fin.ext (by simp))

/-- The last 16 rows to pool. -/
def endRead : Vec Ideal S16x512 .f32 :=
  ((View.whole cc0_scratch1).readCov (Val := Elt Ideal) (poolPieces oldP p) (Rect.unit ![16, 0] ![16, 512] inb_S32x512_S16x512_16_0).toLoadRect :)

theorem endRead_apply (n : Fin 16) (j : Fin 512) : endRead oldP p (ix2 n j) = poolRows oldP p ⟨16 + n.val, by omega⟩ j := by
  unfold endRead
  refine (congrFun (View.readCov_eq_canon' _ _ _) _).trans ((pool_canon _ _ _).trans ?_)
  exact congrArg₂ (poolRows oldP p) (Fin.ext (by simp)) (Fin.ext (by simp))

variable (x3 : Vec Ideal S31x512 .f32) (x4 x5 x6 : Vec Ideal S1x512 .f32) (x7 : Vec Ideal S4x128x128 .bf16) (x8 : Vec Ideal S1x512 .f32)

/-- The convolved half. -/
def actRead : FVec Ideal S16x512 .bf16 :=
  k0_pay39 (k0_pay35 x5) (k0_pay36 x6) (centred (convolved (tapRead old a) (coefRead x3) x4))
    (mulf (centred (convolved (tapRead old a) (coefRead x3) x4)) (centred (convolved (tapRead old a) (coefRead x3) x4)))

/-- The row that enters the last product. -/
def joinedRead : Vec Ideal S16x1024 .bf16 :=
  ((View.whole cc0_scratch2).readCov (Val := Elt Ideal) (joinedPieces (actRead old a x3 x4 x5 x6)
    (pool0 (backRead oldP p 0) (matRead x7 0) (scaleRead x8 0)) (pool1 (backRead oldP p 1) (matRead x7 1) (scaleRead x8 1))
    (pool2 (backRead oldP p 2) (matRead x7 2) (scaleRead x8 2)) (pool3 (backRead oldP p 3) (matRead x7 3) (scaleRead x8 3)))
    (Rect.unit ![0, 0] ![16, 1024] inb_S16x1024_S16x1024_0_0).toLoadRect :)

end Reads

section Point
variable (m : (ℓ : Loc nD τ sig) → Buf (Elt Ideal) ℓ) (c : Dev nD) (t : Fin cfg0.N)

theorem out_a : (outsAt0 m c t).2.1 = k0_pay1 (k0_pay50 (lateRead (iblk m c 10 t) (k0_pay8 (iblk m c 0 t) (iblk m c 1 t) (iblk m c 2 t)))) := by
  generalize hz : k0_pay1 (F := Ideal) _ = z
  unfold outsAt0
  frame_out
  subst hz
  generalize k0_pay8 (iblk m c 0 t) (iblk m c 1 t) (iblk m c 2 t) = P
  unfold lateRead convPieces
  rfl

theorem out_p : (outsAt0 m c t).2.2 = k0_pay2 (endRead (iblk m c 11 t) (k0_pay9 (iblk m c 0 t) (iblk m c 1 t) (iblk m c 2 t))) := by
  generalize hz : k0_pay2 (F := Ideal) _ = z
  unfold outsAt0
  frame_out
  subst hz
  generalize k0_pay9 (iblk m c 0 t) (iblk m c 1 t) (iblk m c 2 t) = P
  unfold endRead poolPieces
  rfl

/-- The grid's second coordinate is always zero. -/
theorem counter (t : Fin cfg0.N) : BitVec.ofNat 32 ((grid0.coords t) 1).val = 0#32 := by
  have h : ((grid0.coords t) 1).val < 1 := ((grid0.coords t) 1).isLt
  rw [Nat.lt_one_iff.1 h]

set_option maxHeartbeats 2000000 in
theorem out_y : (outsAt0 m c t).1 = k0_pay47 (iblk m c 0 t) (joinedRead (iblk m c 10 t) (k0_pay8 (iblk m c 0 t) (iblk m c 1 t) (iblk m c 2 t)) (iblk m c 11 t)
    (k0_pay9 (iblk m c 0 t) (iblk m c 1 t) (iblk m c 2 t)) (iblk m c 3 t) (iblk m c 4 t) (iblk m c 5 t) (iblk m c 6 t) (iblk m c 7 t) (iblk m c 8 t)) (iblk m c 9 t) := by
  generalize hz : k0_pay47 (F := Ideal) _ _ _ = z
  unfold outsAt0
  frame_out
  rw [counter t]
  subst hz
  generalize k0_pay8 (iblk m c 0 t) (iblk m c 1 t) (iblk m c 2 t) = P
  generalize k0_pay9 (iblk m c 0 t) (iblk m c 1 t) (iblk m c 2 t) = Q
  refine congrArg (fun q => k0_pay47 _ q _) ?_
  unfold joinedRead joinedPieces
  refine congrArg (fun q => View.readCov _ q _) ?_
  refine congrArg₂ (fun (q : FVec Ideal S16x128 .bf16) w => (⟨Rect.unit ![0, 896] ![16, 128] inb_S16x1024_S16x128_0_896, q⟩ : View.Piece (Elt Ideal) S16x1024 .bf16) :: w) ?_ ?_
  · unfold pool3 backRead matRead scaleRead poolPieces
    rfl
  refine congrArg₂ (fun (q : FVec Ideal S16x128 .bf16) w => (⟨Rect.unit ![0, 768] ![16, 128] inb_S16x1024_S16x128_0_768, q⟩ : View.Piece (Elt Ideal) S16x1024 .bf16) :: w) ?_ ?_
  · unfold pool2 backRead matRead scaleRead poolPieces
    rfl
  refine congrArg₂ (fun (q : FVec Ideal S16x128 .bf16) w => (⟨Rect.unit ![0, 640] ![16, 128] inb_S16x1024_S16x128_0_640, q⟩ : View.Piece (Elt Ideal) S16x1024 .bf16) :: w) ?_ ?_
  · unfold pool1 backRead matRead scaleRead poolPieces
    rfl
  refine congrArg₂ (fun (q : FVec Ideal S16x128 .bf16) w => (⟨Rect.unit ![0, 512] ![16, 128] inb_S16x1024_S16x128_0_512, q⟩ : View.Piece (Elt Ideal) S16x1024 .bf16) :: w) ?_ ?_
  · unfold pool0 backRead matRead scaleRead poolPieces
    rfl
  refine congrArg (fun q : FVec Ideal S16x512 .bf16 => [(⟨Rect.unit ![0, 0] ![16, 512] inb_S16x1024_S16x512_0_0, q⟩ : View.Piece (Elt Ideal) S16x1024 .bf16)]) ?_
  unfold actRead
  rw [← centred_eq]
  unfold tapRead coefRead convPieces
  rfl

end Point

end Cert.Even

end
-- ==== Proof.EvenBlock.lean ====
/-
  The even layers' mixer: the output blocks of a grid point, entry by entry, from what its input blocks hold.
-/
module

public import proofs.«01_k».proof.Proof.EvenBody

@[expose] public section

set_option maxRecDepth 16384

noncomputable section

namespace Cert.Even

open Cert.Kernel4Ideal Cert.Kernel4Ideal.Gen Idealize.ShloMosaic Idealize.ShloMosaic.TcCoe Idealize.SL.Sem Cert.Layer

/-- The blocks hold the layer's inputs. -/
structure Holds (x0 : Vec Ideal S16x1024 .f32) (x1 : Vec Ideal S1x1024 .f32) (x2 : Vec Ideal S1024x1536 .bf16) (x3 : Vec Ideal S31x512 .f32)
    (x4 x5 x6 : Vec Ideal S1x512 .f32) (x7 : Vec Ideal S4x128x128 .bf16) (x8 : Vec Ideal S1x512 .f32) (x9 : Vec Ideal S1024x1024 .bf16)
    (x10 : Vec Ideal S1x30x512 .f32) (x11 : Vec Ideal S1x15x512 .f32) (I : Inputs) : Prop where
  x : ∀ r k, x0 (ix2 r k) = I.x r k
  gain : ∀ k, x1 (ix2 0 k) = I.gain k
  w : ∀ k j, x2 (ix2 k j) = I.w k j
  cw : ∀ k j, x3 (ix2 k j) = I.cw k j
  cb : ∀ j, x4 (ix2 0 j) = I.cb j
  lg : ∀ j, x5 (ix2 0 j) = I.lg j
  lb : ∀ j, x6 (ix2 0 j) = I.lb j
  pw : ∀ g k d, x7 (ix3 g k d) = I.pw g k d
  ps : ∀ j, x8 (ix2 0 j) = I.ps j
  wo : ∀ k j, x9 (ix2 k j) = I.wo k j
  oldA : ∀ s j, x10 (ix3 0 s j) = I.oldA s j
  oldP : ∀ s j, x11 (ix3 0 s j) = I.oldP s j

section
variable {x0 : Vec Ideal S16x1024 .f32} {x1 : Vec Ideal S1x1024 .f32} {x2 : Vec Ideal S1024x1536 .bf16} {x3 : Vec Ideal S31x512 .f32}
    {x4 x5 x6 : Vec Ideal S1x512 .f32} {x7 : Vec Ideal S4x128x128 .bf16} {x8 : Vec Ideal S1x512 .f32} {x9 : Vec Ideal S1024x1024 .bf16}
    {x10 : Vec Ideal S1x30x512 .f32} {x11 : Vec Ideal S1x15x512 .f32} {I : Inputs} (H : Holds x0 x1 x2 x3 x4 x5 x6 x7 x8 x9 x10 x11 I)
include H

theorem proj_at (r : Fin 16) (j : Fin 1536) : k0_pay7 x0 x1 x2 (ix2 r j) = I.proj r j := by
  rw [project_apply, show (fun k => x0 (ix2 r k)) = _ from funext (H.x r), show (fun k => x1 (ix2 0 k)) = _ from funext H.gain]
  exact Finset.sum_congr rfl fun k _ => congrArg (fun e : EReal => rms (I.x r) I.gain k * e) (H.w k j)

theorem glu_at (r : Fin 16) (j : Fin 512) : k0_pay8 x0 x1 x2 (ix2 r j) = I.glu r j := by
  rw [glu_apply, proj_at H, proj_at H]
  rfl

theorem new_at (r : Fin 16) (j : Fin 512) : k0_pay9 x0 x1 x2 (ix2 r j) = I.proj r ⟨1024 + j.val, by omega⟩ := by
  rw [← proj_at H]
  unfold k0_pay9
  generalize k0_pay7 x0 x1 x2 = P
  pointwise []

theorem conv_row (n : Fin 48) (n' : Fin 46) (e : n.val = 2 + n'.val) (j : Fin 512) : convRows x10 (k0_pay8 x0 x1 x2) n j = I.convIn n' j := by
  unfold convRows Inputs.convIn
  rw [if_neg (by omega)]
  by_cases h : n'.val < 30
  · rw [dif_pos h, dif_pos (by omega)]
    exact (H.oldA _ _).trans (congrArg (I.oldA · j) (Fin.ext (by dsimp only; omega)))
  · rw [dif_neg h, dif_neg (by omega)]
    exact (glu_at H _ _).trans (congrArg (I.glu · j) (Fin.ext (by dsimp only; omega)))

theorem pool_row (n : Fin 32) (n' : Fin 31) (e : n.val = 1 + n'.val) (j : Fin 512) : poolRows x11 (k0_pay9 x0 x1 x2) n j = I.poolIn n' j := by
  unfold poolRows Inputs.poolIn
  rw [if_neg (by omega)]
  by_cases h : n'.val < 15
  · rw [dif_pos h, dif_pos (by omega)]
    exact (H.oldP _ _).trans (congrArg (I.oldP · j) (Fin.ext (by dsimp only; omega)))
  · rw [dif_neg h, dif_neg (by omega)]
    exact (new_at H _ _).trans (congrArg (I.proj · _) (Fin.ext (by dsimp only; omega)))

theorem tap_at (g : Fin 4) (k : Fin 31) (r : Fin 16) (j : Fin 128) :
    tapRead x10 (k0_pay8 x0 x1 x2) g k (ix2 r j) = I.convIn ⟨r.val + k.val, by omega⟩ ⟨128 * g.val + j.val, by omega⟩ :=
  (tapRead_apply _ _ g k r j).trans (conv_row H _ _ (by dsimp only; omega) _)

theorem back_at (g : Fin 4) (i : Fin 16) (r : Fin 16) (j : Fin 128) :
    backRead x11 (k0_pay9 x0 x1 x2) g i (ix2 r j) = I.poolIn ⟨15 + r.val - i.val, by omega⟩ ⟨128 * g.val + j.val, by omega⟩ :=
  (backRead_apply _ _ g i r j).trans (pool_row H _ _ (by dsimp only; omega) _)

theorem convolved_at (r : Fin 16) (j : Fin 512) : convolved (tapRead x10 (k0_pay8 x0 x1 x2)) (coefRead x3) x4 (ix2 r j) = I.conv r j := by
  have e : (⟨128 * (j.val / 128) + j.val % 128, by omega⟩ : Fin 512) = j := Fin.ext (by dsimp only; omega)
  have h := convolved_apply (tapRead x10 (k0_pay8 x0 x1 x2)) (coefRead x3) x4 r ⟨j.val / 128, by omega⟩ ⟨j.val % 128, by omega⟩
  simp only [tap_at H, coefRead_apply, e, H.cw, H.cb] at h
  exact h

theorem act_at (r : Fin 16) (j : Fin 512) : actRead x10 (k0_pay8 x0 x1 x2) x3 x4 x5 x6 (ix2 r j) = I.act r j := by
  unfold actRead
  rw [act_apply, show (fun j => convolved (tapRead x10 (k0_pay8 x0 x1 x2)) (coefRead x3) x4 (ix2 r j)) = _ from funext (convolved_at H r),
    show (fun j => x5 (ix2 0 j)) = _ from funext H.lg, show (fun j => x6 (ix2 0 j)) = _ from funext H.lb]
  rfl

theorem mixed_at (g : Fin 4) (r : Fin 16) (d : Fin 128) (n : ℕ) (hn : n = width g) (S : Fin 128 → EReal)
    (hS : ∀ k, S k = I.windowSum r g ⟨128 * g.val + k.val, by omega⟩) :
    poolAt (backRead x11 (k0_pay9 x0 x1 x2) g) (matRead x7 g) (scaleRead x8 g) n S r d = I.mixed r g d := by
  subst hn
  unfold poolAt Inputs.mixed Inputs.pooled
  simp only [back_at H, matRead_apply, scaleRead_apply, H.pw, H.ps, hS]
  rfl

theorem group0_at (r : Fin 16) (d : Fin 128) : pool0 (backRead x11 (k0_pay9 x0 x1 x2) 0) (matRead x7 0) (scaleRead x8 0) (ix2 r d) = I.mixed r 0 d := by
  rw [pool0_apply]
  refine mixed_at H 0 r d _ rfl _ fun k => ?_
  unfold Inputs.windowSum
  rw [show width 0 = 2 from rfl]
  simp only [Finset.sum_range_succ, Finset.sum_range_zero, zero_add, back_at H]
  rfl

theorem group1_at (r : Fin 16) (d : Fin 128) : pool1 (backRead x11 (k0_pay9 x0 x1 x2) 1) (matRead x7 1) (scaleRead x8 1) (ix2 r d) = I.mixed r 1 d := by
  rw [pool1_apply]
  refine mixed_at H 1 r d _ rfl _ fun k => ?_
  unfold Inputs.windowSum
  rw [show width 1 = 4 from rfl]
  simp only [Finset.sum_range_succ, Finset.sum_range_zero, zero_add, back_at H]
  rfl

theorem group2_at (r : Fin 16) (d : Fin 128) : pool2 (backRead x11 (k0_pay9 x0 x1 x2) 2) (matRead x7 2) (scaleRead x8 2) (ix2 r d) = I.mixed r 2 d := by
  rw [pool2_apply]
  refine mixed_at H 2 r d _ rfl _ fun k => ?_
  unfold Inputs.windowSum
  rw [show width 2 = 8 from rfl]
  simp only [Finset.sum_range_succ, Finset.sum_range_zero, zero_add, back_at H]
  rfl

theorem group3_at (r : Fin 16) (d : Fin 128) : pool3 (backRead x11 (k0_pay9 x0 x1 x2) 3) (matRead x7 3) (scaleRead x8 3) (ix2 r d) = I.mixed r 3 d := by
  rw [pool3_apply]
  refine mixed_at H 3 r d _ rfl _ fun k => ?_
  unfold Inputs.windowSum
  rw [show width 3 = 16 from rfl]
  simp only [Finset.sum_range_succ, Finset.sum_range_zero, zero_add, back_at H]
  rfl

theorem joined_at (r : Fin 16) (j : Fin 1024) : joinedRead x10 (k0_pay8 x0 x1 x2) x11 (k0_pay9 x0 x1 x2) x3 x4 x5 x6 x7 x8 (ix2 r j) = I.cat r j := by
  unfold joinedRead
  refine (congrFun (View.readCov_eq_canon' _ _ _) _).trans ((joined_canon _ _ _ _ _ _).trans ?_)
  refine (congrArg₂ (joined _ _ _ _ _) (Fin.ext (by simp)) (Fin.ext (by simp)) : _ = joined _ _ _ _ _ r j).trans ?_
  unfold joined Inputs.cat
  split_ifs with h0 h1 h2 h3
  · exact act_at H _ _
  · exact (group0_at H r _).trans (congrArg₂ (I.mixed r) (Fin.ext (by show 0 = (j.val - 512) / 128; omega)) (Fin.ext (by show j.val - 512 = (j.val - 512) % 128; omega)))
  · exact (group1_at H r _).trans (congrArg₂ (I.mixed r) (Fin.ext (by show 1 = (j.val - 512) / 128; omega)) (Fin.ext (by show j.val - 640 = (j.val - 512) % 128; omega)))
  · exact (group2_at H r _).trans (congrArg₂ (I.mixed r) (Fin.ext (by show 2 = (j.val - 512) / 128; omega)) (Fin.ext (by show j.val - 768 = (j.val - 512) % 128; omega)))
  · exact (group3_at H r _).trans (congrArg₂ (I.mixed r) (Fin.ext (by show 3 = (j.val - 512) / 128; omega)) (Fin.ext (by show j.val - 896 = (j.val - 512) % 128; omega)))

theorem out_at (r : Fin 16) (j : Fin 1024) :
    k0_pay47 x0 (joinedRead x10 (k0_pay8 x0 x1 x2) x11 (k0_pay9 x0 x1 x2) x3 x4 x5 x6 x7 x8) x9 (ix2 r j) = I.out r j := by
  pointwise [k0_pay47]
  unfold Inputs.out
  rw [H.x]
  exact congrArg (fun e : EReal => I.x r j + e) (Finset.sum_congr rfl fun k _ => congrArg₂ (fun a b : EReal => a * b) (joined_at H r k) (H.wo k j))

theorem late_at (s : Fin 30) (j : Fin 512) :
    k0_pay1 (k0_pay50 (lateRead x10 (k0_pay8 x0 x1 x2))) (ix3 0 s j) = I.convIn ⟨16 + s.val, by omega⟩ j := by
  have h : k0_pay1 (k0_pay50 (lateRead x10 (k0_pay8 x0 x1 x2))) (ix3 0 s j) = lateRead x10 (k0_pay8 x0 x1 x2) (ix2 ⟨2 + s.val, by omega⟩ j) := by
    generalize lateRead x10 (k0_pay8 x0 x1 x2) = R
    pointwise [k0_pay1, k0_pay50]
  exact h.trans ((lateRead_apply _ _ _ _).trans (conv_row H _ _ (by dsimp only; omega) j))

theorem end_at (s : Fin 15) (j : Fin 512) :
    k0_pay2 (endRead x11 (k0_pay9 x0 x1 x2)) (ix3 0 s j) = I.poolIn ⟨16 + s.val, by omega⟩ j := by
  have h : k0_pay2 (endRead x11 (k0_pay9 x0 x1 x2)) (ix3 0 s j) = endRead x11 (k0_pay9 x0 x1 x2) (ix2 ⟨1 + s.val, by omega⟩ j) := by
    generalize endRead x11 (k0_pay9 x0 x1 x2) = R
    pointwise [k0_pay2]
  exact h.trans ((endRead_apply _ _ _ _).trans (pool_row H _ _ (by dsimp only; omega) j))

end

end Cert.Even

end
-- ==== Proof.EvenState.lean ====
/-
  The even layers' mixer over the whole grid: point `t` works on batch entry `t`, and its blocks hold the arguments of
  that entry.
-/
module

public import proofs.«01_k».proof.Proof.Gen.Kernel4Ideal.Value
public import proofs.«01_k».proof.Proof.EvenBlock

@[expose] public section

set_option maxRecDepth 16384

noncomputable section

namespace Cert.Even

open Cert.Kernel4Ideal Cert.Kernel4Ideal.Gen Idealize.ShloMosaic Idealize.ShloMosaic.TcCoe Idealize.SL.Sem Cert.Layer

variable (m : (ℓ : Loc nD τ sig) → Buf (Elt Ideal) ℓ) (c : Dev nD)

/-- Position `r` of batch entry `b` among all rows. -/
def rowAt (b : Fin 8) (r : Fin 16) : Fin 128 := ⟨16 * b.val + r.val, by omega⟩

/-- What the arguments hold for batch entry `b`. -/
def inputs (b : Fin 8) : Inputs where
  x r k := m ((c : Thread nD τ).loc main_arg0) (ix2 (rowAt b r) k)
  gain k := m ((c : Thread nD τ).loc main_arg1) (ix1 k)
  w k j := m ((c : Thread nD τ).loc main_arg2) (ix2 k j)
  cw k j := m ((c : Thread nD τ).loc main_arg3) (ix2 k j)
  cb j := m ((c : Thread nD τ).loc main_arg4) (ix1 j)
  lg j := m ((c : Thread nD τ).loc main_arg5) (ix1 j)
  lb j := m ((c : Thread nD τ).loc main_arg6) (ix1 j)
  pw g k d := m ((c : Thread nD τ).loc main_arg7) (ix3 g k d)
  ps j := m ((c : Thread nD τ).loc main_arg8) (ix1 j)
  wo k j := m ((c : Thread nD τ).loc main_arg9) (ix2 k j)
  oldA s j := m ((c : Thread nD τ).loc main_arg10) (ix3 b s j)
  oldP s j := m ((c : Thread nD τ).loc main_arg11) (ix3 b s j)

/-- The batch entry of point `t`. -/
def entry (t : Fin cfg0.N) : Fin 8 := ⟨t.val, t.isLt.trans_eq N_0⟩

theorem idx : ∀ t : Fin cfg0.N, win0_0.index t = ![t.val, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0, 0] ∧ win0_8.index t = ![0, 0]
    ∧ win0_9.index t = ![0, 0] ∧ win0_10.index t = ![t.val, 0, 0] ∧ win0_11.index t = ![t.val, 0, 0] ∧ win0_12.index t = ![t.val, 0]
    ∧ win0_13.index t = ![t.val, 0, 0] ∧ win0_14.index t = ![t.val, 0, 0] :=
  (by decide +kernel : ∀ t : Fin grid0.N, _)

theorem V_gain : V m c main_v0 = shapeCast S1x1024 (m ((c : Thread nD τ).loc main_arg1)) shapeCasts_S1024_S1x1024 := rfl
theorem V_w : V m c main_v1 = truncf (F := Ideal) (s := S1024x1536) .bf16 (m ((c : Thread nD τ).loc main_arg2)) bitsLt_bf16_f32 := rfl
theorem V_cb : V m c main_v2 = shapeCast S1x512 (m ((c : Thread nD τ).loc main_arg4)) shapeCasts_S512_S1x512 := rfl
theorem V_lg : V m c main_v3 = shapeCast S1x512 (m ((c : Thread nD τ).loc main_arg5)) shapeCasts_S512_S1x512 := rfl
theorem V_lb : V m c main_v4 = shapeCast S1x512 (m ((c : Thread nD τ).loc main_arg6)) shapeCasts_S512_S1x512 := rfl
theorem V_pw : V m c main_v5 = truncf (F := Ideal) (s := S4x128x128) .bf16 (m ((c : Thread nD τ).loc main_arg7)) bitsLt_bf16_f32 := rfl
theorem V_ps : V m c main_v6 = shapeCast S1x512 (m ((c : Thread nD τ).loc main_arg8)) shapeCasts_S512_S1x512 := rfl
theorem V_wo : V m c main_v7 = truncf (F := Ideal) (s := S1024x1024) .bf16 (m ((c : Thread nD τ).loc main_arg9)) bitsLt_bf16_f32 := rfl

theorem block_x (t : Fin cfg0.N) (r : Fin 16) (k : Fin 1024) : iblk m c 0 t (ix2 r k) = (inputs m c (entry t)).x r k := by
  unfold inputs rowAt entry
  blk_ext [iblk, V, idx t]

theorem block_gain (t : Fin cfg0.N) (k : Fin 1024) : iblk m c 1 t (ix2 0 k) = (inputs m c (entry t)).gain k := by
  show V m c main_v0 (((cfg0.win 1).blk t).view.emb (ix2 0 k)) = _
  rw [show ((cfg0.win 1).blk t).view.emb (ix2 0 k) = ix2 0 k by blk_ext [idx t], V_gain m c]
  unfold inputs
  pointwise []

theorem block_w (t : Fin cfg0.N) (k : Fin 1024) (j : Fin 1536) : iblk m c 2 t (ix2 k j) = (inputs m c (entry t)).w k j := by
  show V m c main_v1 (((cfg0.win 2).blk t).view.emb (ix2 k j)) = _
  rw [show ((cfg0.win 2).blk t).view.emb (ix2 k j) = ix2 k j by blk_ext [idx t], V_w m c]
  rfl

theorem block_cw (t : Fin cfg0.N) (k : Fin 31) (j : Fin 512) : iblk m c 3 t (ix2 k j) = (inputs m c (entry t)).cw k j := by
  show m ((c : Thread nD τ).loc main_arg3) (((cfg0.win 3).blk t).view.emb (ix2 k j)) = _
  rw [show ((cfg0.win 3).blk t).view.emb (ix2 k j) = ix2 k j by blk_ext [idx t]]
  rfl

theorem block_cb (t : Fin cfg0.N) (k : Fin 512) : iblk m c 4 t (ix2 0 k) = (inputs m c (entry t)).cb k := by
  show V m c main_v2 (((cfg0.win 4).blk t).view.emb (ix2 0 k)) = _
  rw [show ((cfg0.win 4).blk t).view.emb (ix2 0 k) = ix2 0 k by blk_ext [idx t], V_cb m c]
  unfold inputs
  pointwise []

theorem block_lg (t : Fin cfg0.N) (k : Fin 512) : iblk m c 5 t (ix2 0 k) = (inputs m c (entry t)).lg k := by
  show V m c main_v3 (((cfg0.win 5).blk t).view.emb (ix2 0 k)) = _
  rw [show ((cfg0.win 5).blk t).view.emb (ix2 0 k) = ix2 0 k by blk_ext [idx t], V_lg m c]
  unfold inputs
  pointwise []

theorem block_lb (t : Fin cfg0.N) (k : Fin 512) : iblk m c 6 t (ix2 0 k) = (inputs m c (entry t)).lb k := by
  show V m c main_v4 (((cfg0.win 6).blk t).view.emb (ix2 0 k)) = _
  rw [show ((cfg0.win 6).blk t).view.emb (ix2 0 k) = ix2 0 k by blk_ext [idx t], V_lb m c]
  unfold inputs
  pointwise []

theorem block_pw (t : Fin cfg0.N) (g : Fin 4) (k d : Fin 128) : iblk m c 7 t (ix3 g k d) = (inputs m c (entry t)).pw g k d := by
  show V m c main_v5 (((cfg0.win 7).blk t).view.emb (ix3 g k d)) = _
  rw [show ((cfg0.win 7).blk t).view.emb (ix3 g k d) = ix3 g k d by blk_ext [idx t], V_pw m c]
  rfl

theorem block_ps (t : Fin cfg0.N) (k : Fin 512) : iblk m c 8 t (ix2 0 k) = (inputs m c (entry t)).ps k := by
  show V m c main_v6 (((cfg0.win 8).blk t).view.emb (ix2 0 k)) = _
  rw [show ((cfg0.win 8).blk t).view.emb (ix2 0 k) = ix2 0 k by blk_ext [idx t], V_ps m c]
  unfold inputs
  pointwise []

theorem block_wo (t : Fin cfg0.N) (k : Fin 1024) (j : Fin 1024) : iblk m c 9 t (ix2 k j) = (inputs m c (entry t)).wo k j := by
  show V m c main_v7 (((cfg0.win 9).blk t).view.emb (ix2 k j)) = _
  rw [show ((cfg0.win 9).blk t).view.emb (ix2 k j) = ix2 k j by blk_ext [idx t], V_wo m c]
  rfl

theorem block_oldA (t : Fin cfg0.N) (s : Fin 30) (j : Fin 512) : iblk m c 10 t (ix3 0 s j) = (inputs m c (entry t)).oldA s j := by
  show m ((c : Thread nD τ).loc main_arg10) (((cfg0.win 10).blk t).view.emb (ix3 0 s j)) = _
  rw [show ((cfg0.win 10).blk t).view.emb (ix3 0 s j) = ix3 (entry t) s j by unfold entry; blk_ext [idx t]]
  rfl

theorem block_oldP (t : Fin cfg0.N) (s : Fin 15) (j : Fin 512) : iblk m c 11 t (ix3 0 s j) = (inputs m c (entry t)).oldP s j := by
  show m ((c : Thread nD τ).loc main_arg11) (((cfg0.win 11).blk t).view.emb (ix3 0 s j)) = _
  rw [show ((cfg0.win 11).blk t).view.emb (ix3 0 s j) = ix3 (entry t) s j by unfold entry; blk_ext [idx t]]
  rfl

theorem holds (t : Fin cfg0.N) : Holds (iblk m c 0 t) (iblk m c 1 t) (iblk m c 2 t) (iblk m c 3 t) (iblk m c 4 t) (iblk m c 5 t)
    (iblk m c 6 t) (iblk m c 7 t) (iblk m c 8 t) (iblk m c 9 t) (iblk m c 10 t) (iblk m c 11 t) (inputs m c (entry t)) where
  x := block_x m c t
  gain := block_gain m c t
  w := block_w m c t
  cw := block_cw m c t
  cb := block_cb m c t
  lg := block_lg m c t
  lb := block_lb m c t
  pw := block_pw m c t
  ps := block_ps m c t
  wo := block_wo m c t
  oldA := block_oldA m c t
  oldP := block_oldP m c t

/-! ## The three output arrays -/

theorem point_out (t : Fin cfg0.N) (r : Fin 16) (j : Fin 1024) : (outsAt0 m c t).1 (ix2 r j) = (inputs m c (entry t)).out r j := by
  rw [out_y]
  exact out_at (holds m c t) r j

theorem point_conv (t : Fin cfg0.N) (s : Fin 30) (j : Fin 512) :
    (outsAt0 m c t).2.1 (ix3 0 s j) = (inputs m c (entry t)).convIn ⟨16 + s.val, by omega⟩ j := by
  rw [out_a]
  exact late_at (holds m c t) s j

theorem point_pool (t : Fin cfg0.N) (s : Fin 15) (j : Fin 512) :
    (outsAt0 m c t).2.2 (ix3 0 s j) = (inputs m c (entry t)).poolIn ⟨16 + s.val, by omega⟩ j := by
  rw [out_p]
  exact end_at (holds m c t) s j

/-- The batch entry and the position of row `a`. -/
def batch (a : Fin 128) : Fin 8 := ⟨a.val / 16, by omega⟩
def pos (a : Fin 128) : Fin 16 := ⟨a.val % 16, by omega⟩

theorem array_out : (dats m 0 c).arrAt 12 cfg0.N = fun i : S128x1024.Idx => (inputs m c (batch (i 0))).out (pos (i 0)) (i 1) := by
  refine (dats m 0 c).arrAt_eq_of_covers 12 _ (by decide +kernel) fun t hf y => ?_
  blk_simp
  rw [after0_12]
  refine (congrArg (outsAt0 m c t).1 (eq_ix2 _)).trans ((point_out m c t _ _).trans ?_)
  have hy : (y 0).val < 16 := (y 0).isLt
  have h0 : ((win0_12.blk t).view.emb y 0).val = 16 * t.val + (y 0).val := by
    blk_simp [idx t]
    omega
  have h1 : (y 1).val = ((win0_12.blk t).view.emb y 1).val := by
    blk_simp [idx t]
  have e0 : entry t = batch ((win0_12.blk t).view.emb y 0) := Fin.ext (by
    show t.val = ((win0_12.blk t).view.emb y 0).val / 16
    omega)
  have e1 : (show Fin 16 from y 0) = pos ((win0_12.blk t).view.emb y 0) := Fin.ext (by
    show (y 0).val = ((win0_12.blk t).view.emb y 0).val % 16
    omega)
  have e2 : (show Fin 1024 from y 1) = (win0_12.blk t).view.emb y 1 := Fin.ext h1
  rw [e0]
  exact congrArg₂ (inputs m c _).out e1 e2

theorem array_conv : (dats m 0 c).arrAt 13 cfg0.N = fun i : S8x30x512.Idx => (inputs m c (i 0)).convIn ⟨16 + (i 1).val, by have : (i 1).val < 30 := (i 1).isLt; omega⟩ (i 2) := by
  refine (dats m 0 c).arrAt_eq_of_covers 13 _ (by decide +kernel) fun t hf y => ?_
  blk_simp
  rw [after0_13]
  have h0 : (y 0).val < 1 := (y 0).isLt
  refine (congrArg (outsAt0 m c t).2.1 ((eq_ix3 _).trans (congrArg (ix3 · (y 1) (y 2)) (Fin.ext (by show (y 0).val = 0; omega))))).trans ((point_conv m c t _ _).trans ?_)
  have g0 : ((win0_13.blk t).view.emb y 0).val = t.val := by
    blk_simp [idx t]
  have e0 : entry t = (win0_13.blk t).view.emb y 0 := Fin.ext g0.symm
  rw [e0]
  exact congrArg₂ (inputs m c _).convIn (Fin.ext (by blk_simp [idx t])) (Fin.ext (by blk_simp [idx t]))

theorem array_pool : (dats m 0 c).arrAt 14 cfg0.N = fun i : S8x15x512.Idx => (inputs m c (i 0)).poolIn ⟨16 + (i 1).val, by have : (i 1).val < 15 := (i 1).isLt; omega⟩ (i 2) := by
  refine (dats m 0 c).arrAt_eq_of_covers 14 _ (by decide +kernel) fun t hf y => ?_
  blk_simp
  rw [after0_14]
  have h0 : (y 0).val < 1 := (y 0).isLt
  refine (congrArg (outsAt0 m c t).2.2 ((eq_ix3 _).trans (congrArg (ix3 · (y 1) (y 2)) (Fin.ext (by show (y 0).val = 0; omega))))).trans ((point_pool m c t _ _).trans ?_)
  have g0 : ((win0_14.blk t).view.emb y 0).val = t.val := by
    blk_simp [idx t]
  have e0 : entry t = (win0_14.blk t).view.emb y 0 := Fin.ext g0.symm
  rw [e0]
  exact congrArg₂ (inputs m c _).poolIn (Fin.ext (by blk_simp [idx t])) (Fin.ext (by blk_simp [idx t]))

end Cert.Even

end
-- ==== Proof.EvenSum.lean ====
/-
  The reference's running sums along the rows, read at an index, and their differences as sums over a window.
-/
module

public import proofs.«01_k».proof.Proof.Gen.Reference4Ideal.Run
public import Idealize.ShloMosaic.Lib.Pipeline.ValueKit
public import Idealize.ShloMosaic.Lib.Pointwise
public import Idealize.ShloMosaic.PureOps.Ideal.Laws
public import proofs.«01_k».proof.Proof.EvenSpec

@[expose] public section

set_option maxRecDepth 16384

noncomputable section

namespace Cert.Even.Ref

open Cert.Reference4Ideal Cert.Reference4Ideal.Gen Cert.Reference4Ideal.Value Idealize.ShloMosaic Idealize.ShloMosaic.TcCoe Idealize.SL.Sem Idealize.ShloMosaic.StableHlo Cert.Layer

/-- The window of 32 rows by one batch entry and one column. -/
abbrev Win : Shape := ⟨3, ![1, 32, 1]⟩

theorem win_row : ∀ n : Fin Win.numel, (Win.rowMajor.symm n 1).val = n.val := by decide +kernel

theorem win_numel : Win.numel = 32 := by decide +kernel

theorem foldl_sum {ι : Type} (g : ι → EReal) (l : List ι) : ∀ v : EReal, l.foldl (fun r n => r + g n) v = v + (l.map g).sum := by
  induction l with
  | nil => intro v; simp
  | cons a l ih => intro v; simp [ih, add_assoc]

/-- The rows before row `t`, that row included, taken from the end of a window of 32 rows that stops at `t`. -/
theorem sum_window (f : ℕ → EReal) (t : ℕ) (ht : t < 32) :
    (∑ n : Fin 32, if 31 ≤ t + n.val then f (t + n.val - 31) else 0) = ∑ i ∈ Finset.range (t + 1), f i := by
  rw [← Finset.sum_range (fun n => if 31 ≤ t + n then f (t + n - 31) else 0)]
  obtain ⟨u, hu⟩ : ∃ u, u + (t + 1) = 32 := ⟨31 - t, by omega⟩
  rw [← hu, Finset.sum_range_add]
  rw [Finset.sum_eq_zero (fun n hn => if_neg (by have := Finset.mem_range.1 hn; omega)), zero_add]
  refine Finset.sum_congr rfl fun i _ => ?_
  rw [if_pos (by omega)]
  exact congrArg f (by omega)

/-- The running sums over the rows. -/
def running (X : FVec Ideal S8x32x512 .f32) : FVec Ideal S8x32x512 .f32 :=
  Host.reduceWindowAdd ![1, 32, 1] ![1, 1, 1] ![0, 31, 0] ![0, 0, 0] X (broadcastInDim S_ ![] bcast_S_S_ (constant S_ .f32 0x00000000#32)) reduceWindows_S8x32x512_S8x32x512_w1s1p0_0_w32s1p31_0_w1s1p0_0 h_S_

theorem running_apply (X : FVec Ideal S8x32x512 .f32) (b : Fin 8) (t : Fin 32) (c : Fin 512) :
    running X (ix3 b t c) = ∑ i ∈ Finset.range (t.val + 1), (if h : i < 32 then X (ix3 b ⟨i, h⟩ c) else 0) := by
  have ht := t.isLt
  have hb := b.isLt
  have hc := c.isLt
  rw [← sum_window _ t.val t.isLt]
  show Host.reduceWindow (α := EReal) (s := S8x32x512) (t := S8x32x512) (u := S_) (fun x y => x + y) ![1, 32, 1] ![1, 1, 1] ![0, 31, 0] ![0, 0, 0] X
    (fun _ => Ideal.ofBits .f32 0x00000000#32) reduceWindows_S8x32x512_S8x32x512_w1s1p0_0_w32s1p31_0_w1s1p0_0 h_S_ (ix3 b t c) = _
  unfold Host.reduceWindow
  refine (foldl_sum _ _ _).trans ?_
  rw [Ideal.ofBits_zero_f32, zero_add, ← Fin.sum_univ_def]
  refine Fintype.sum_equiv (finCongr win_numel) _ _ fun n => ?_
  have hn : n.val < 32 := n.isLt.trans_eq win_numel
  have w0 : (Win.rowMajor.symm n 0).val < 1 := (Win.rowMajor.symm n 0).isLt
  have w1 := win_row n
  have w2 : (Win.rowMajor.symm n 2).val < 1 := (Win.rowMajor.symm n 2).isLt
  have hk : ((finCongr win_numel) n).val = n.val := rfl
  rw [hk]
  split_ifs with hin h1 h2 h3
  · refine congrArg X (funext (Fin.forall_fin_succ.2 ⟨Fin.ext ?_, Fin.forall_fin_two.2 ⟨Fin.ext ?_, Fin.ext ?_⟩⟩))
    · show b.val * 1 + (Win.rowMajor.symm n 0).val - 0 = b.val
      omega
    · show t.val * 1 + (Win.rowMajor.symm n 1).val - 31 = t.val + n.val - 31
      omega
    · show c.val * 1 + (Win.rowMajor.symm n 2).val - 0 = c.val
      omega
  · omega
  · have h := hin 1
    change 31 ≤ t.val * 1 + (Win.rowMajor.symm n 1).val ∧ t.val * 1 + (Win.rowMajor.symm n 1).val - 31 < 32 at h
    omega
  · refine absurd (Fin.forall_fin_succ.2 ⟨?_, Fin.forall_fin_two.2 ⟨?_, ?_⟩⟩) hin
    · show 0 ≤ b.val * 1 + (Win.rowMajor.symm n 0).val ∧ b.val * 1 + (Win.rowMajor.symm n 0).val - 0 < 8
      omega
    · show 31 ≤ t.val * 1 + (Win.rowMajor.symm n 1).val ∧ t.val * 1 + (Win.rowMajor.symm n 1).val - 31 < 32
      omega
    · show 0 ≤ c.val * 1 + (Win.rowMajor.symm n 2).val ∧ c.val * 1 + (Win.rowMajor.symm n 2).val - 0 < 512
      omega
  · rfl
  · rfl

/-- Of finite terms, two running sums differ by the terms between them, here counted from the last one back. -/
theorem sum_between (f : ℕ → EReal) (hf : ∀ i, Finite (f i)) (u w : ℕ) :
    (∑ i ∈ Finset.range (u + w), f i) - ∑ i ∈ Finset.range u, f i = ∑ i ∈ Finset.range w, f (u + w - 1 - i) := by
  rw [Finset.sum_range_add, ← Finset.sum_range_reflect (fun i => f (u + i)) w]
  obtain ⟨a, ha⟩ := Finite.sum (Finset.range u) f hf
  obtain ⟨b, hb⟩ := Finite.sum (Finset.range w) (fun i => f (u + (w - 1 - i))) fun i => hf _
  have e : ∑ i ∈ Finset.range w, f (u + w - 1 - i) = (b : EReal) := by
    rw [← hb]
    refine Finset.sum_congr rfl fun i hi => congrArg f ?_
    have := Finset.mem_range.1 hi
    omega
  rw [e, hb, ha, ← EReal.coe_add, ← EReal.coe_sub, add_sub_cancel_left]

end Cert.Even.Ref

end
-- ==== Proof.EvenRef.lean ====
/-
  The reference side of the even layers' mixer: its operations, grouped into stages, each read at an index; composed, they are
  the layer's mathematics.
-/
module

public import proofs.«01_k».proof.Proof.EvenSum
public import proofs.«01_k».proof.Proof.OddRef

@[expose] public section

set_option maxRecDepth 16384

noncomputable section

namespace Cert.Even.Ref

open Cert.Reference4Ideal Cert.Reference4Ideal.Gen Cert.Reference4Ideal.Value Idealize.ShloMosaic Idealize.ShloMosaic.TcCoe Idealize.SL.Sem Idealize.ShloMosaic.StableHlo Cert.Layer

/-! ## The convolved half -/

/-- The projection of the normalised rows. -/
def projected (a0 : Vec Ideal S128x1024 .f32) (a1 : Vec Ideal S1024 .f32) (a2 : Vec Ideal S1024x1536 .f32) : FVec Ideal S8x16x1536 .f32 :=
  Host.dotGeneral (φ₂ := .f32) dot_S8x16x1024_S1024x1536_S8x16x1536_2_0_01_1_n_n none (Odd.Ref.scaled a0 a1) a2

theorem projected_apply (a0 : Vec Ideal S128x1024 .f32) (a1 : Vec Ideal S1024 .f32) (a2 : Vec Ideal S1024x1536 .f32) (b : Fin 8) (r : Fin 16) (j : Fin 1536) :
    projected a0 a1 a2 (ix3 b r j) = ∑ k, rms (fun k => a0 (ix2 ⟨16 * b.val + r.val, by omega⟩ k)) (fun k => a1 (ix1 k)) k * a2 (ix2 k j) := by
  pointwise [projected, Odd.Ref.scaled, Odd.Ref.rowsOf]
  exact congrArg (fun q : Fin 128 => ∑ k, rms (fun k => a0 (ix2 q k)) (fun k => a1 (ix1 k)) k * a2 (ix2 k j))
    (Fin.ext (by dsimp only; omega) : (⟨b.val * 16 + r.val, by omega⟩ : Fin 128) = ⟨16 * b.val + r.val, by omega⟩)

/-- The logistic function of every entry. -/
def logistic (V : FVec Ideal S8x16x512 .f32) : FVec Ideal S8x16x512 .f32 :=
  Host.divf (broadcastInDim S8x16x512 ![] bcast_S_S8x16x512 (constant S_ .f32 0x3F800000#32))
    (addf (broadcastInDim S8x16x512 ![] bcast_S_S8x16x512 (constant S_ .f32 0x3F800000#32)) (Host.exp (Host.negf V)))

theorem logistic_apply (V : FVec Ideal S8x16x512 .f32) (b : Fin 8) (r : Fin 16) (j : Fin 512) : logistic V (ix3 b r j) = sigmoid (V (ix3 b r j)) := by
  pointwise [logistic]
  rfl

/-- The gated rows. -/
def gatedRows (P : FVec Ideal S8x16x1536 .f32) : FVec Ideal S8x16x512 .f32 :=
  mulf (extractStridedSlice S8x16x512 ![0, 0, 0] P slices_S8x16x1536_S8x16x512_0_0_0) (logistic (extractStridedSlice S8x16x512 ![0, 0, 512] P slices_S8x16x1536_S8x16x512_0_0_512))

theorem gatedRows_apply (P : FVec Ideal S8x16x1536 .f32) (b : Fin 8) (r : Fin 16) (j : Fin 512) :
    gatedRows P (ix3 b r j) = P (ix3 b r ⟨j.val, by omega⟩) * sigmoid (P (ix3 b r ⟨512 + j.val, by omega⟩)) := by
  pointwise [gatedRows, logistic]
  rfl

/-- The kept rows followed by the new ones. -/
def convRowsOf (a10 : Vec Ideal S8x30x512 .f32) (G : FVec Ideal S8x16x512 .f32) : FVec Ideal S8x46x512 .f32 :=
  concatenate S8x46x512 1 [⟨S8x30x512, a10⟩, ⟨S8x16x512, G⟩] concatenates_S8x30x512_S8x16x512_S8x46x512_d1

theorem convRowsOf_apply (a10 : Vec Ideal S8x30x512 .f32) (G : FVec Ideal S8x16x512 .f32) (b : Fin 8) (n : Fin 46) (j : Fin 512) :
    convRowsOf a10 G (ix3 b n j) = if h : n.val < 30 then a10 (ix3 b ⟨n.val, h⟩ j) else G (ix3 b ⟨n.val - 30, by omega⟩ j) := by
  pointwise [convRowsOf]

theorem slice_rows : ∀ k : Fin 31, S8x46x512.Slices ![0, k.val, 0] S8x16x512 := by decide
theorem slice_coef : ∀ k : Fin 31, S31x512.Slices ![k.val, 0] S1x512 := by decide

/-- The rows from row `k` on, times the coefficients of tap `k`. -/
def tap (A : FVec Ideal S8x46x512 .f32) (w : Vec Ideal S31x512 .f32) (k : Fin 31) : FVec Ideal S8x16x512 .f32 :=
  mulf (extractStridedSlice S8x16x512 ![0, k.val, 0] A (slice_rows k)) (broadcastInDim S8x16x512 ![0, 1, 2] bcast_S1x1x512_S8x16x512_0_1_2
    (broadcastInDim S1x1x512 ![2] bcast_S512_S1x1x512_2 (shapeCast S512 (extractStridedSlice S1x512 ![k.val, 0] w (slice_coef k)) shapeCasts_S1x512_S512)))

theorem tap_apply (A : FVec Ideal S8x46x512 .f32) (w : Vec Ideal S31x512 .f32) (k : Fin 31) (b : Fin 8) (r : Fin 16) (j : Fin 512) :
    tap A w k (ix3 b r j) = A (ix3 b ⟨r.val + k.val, by omega⟩ j) * w (ix2 k j) := by
  pointwise [tap]
  exact congrArg (fun q : Fin 46 => A (ix3 b q j) * w (ix2 k j))
    (Fin.ext (Nat.add_comm _ _) : (⟨k.val + r.val, by omega⟩ : Fin 46) = ⟨r.val + k.val, by omega⟩)

/-- The taps, in order. -/
def taps : List (Fin 31) := [0, 1, 2, 3, 4, 5, 6, 7, 8, 9, 10, 11, 12, 13, 14, 15, 16, 17, 18, 19, 20, 21, 22, 23, 24, 25, 26, 27, 28, 29, 30]

theorem taps_eq : taps = List.finRange 31 := by decide

/-- The convolution: the sum of the taps, from zero, and the bias. -/
def convolution (A : FVec Ideal S8x46x512 .f32) (w : Vec Ideal S31x512 .f32) (a4 : Vec Ideal S512 .f32) : FVec Ideal S8x16x512 .f32 :=
  addf (taps.foldl (fun v k => addf v (tap A w k)) (broadcastInDim S8x16x512 ![] bcast_S_S8x16x512 (constant S_ .f32 0x00000000#32)))
    (broadcastInDim S8x16x512 ![0, 1, 2] bcast_S1x1x512_S8x16x512_0_1_2 (broadcastInDim S1x1x512 ![2] bcast_S512_S1x1x512_2 a4))

theorem foldl_apply (T : Fin 31 → FVec Ideal S8x16x512 .f32) (i : S8x16x512.Idx) (l : List (Fin 31)) : ∀ v : FVec Ideal S8x16x512 .f32,
    (l.foldl (fun v k => addf v (T k)) v) i = l.foldl (fun (e : EReal) k => e + T k i) (v i) := by
  induction l with
  | nil => intro v; rfl
  | cons a l ih => intro v; exact ih _

theorem convolution_apply (A : FVec Ideal S8x46x512 .f32) (w : Vec Ideal S31x512 .f32) (a4 : Vec Ideal S512 .f32) (b : Fin 8) (r : Fin 16) (j : Fin 512) :
    convolution A w a4 (ix3 b r j) = (∑ k : Fin 31, A (ix3 b ⟨r.val + k.val, by omega⟩ j) * w (ix2 k j)) + a4 (ix1 j) := by
  have h : (taps.foldl (fun v k => addf v (tap A w k)) (broadcastInDim S8x16x512 ![] bcast_S_S8x16x512 (constant S_ .f32 0x00000000#32))) (ix3 b r j)
      = ∑ k : Fin 31, A (ix3 b ⟨r.val + k.val, by omega⟩ j) * w (ix2 k j) := by
    rw [foldl_apply, foldl_sum, taps_eq, ← Fin.sum_univ_def]
    simp only [tap_apply]
    rw [show (broadcastInDim S8x16x512 ![] bcast_S_S8x16x512 (constant (F := Ideal) S_ .f32 0x00000000#32)) (ix3 b r j) = (0 : EReal) by pointwise []]
    exact zero_add _
  unfold convolution
  generalize taps.foldl (fun v k => addf v (tap A w k)) _ = V at h ⊢
  pointwise []
  rw [h]

/-- The normalised convolution times its logistic function. -/
def active (N : FVec Ideal S8x16x512 .f32) : FVec Ideal S8x16x512 .f32 := mulf N (logistic N)

/-! ## The pooled half -/

/-- The kept rows followed by the new ones. -/
def poolRowsOf (a11 : Vec Ideal S8x15x512 .f32) (P : FVec Ideal S8x16x1536 .f32) : FVec Ideal S8x31x512 .f32 :=
  concatenate S8x31x512 1 [⟨S8x15x512, a11⟩, ⟨S8x16x512, extractStridedSlice S8x16x512 ![0, 0, 1024] P slices_S8x16x1536_S8x16x512_0_0_1024⟩] concatenates_S8x15x512_S8x16x512_S8x31x512_d1

theorem poolRowsOf_apply (a11 : Vec Ideal S8x15x512 .f32) (P : FVec Ideal S8x16x1536 .f32) (b : Fin 8) (n : Fin 31) (j : Fin 512) :
    poolRowsOf a11 P (ix3 b n j) = if h : n.val < 15 then a11 (ix3 b ⟨n.val, h⟩ j) else P (ix3 b ⟨n.val - 15, by omega⟩ ⟨1024 + j.val, by omega⟩) := by
  pointwise [poolRowsOf]

/-- The rows after one row of zeros. -/
def padded (X : FVec Ideal S8x31x512 .f32) : FVec Ideal S8x32x512 .f32 :=
  pad S8x32x512 ![0, 1, 0] ![0, 0, 0] ![0, 0, 0] X (sitofp .f32 (constantI S_ 32 0#32)) pads_S8x31x512_S8x32x512_000_100_000 h_S_

theorem padded_apply (X : FVec Ideal S8x31x512 .f32) (b : Fin 8) (n : Fin 32) (j : Fin 512) :
    padded X (ix3 b n j) = if h : 1 ≤ n.val then X (ix3 b ⟨n.val - 1, by omega⟩ j) else 0 := by
  pointwise [padded]
  split_ifs with h1 h2 h2
  · rfl
  · omega
  · omega
  · exact sitofp_zero

theorem slice_last : ∀ g : Fin 4, S8x32x512.Slices ![0, 16, 128 * g.val] S8x16x128 := by decide
theorem slice_first : ∀ g : Fin 4, S8x32x512.Slices ![0, 16 - width g, 128 * g.val] S8x16x128 := by decide
theorem slice_new : ∀ g : Fin 4, S8x31x512.Slices ![0, 15, 128 * g.val] S8x16x128 := by decide

/-- One group: the difference of two running sums over the number of rows, less the row itself. -/
def group (X : FVec Ideal S8x31x512 .f32) (g : Fin 4) : FVec Ideal S8x16x128 .f32 :=
  subf (Host.divf (subf (extractStridedSlice S8x16x128 ![0, 16, 128 * g.val] (running (padded X)) (slice_last g))
      (extractStridedSlice S8x16x128 ![0, 16 - width g, 128 * g.val] (running (padded X)) (slice_first g)))
    (broadcastInDim S8x16x128 ![0, 1, 2] bcast_S1x16x1_S8x16x128_0_1_2 (broadcastInDim S1x16x1 ![1] bcast_S16_S1x16x1_1 (sitofp .f32 (minsi
      (broadcastInDim S16 ![] bcast_S_S16 (constantI S_ 32 (BitVec.ofNat 32 (width g))))
      (addi (addi (broadcastInDim S16 ![] bcast_S_S16 (constantI S_ 32 1024#32)) (iotaInDim S16 32 0)) (broadcastInDim S16 ![] bcast_S_S16 (constantI S_ 32 1#32))))))))
    (extractStridedSlice S8x16x128 ![0, 15, 128 * g.val] X (slice_new g))

theorem count : ∀ (g : Fin 4) (r : Fin 16),
    (IntOp.minsi (BitVec.ofNat 32 (width g)) (IntOp.addi (IntOp.addi (1024#32) (BitVec.ofNat 32 r.val)) 1#32)).toInt = width g := by decide

theorem group_apply (X : FVec Ideal S8x31x512 .f32) (b : Fin 8) (r : Fin 16) (g : Fin 4) (d : Fin 128) :
    group X g (ix3 b r d) = Ideal.div (running (padded X) (ix3 b ⟨16 + r.val, by omega⟩ ⟨128 * g.val + d.val, by omega⟩)
        - running (padded X) (ix3 b ⟨16 - width g + r.val, by omega⟩ ⟨128 * g.val + d.val, by omega⟩)) ((width g : ℝ) : EReal)
      - X (ix3 b ⟨15 + r.val, by omega⟩ ⟨128 * g.val + d.val, by omega⟩) := by
  unfold group
  generalize running (padded X) = R
  pointwise []
  have h : FloatOps.sitofp (F := Ideal) .f32 (IntOp.minsi (BitVec.ofNat 32 (width g)) (IntOp.addi (IntOp.addi (1024#32) (BitVec.ofNat 32 r.val)) 1#32))
      = ((width g : ℝ) : EReal) := by
    show (((IntOp.minsi (BitVec.ofNat 32 (width g)) (IntOp.addi (IntOp.addi (1024#32) (BitVec.ofNat 32 r.val)) 1#32)).toInt : ℝ) : EReal) = _
    rw [count]
    push_cast
    rfl
  rw [h]

/-- The four groups side by side. -/
def stacked (G : Fin 4 → FVec Ideal S8x16x128 .f32) : FVec Ideal S8x16x4x128 .f32 :=
  concatenate S8x16x4x128 2 [⟨S8x16x1x128, broadcastInDim S8x16x1x128 ![0, 1, 3] bcast_S8x16x128_S8x16x1x128_0_1_3 (G 0)⟩,
    ⟨S8x16x1x128, broadcastInDim S8x16x1x128 ![0, 1, 3] bcast_S8x16x128_S8x16x1x128_0_1_3 (G 1)⟩,
    ⟨S8x16x1x128, broadcastInDim S8x16x1x128 ![0, 1, 3] bcast_S8x16x128_S8x16x1x128_0_1_3 (G 2)⟩,
    ⟨S8x16x1x128, broadcastInDim S8x16x1x128 ![0, 1, 3] bcast_S8x16x128_S8x16x1x128_0_1_3 (G 3)⟩] concatenates_S8x16x1x128_S8x16x1x128_S8x16x1x128_S8x16x1x128_S8x16x4x128_d2

theorem stacked_apply (G : Fin 4 → FVec Ideal S8x16x128 .f32) (b : Fin 8) (r : Fin 16) (g : Fin 4) (d : Fin 128) :
    stacked G (ix4 b r g d) = G g (ix3 b r d) := by
  pointwise [stacked]
  match g with
  | 0 => rfl
  | 1 => rfl
  | 2 => rfl
  | 3 => rfl

/-- Each group through its matrix, scaled. -/
def mixedRows (S : FVec Ideal S8x16x4x128 .f32) (a7 : Vec Ideal S4x128x128 .f32) (a8 : Vec Ideal S512 .f32) : FVec Ideal S8x16x512 .f32 :=
  mulf (shapeCast S8x16x512 (transpose S8x16x4x128 [2, 3, 0, 1] (Host.dotGeneral (φ₁ := .f32) (φ₂ := .f32) dot_S4x128x128_S8x16x4x128_S4x128x8x16_1_3_2_01_0_2 none a7 S)
    transposes_S4x128x8x16_S8x16x4x128_2_3_0_1) shapeCasts_S8x16x4x128_S8x16x512)
    (broadcastInDim S8x16x512 ![0, 1, 2] bcast_S1x1x512_S8x16x512_0_1_2 (broadcastInDim S1x1x512 ![2] bcast_S512_S1x1x512_2 a8))

theorem mixedRows_apply (S : FVec Ideal S8x16x4x128 .f32) (a7 : Vec Ideal S4x128x128 .f32) (a8 : Vec Ideal S512 .f32) (b : Fin 8) (r : Fin 16) (j : Fin 512) :
    mixedRows S a7 a8 (ix3 b r j) = (∑ k : Fin 128, S (ix4 b r ⟨j.val / 128, by omega⟩ k) * a7 (ix3 ⟨j.val / 128, by omega⟩ k ⟨j.val % 128, by omega⟩)) * a8 (ix1 j) := by
  pointwise [mixedRows]
  exact congrArg (fun e : EReal => e * a8 (ix1 j)) (Finset.sum_congr rfl fun k _ => mul_comm (G := EReal) _ _)

/-! ## The output -/

/-- The two halves side by side. -/
def joinedRows (C M : FVec Ideal S8x16x512 .f32) : FVec Ideal S8x16x1024 .f32 :=
  concatenate S8x16x1024 2 [⟨S8x16x512, C⟩, ⟨S8x16x512, M⟩] concatenates_S8x16x512_S8x16x512_S8x16x1024_d2

theorem joinedRows_apply (C M : FVec Ideal S8x16x512 .f32) (b : Fin 8) (r : Fin 16) (j : Fin 1024) :
    joinedRows C M (ix3 b r j) = if h : j.val < 512 then C (ix3 b r ⟨j.val, h⟩) else M (ix3 b r ⟨j.val - 512, by omega⟩) := by
  pointwise [joinedRows]

/-- The layer's rows plus the last product. -/
def outRows (a0 : Vec Ideal S128x1024 .f32) (C : FVec Ideal S8x16x1024 .f32) (a9 : Vec Ideal S1024x1024 .f32) : FVec Ideal S128x1024 .f32 :=
  shapeCast S128x1024 (addf (Odd.Ref.rowsOf a0) (Host.dotGeneral (φ₁ := .f32) (φ₂ := .f32) dot_S8x16x1024_S1024x1024_S8x16x1024_2_0_01_1_n_n none C a9)) shapeCasts_S8x16x1024_S128x1024

theorem outRows_apply (a0 : Vec Ideal S128x1024 .f32) (C : FVec Ideal S8x16x1024 .f32) (a9 : Vec Ideal S1024x1024 .f32) (b : Fin 8) (r : Fin 16) (j : Fin 1024) :
    outRows a0 C a9 (ix2 ⟨16 * b.val + r.val, by omega⟩ j) = a0 (ix2 ⟨16 * b.val + r.val, by omega⟩ j) + ∑ k, C (ix3 b r k) * a9 (ix2 k j) := by
  pointwise [outRows, Odd.Ref.rowsOf]
  exact congrArg (fun q : Fin 128 => a0 (ix2 q j) + ∑ k, C (ix3 b r k) * a9 (ix2 k j))
    (Fin.ext (by dsimp only; omega) : (⟨b.val * 16 + r.val, by omega⟩ : Fin 128) = ⟨16 * b.val + r.val, by omega⟩)

/-! ## The stages composed -/

section Whole
variable (a0 : Vec Ideal S128x1024 .f32) (a1 : Vec Ideal S1024 .f32) (a2 : Vec Ideal S1024x1536 .f32) (a3 : Vec Ideal S31x512 .f32) (a4 a5 a6 : Vec Ideal S512 .f32)
  (a7 : Vec Ideal S4x128x128 .f32) (a8 : Vec Ideal S512 .f32) (a9 : Vec Ideal S1024x1024 .f32) (a10 : Vec Ideal S8x30x512 .f32) (a11 : Vec Ideal S8x15x512 .f32)

/-- The rows that the convolution reads. -/
def convAll : FVec Ideal S8x46x512 .f32 := convRowsOf a10 (gatedRows (projected a0 a1 a2))

/-- The rows that the pooling reads. -/
def poolAll : FVec Ideal S8x31x512 .f32 := poolRowsOf a11 (projected a0 a1 a2)

/-- The convolved half. -/
def activeAll : FVec Ideal S8x16x512 .f32 := active (Odd.Ref.layerNorm (convolution (convAll a0 a1 a2 a10) a3 a4) a5 a6)

/-- The pooled half. -/
def mixedAll : FVec Ideal S8x16x512 .f32 := mixedRows (stacked (group (poolAll a0 a1 a2 a11))) a7 a8

/-- The output. -/
def outAll : FVec Ideal S128x1024 .f32 := outRows a0 (joinedRows (activeAll a0 a1 a2 a3 a4 a5 a6 a10) (mixedAll a0 a1 a2 a7 a8 a11)) a9

/-- What the arguments hold for batch entry `b`. -/
def reads (b : Fin 8) : Inputs where
  x r k := a0 (ix2 ⟨16 * b.val + r.val, by omega⟩ k)
  gain k := a1 (ix1 k)
  w k j := a2 (ix2 k j)
  cw k j := a3 (ix2 k j)
  cb j := a4 (ix1 j)
  lg j := a5 (ix1 j)
  lb j := a6 (ix1 j)
  pw g k d := a7 (ix3 g k d)
  ps j := a8 (ix1 j)
  wo k j := a9 (ix2 k j)
  oldA s j := a10 (ix3 b s j)
  oldP s j := a11 (ix3 b s j)

theorem conv_eq (b : Fin 8) (n : Fin 46) (j : Fin 512) : convAll a0 a1 a2 a10 (ix3 b n j) = (reads a0 a1 a2 a3 a4 a5 a6 a7 a8 a9 a10 a11 b).convIn n j := by
  unfold convAll
  rw [convRowsOf_apply]
  simp only [gatedRows_apply, projected_apply]
  rfl

theorem pool_eq (b : Fin 8) (n : Fin 31) (j : Fin 512) : poolAll a0 a1 a2 a11 (ix3 b n j) = (reads a0 a1 a2 a3 a4 a5 a6 a7 a8 a9 a10 a11 b).poolIn n j := by
  unfold poolAll
  rw [poolRowsOf_apply]
  simp only [projected_apply]
  rfl

theorem active_eq (b : Fin 8) (r : Fin 16) (j : Fin 512) :
    activeAll a0 a1 a2 a3 a4 a5 a6 a10 (ix3 b r j) = (reads a0 a1 a2 a3 a4 a5 a6 a7 a8 a9 a10 a11 b).act r j := by
  have h : Odd.Ref.layerNorm (convolution (convAll a0 a1 a2 a10) a3 a4) a5 a6 (ix3 b r j)
      = Odd.lnorm ((reads a0 a1 a2 a3 a4 a5 a6 a7 a8 a9 a10 a11 b).conv r) (fun j => a5 (ix1 j)) (fun j => a6 (ix1 j)) j := by
    rw [Odd.Ref.layerNorm_apply]
    refine congrArg (fun v => Odd.lnorm v (fun j => a5 (ix1 j)) (fun j => a6 (ix1 j)) j) (funext fun i => ?_)
    rw [convolution_apply]
    simp only [conv_eq a0 a1 a2 a3 a4 a5 a6 a7 a8 a9 a10 a11]
    rfl
  show Odd.Ref.layerNorm (convolution (convAll a0 a1 a2 a10) a3 a4) a5 a6 (ix3 b r j) * logistic (Odd.Ref.layerNorm (convolution (convAll a0 a1 a2 a10) a3 a4) a5 a6) (ix3 b r j) = _
  rw [logistic_apply, h]
  rfl

/-- A window's sum as the difference of two running sums: entries must be finite for the difference to be one. -/
theorem window_eq (b : Fin 8) (hf : ∀ n j, Finite ((reads a0 a1 a2 a3 a4 a5 a6 a7 a8 a9 a10 a11 b).poolIn n j)) (r : Fin 16) (g : Fin 4) (j : Fin 512) :
    running (padded (poolAll a0 a1 a2 a11)) (ix3 b ⟨16 + r.val, by omega⟩ j) - running (padded (poolAll a0 a1 a2 a11)) (ix3 b ⟨16 - width g + r.val, by omega⟩ j)
      = (reads a0 a1 a2 a3 a4 a5 a6 a7 a8 a9 a10 a11 b).windowSum r g j := by
  have hw : width g ≤ 16 := (by decide : ∀ g, width g ≤ 16) g
  rw [running_apply, running_apply]
  simp only [padded_apply, pool_eq a0 a1 a2 a3 a4 a5 a6 a7 a8 a9 a10 a11]
  rw [show 16 + r.val + 1 = (16 - width g + r.val + 1) + width g by omega, sum_between]
  · refine Finset.sum_congr rfl fun i hi => ?_
    have hi := Finset.mem_range.1 hi
    rw [dif_pos (by omega), dif_pos (by omega)]
    refine congrArg (fun q : Fin 31 => Inputs.poolIn _ q j) (Fin.ext ?_)
    dsimp only
    omega
  · intro i
    split_ifs
    · exact hf _ _
    · exact ⟨0, rfl⟩
    · exact ⟨0, rfl⟩

theorem mixed_eq (b : Fin 8) (hf : ∀ n j, Finite ((reads a0 a1 a2 a3 a4 a5 a6 a7 a8 a9 a10 a11 b).poolIn n j)) (r : Fin 16) (j : Fin 512) :
    mixedAll a0 a1 a2 a7 a8 a11 (ix3 b r j) = (reads a0 a1 a2 a3 a4 a5 a6 a7 a8 a9 a10 a11 b).mixed r ⟨j.val / 128, by omega⟩ ⟨j.val % 128, by omega⟩ := by
  have hj : (⟨128 * (j.val / 128) + j.val % 128, by omega⟩ : Fin 512) = j := Fin.ext (by dsimp only; omega)
  unfold mixedAll Inputs.mixed
  rw [mixedRows_apply]
  dsimp only
  rw [hj]
  refine congrArg (fun e : EReal => e * a8 (ix1 j)) (Finset.sum_congr rfl fun k _ => ?_)
  rw [stacked_apply, group_apply, window_eq a0 a1 a2 a3 a4 a5 a6 a7 a8 a9 a10 a11 b hf, pool_eq a0 a1 a2 a3 a4 a5 a6 a7 a8 a9 a10 a11]
  rfl

theorem out_eq (b : Fin 8) (hf : ∀ n j, Finite ((reads a0 a1 a2 a3 a4 a5 a6 a7 a8 a9 a10 a11 b).poolIn n j)) (r : Fin 16) (j : Fin 1024) :
    outAll a0 a1 a2 a3 a4 a5 a6 a7 a8 a9 a10 a11 (ix2 ⟨16 * b.val + r.val, by omega⟩ j) = (reads a0 a1 a2 a3 a4 a5 a6 a7 a8 a9 a10 a11 b).out r j := by
  unfold outAll
  rw [outRows_apply]
  simp only [joinedRows_apply, active_eq a0 a1 a2 a3 a4 a5 a6 a7 a8 a9 a10 a11, mixed_eq a0 a1 a2 a3 a4 a5 a6 a7 a8 a9 a10 a11 b hf]
  rfl

theorem convState_eq (b : Fin 8) (s : Fin 30) (j : Fin 512) :
    extractStridedSlice S8x30x512 ![0, 16, 0] (convAll a0 a1 a2 a10) slices_S8x46x512_S8x30x512_0_16_0 (ix3 b s j)
      = (reads a0 a1 a2 a3 a4 a5 a6 a7 a8 a9 a10 a11 b).convIn ⟨16 + s.val, by omega⟩ j := by
  pointwise []
  exact conv_eq a0 a1 a2 a3 a4 a5 a6 a7 a8 a9 a10 a11 _ _ _

theorem poolState_eq (b : Fin 8) (s : Fin 15) (j : Fin 512) :
    extractStridedSlice S8x15x512 ![0, 16, 0] (poolAll a0 a1 a2 a11) slices_S8x31x512_S8x15x512_0_16_0 (ix3 b s j)
      = (reads a0 a1 a2 a3 a4 a5 a6 a7 a8 a9 a10 a11 b).poolIn ⟨16 + s.val, by omega⟩ j := by
  pointwise []
  exact pool_eq a0 a1 a2 a3 a4 a5 a6 a7 a8 a9 a10 a11 _ _ _

end Whole

section Results
variable (V : Valuation τ sig (Elt Ideal))

theorem res_projected : res_main_v14 V = projected (V (Proc.devRef .tc main_arg0)) (V (Proc.devRef .tc main_arg1)) (V (Proc.devRef .tc main_arg2)) := rfl

theorem res_conv : res_main_v24 V = convAll (V (Proc.devRef .tc main_arg0)) (V (Proc.devRef .tc main_arg1)) (V (Proc.devRef .tc main_arg2)) (V (Proc.devRef .tc main_arg10)) := rfl

theorem res_pool : res_main_v271 V = poolAll (V (Proc.devRef .tc main_arg0)) (V (Proc.devRef .tc main_arg1)) (V (Proc.devRef .tc main_arg2)) (V (Proc.devRef .tc main_arg11)) := rfl

theorem res_convolution : res_main_v245 V = convolution (res_main_v24 V) (V (Proc.devRef .tc main_arg3)) (V (Proc.devRef .tc main_arg4)) := rfl

theorem res_norm : res_main_v268 V = Odd.Ref.layerNorm (res_main_v245 V) (V (Proc.devRef .tc main_arg5)) (V (Proc.devRef .tc main_arg6)) := rfl

theorem res_last : res_main_v342 V = Host.dotGeneral (φ₁ := .f32) (φ₂ := .f32) dot_S8x16x1024_S1024x1024_S8x16x1024_2_0_01_1_n_n none
    (joinedRows (active (res_main_v268 V)) (mixedRows (stacked (group (res_main_v271 V))) (V (Proc.devRef .tc main_arg7)) (V (Proc.devRef .tc main_arg8))))
    (V (Proc.devRef .tc main_arg9)) := rfl

theorem res_out : shapeCast S128x1024 (addf (res_main_v0 V) (res_main_v342 V)) shapeCasts_S8x16x1024_S128x1024
    = outAll (V (Proc.devRef .tc main_arg0)) (V (Proc.devRef .tc main_arg1)) (V (Proc.devRef .tc main_arg2)) (V (Proc.devRef .tc main_arg3)) (V (Proc.devRef .tc main_arg4)) (V (Proc.devRef .tc main_arg5))
      (V (Proc.devRef .tc main_arg6)) (V (Proc.devRef .tc main_arg7)) (V (Proc.devRef .tc main_arg8)) (V (Proc.devRef .tc main_arg9)) (V (Proc.devRef .tc main_arg10)) (V (Proc.devRef .tc main_arg11)) := by
  rw [res_last, res_norm, res_convolution, res_conv, res_pool]
  rfl

/-- What the call's arguments hold for batch entry `b`. -/
def readsOf (b : Fin 8) : Inputs :=
  reads (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) b

end Results

end Cert.Even.Ref

end
-- ==== Proof.EvenClaim.lean ====
/-
  The even layers' mixer's value claim: on finite inputs the call leaves what the reference computes.
-/
module

public import proofs.«01_k».proof.Defs
public import proofs.«01_k».proof.Proof.Gen.Pre_finite_pooling
public import proofs.«01_k».proof.Proof.Pre
public import proofs.«01_k».proof.Proof.EvenState
public import proofs.«01_k».proof.Proof.EvenRef

@[expose] public section

set_option maxRecDepth 16384

noncomputable section

namespace Cert.Even

open Idealize.ShloMosaic Idealize.ShloMosaic.StableHlo Idealize.SL.Sem

section Precondition
open Cert.Pre_finite_pooling Cert.Layer

instance : Subsingleton S_.Idx := ⟨fun a b => funext fun i => i.elim0⟩

/-- The precondition: every entry of the layer's input, of its gain, of the projection's matrix and of the kept rows to pool is finite. -/
theorem finite_inputs (a0 : FVec Ideal S128x1024 .f32) (a1 : FVec Ideal S1024 .f32) (a2 : FVec Ideal S1024x1536 .f32) (a3 : FVec Ideal S31x512 .f32) (a4 a5 a6 : FVec Ideal S512 .f32)
    (a7 : FVec Ideal S4x128x128 .f32) (a8 : FVec Ideal S512 .f32) (a9 : FVec Ideal S1024x1024 .f32) (a10 : FVec Ideal S8x30x512 .f32) (a11 : FVec Ideal S8x15x512 .f32)
    (h : fn (F := Ideal) a0 a1 a2 a3 a4 a5 a6 a7 a8 a9 a10 a11 = fun _ => 1#1) :
    (∀ i, Finite (a0 i)) ∧ (∀ i, Finite (a1 i)) ∧ (∀ i, Finite (a2 i)) ∧ (∀ i, Finite (a11 i)) := by
  have h0 := congrFun h (fun a => a.elim0)
  unfold fn fn_part1 at h0
  obtain ⟨h1, hp⟩ := Cert.Pre.and_one h0
  obtain ⟨h2, hw⟩ := Cert.Pre.and_one h1
  obtain ⟨hx, hg⟩ := Cert.Pre.and_one h2
  refine ⟨fun i => ?_, fun i => ?_, fun i => ?_, fun i => ?_⟩
  · exact Cert.Pre.finite_of_abs_lt (infinity_literal ▸ Host.reduce_andi_all _ _ _ _ _ hx i)
  · exact Cert.Pre.finite_of_abs_lt (infinity_literal ▸ Host.reduce_andi_all _ _ _ _ _ hg i)
  · exact Cert.Pre.finite_of_abs_lt (infinity_literal ▸ Host.reduce_andi_all _ _ _ _ _ hw i)
  · exact Cert.Pre.finite_of_abs_lt (infinity_literal ▸ Host.reduce_andi_all _ _ _ _ _ hp i)

end Precondition

/-- Finite inputs make finite rows to pool. -/
theorem pool_finite (m : (ℓ : Loc Cert.Kernel4Ideal.nD Cert.Kernel4Ideal.τ Cert.Kernel4Ideal.sig) → Buf (Elt Ideal) ℓ)
    (hPre : Cert.Pre_Kernel4Ideal_finite_pooling m) (c : Dev Cert.Kernel4Ideal.nD) (b : Fin 8) (n : Fin 31) (j : Fin 512) : Layer.Finite ((inputs m c b).poolIn n j) := by
  obtain ⟨hx, hg, hw, hp⟩ := finite_inputs _ _ _ _ _ _ _ _ _ _ _ _ (hPre c)
  unfold Inputs.poolIn
  split_ifs
  · exact hp _
  · exact Layer.Finite.sum _ _ fun k => (Layer.rms_finite _ _ (fun k => hx _) (fun k => hg _) k).mul (hw _)

/-- A row is the one at its position in its batch entry. -/
theorem row_split (a : Fin 128) : (⟨16 * (batch a).val + (pos a).val, by omega⟩ : Fin 128) = a := Fin.ext (by
  show 16 * (a.val / 16) + a.val % 16 = a.val
  omega)

theorem algebraic : Cert.algebraic_Kernel4Ideal_Reference4Ideal_pre_finite_pooling := by
  intro m ρ m' ρ' hPre hagree
  refine ⟨_, _, _, Cert.Kernel4Ideal.Value.run_blocks (F := Ideal) m ρ, ?_⟩
  refine (θ_run Cert.Reference4Ideal.defs _ _).mono (fun _ h c => ⟨?_, ?_, ?_, (h c).2.2.2⟩) (Cert.Reference4Ideal.Value.run (F := Ideal) m' ρ')
  all_goals obtain ⟨h0, h1, h2, h3, h4, h5, h6, h7, h8, h9, h10, h11⟩ := hagree c
  all_goals
    have hI : Ref.readsOf (launchContents m' c) = inputs m c := by
      funext b
      show Ref.reads (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg3)) (m' ((c.tc : Thread Cert.Reference4Ideal.nD Cert.Reference4Ideal.τ).loc Cert.Reference4Ideal.main_arg4)) (m' ((c.tc : Thread Cert.Reference4Ideal.nD Cert.Reference4Ideal.τ).loc Cert.Reference4Ideal.main_arg5)) (m' ((c.tc : Thread Cert.Reference4Ideal.nD Cert.Reference4Ideal.τ).loc Cert.Reference4Ideal.main_arg6)) (m' ((c.tc : Thread Cert.Reference4Ideal.nD Cert.Reference4Ideal.τ).loc Cert.Reference4Ideal.main_arg7)) (m' ((c.tc : Thread Cert.Reference4Ideal.nD Cert.Reference4Ideal.τ).loc Cert.Reference4Ideal.main_arg8)) (m' ((c.tc : Thread Cert.Reference4Ideal.nD Cert.Reference4Ideal.τ).loc Cert.Reference4Ideal.main_arg9)) (m' ((c.tc : Thread Cert.Reference4Ideal.nD Cert.Reference4Ideal.τ).loc Cert.Reference4Ideal.main_arg10)) (m' ((c.tc : Thread Cert.Reference4Ideal.nD Cert.Reference4Ideal.τ).loc Cert.Reference4Ideal.main_arg11)) b = _
      rw [h0, h1, h2, h3, h4, h5, h6, h7, h8, h9, h10, h11]
      rfl
  · rw [(h c).1, array_out m c, ← hI]
    refine (Ref.res_out (launchContents m' c)).trans (funext fun i => ?_)
    refine (congrArg _ ((eq_ix2 i).trans (congrArg (ix2 · (i 1)) (row_split (i 0)).symm))).trans (Ref.out_eq _ _ _ _ _ _ _ _ _ _ _ _ (batch (i 0)) (fun n j => ?_) (pos (i 0)) (i 1))
    show Layer.Finite ((Ref.readsOf (launchContents m' c) (batch (i 0))).poolIn n j)
    rw [hI]
    exact pool_finite m hPre c (batch (i 0)) n j
  · rw [(h c).2.1, array_conv m c, ← hI, Ref.res_conv]
    exact funext fun i => (congrArg _ (eq_ix3 i)).trans (Ref.convState_eq _ _ _ _ _ _ _ _ _ _ _ _ (i 0) (i 1) (i 2))
  · rw [(h c).2.2.1, array_pool m c, ← hI, Ref.res_pool]
    exact funext fun i => (congrArg _ (eq_ix3 i)).trans (Ref.poolState_eq _ _ _ _ _ _ _ _ _ _ _ _ (i 0) (i 1) (i 2))

end Cert.Even

end
-- ==== Proof.OddPromptState.lean ====
/-
  The odd layers' mixer over the prompt: eight points work through one batch entry, 512 positions each, and the last of them
  leaves that entry's 128 newest key and value rows.
-/
module

public import proofs.«01_k».proof.Proof.Gen.Kernel5Ideal.Value
public import Idealize.ShloMosaic.Lib.Pipeline.ValueKit
public import Idealize.ShloMosaic.Lib.Pointwise
public import proofs.«01_k».proof.Proof.OddSpec

@[expose] public section

set_option maxRecDepth 16384

noncomputable section

namespace Cert.OddPrompt

open Cert.Kernel5Ideal Cert.Kernel5Ideal.Gen Idealize.ShloMosaic Idealize.ShloMosaic.TcCoe Idealize.SL.Sem Cert.Layer Cert.Odd

variable (m : (ℓ : Loc nD τ sig) → Buf (Elt Ideal) ℓ) (c : Dev nD)

/-- The projection of row `a`, at column `j`. -/
def proj (a : Fin 32768) (j : Fin 1792) : EReal :=
  project (fun k => m ((c : Thread nD τ).loc main_arg0) (ix2 a k)) (fun k => m ((c : Thread nD τ).loc main_arg2) (ix1 k))
    (fun k j => m ((c : Thread nD τ).loc main_arg3) (ix2 k j)) j

/-- Row `r` of the newest 128 of batch entry `b`. -/
def newest (b : Fin 8) (r : Fin 128) : Fin 32768 := ⟨4096 * b.val + (3968 + r.val), by omega⟩

theorem idx : ∀ t : Fin cfg0.N, win0_1.index t = ![t.val, 0] ∧ win0_2.index t = ![0, 0] ∧ win0_3.index t = ![0, 0]
    ∧ win0_12.index t = ![t.val / 8, 0, 0] ∧ win0_13.index t = ![t.val / 8, 0, 0] :=
  (by decide +kernel : ∀ t : Fin grid0.N, _)

/-! ## One point -/

theorem out_key (t : Fin cfg0.N) (h : ¬t.val % 8 = 0) :
    (outsAt0 m c t.val t.isLt).2.1 = k0_pay40 (k0_pay6 (iblk m c 1 t) (iblk m c 2 t) (iblk m c 3 t)) := by
  rw [outsAt0_B m c t h]
  frame_out

theorem out_val (t : Fin cfg0.N) (h : ¬t.val % 8 = 0) :
    (outsAt0 m c t.val t.isLt).2.2.1 = k0_pay41 (k0_pay6 (iblk m c 1 t) (iblk m c 2 t) (iblk m c 3 t)) := by
  rw [outsAt0_B m c t h]
  frame_out

theorem project_apply (x : Vec Ideal S512x1024 .f32) (g : Vec Ideal S1x1024 .f32) (w : Vec Ideal S1024x1792 .bf16) (r : Fin 512) (j : Fin 1792) :
    k0_pay6 x g w (ix2 r j) = project (fun k => x (ix2 r k)) (fun k => g (ix2 0 k)) (fun k j => w (ix2 k j)) j := by
  pointwise [k0_pay6]
  rfl

theorem V_gain : V m c main_v4 = shapeCast S1x1024 (m ((c : Thread nD τ).loc main_arg2)) shapeCasts_S1024_S1x1024 := rfl

/-- Row `r` of point `t`, among all rows. -/
def rowOf (t : Fin cfg0.N) (r : Fin 512) : Fin 32768 := ⟨512 * t.val + r.val, by have := t.isLt.trans_eq N_0; omega⟩

theorem block_x (t : Fin cfg0.N) (r : Fin 512) (k : Fin 1024) : iblk m c 1 t (ix2 r k) = m ((c : Thread nD τ).loc main_arg0) (ix2 (rowOf t r) k) := by
  unfold rowOf
  blk_ext [iblk, V, idx t]

theorem block_gain (t : Fin cfg0.N) (k : Fin 1024) : iblk m c 2 t (ix2 0 k) = m ((c : Thread nD τ).loc main_arg2) (ix1 k) := by
  show V m c main_v4 (((cfg0.win 2).blk t).view.emb (ix2 0 k)) = _
  rw [show ((cfg0.win 2).blk t).view.emb (ix2 0 k) = ix2 0 k by blk_ext [idx t], V_gain m c]
  pointwise []

theorem block_w (t : Fin cfg0.N) (k : Fin 1024) (j : Fin 1792) : iblk m c 3 t (ix2 k j) = m ((c : Thread nD τ).loc main_arg3) (ix2 k j) := by
  show V m c main_v5 (((cfg0.win 3).blk t).view.emb (ix2 k j)) = _
  rw [show ((cfg0.win 3).blk t).view.emb (ix2 k j) = ix2 k j by blk_ext [idx t]]
  rfl

theorem block_proj (t : Fin cfg0.N) (r : Fin 512) (j : Fin 1792) :
    k0_pay6 (iblk m c 1 t) (iblk m c 2 t) (iblk m c 3 t) (ix2 r j) = proj m c (rowOf t r) j := by
  rw [project_apply]
  unfold proj
  rw [show (fun k => iblk m c 1 t (ix2 r k)) = _ from funext fun k => block_x m c t r k,
    show (fun k => iblk m c 2 t (ix2 0 k)) = _ from funext fun k => block_gain m c t k,
    show (fun k j => iblk m c 3 t (ix2 k j)) = _ from funext fun k => funext fun j => block_w m c t k j]

/-- The batch entry point `t` works on. -/
def entry (t : Fin cfg0.N) : Fin 8 := ⟨t.val / 8, by have := t.isLt.trans_eq N_0; omega⟩

theorem row_newest (t : Fin cfg0.N) (h : t.val % 8 = 7) (r : Fin 128) : rowOf t ⟨384 + r.val, by omega⟩ = newest (entry t) r := Fin.ext (by
  show 512 * t.val + (384 + r.val) = 4096 * (t.val / 8) + (3968 + r.val)
  omega)

theorem point_key (t : Fin cfg0.N) (h : t.val % 8 = 7) (r j : Fin 128) :
    (outsAt0 m c t.val t.isLt).2.1 (ix3 0 r j) = proj m c (newest (entry t) r) ⟨1536 + j.val, by omega⟩ := by
  rw [out_key m c t (by omega), ← row_newest t h r, ← block_proj m c t]
  generalize k0_pay6 (F := Ideal) _ _ _ = P
  pointwise [k0_pay40, k0_pay38]

theorem point_val (t : Fin cfg0.N) (h : t.val % 8 = 7) (r j : Fin 128) :
    (outsAt0 m c t.val t.isLt).2.2.1 (ix3 0 r j) = proj m c (newest (entry t) r) ⟨1664 + j.val, by omega⟩ := by
  rw [out_val m c t (by omega), ← row_newest t h r, ← block_proj m c t]
  generalize k0_pay6 (F := Ideal) _ _ _ = P
  pointwise [k0_pay41, k0_pay39]

/-! ## The two arrays -/

/-- The newest rows of every batch entry, the 128 columns from column `o`. -/
def rows (o : ℕ) (ho : o ≤ 1664) : S8x128x128.Idx → EReal := fun i =>
  proj m c (newest (i 0) (i 1)) ⟨o + (i 2).val, by have : (i 2).val < 128 := (i 2).isLt; omega⟩

theorem array_key : (dats m 0 c).arrAt 12 cfg0.N = rows m c 1536 (by omega) := by
  refine (dats m 0 c).arrAt_eq_of_covers 12 _ (by decide +kernel) fun t hf y => ?_
  blk_simp
  rw [after0_12]
  have h := (flush0_12 t).mp hf
  have h0 : (y 0).val < 1 := (y 0).isLt
  refine (congrArg (outsAt0 m c t.val t.isLt).2.1 ((eq_ix3 _).trans (congrArg (ix3 · (y 1) (y 2)) (Fin.ext (by show (y 0).val = 0; omega))))).trans ((point_key m c t h _ _).trans ?_)
  have g0 : ((win0_12.blk t).view.emb y 0).val = t.val / 8 := by
    blk_simp [idx t]
  have e0 : entry t = (win0_12.blk t).view.emb y 0 := Fin.ext g0.symm
  have e1 : (show Fin 128 from y 1) = (win0_12.blk t).view.emb y 1 := Fin.ext (by
    blk_simp [idx t])
  rw [e0]
  exact congrArg₂ (fun r j => proj m c (newest _ r) j) e1 (Fin.ext (by blk_simp [idx t]))

theorem array_val : (dats m 0 c).arrAt 13 cfg0.N = rows m c 1664 (by omega) := by
  refine (dats m 0 c).arrAt_eq_of_covers 13 _ (by decide +kernel) fun t hf y => ?_
  blk_simp
  rw [after0_13]
  have h := (flush0_13 t).mp hf
  have h0 : (y 0).val < 1 := (y 0).isLt
  refine (congrArg (outsAt0 m c t.val t.isLt).2.2.1 ((eq_ix3 _).trans (congrArg (ix3 · (y 1) (y 2)) (Fin.ext (by show (y 0).val = 0; omega))))).trans ((point_val m c t h _ _).trans ?_)
  have g0 : ((win0_13.blk t).view.emb y 0).val = t.val / 8 := by
    blk_simp [idx t]
  have e0 : entry t = (win0_13.blk t).view.emb y 0 := Fin.ext g0.symm
  have e1 : (show Fin 128 from y 1) = (win0_13.blk t).view.emb y 1 := Fin.ext (by
    blk_simp [idx t])
  rw [e0]
  exact congrArg₂ (fun r j => proj m c (newest _ r) j) e1 (Fin.ext (by blk_simp [idx t]))

end Cert.OddPrompt

end
-- ==== Proof.OddPromptClaim.lean ====
/-
  The odd layers' mixer over the prompt: the key and value rows it keeps are the reference's.
-/
module

public import proofs.«01_k».proof.Defs
public import proofs.«01_k».proof.Proof.OddPromptState
public import proofs.«01_k».proof.Proof.Gen.Reference5Ideal.Run
public import Idealize.ShloMosaic.Lib.KernelVsHost

@[expose] public section

set_option maxRecDepth 16384

noncomputable section

namespace Cert.OddPrompt.Ref

open Cert.Reference5Ideal Cert.Reference5Ideal.Gen Cert.Reference5Ideal.Value Idealize.ShloMosaic Idealize.ShloMosaic.TcCoe Idealize.SL.Sem Idealize.ShloMosaic.StableHlo Cert.Layer Cert.Odd

/-- The input rows, 4096 to a batch entry. -/
def rowsOf (a0 : Vec Ideal S32768x1024 .f32) : FVec Ideal S8x4096x1024 .f32 := shapeCast _ a0 shapeCasts_S32768x1024_S8x4096x1024

/-- The rows normalised by their root mean square, times the gain. -/
def scaled (a0 : Vec Ideal S32768x1024 .f32) (a2 : Vec Ideal S1024 .f32) : FVec Ideal S8x4096x1024 .f32 :=
  mulf (mulf (rowsOf a0) (broadcastInDim S8x4096x1024 ![0, 1, 2] bcast_S8x4096x1_S8x4096x1024_0_1_2 (Host.rsqrt (addf (Host.divf
      (broadcastInDim S8x4096x1 ![0, 1] bcast_S8x4096_S8x4096x1_0_1 (Host.reduceAdd (mulf (rowsOf a0) (rowsOf a0)) (constant S_ .f32 0x00000000#32) reducesTo_S8x4096x1024_S8x4096_d2 h_S_))
      (broadcastInDim S8x4096x1 ![] bcast_S_S8x4096x1 (constant S_ .f32 0x44800000#32)))
      (broadcastInDim S8x4096x1 ![] bcast_S_S8x4096x1 (constant S_ .f32 0x358637BD#32))))))
    (broadcastInDim S8x4096x1024 ![0, 1, 2] bcast_S1x1x1024_S8x4096x1024_0_1_2 (broadcastInDim S1x1x1024 ![2] bcast_S1024_S1x1x1024_2 a2))

/-- The projection of the normalised rows. -/
def projected (a0 : Vec Ideal S32768x1024 .f32) (a2 : Vec Ideal S1024 .f32) (a3 : Vec Ideal S1024x1792 .f32) : FVec Ideal S8x4096x1792 .f32 :=
  Host.dotGeneral (φ₂ := .f32) dot_S8x4096x1024_S1024x1792_S8x4096x1792_2_0_01_1_n_n none (scaled a0 a2) a3

theorem projected_apply (a0 : Vec Ideal S32768x1024 .f32) (a2 : Vec Ideal S1024 .f32) (a3 : Vec Ideal S1024x1792 .f32) (b : Fin 8) (r : Fin 4096) (j : Fin 1792) :
    projected a0 a2 a3 (ix3 b r j) = project (fun k => a0 (ix2 ⟨4096 * b.val + r.val, by omega⟩ k)) (fun k => a2 (ix1 k)) (fun k j => a3 (ix2 k j)) j := by
  pointwise [projected, scaled, rowsOf]
  exact congrArg (fun q : Fin 32768 => project (fun k => a0 (ix2 q k)) (fun k => a2 (ix1 k)) (fun k j => a3 (ix2 k j)) j)
    (Fin.ext (by dsimp only; omega) : (⟨b.val * 4096 + r.val, by omega⟩ : Fin 32768) = ⟨4096 * b.val + r.val, by omega⟩)

/-- The newest rows' 128 columns, split into two head groups and put back side by side. -/
def kept (C : FVec Ideal S8x4096x128 .f32) : FVec Ideal S8x128x128 .f32 :=
  shapeCast _ (extractStridedSlice S8x128x2x64 ![0, 3968, 0, 0] (shapeCast _ C shapeCasts_S8x4096x128_S8x4096x2x64)
    slices_S8x4096x2x64_S8x128x2x64_0_3968_0_0) shapeCasts_S8x128x2x64_S8x128x128

theorem kept_apply (C : FVec Ideal S8x4096x128 .f32) (b : Fin 8) (r j : Fin 128) :
    kept C (ix3 b r j) = C (ix3 b ⟨3968 + r.val, by omega⟩ j) := by
  pointwise [kept]

/-- The key columns. -/
def keys (P : FVec Ideal S8x4096x1792 .f32) : FVec Ideal S8x4096x128 .f32 :=
  extractStridedSlice S8x4096x128 ![0, 0, 1536] P slices_S8x4096x1792_S8x4096x128_0_0_1536

theorem keys_apply (P : FVec Ideal S8x4096x1792 .f32) (b : Fin 8) (r : Fin 4096) (j : Fin 128) :
    keys P (ix3 b r j) = P (ix3 b r ⟨1536 + j.val, by omega⟩) := by
  pointwise [keys]

/-- The value columns. -/
def vals (P : FVec Ideal S8x4096x1792 .f32) : FVec Ideal S8x4096x128 .f32 :=
  extractStridedSlice S8x4096x128 ![0, 0, 1664] P slices_S8x4096x1792_S8x4096x128_0_0_1664

theorem vals_apply (P : FVec Ideal S8x4096x1792 .f32) (b : Fin 8) (r : Fin 4096) (j : Fin 128) :
    vals P (ix3 b r j) = P (ix3 b r ⟨1664 + j.val, by omega⟩) := by
  pointwise [vals]

end Cert.OddPrompt.Ref

namespace Cert.OddPrompt

open Idealize.ShloMosaic Idealize.ShloMosaic.StableHlo Idealize.SL.Sem

theorem algebraic : Cert.algebraic_Kernel5Ideal_Reference5Ideal := by
  intro m ρ m' ρ' _ hagree
  refine ⟨_, _, (θ_run Cert.Kernel5Ideal.defs _ _).mono (fun _ h c => (h c).2) (Cert.Kernel5Ideal.Value.run_blocks (F := Ideal) m ρ), ?_⟩
  refine (θ_run Cert.Reference5Ideal.defs _ _).mono (fun _ h c => ⟨?_, ?_, (h c).2.2⟩) (Cert.Reference5Ideal.Value.run (F := Ideal) m' ρ')
  · rw [(h c).1]
    simp only [hagree c]
    rw [array_key m c]
    funext i
    refine (congrArg _ (eq_ix3 i)).trans ((Ref.kept_apply (Ref.keys (Ref.projected _ _ _)) (i 0) (i 1) (i 2)).trans ?_)
    exact (Ref.keys_apply _ _ _ _).trans (Ref.projected_apply _ _ _ _ _ _)
  · rw [(h c).2.1]
    simp only [hagree c]
    rw [array_val m c]
    funext i
    refine (congrArg _ (eq_ix3 i)).trans ((Ref.kept_apply (Ref.vals (Ref.projected _ _ _)) (i 0) (i 1) (i 2)).trans ?_)
    exact (Ref.vals_apply _ _ _ _).trans (Ref.projected_apply _ _ _ _ _ _)

end Cert.OddPrompt

end
-- ==== Proof.EvenPromptBody.lean ====
/-
  The even layers' mixer over the prompt: what one grid point leaves in its two kept-state blocks.
-/
module

public import proofs.«01_k».proof.Proof.Gen.Kernel6Ideal.Value
public import Idealize.ShloMosaic.Lib.Pipeline.ValueKit
public import Idealize.ShloMosaic.Lib.Pipeline.ReadBack
public import Idealize.ShloMosaic.Lib.Pointwise
public import proofs.«01_k».proof.Proof.EvenSpec

@[expose] public section

set_option maxRecDepth 16384

noncomputable section

namespace Cert.EvenPrompt

open Cert.Kernel6Ideal Cert.Kernel6Ideal.Gen Idealize.ShloMosaic Idealize.ShloMosaic.TcCoe Idealize.SL.Sem Cert.Layer

variable (m : (ℓ : Loc nD τ sig) → Buf (Elt Ideal) ℓ) (c : Dev nD)

/-- The buffer of the rows to convolve once the new rows are stored: they start at row 32. -/
def convPieces (a : FVec Ideal S512x512 .f32) : List (View.Piece (Elt Ideal) S544x512 .f32) :=
  [⟨Rect.unit ![32, 0] ![512, 512] inb_S544x512_S512x512_32_0, a⟩]

theorem conv_canon (a : FVec Ideal S512x512 .f32) (y : S544x512.Idx) (h : 32 ≤ (y 0).val) :
    View.canon (convPieces a) y = a (ix2 ⟨(y 0).val - 32, by have : (y 0).val < 544 := (y 0).isLt; omega⟩ (y 1)) := by
  have h0 : (y 0).val < 544 := (y 0).isLt
  have h1 : (y 1).val < 512 := (y 1).isLt
  have hc : ∃ p ∈ convPieces a, y ∈ p.1.set :=
    ⟨_, .head _, by rw [Rect.mem_set_unit]; exact Fin.forall_fin_two.2 ⟨by simp; omega, by simp; omega⟩⟩
  unfold convPieces at hc ⊢
  canon_tiles x h using hc
  conv_lhs => rw [eq_ix2 x]
  exact congrArg a (congrArg₂ ix2 (Fin.ext (by dsimp only; omega)) (Fin.ext (by dsimp only; omega)))

/-- The buffer of the rows to pool once the new rows are stored: they start at row 16. -/
def poolPieces (p : FVec Ideal S512x512 .f32) : List (View.Piece (Elt Ideal) S528x512 .f32) :=
  [⟨Rect.unit ![16, 0] ![512, 512] inb_S528x512_S512x512_16_0, p⟩]

theorem pool_canon (p : FVec Ideal S512x512 .f32) (y : S528x512.Idx) (h : 16 ≤ (y 0).val) :
    View.canon (poolPieces p) y = p (ix2 ⟨(y 0).val - 16, by have : (y 0).val < 528 := (y 0).isLt; omega⟩ (y 1)) := by
  have h0 : (y 0).val < 528 := (y 0).isLt
  have h1 : (y 1).val < 512 := (y 1).isLt
  have hc : ∃ q ∈ poolPieces p, y ∈ q.1.set :=
    ⟨_, .head _, by rw [Rect.mem_set_unit]; exact Fin.forall_fin_two.2 ⟨by simp; omega, by simp; omega⟩⟩
  unfold poolPieces at hc ⊢
  canon_tiles x h using hc
  conv_lhs => rw [eq_ix2 x]
  exact congrArg p (congrArg₂ ix2 (Fin.ext (by dsimp only; omega)) (Fin.ext (by dsimp only; omega)))

/-- The last 32 rows to convolve. -/
def lateRead (a : FVec Ideal S512x512 .f32) : Vec Ideal S32x512 .f32 :=
  ((View.whole cc0_scratch0).readCov (Val := Elt Ideal) (convPieces a) (Rect.unit ![512, 0] ![32, 512] inb_S544x512_S32x512_512_0).toLoadRect :)

theorem lateRead_apply (a : FVec Ideal S512x512 .f32) (n : Fin 32) (j : Fin 512) : lateRead a (ix2 n j) = a (ix2 ⟨480 + n.val, by omega⟩ j) := by
  unfold lateRead
  refine (congrFun (View.readCov_eq_canon' _ _ _) _).trans ((conv_canon _ _ (by simp; omega)).trans ?_)
  exact congrArg a (congrArg₂ ix2 (Fin.ext (by simp; omega)) (Fin.ext (by simp)))

/-- The last 16 rows to pool. -/
def endRead (p : FVec Ideal S512x512 .f32) : Vec Ideal S16x512 .f32 :=
  ((View.whole cc0_scratch1).readCov (Val := Elt Ideal) (poolPieces p) (Rect.unit ![512, 0] ![16, 512] inb_S528x512_S16x512_512_0).toLoadRect :)

theorem endRead_apply (p : FVec Ideal S512x512 .f32) (n : Fin 16) (j : Fin 512) : endRead p (ix2 n j) = p (ix2 ⟨496 + n.val, by omega⟩ j) := by
  unfold endRead
  refine (congrFun (View.readCov_eq_canon' _ _ _) _).trans ((pool_canon _ _ (by simp; omega)).trans ?_)
  exact congrArg p (congrArg₂ ix2 (Fin.ext (by simp; omega)) (Fin.ext (by simp)))

theorem out_conv (t : Fin cfg0.N) (h : ¬t.val % 8 = 0) :
    (outsAt0 m c t.val t.isLt).2.1 = k0_pay315 (lateRead (k0_pay7 (iblk m c 0 t) (iblk m c 1 t) (iblk m c 2 t))) := by
  rw [outsAt0_B m c t h]
  frame_out
  rfl

theorem out_pool (t : Fin cfg0.N) (h : ¬t.val % 8 = 0) :
    (outsAt0 m c t.val t.isLt).2.2.1 = k0_pay1 (k0_pay316 (endRead (k0_pay9 (k0_pay8 (iblk m c 0 t) (iblk m c 1 t) (iblk m c 2 t))))) := by
  rw [outsAt0_B m c t h]
  frame_out
  rfl

end Cert.EvenPrompt

end
-- ==== Proof.EvenPromptState.lean ====
/-
  The even layers' mixer over the prompt: eight points work through one batch entry, 512 positions each, and the last of them
  leaves that entry's 30 newest gated rows and 15 newest rows to pool.
-/
module

public import proofs.«01_k».proof.Proof.EvenPromptBody

@[expose] public section

set_option maxRecDepth 16384

noncomputable section

namespace Cert.EvenPrompt

open Cert.Kernel6Ideal Cert.Kernel6Ideal.Gen Idealize.ShloMosaic Idealize.ShloMosaic.TcCoe Idealize.SL.Sem Cert.Layer Cert.Even

variable (m : (ℓ : Loc nD τ sig) → Buf (Elt Ideal) ℓ) (c : Dev nD)

/-- The projection of row `a`, at column `j`. -/
def proj (a : Fin 32768) (j : Fin 1536) : EReal :=
  ∑ k, rms (fun k => m ((c : Thread nD τ).loc main_arg0) (ix2 a k)) (fun k => m ((c : Thread nD τ).loc main_arg1) (ix1 k)) k
    * m ((c : Thread nD τ).loc main_arg2) (ix2 k j)

/-- The gated row `a`. -/
def glu (a : Fin 32768) (j : Fin 512) : EReal := proj m c a ⟨j.val, by omega⟩ * sigmoid (proj m c a ⟨512 + j.val, by omega⟩)

/-- Position `s` of batch entry `b`, among all rows. -/
def rowAt (b : Fin 8) (s : Fin 4096) : Fin 32768 := ⟨4096 * b.val + s.val, by omega⟩

theorem idx : ∀ t : Fin cfg0.N, win0_0.index t = ![t.val, 0] ∧ win0_1.index t = ![0, 0] ∧ win0_2.index t = ![0, 0]
    ∧ win0_13.index t = ![t.val / 8, 0, 0] ∧ win0_14.index t = ![t.val / 8, 0, 0] :=
  (by decide +kernel : ∀ t : Fin grid0.N, _)

/-! ## One point -/

theorem project_apply (x : Vec Ideal S512x1024 .f32) (g : Vec Ideal S1x1024 .f32) (w : Vec Ideal S1024x1536 .bf16) (r : Fin 512) (j : Fin 1536) :
    k0_pay6 x g w (ix2 r j) = ∑ k, rms (fun k => x (ix2 r k)) (fun k => g (ix2 0 k)) k * w (ix2 k j) := by
  pointwise [k0_pay6]
  rfl

theorem glu_apply (x : Vec Ideal S512x1024 .f32) (g : Vec Ideal S1x1024 .f32) (w : Vec Ideal S1024x1536 .bf16) (r j : Fin 512) :
    k0_pay7 x g w (ix2 r j) = k0_pay6 x g w (ix2 r ⟨j.val, by omega⟩) * sigmoid (k0_pay6 x g w (ix2 r ⟨512 + j.val, by omega⟩)) := by
  unfold k0_pay7
  generalize k0_pay6 x g w = P
  pointwise []
  exact congrArg (fun e : EReal => P (ix2 r ⟨j.val, by omega⟩) * e) (sigmoid_sub _)

theorem V_gain : V m c main_v0 = shapeCast S1x1024 (m ((c : Thread nD τ).loc main_arg1)) shapeCasts_S1024_S1x1024 := rfl

/-- Row `r` of point `t`, among all rows. -/
def rowOf (t : Fin cfg0.N) (r : Fin 512) : Fin 32768 := ⟨512 * t.val + r.val, by have := t.isLt.trans_eq N_0; omega⟩

theorem block_x (t : Fin cfg0.N) (r : Fin 512) (k : Fin 1024) : iblk m c 0 t (ix2 r k) = m ((c : Thread nD τ).loc main_arg0) (ix2 (rowOf t r) k) := by
  unfold rowOf
  blk_ext [iblk, V, idx t]

theorem block_gain (t : Fin cfg0.N) (k : Fin 1024) : iblk m c 1 t (ix2 0 k) = m ((c : Thread nD τ).loc main_arg1) (ix1 k) := by
  show V m c main_v0 (((cfg0.win 1).blk t).view.emb (ix2 0 k)) = _
  rw [show ((cfg0.win 1).blk t).view.emb (ix2 0 k) = ix2 0 k by blk_ext [idx t], V_gain m c]
  pointwise []

theorem block_w (t : Fin cfg0.N) (k : Fin 1024) (j : Fin 1536) : iblk m c 2 t (ix2 k j) = m ((c : Thread nD τ).loc main_arg2) (ix2 k j) := by
  show V m c main_v1 (((cfg0.win 2).blk t).view.emb (ix2 k j)) = _
  rw [show ((cfg0.win 2).blk t).view.emb (ix2 k j) = ix2 k j by blk_ext [idx t]]
  rfl

theorem block_proj (t : Fin cfg0.N) (r : Fin 512) (j : Fin 1536) :
    k0_pay6 (iblk m c 0 t) (iblk m c 1 t) (iblk m c 2 t) (ix2 r j) = proj m c (rowOf t r) j := by
  rw [project_apply]
  unfold proj
  rw [show (fun k => iblk m c 0 t (ix2 r k)) = _ from funext fun k => block_x m c t r k,
    show (fun k => iblk m c 1 t (ix2 0 k)) = _ from funext fun k => block_gain m c t k]
  exact Finset.sum_congr rfl fun k _ => congrArg _ (block_w m c t k j)

theorem block_glu (t : Fin cfg0.N) (r j : Fin 512) : k0_pay7 (iblk m c 0 t) (iblk m c 1 t) (iblk m c 2 t) (ix2 r j) = glu m c (rowOf t r) j := by
  rw [glu_apply, block_proj, block_proj]
  rfl

/-- The batch entry point `t` works on. -/
def entry (t : Fin cfg0.N) : Fin 8 := ⟨t.val / 8, by have := t.isLt.trans_eq N_0; omega⟩

theorem row_newest (t : Fin cfg0.N) (h : t.val % 8 = 7) (r : Fin 512) : rowOf t r = rowAt (entry t) ⟨3584 + r.val, by omega⟩ := Fin.ext (by
  show 512 * t.val + r.val = 4096 * (t.val / 8) + (3584 + r.val)
  omega)

theorem point_conv (t : Fin cfg0.N) (h : t.val % 8 = 7) (s : Fin 30) (j : Fin 512) :
    (outsAt0 m c t.val t.isLt).2.1 (ix3 0 s j) = glu m c (rowAt (entry t) ⟨4066 + s.val, by omega⟩) j := by
  rw [out_conv m c t (by omega)]
  have e : k0_pay315 (lateRead (k0_pay7 (iblk m c 0 t) (iblk m c 1 t) (iblk m c 2 t))) (ix3 0 s j)
      = lateRead (k0_pay7 (iblk m c 0 t) (iblk m c 1 t) (iblk m c 2 t)) (ix2 ⟨2 + s.val, by omega⟩ j) := by
    generalize lateRead _ = R
    pointwise [k0_pay315]
  rw [e, lateRead_apply, block_glu, row_newest t h]
  exact congrArg (fun q => glu m c (rowAt (entry t) q) j) (Fin.ext (by dsimp only; omega))

theorem point_pool (t : Fin cfg0.N) (h : t.val % 8 = 7) (s : Fin 15) (j : Fin 512) :
    (outsAt0 m c t.val t.isLt).2.2.1 (ix3 0 s j) = proj m c (rowAt (entry t) ⟨4081 + s.val, by omega⟩) ⟨1024 + j.val, by omega⟩ := by
  rw [out_pool m c t (by omega)]
  have e : k0_pay1 (k0_pay316 (endRead (k0_pay9 (k0_pay8 (iblk m c 0 t) (iblk m c 1 t) (iblk m c 2 t))))) (ix3 0 s j)
      = endRead (k0_pay9 (k0_pay8 (iblk m c 0 t) (iblk m c 1 t) (iblk m c 2 t))) (ix2 ⟨1 + s.val, by omega⟩ j) := by
    generalize endRead _ = R
    pointwise [k0_pay1, k0_pay316]
  have e' : k0_pay9 (k0_pay8 (iblk m c 0 t) (iblk m c 1 t) (iblk m c 2 t)) (ix2 ⟨496 + (1 + s.val), by omega⟩ j)
      = k0_pay6 (iblk m c 0 t) (iblk m c 1 t) (iblk m c 2 t) (ix2 ⟨496 + (1 + s.val), by omega⟩ ⟨1024 + j.val, by omega⟩) := by
    unfold k0_pay8
    generalize k0_pay6 (F := Ideal) _ _ _ = P
    pointwise [k0_pay9]
  rw [e, endRead_apply, e', block_proj, row_newest t h]
  exact congrArg (fun q => proj m c (rowAt (entry t) q) ⟨1024 + j.val, by omega⟩) (Fin.ext (by dsimp only; omega))

/-! ## The two arrays -/

/-- The newest 30 gated rows of every batch entry. -/
def convState : S8x30x512.Idx → EReal := fun i =>
  glu m c (rowAt (i 0) ⟨4066 + (i 1).val, by have : (i 1).val < 30 := (i 1).isLt; omega⟩) (i 2)

theorem array_conv : (dats m 0 c).arrAt 13 cfg0.N = convState m c := by
  refine (dats m 0 c).arrAt_eq_of_covers 13 _ (by decide +kernel) fun t hf y => ?_
  blk_simp
  rw [after0_13]
  have h := (flush0_13 t).mp hf
  have h0 : (y 0).val < 1 := (y 0).isLt
  refine (congrArg (outsAt0 m c t.val t.isLt).2.1 ((eq_ix3 _).trans (congrArg (ix3 · (y 1) (y 2)) (Fin.ext (by show (y 0).val = 0; omega))))).trans ((point_conv m c t h _ _).trans ?_)
  have e0 : entry t = (win0_13.blk t).view.emb y 0 := Fin.ext (by
    show t.val / 8 = _
    blk_simp [idx t])
  unfold convState
  rw [e0]
  exact congrArg₂ (fun r j => glu m c (rowAt _ r) j) (Fin.ext (by blk_simp [idx t])) (Fin.ext (by blk_simp [idx t]))

/-- The newest 15 rows to pool of every batch entry. -/
def poolState : S8x15x512.Idx → EReal := fun i =>
  proj m c (rowAt (i 0) ⟨4081 + (i 1).val, by have : (i 1).val < 15 := (i 1).isLt; omega⟩)
    ⟨1024 + (i 2).val, by have : (i 2).val < 512 := (i 2).isLt; omega⟩

theorem array_pool : (dats m 0 c).arrAt 14 cfg0.N = poolState m c := by
  refine (dats m 0 c).arrAt_eq_of_covers 14 _ (by decide +kernel) fun t hf y => ?_
  blk_simp
  rw [after0_14]
  have h := (flush0_14 t).mp hf
  have h0 : (y 0).val < 1 := (y 0).isLt
  refine (congrArg (outsAt0 m c t.val t.isLt).2.2.1 ((eq_ix3 _).trans (congrArg (ix3 · (y 1) (y 2)) (Fin.ext (by show (y 0).val = 0; omega))))).trans ((point_pool m c t h _ _).trans ?_)
  have e0 : entry t = (win0_14.blk t).view.emb y 0 := Fin.ext (by
    show t.val / 8 = _
    blk_simp [idx t])
  unfold poolState
  rw [e0]
  exact congrArg₂ (fun r j => proj m c (rowAt _ r) j) (Fin.ext (by blk_simp [idx t])) (Fin.ext (by blk_simp [idx t]))

end Cert.EvenPrompt

end
-- ==== Proof.EvenPromptClaim.lean ====
/-
  The even layers' mixer over the prompt: the two states it keeps are the reference's.
-/
module

public import proofs.«01_k».proof.Defs
public import proofs.«01_k».proof.Proof.EvenPromptState
public import proofs.«01_k».proof.Proof.Gen.Reference6Ideal.Run
public import Idealize.ShloMosaic.Lib.KernelVsHost

@[expose] public section

set_option maxRecDepth 16384

noncomputable section

namespace Cert.EvenPrompt.Ref

open Cert.Reference6Ideal Cert.Reference6Ideal.Gen Cert.Reference6Ideal.Value Idealize.ShloMosaic Idealize.ShloMosaic.TcCoe Idealize.SL.Sem Idealize.ShloMosaic.StableHlo Cert.Layer Cert.Even

/-- The input rows, 4096 to a batch entry. -/
def rowsOf (a0 : Vec Ideal S32768x1024 .f32) : FVec Ideal S8x4096x1024 .f32 := shapeCast _ a0 shapeCasts_S32768x1024_S8x4096x1024

/-- The rows normalised by their root mean square, times the gain. -/
def scaled (a0 : Vec Ideal S32768x1024 .f32) (a1 : Vec Ideal S1024 .f32) : FVec Ideal S8x4096x1024 .f32 :=
  mulf (mulf (rowsOf a0) (broadcastInDim S8x4096x1024 ![0, 1, 2] bcast_S8x4096x1_S8x4096x1024_0_1_2 (Host.rsqrt (addf (Host.divf
      (broadcastInDim S8x4096x1 ![0, 1] bcast_S8x4096_S8x4096x1_0_1 (Host.reduceAdd (mulf (rowsOf a0) (rowsOf a0)) (constant S_ .f32 0x00000000#32) reducesTo_S8x4096x1024_S8x4096_d2 h_S_))
      (broadcastInDim S8x4096x1 ![] bcast_S_S8x4096x1 (constant S_ .f32 0x44800000#32)))
      (broadcastInDim S8x4096x1 ![] bcast_S_S8x4096x1 (constant S_ .f32 0x358637BD#32))))))
    (broadcastInDim S8x4096x1024 ![0, 1, 2] bcast_S1x1x1024_S8x4096x1024_0_1_2 (broadcastInDim S1x1x1024 ![2] bcast_S1024_S1x1x1024_2 a1))

/-- The projection of the normalised rows. -/
def projected (a0 : Vec Ideal S32768x1024 .f32) (a1 : Vec Ideal S1024 .f32) (a2 : Vec Ideal S1024x1536 .f32) : FVec Ideal S8x4096x1536 .f32 :=
  Host.dotGeneral (φ₂ := .f32) dot_S8x4096x1024_S1024x1536_S8x4096x1536_2_0_01_1_n_n none (scaled a0 a1) a2

theorem projected_apply (a0 : Vec Ideal S32768x1024 .f32) (a1 : Vec Ideal S1024 .f32) (a2 : Vec Ideal S1024x1536 .f32) (b : Fin 8) (r : Fin 4096) (j : Fin 1536) :
    projected a0 a1 a2 (ix3 b r j) = ∑ k, rms (fun k => a0 (ix2 ⟨4096 * b.val + r.val, by omega⟩ k)) (fun k => a1 (ix1 k)) k * a2 (ix2 k j) := by
  pointwise [projected, scaled, rowsOf]
  exact congrArg (fun q : Fin 32768 => ∑ k, rms (fun k => a0 (ix2 q k)) (fun k => a1 (ix1 k)) k * a2 (ix2 k j))
    (Fin.ext (by dsimp only; omega) : (⟨b.val * 4096 + r.val, by omega⟩ : Fin 32768) = ⟨4096 * b.val + r.val, by omega⟩)

/-- The gated rows. -/
def gatedRows (P : FVec Ideal S8x4096x1536 .f32) : FVec Ideal S8x4096x512 .f32 :=
  mulf (extractStridedSlice S8x4096x512 ![0, 0, 0] P slices_S8x4096x1536_S8x4096x512_0_0_0)
    (Host.divf (broadcastInDim S8x4096x512 ![] bcast_S_S8x4096x512 (constant S_ .f32 0x3F800000#32))
      (addf (broadcastInDim S8x4096x512 ![] bcast_S_S8x4096x512 (constant S_ .f32 0x3F800000#32))
        (Host.exp (Host.negf (extractStridedSlice S8x4096x512 ![0, 0, 512] P slices_S8x4096x1536_S8x4096x512_0_0_512)))))

theorem gatedRows_apply (P : FVec Ideal S8x4096x1536 .f32) (b : Fin 8) (r : Fin 4096) (j : Fin 512) :
    gatedRows P (ix3 b r j) = P (ix3 b r ⟨j.val, by omega⟩) * sigmoid (P (ix3 b r ⟨512 + j.val, by omega⟩)) := by
  pointwise [gatedRows]
  rfl

/-- The last 30 of thirty rows of zeros followed by the gated rows. -/
def keptConv (G : FVec Ideal S8x4096x512 .f32) : FVec Ideal S8x30x512 .f32 :=
  extractStridedSlice S8x30x512 ![0, 4096, 0] (concatenate S8x4126x512 1 [⟨S8x30x512, (broadcastInDim S8x30x512 ![] bcast_S_S8x30x512 (constant S_ .f32 0x00000000#32))⟩, ⟨S8x4096x512, G⟩]
    concatenates_S8x30x512_S8x4096x512_S8x4126x512_d1) slices_S8x4126x512_S8x30x512_0_4096_0

theorem keptConv_apply (G : FVec Ideal S8x4096x512 .f32) (b : Fin 8) (s : Fin 30) (j : Fin 512) :
    keptConv G (ix3 b s j) = G (ix3 b ⟨4066 + s.val, by omega⟩ j) := by
  pointwise [keptConv]
  rw [dif_neg (by omega)]
  exact congrArg G (congrArg (ix3 b · j) (Fin.ext (by dsimp only; omega)))

/-- The last 15 of fifteen rows of zeros followed by the rows to pool. -/
def keptPool (P : FVec Ideal S8x4096x1536 .f32) : FVec Ideal S8x15x512 .f32 :=
  extractStridedSlice S8x15x512 ![0, 4096, 0] (concatenate S8x4111x512 1 [⟨S8x15x512, (broadcastInDim S8x15x512 ![] bcast_S_S8x15x512 (constant S_ .f32 0x00000000#32))⟩,
    ⟨S8x4096x512, (extractStridedSlice S8x4096x512 ![0, 0, 1024] P slices_S8x4096x1536_S8x4096x512_0_0_1024)⟩]
    concatenates_S8x15x512_S8x4096x512_S8x4111x512_d1) slices_S8x4111x512_S8x15x512_0_4096_0

theorem keptPool_apply (P : FVec Ideal S8x4096x1536 .f32) (b : Fin 8) (s : Fin 15) (j : Fin 512) :
    keptPool P (ix3 b s j) = P (ix3 b ⟨4081 + s.val, by omega⟩ ⟨1024 + j.val, by omega⟩) := by
  pointwise [keptPool]
  rw [dif_neg (by omega)]
  exact congrArg P (congrArg (ix3 b · _) (Fin.ext (by dsimp only; omega)))

end Cert.EvenPrompt.Ref

namespace Cert.EvenPrompt

open Idealize.ShloMosaic Idealize.ShloMosaic.StableHlo Idealize.SL.Sem

theorem algebraic : Cert.algebraic_Kernel6Ideal_Reference6Ideal := by
  intro m ρ m' ρ' _ hagree
  refine ⟨_, _, (θ_run Cert.Kernel6Ideal.defs _ _).mono (fun _ h c => (h c).2) (Cert.Kernel6Ideal.Value.run_blocks (F := Ideal) m ρ), ?_⟩
  refine (θ_run Cert.Reference6Ideal.defs _ _).mono (fun _ h c => ⟨?_, ?_, (h c).2.2⟩) (Cert.Reference6Ideal.Value.run (F := Ideal) m' ρ')
  · rw [(h c).1, array_conv m c]
    funext i
    refine (congrArg _ (eq_ix3 i)).trans ((Ref.keptConv_apply (Ref.gatedRows (Ref.projected _ _ _)) (i 0) (i 1) (i 2)).trans ?_)
    refine (Ref.gatedRows_apply _ _ _ _).trans ((congrArg₂ (fun a b => a * Even.sigmoid b) (Ref.projected_apply _ _ _ _ _ _) (Ref.projected_apply _ _ _ _ _ _)).trans ?_)
    simp only [hagree c]
    rfl
  · rw [(h c).2.1, array_pool m c]
    funext i
    refine (congrArg _ (eq_ix3 i)).trans ((Ref.keptPool_apply (Ref.projected _ _ _) (i 0) (i 1) (i 2)).trans ?_)
    refine (Ref.projected_apply _ _ _ _ _ _).trans ?_
    simp only [hagree c]
    rfl

end Cert.EvenPrompt

end
-- ==== Proof.SamplePre.lean ====
/-
  What the precondition of the sample's rows says: every entry of the rows, of the gain and of the router's matrix is finite.
-/
module

public import proofs.«01_k».proof.Proof.Gen.Pre_finite_sample
public import proofs.«01_k».proof.Proof.Pre

@[expose] public section

noncomputable section

namespace Cert.Sample

open Idealize.ShloMosaic Cert.Pre_finite_sample Cert.Layer Cert.Pre

variable (x : FVec Ideal S128x1024 .f32) (g : FVec Ideal S1024 .f32) (r : FVec Ideal S1024x8 .f32)
  (wg wu : FVec Ideal S8x1024x1408 .f32) (wd : FVec Ideal S8x1408x1024 .f32) (gf : FVec Ideal S1024 .f32)

instance : Subsingleton S_.Idx := ⟨fun a b => funext fun i => i.elim0⟩

theorem finite_inputs (h : fn (F := Ideal) x g r wg wu wd gf = fun _ => 1#1) :
    (∀ i, Finite (x i)) ∧ (∀ i, Finite (g i)) ∧ (∀ i, Finite (r i)) := by
  have h0 := congrFun h (fun a => a.elim0)
  unfold fn at h0
  obtain ⟨h1, hr⟩ := and_one h0
  obtain ⟨hx, hg⟩ := and_one h1
  exact ⟨fun i => finite_of_abs_lt (infinity_literal ▸ Host.reduce_andi_all _ _ _ _ _ hx i),
    fun i => finite_of_abs_lt (infinity_literal ▸ Host.reduce_andi_all _ _ _ _ _ hg i),
    fun i => finite_of_abs_lt (infinity_literal ▸ Host.reduce_andi_all _ _ _ _ _ hr i)⟩

end Cert.Sample

end
-- ==== Proof.SampleBlocks.lean ====
/-
  What each input block of the routed call on the sample's rows holds at a grid point, read off the argument arrays: every
  point works on all 128 rows, and point `t` on expert `t`.
-/
module

public import proofs.«01_k».proof.Proof.Gen.Kernel7Ideal.Value
public import Idealize.ShloMosaic.Lib.Pipeline.ValueKit
public import Idealize.ShloMosaic.Lib.Pointwise
public import proofs.«01_k».proof.Proof.Experts

@[expose] public section

set_option maxRecDepth 16384

noncomputable section

namespace Cert.Sample

open Cert.Kernel7Ideal Cert.Kernel7Ideal.Gen Idealize.ShloMosaic Idealize.ShloMosaic.TcCoe Idealize.SL.Sem

variable (m : (ℓ : Loc nD τ sig) → Buf (Elt Ideal) ℓ) (c : Dev nD)

/-! ## The arguments, entry by entry -/

def args : Layer.Args 128 where
  input r k := m ((c : Thread nD τ).loc main_arg0) (ix2 r k)
  gain k := m ((c : Thread nD τ).loc main_arg1) (ix1 k)
  router k e := m ((c : Thread nD τ).loc main_arg2) (ix2 k e)
  gate e k f := m ((c : Thread nD τ).loc main_arg3) (ix3 e k f)
  up e k f := m ((c : Thread nD τ).loc main_arg4) (ix3 e k f)
  down e f d := m ((c : Thread nD τ).loc main_arg5) (ix3 e f d)
  lastGain k := m ((c : Thread nD τ).loc main_arg6) (ix1 k)

/-- The point's expert. -/
def expertOf (t : Fin cfg0.N) : Fin 8 := ⟨t.val % 8, Nat.mod_lt _ (by decide)⟩

/-! ## The operands the host computes before the call -/

theorem V_gain : V m c main_v2 = shapeCast S1x1024 (m ((c : Thread nD τ).loc main_arg1)) shapeCasts_S1024_S1x1024 := rfl

theorem V_lastGain : V m c main_v6 = shapeCast S1x1024 (m ((c : Thread nD τ).loc main_arg6)) shapeCasts_S1024_S1x1024 := rfl

theorem V_router : V m c main_v1 = pad S1024x128 ![0, 0] ![0, 120] ![0, 0]
    (truncf .bf16 (show FVec Ideal S1024x8 .f32 from m ((c : Thread nD τ).loc main_arg2)) bitsLt_bf16_f32)
    (sitofp .bf16 (constantI S_ 32 0#32)) pads_S1024x8_S1024x128_000_01200 h_S_ := by
  unfold V
  simp only [hostOps0, hostOps0_1, hostOps0_2, List.flatten_cons, List.flatten_nil, List.append_nil, List.cons_append, List.nil_append]
  entry_read
  rfl

/-! ## The blocks -/

theorem idx : ∀ t : Fin cfg0.N, win0_0.index t = ![0, 0] ∧ win0_1.index t = ![0, 0] ∧ win0_2.index t = ![0, 0]
    ∧ win0_3.index t = ![t.val % 8, 0, 0] ∧ win0_4.index t = ![t.val % 8, 0, 0] ∧ win0_5.index t = ![t.val % 8, 0, 0] ∧ win0_6.index t = ![0, 0] :=
  (by decide +kernel : ∀ t : Fin grid0.N, _)

theorem block_input (t : Fin cfg0.N) (a : Fin 128) (k : Fin 1024) : iblk m c 0 t (ix2 a k) = (args m c).input a k := by
  unfold args
  blk_ext [iblk, V, idx t]

theorem block_gain (t : Fin cfg0.N) (k : Fin 1024) : iblk m c 1 t (ix2 0 k) = (args m c).gain k := by
  show V m c main_v2 (((cfg0.win 1).blk t).view.emb (ix2 0 k)) = _
  rw [show ((cfg0.win 1).blk t).view.emb (ix2 0 k) = ix2 0 k by blk_ext [idx t], V_gain m c]
  unfold args
  pointwise []

theorem block_router (t : Fin cfg0.N) (k : Fin 1024) (e : Fin 8) : iblk m c 2 t (ix2 k (Layer.lane e)) = (args m c).router k e := by
  show V m c main_v1 (((cfg0.win 2).blk t).view.emb (ix2 k (Layer.lane e))) = _
  rw [show ((cfg0.win 2).blk t).view.emb (ix2 k (Layer.lane e)) = ix2 k (Layer.lane e) by blk_ext [idx t], V_router m c]
  unfold args
  pointwise []
  exact dif_pos e.isLt

theorem block_gate (t : Fin cfg0.N) (k : Fin 1024) (f : Fin 1408) : iblk m c 3 t (ix3 0 k f) = (args m c).gate (expertOf t) k f := by
  unfold args expertOf
  blk_ext [iblk, V, idx t]

theorem block_up (t : Fin cfg0.N) (k : Fin 1024) (f : Fin 1408) : iblk m c 4 t (ix3 0 k f) = (args m c).up (expertOf t) k f := by
  unfold args expertOf
  blk_ext [iblk, V, idx t]

theorem block_down (t : Fin cfg0.N) (f : Fin 1408) (d : Fin 1024) : iblk m c 5 t (ix3 0 f d) = (args m c).down (expertOf t) f d := by
  unfold args expertOf
  blk_ext [iblk, V, idx t]

theorem block_lastGain (t : Fin cfg0.N) (k : Fin 1024) : iblk m c 6 t (ix2 0 k) = (args m c).lastGain k := by
  show V m c main_v6 (((cfg0.win 6).blk t).view.emb (ix2 0 k)) = _
  rw [show ((cfg0.win 6).blk t).view.emb (ix2 0 k) = ix2 0 k by blk_ext [idx t], V_lastGain m c]
  unfold args
  pointwise []

end Cert.Sample

end
-- ==== Proof.SampleBlock.lean ====
/-
  What one grid point of the routed call on the sample's rows computes from its blocks, row by row.
-/
module

public import proofs.«01_k».proof.Proof.Gen.Kernel7Ideal.Value
public import Idealize.ShloMosaic.Lib.Pipeline.ValueKit
public import Idealize.ShloMosaic.Lib.Pointwise
public import proofs.«01_k».proof.Proof.BlockRows

@[expose] public section

set_option maxRecDepth 16384

noncomputable section

namespace Cert.Sample

open Cert.Kernel7Ideal Cert.Kernel7Ideal.Gen Idealize.ShloMosaic Idealize.ShloMosaic.TcCoe Idealize.SL.Sem

open Cert.Layer

variable (x : Vec Ideal S128x1024 .f32) (g : Vec Ideal S1x1024 .f32) (r : Vec Ideal S1024x128 .bf16)

theorem norm_apply (a : Fin 128) (k : Fin 1024) : k0_pay4 x g (ix2 a k) = normRow x g a k := by
  pointwise [k0_pay4]
  rfl

theorem stored_norm_apply (a : Fin 128) (k : Fin 1024) : k0_pay5 x g (ix2 a k) = normRow x g a k := by
  pointwise [k0_pay5, k0_pay4]
  rfl

theorem score_apply (a : Fin 128) (l : Fin 128) : k0_pay6 x g r (ix2 a l) = masked (scores x g r a) l := by
  unfold k0_pay6
  pointwise []
  rw [neg_infinity_literal]
  simp only [norm_apply]
  exact score_lane _ (fun l => ∑ k, normRow x g a k * r (ix2 k l)) (fun _ => rfl) l

section Rounds
variable (a : Fin 128) (hL : ∀ e, Finite (scores x g r a e))
include hL

theorem max_apply : k0_pay7 x g r (ix2 a 0) = scores x g r a (best (scores x g r a)) := by
  unfold k0_pay7
  pointwise []
  rw [neg_infinity_literal, ← max_masked _ hL]
  exact congrArg (fun f => Finset.univ.fold max ⊥ f) (funext fun l => score_apply x g r a l)

theorem arg_apply : k0_pay8 x g r (ix2 a 0) = BitVec.ofNat 32 (lane (best (scores x g r a))).val := by
  unfold k0_pay8
  pointwise []
  rw [← first_masked _ hL]
  simp only [score_apply]
  rw [max_apply x g r a hL]

theorem rest_apply (l : Fin 128) : k0_pay9 x g r (ix2 a l) = rest (scores x g r a) l := by
  unfold k0_pay9
  pointwise []
  rw [arg_apply x g r a hL, lane_eq, select_decide, neg_infinity_literal, score_apply]
  rfl

theorem max2_apply : k0_pay10 x g r (ix1 a) = scores x g r a (second (scores x g r a)) := by
  unfold k0_pay10
  pointwise []
  rw [neg_infinity_literal, ← max_rest _ hL]
  exact congrArg (fun f => Finset.univ.fold max ⊥ f) (funext fun l => rest_apply x g r a hL l)

/-- The weights the point keeps for row `a`, on the experts' lanes. -/
theorem weight_apply (e : Fin 8) : k0_pay11 (iota Kind.tc S128x128 32 [1] iota_S128x128_d1_w32) (k0_pay7 x g r) (k0_pay8 x g r)
    (k0_pay9 x g r) (k0_pay10 x g r) (ix2 a (lane e)) = weight (scores x g r a) e := by
  unfold k0_pay11
  pointwise []
  simp only [rest_apply x g r a hL]
  rw [max2_apply x g r a hL, max_apply x g r a hL, arg_apply x g r a hL, first_rest _ hL]
  exact weight_lane _ e

end Rounds

/-- One expert's output for row `a`, times the kept weight on that expert's lane. -/
theorem expert_apply (i : grid0.Coords) (n : Vec Ideal S128x1024 .bf16) (wg wu : Vec Ideal S1x1024x1408 .bf16)
    (wd : Vec Ideal S1x1408x1024 .bf16) (w : Vec Ideal S128x128 .f32) (e : Fin 8) (hi : (i 1).val = e.val) (a : Fin 128) (d : Fin 1024) :
    k0_pay12 i n wg wu wd w (ix2 a d)
      = w (ix2 a (lane e)) * swiglu (fun k => n (ix2 a k)) (fun k f => wg (ix3 0 k f)) (fun k f => wu (ix3 0 k f)) (fun f d => wd (ix3 0 f d)) d := by
  pointwise [k0_pay12]
  rw [hi, mul_comm]
  congr 1
  · exact sum_lane (fun l => w (ix2 a l)) e
  · unfold swiglu
    exact Finset.sum_congr rfl fun f _ => by rw [zero_sub]

theorem last_apply (y : Vec Ideal S128x1024 .f32) (gf : Vec Ideal S1x1024 .f32) (a : Fin 128) (d : Fin 1024) :
    k0_pay3 x y gf (ix2 a d) = rms (fun k => x (ix2 a k) + y (ix2 a k)) (fun k => gf (ix2 0 k)) d := by
  pointwise [k0_pay3]
  rfl

theorem first_sum_eq (y : FVec Ideal S128x1024 .f32) : k0_pay1 y = y := by
  funext j
  pointwise [k0_pay1]

theorem next_sum_apply (y s : Vec Ideal S128x1024 .f32) (j) : k0_pay2 y s j = s j + y j := by
  pointwise [k0_pay2]

end Cert.Sample

end
-- ==== Proof.SampleSteps.lean ====
/-
  What one grid point of the routed call on the sample's rows leaves in its output block and its three scratch arrays.
-/
module

public import proofs.«01_k».proof.Proof.Gen.Kernel7Ideal.Value
public import Idealize.ShloMosaic.Lib.Pipeline.ValueKit
public import Idealize.ShloMosaic.Lib.Pointwise

@[expose] public section

set_option maxRecDepth 16384

noncomputable section

namespace Cert.Sample

open Cert.Kernel7Ideal Cert.Kernel7Ideal.Gen Idealize.ShloMosaic Idealize.ShloMosaic.TcCoe Idealize.SL.Sem

variable (m : (ℓ : Loc nD τ sig) → Buf (Elt Ideal) ℓ) (c : Dev nD) (t : Fin cfg0.N)

/-- What the point before `t` left. -/
abbrev before := outsAt0 m c (t.val - 1) (Nat.lt_of_le_of_lt (Nat.sub_le _ _) t.isLt)

/-- A later expert's step depends on the three scratch arrays only through their contents. -/
theorem step_congr {n n' : Vec Ideal S128x1024 .bf16} {y y' : Vec Ideal S128x1024 .f32} {w w' : Vec Ideal S128x128 .f32}
    (hn : n = n') (hy : y = y') (hw : w = w') :
    k0_pay2 (k0_pay12 (grid0.coords t) n (iblk m c 3 t) (iblk m c 4 t) (iblk m c 5 t) w) y
      = k0_pay2 (k0_pay12 (grid0.coords t) n' (iblk m c 3 t) (iblk m c 4 t) (iblk m c 5 t) w') y' := by
  rw [hn, hy, hw]

/-- The one point that starts a sum is the first. -/
theorem not_later (t : Fin cfg0.N) (h : t.val % 8 = 0) : ¬1 ≤ t.val := by
  have := t.isLt.trans_eq N_0
  omega

section First
variable (h : t.val % 8 = 0)
include h

theorem first_norm : (outsAt0 m c t.val t.isLt).2.1 = k0_pay5 (iblk m c 0 t) (iblk m c 1 t) := by
  rw [outsAt0_A m c t h h (not_later t h) (by omega)]
  frame_out

theorem first_weight : (outsAt0 m c t.val t.isLt).2.2.2 = (k0_pay11 (iota Kind.tc S128x128 32 [1] iota_S128x128_d1_w32)
      (k0_pay7 (iblk m c 0 t) (iblk m c 1 t) (iblk m c 2 t)) (k0_pay8 (iblk m c 0 t) (iblk m c 1 t) (iblk m c 2 t))
      (k0_pay9 (iblk m c 0 t) (iblk m c 1 t) (iblk m c 2 t)) (k0_pay10 (iblk m c 0 t) (iblk m c 1 t) (iblk m c 2 t))) := by
  rw [outsAt0_A m c t h h (not_later t h) (by omega)]
  frame_out

theorem first_sum : (outsAt0 m c t.val t.isLt).2.2.1 = k0_pay1 (k0_pay12 (grid0.coords t) (k0_pay5 (iblk m c 0 t) (iblk m c 1 t))
    (iblk m c 3 t) (iblk m c 4 t) (iblk m c 5 t) (k0_pay11 (iota Kind.tc S128x128 32 [1] iota_S128x128_d1_w32)
      (k0_pay7 (iblk m c 0 t) (iblk m c 1 t) (iblk m c 2 t)) (k0_pay8 (iblk m c 0 t) (iblk m c 1 t) (iblk m c 2 t))
      (k0_pay9 (iblk m c 0 t) (iblk m c 1 t) (iblk m c 2 t)) (k0_pay10 (iblk m c 0 t) (iblk m c 1 t) (iblk m c 2 t)))) := by
  rw [outsAt0_A m c t h h (not_later t h) (by omega)]
  frame_out

end First

section Middle
variable (h : ¬t.val % 8 = 0) (h' : ¬t.val % 8 = 7)
include h h'

theorem middle_norm : (outsAt0 m c t.val t.isLt).2.1 = (before m c t).2.1 := by
  rw [outsAt0_B m c t h h (by omega) h']
  frame_out
  rfl

theorem middle_weight : (outsAt0 m c t.val t.isLt).2.2.2 = (before m c t).2.2.2 := by
  rw [outsAt0_B m c t h h (by omega) h']
  frame_out
  rfl

theorem middle_sum : (outsAt0 m c t.val t.isLt).2.2.1 = k0_pay2 (k0_pay12 (grid0.coords t) (before m c t).2.1 (iblk m c 3 t) (iblk m c 4 t) (iblk m c 5 t) (before m c t).2.2.2) (before m c t).2.2.1 := by
  rw [outsAt0_B m c t h h (by omega) h']
  frame_out
  exact step_congr m c t (Memref.IsWhole.read_unread _ _) (Memref.IsWhole.read_unread _ _) (Memref.IsWhole.read_unread _ _)

end Middle

section Last
variable (h : ¬t.val % 8 = 0) (h' : t.val % 8 = 7)
include h h'

theorem last_norm : (outsAt0 m c t.val t.isLt).2.1 = (before m c t).2.1 := by
  rw [outsAt0_C m c t h h (by omega) h']
  frame_out
  rfl

theorem last_weight : (outsAt0 m c t.val t.isLt).2.2.2 = (before m c t).2.2.2 := by
  rw [outsAt0_C m c t h h (by omega) h']
  frame_out
  rfl

theorem last_sum : (outsAt0 m c t.val t.isLt).2.2.1 = k0_pay2 (k0_pay12 (grid0.coords t) (before m c t).2.1 (iblk m c 3 t) (iblk m c 4 t) (iblk m c 5 t) (before m c t).2.2.2) (before m c t).2.2.1 := by
  rw [outsAt0_C m c t h h (by omega) h']
  frame_out
  exact step_congr m c t (Memref.IsWhole.read_unread _ _) (Memref.IsWhole.read_unread _ _) (Memref.IsWhole.read_unread _ _)

theorem last_output : (outsAt0 m c t.val t.isLt).1 = k0_pay3 (iblk m c 0 t)
    (k0_pay2 (k0_pay12 (grid0.coords t) (before m c t).2.1 (iblk m c 3 t) (iblk m c 4 t) (iblk m c 5 t) (before m c t).2.2.2) (before m c t).2.2.1) (iblk m c 6 t) := by
  rw [outsAt0_C m c t h h (by omega) h']
  frame_out
  exact congrArg (fun y => k0_pay3 (iblk m c 0 t) y (iblk m c 6 t))
    (step_congr m c t (Memref.IsWhole.read_unread _ _) (Memref.IsWhole.read_unread _ _) (Memref.IsWhole.read_unread _ _))

end Last

end Cert.Sample

end
-- ==== Proof.SampleState.lean ====
/-
  What the scratch arrays of the routed call on the sample's rows hold after every grid point, by induction on the points,
  and the block it writes at the last expert.
-/
module

public import proofs.«01_k».proof.Proof.Gen.Kernel7Ideal.Value
public import Idealize.ShloMosaic.Lib.Pipeline.ValueKit
public import Idealize.ShloMosaic.Lib.Pointwise
public import proofs.«01_k».proof.Proof.SampleBlocks
public import proofs.«01_k».proof.Proof.SampleBlock
public import proofs.«01_k».proof.Proof.SampleSteps

@[expose] public section

set_option maxRecDepth 16384

noncomputable section

namespace Cert.Sample

open Cert.Kernel7Ideal Cert.Kernel7Ideal.Gen Idealize.ShloMosaic Idealize.ShloMosaic.TcCoe Idealize.SL.Sem

open Cert.Layer

variable (m : (ℓ : Loc nD τ sig) → Buf (Elt Ideal) ℓ) (c : Dev nD)

theorem block_norm (t : Fin cfg0.N) (a : Fin 128) : normRow (iblk m c 0 t) (iblk m c 1 t) a = (args m c).normed a := by
  unfold normRow Args.normed
  rw [show (fun k => iblk m c 0 t (ix2 a k)) = (args m c).input a from funext fun k => block_input m c t a k,
    show (fun k => iblk m c 1 t (ix2 0 k)) = (args m c).gain from funext fun k => block_gain m c t k]

theorem block_scores (t : Fin cfg0.N) (a : Fin 128) :
    scores (iblk m c 0 t) (iblk m c 1 t) (iblk m c 2 t) a = (args m c).scored a := by
  unfold scores Args.scored
  rw [block_norm, show (fun k e => iblk m c 2 t (ix2 k (lane e))) = (args m c).router from
    funext fun k => funext fun e => block_router m c t k e]

theorem coords_expert : ∀ t : Fin cfg0.N, (grid0.coords t 1).val = t.val % 8 := (by decide +kernel : ∀ t : Fin grid0.N, _)

/-- What the scratch arrays hold after point `t`. -/
def Holds (t : Fin cfg0.N) : Prop := (args m c).Held id (t.val % 8 + 1)
  (fun a k => (outsAt0 m c t.val t.isLt).2.1 (ix2 a k)) (fun a e => (outsAt0 m c t.val t.isLt).2.2.2 (ix2 a (lane e)))
  fun a d => (outsAt0 m c t.val t.isLt).2.2.1 (ix2 a d)

/-- The point before `t`. -/
def prev (t : Fin cfg0.N) : Fin cfg0.N := ⟨t.val - 1, Nat.lt_of_le_of_lt (Nat.sub_le _ _) t.isLt⟩

theorem holds_first (hL : ∀ r e, Finite ((args m c).scored r e)) (t : Fin cfg0.N) (h : t.val % 8 = 0) : Holds m c t := by
  have hs : ∀ a e, Finite (scores (iblk m c 0 t) (iblk m c 1 t) (iblk m c 2 t) a e) := fun a e => by
    rw [block_scores]
    exact hL _ e
  have he : expertOf t = 0 := Fin.ext h
  unfold Holds
  rw [first_norm m c t h, first_weight m c t h, first_sum m c t h, first_sum_eq, h]
  simp only [expert_apply (grid0.coords t) _ _ _ _ _ 0 ((coords_expert t).trans h)]
  exact Args.Held.first (args m c) id
    (fun a k => (stored_norm_apply (iblk m c 0 t) (iblk m c 1 t) a k).trans (congrFun (block_norm m c t a) k))
    (fun a e => (weight_apply (iblk m c 0 t) (iblk m c 1 t) (iblk m c 2 t) a (hs a) e).trans
      (congrArg (fun L => Layer.weight L e) (block_scores m c t a)))
    (funext fun k => funext fun f => he ▸ block_gate m c t k f) (funext fun k => funext fun f => he ▸ block_up m c t k f)
    (funext fun f => funext fun d => he ▸ block_down m c t f d)

/-- A later expert's step, over what the point before left. -/
theorem step_held (t : Fin cfg0.N) (h : ¬t.val % 8 = 0) (ih : Holds m c (prev t)) :
    (args m c).Held id (t.val % 8 + 1) (fun a k => (before m c t).2.1 (ix2 a k)) (fun a e => (before m c t).2.2.2 (ix2 a (lane e)))
      fun a d => k0_pay2 (k0_pay12 (grid0.coords t) (before m c t).2.1 (iblk m c 3 t) (iblk m c 4 t) (iblk m c 5 t) (before m c t).2.2.2)
        (before m c t).2.2.1 (ix2 a d) := by
  unfold Holds at ih
  rw [show (prev t).val % 8 + 1 = (expertOf t).val by show (t.val - 1) % 8 + 1 = t.val % 8; omega] at ih
  simp only [next_sum_apply, expert_apply (grid0.coords t) _ _ _ _ _ (expertOf t) (coords_expert t)]
  exact Args.Held.next (args m c) id (expertOf t) ih (funext fun k => funext fun f => block_gate m c t k f)
    (funext fun k => funext fun f => block_up m c t k f) (funext fun f => funext fun d => block_down m c t f d)

theorem holds_next (t : Fin cfg0.N) (h : ¬t.val % 8 = 0) (ih : Holds m c (prev t)) : Holds m c t := by
  unfold Holds
  by_cases h' : t.val % 8 = 7
  · rw [last_norm m c t h h', last_weight m c t h h', last_sum m c t h h']
    exact step_held m c t h ih
  · rw [middle_norm m c t h h', middle_weight m c t h h', middle_sum m c t h h']
    exact step_held m c t h ih

theorem holds (hL : ∀ r e, Finite ((args m c).scored r e)) : ∀ (n : ℕ) (hn : n < cfg0.N), Holds m c ⟨n, hn⟩
  | 0, hn => holds_first m c hL _ rfl
  | n + 1, hn => by
    by_cases h : (n + 1) % 8 = 0
    · exact holds_first m c hL ⟨n + 1, hn⟩ h
    · exact holds_next m c ⟨n + 1, hn⟩ h (holds hL n (Nat.lt_of_succ_lt hn))

/-- The block the call writes at a row block's last expert. -/
theorem block_output (hL : ∀ r e, Finite ((args m c).scored r e)) (t : Fin cfg0.N) (h : t.val % 8 = 7) (a : Fin 128) (d : Fin 1024) :
    (outsAt0 m c t.val t.isLt).1 (ix2 a d) = (args m c).outRow a d := by
  have h0 : ¬t.val % 8 = 0 := by omega
  have hs := (step_held m c t h0 (holds m c hL _ _)).sum
  rw [last_output m c t h0 h, last_apply, Args.outRow_eq,
    show (fun k => iblk m c 6 t (ix2 0 k)) = (args m c).lastGain from funext fun k => block_lastGain m c t k]
  refine congrArg (fun f => rms f _ d) (funext fun k => ?_)
  rw [block_input, hs a k, h]
  rfl

end Cert.Sample

end
-- ==== Proof.SampleArray.lean ====
/-
  The array the routed call leaves on the sample's rows: row by row the layer's output.
-/
module

public import proofs.«01_k».proof.Proof.Gen.Kernel7Ideal.Value
public import Idealize.ShloMosaic.Lib.Pipeline.ValueKit
public import Idealize.ShloMosaic.Lib.Pointwise
public import proofs.«01_k».proof.Proof.SampleState

@[expose] public section

set_option maxRecDepth 16384

noncomputable section

namespace Cert.Sample

open Cert.Kernel7Ideal Cert.Kernel7Ideal.Gen Idealize.ShloMosaic Idealize.ShloMosaic.TcCoe Idealize.SL.Sem

variable (m : (ℓ : Loc nD τ sig) → Buf (Elt Ideal) ℓ) (c : Dev nD)

theorem idx_output : ∀ t : Fin cfg0.N, win0_7.index t = ![0, 0] := (by decide +kernel : ∀ t : Fin grid0.N, _)

theorem array_eq (hL : ∀ r e, Layer.Finite ((args m c).scored r e)) :
    Cert.Kernel7Ideal.Value.G7 m c = fun i : S128x1024.Idx => (args m c).outRow (i 0) (i 1) := by
  rw [← Cert.Kernel7Ideal.Value.final7]
  refine (dats m 0 c).arrAt_eq_of_covers 7 _ (by decide +kernel) fun t hf y => ?_
  blk_simp
  rw [after0_7]
  have h := (flush0_7 t).mp hf
  refine (congrArg (outsAt0 m c t.val t.isLt).1 (eq_ix2 _)).trans ((block_output m c hL t h _ _).trans ?_)
  have e0 : (show Fin 128 from y 0) = (win0_7.blk t).view.emb y 0 := Fin.ext (by
    blk_simp [idx_output t])
  have e1 : (show Fin 1024 from y 1) = (win0_7.blk t).view.emb y 1 := Fin.ext (by
    blk_simp [idx_output t])
  exact congrArg₂ (args m c).outRow e0 e1

end Cert.Sample

end
-- ==== Proof.SampleRefWeights.lean ====
/-
  The reference of the routed layer on the sample's rows, up to its expert weights.
-/
module

public import proofs.«01_k».proof.Proof.Gen.Reference7Ideal.Run
public import Idealize.ShloMosaic.Lib.Pipeline.ValueKit
public import Idealize.ShloMosaic.Lib.Pointwise
public import proofs.«01_k».proof.Proof.Experts
public import proofs.«01_k».proof.Proof.SortRows

@[expose] public section

set_option maxRecDepth 16384

noncomputable section

namespace Cert.SampleRef

open Cert.Reference7Ideal Cert.Reference7Ideal.Gen Cert.Reference7Ideal.Value Cert.Layer Idealize.ShloMosaic Idealize.ShloMosaic.TcCoe Idealize.SL.Sem

/-! ## The arguments, entry by entry -/

variable (V0 : Valuation τ sig (Elt Ideal))

def args : Layer.Args 128 where
  input r k := V0 (Proc.devRef .tc main_arg0) (ix2 r k)
  gain k := V0 (Proc.devRef .tc main_arg1) (ix1 k)
  router k e := V0 (Proc.devRef .tc main_arg2) (ix2 k e)
  gate e k f := V0 (Proc.devRef .tc main_arg3) (ix3 e k f)
  up e k f := V0 (Proc.devRef .tc main_arg4) (ix3 e k f)
  down e f d := V0 (Proc.devRef .tc main_arg5) (ix3 e f d)
  lastGain k := V0 (Proc.devRef .tc main_arg6) (ix1 k)

theorem norm_apply (r : Fin 128) (k : Fin 1024) : res_main_v12 V0 (ix2 r k) = (args V0).normed r k := by
  unfold res_main_v12
  pointwise []
  rfl

theorem score_apply (r : Fin 128) (e : Fin 8) : res_main_v13 V0 (ix2 r e) = (args V0).scored r e := by
  unfold res_main_v13
  pointwise []
  simp only [norm_apply]
  rfl

/-! ## The two best and their weights -/

theorem value_apply (r : Fin 128) (s : Fin 2) : res_main_values V0 (ix2 r s) = (args V0).scored r (chosen ((args V0).scored r) s) := by
  unfold res_main_values
  rw [top_value, show (fun e => res_main_v13 V0 (ix2 r e)) = (args V0).scored r from funext (score_apply V0 r), score_apply]
  rfl

theorem place_apply (r : Fin 128) (s : Fin 2) :
    (Host.topK S128x2 1 (FloatOps.cmpfTotal (F := Ideal) (φ := .f32) .gt) (res_main_v13 V0) sliceFits_S128x8_S128x2).2 (ix2 r s)
      = BitVec.ofNat 32 (chosen ((args V0).scored r) s).val := by
  rw [top_place, show (fun e => res_main_v13 V0 (ix2 r e)) = (args V0).scored r from funext (score_apply V0 r)]
  rfl

theorem row_max (r : Fin 128) : Finset.fold (max : EReal → EReal → EReal) ⊥ (fun i : S128x2.Idx => (res_main_values V0 i : EReal))
    {i | reducesTo_S128x2_S128_d1.drop i = ix1 r} = (args V0).scored r (best ((args V0).scored r)) :=
  Layer.row_max (res_main_values V0) reducesTo_S128x2_S128_d1 (ix1 r) r ((args V0).scored r) (value_apply V0 r) fun _ =>
    ⟨fun h => congrFun h 0, fun h => funext fun a => match a with | 0 => h⟩

theorem exp_apply (r : Fin 128) (s : Fin 2) :
    res_main_v20 V0 (ix2 r s) = Ideal.exp ((args V0).scored r (chosen ((args V0).scored r) s) - (args V0).scored r (best ((args V0).scored r))) := by
  unfold res_main_v20
  pointwise []
  rw [neg_infinity_literal, value_apply]
  exact congrArg (fun z => Ideal.exp ((args V0).scored r (chosen ((args V0).scored r) s) - z)) ((max_eq_right bot_le).trans (row_max V0 r))

theorem weight_apply (r : Fin 128) (hL : ∀ e, Finite ((args V0).scored r e)) (e : Fin 8) : res_main_v29 V0 (ix2 r e) = weight ((args V0).scored r) e := by
  unfold res_main_v29
  pointwise []
  simp only [place_apply]
  rw [Fin.sum_univ_two, Fin.sum_univ_two, exp_apply, exp_apply, chosen_zero, chosen_one, exp_best _ hL]
  exact congrArg₂ (· + ·) (bit_mul _ _ _) (bit_mul _ _ _)

end Cert.SampleRef

end
-- ==== Proof.SampleRefLayer.lean ====
/-
  The reference of the routed layer on the sample's rows, entry by entry.
-/
module

public import proofs.«01_k».proof.Proof.Gen.Reference7Ideal.Run
public import Idealize.ShloMosaic.Lib.Pipeline.ValueKit
public import Idealize.ShloMosaic.Lib.Pointwise
public import proofs.«01_k».proof.Proof.SampleRefWeights

@[expose] public section

set_option maxRecDepth 16384

noncomputable section

namespace Cert.SampleRef

open Cert.Reference7Ideal Cert.Reference7Ideal.Gen Cert.Reference7Ideal.Value Cert.Layer Idealize.ShloMosaic Idealize.ShloMosaic.TcCoe Idealize.SL.Sem

variable (V0 : Valuation τ sig (Elt Ideal))

theorem gate_apply_0 (r : Fin 128) (f : Fin 1408) : res_main_v38 V0 (ix2 r f) = ∑ k, (args V0).normed r k * (args V0).gate 0 k f := by
  unfold res_main_v38
  pointwise []
  simp only [norm_apply]
  rfl

theorem gate_apply_1 (r : Fin 128) (f : Fin 1408) : res_main_v53 V0 (ix2 r f) = ∑ k, (args V0).normed r k * (args V0).gate 1 k f := by
  unfold res_main_v53
  pointwise []
  simp only [norm_apply]
  rfl

theorem gate_apply_2 (r : Fin 128) (f : Fin 1408) : res_main_v68 V0 (ix2 r f) = ∑ k, (args V0).normed r k * (args V0).gate 2 k f := by
  unfold res_main_v68
  pointwise []
  simp only [norm_apply]
  rfl

theorem gate_apply_3 (r : Fin 128) (f : Fin 1408) : res_main_v83 V0 (ix2 r f) = ∑ k, (args V0).normed r k * (args V0).gate 3 k f := by
  unfold res_main_v83
  pointwise []
  simp only [norm_apply]
  rfl

theorem gate_apply_4 (r : Fin 128) (f : Fin 1408) : res_main_v98 V0 (ix2 r f) = ∑ k, (args V0).normed r k * (args V0).gate 4 k f := by
  unfold res_main_v98
  pointwise []
  simp only [norm_apply]
  rfl

theorem gate_apply_5 (r : Fin 128) (f : Fin 1408) : res_main_v113 V0 (ix2 r f) = ∑ k, (args V0).normed r k * (args V0).gate 5 k f := by
  unfold res_main_v113
  pointwise []
  simp only [norm_apply]
  rfl

theorem gate_apply_6 (r : Fin 128) (f : Fin 1408) : res_main_v128 V0 (ix2 r f) = ∑ k, (args V0).normed r k * (args V0).gate 6 k f := by
  unfold res_main_v128
  pointwise []
  simp only [norm_apply]
  rfl

theorem gate_apply_7 (r : Fin 128) (f : Fin 1408) : res_main_v143 V0 (ix2 r f) = ∑ k, (args V0).normed r k * (args V0).gate 7 k f := by
  unfold res_main_v143
  pointwise []
  simp only [norm_apply]
  rfl

theorem first_five (r : Fin 128) (hL : ∀ e, Finite ((args V0).scored r e)) (d : Fin 1024) : res_main_v105 V0 (ix2 r d)
    = ((args V0).share r 0 d + (args V0).share r 1 d + (args V0).share r 2 d + (args V0).share r 3 d + (args V0).share r 4 d : EReal) := by
  unfold res_main_v105
  pointwise []
  simp only [weight_apply V0 r hL, norm_apply, gate_apply_0, gate_apply_1, gate_apply_2, gate_apply_3, gate_apply_4, gate_apply_5, gate_apply_6, gate_apply_7]
  rfl

theorem sum_apply (r : Fin 128) (hL : ∀ e, Finite ((args V0).scored r e)) (d : Fin 1024) : res_main_v151 V0 (ix2 r d)
    = ((args V0).input r d + ∑ e, (args V0).share r e d : EReal) := by
  rw [Fin.sum_univ_eight]
  unfold res_main_v151
  pointwise []
  simp only [weight_apply V0 r hL, norm_apply, gate_apply_0, gate_apply_1, gate_apply_2, gate_apply_3, gate_apply_4, gate_apply_5, gate_apply_6, gate_apply_7]
  rw [first_five V0 r hL]
  rfl

end Cert.SampleRef

end
-- ==== Proof.SampleClaim.lean ====
/-
  The value claim of the routed layer on the sample's rows: on finite inputs the call leaves what the reference computes.
-/
module

public import proofs.«01_k».proof.Defs
public import proofs.«01_k».proof.Proof.Gen.Pre_finite_sample
public import proofs.«01_k».proof.Proof.SamplePre
public import proofs.«01_k».proof.Proof.SampleArray
public import proofs.«01_k».proof.Proof.SampleRefLayer

@[expose] public section

set_option maxRecDepth 16384

noncomputable section

namespace Cert.Sample

open Idealize.ShloMosaic Idealize.ShloMosaic.StableHlo Idealize.SL.Sem

/-- Finite inputs make finite scores. -/
theorem scored_finite (m : (ℓ : Loc Cert.Kernel7Ideal.nD Cert.Kernel7Ideal.τ Cert.Kernel7Ideal.sig) → Buf (Elt Ideal) ℓ)
    (hPre : Cert.Pre_Kernel7Ideal_finite_sample m) (c : Dev Cert.Kernel7Ideal.nD) (r : Fin 128) (e : Fin 8) :
    Layer.Finite ((args m c).scored r e) := by
  obtain ⟨hx, hg, hr⟩ := finite_inputs _ _ _ _ _ _ _ (hPre c)
  exact Layer.Args.scored_finite _ r (fun k => hx _) (fun k => hg _) (fun k e => hr _) e

theorem algebraic : Cert.algebraic_Kernel7Ideal_Reference7Ideal_pre_finite_sample := by
  intro m ρ m' ρ' hPre hagree
  refine ⟨_, Cert.Kernel7Ideal.Value.run (F := Ideal) m ρ, ?_⟩
  refine (θ_run Cert.Reference7Ideal.defs _ _).mono (fun _ h c => ⟨?_, (h c).2⟩) (Cert.Reference7Ideal.Value.run (F := Ideal) m' ρ')
  rw [(h c).1]
  obtain ⟨h0, h1, h2, h3, h4, h5, h6⟩ := hagree c
  have ha : SampleRef.args (launchContents m' c) = args m c := by
    unfold SampleRef.args args
    congr 1
    exacts [funext fun r => funext fun k => congrFun h0 (ix2 r k), funext fun k => congrFun h1 (ix1 k),
      funext fun k => funext fun e => congrFun h2 (ix2 k e), funext fun e => funext fun k => funext fun f => congrFun h3 (ix3 e k f),
      funext fun e => funext fun k => funext fun f => congrFun h4 (ix3 e k f),
      funext fun e => funext fun f => funext fun d => congrFun h5 (ix3 e f d), funext fun k => congrFun h6 (ix1 k)]
  have hs : ∀ r e, Layer.Finite ((SampleRef.args (launchContents m' c)).scored r e) := ha ▸ scored_finite m hPre c
  rw [array_eq m c (scored_finite m hPre c)]
  refine Eq.trans (funext fun i => ?_) (funext fun i => congrFun (congrFun (congrArg Layer.Args.outRow ha) (i 0)) (i 1))
  rw [eq_ix2 i]
  pointwise []
  simp only [SampleRef.sum_apply _ _ (hs (i 0))]
  rw [show Cert.Reference7Ideal.Value.res_main_v151 (launchContents m' c) i = _ from
    (congrArg (Cert.Reference7Ideal.Value.res_main_v151 (launchContents m' c)) (eq_ix2 i)).trans (SampleRef.sum_apply _ _ (hs (i 0)) (i 1))]
  rfl

end Cert.Sample

end
-- ==== Proof.SampleDenseBlock.lean ====
/-
  The dense feed-forward call on the sample's rows at one grid point: what its blocks hold of the arguments (both points
  work on all 128 rows, point `t` on the hidden half `t`), and what the body computes from blocks, row by row.
-/
module

public import proofs.«01_k».proof.Proof.Gen.Kernel8Ideal.Value
public import Idealize.ShloMosaic.Lib.Pipeline.ValueKit
public import Idealize.ShloMosaic.Lib.Pointwise
public import proofs.«01_k».proof.Proof.Halves

@[expose] public section

set_option maxRecDepth 16384

noncomputable section

namespace Cert.SampleDense

open Cert.Kernel8Ideal Cert.Kernel8Ideal.Gen Idealize.ShloMosaic Idealize.ShloMosaic.TcCoe Idealize.SL.Sem

open Cert.Layer

variable (m : (ℓ : Loc nD τ sig) → Buf (Elt Ideal) ℓ) (c : Dev nD)

/-! ## The arguments, entry by entry -/

def input (r : Fin 128) (k : Fin 1024) : EReal := m ((c : Thread nD τ).loc main_arg0) (ix2 r k)
def gain (k : Fin 1024) : EReal := m ((c : Thread nD τ).loc main_arg1) (ix1 k)
def gate (k : Fin 1024) (f : Fin 2816) : EReal := m ((c : Thread nD τ).loc main_arg2) (ix2 k f)
def up (k : Fin 1024) (f : Fin 2816) : EReal := m ((c : Thread nD τ).loc main_arg3) (ix2 k f)
def down (f : Fin 2816) (d : Fin 1024) : EReal := m ((c : Thread nD τ).loc main_arg4) (ix2 f d)

/-- Hidden place `f` of point `t`'s half. -/
def hidden (t : Fin cfg0.N) (f : Fin 1408) : Fin 2816 := ⟨1408 * (t.val % 2) + f.val, by omega⟩

/-! ## The blocks -/

theorem idx : ∀ t : Fin cfg0.N, win0_0.index t = ![0, 0] ∧ win0_1.index t = ![0, 0] ∧ win0_2.index t = ![0, t.val % 2]
    ∧ win0_3.index t = ![0, t.val % 2] ∧ win0_4.index t = ![t.val % 2, 0] ∧ win0_5.index t = ![0, 0] :=
  (by decide +kernel : ∀ t : Fin grid0.N, _)

theorem V_gain : V m c main_v0 = shapeCast S1x1024 (m ((c : Thread nD τ).loc main_arg1)) shapeCasts_S1024_S1x1024 := rfl

theorem block_input (t : Fin cfg0.N) (a : Fin 128) (k : Fin 1024) : iblk m c 0 t (ix2 a k) = input m c a k := by
  unfold input
  blk_ext [iblk, V, idx t]

theorem block_gain (t : Fin cfg0.N) (k : Fin 1024) : iblk m c 1 t (ix2 0 k) = gain m c k := by
  show V m c main_v0 (((cfg0.win 1).blk t).view.emb (ix2 0 k)) = _
  rw [show ((cfg0.win 1).blk t).view.emb (ix2 0 k) = ix2 0 k by blk_ext [idx t], V_gain m c]
  unfold gain
  pointwise []

theorem block_gate (t : Fin cfg0.N) (k : Fin 1024) (f : Fin 1408) : iblk m c 2 t (ix2 k f) = gate m c k (hidden t f) := by
  show m ((c : Thread nD τ).loc main_arg2) (((cfg0.win 2).blk t).view.emb (ix2 k f)) = _
  rw [show ((cfg0.win 2).blk t).view.emb (ix2 k f) = ix2 k (hidden t f) by unfold hidden; blk_ext [idx t]]
  rfl

theorem block_up (t : Fin cfg0.N) (k : Fin 1024) (f : Fin 1408) : iblk m c 3 t (ix2 k f) = up m c k (hidden t f) := by
  show m ((c : Thread nD τ).loc main_arg3) (((cfg0.win 3).blk t).view.emb (ix2 k f)) = _
  rw [show ((cfg0.win 3).blk t).view.emb (ix2 k f) = ix2 k (hidden t f) by unfold hidden; blk_ext [idx t]]
  rfl

theorem block_down (t : Fin cfg0.N) (f : Fin 1408) (d : Fin 1024) : iblk m c 4 t (ix2 f d) = down m c (hidden t f) d := by
  show m ((c : Thread nD τ).loc main_arg4) (((cfg0.win 4).blk t).view.emb (ix2 f d)) = _
  rw [show ((cfg0.win 4).blk t).view.emb (ix2 f d) = ix2 (hidden t f) d by unfold hidden; blk_ext [idx t]]
  rfl

/-! ## The body -/

theorem norm_apply (x : Vec Ideal S128x1024 .f32) (g : Vec Ideal S1x1024 .f32) (a : Fin 128) (k : Fin 1024) :
    k0_pay1 x g (ix2 a k) = rms (fun k => x (ix2 a k)) (fun k => g (ix2 0 k)) k := by
  pointwise [k0_pay1]
  rfl

section Half
variable (n : Vec Ideal S128x1024 .bf16) (wg wu : Vec Ideal S1024x1408 .bf16) (wd : Vec Ideal S1408x1024 .bf16)

theorem half_apply (a : Fin 128) (d : Fin 1024) : k0_pay2 n wg wu wd (ix2 a d)
    = swiglu (fun k => n (ix2 a k)) (fun k f => wg (ix2 k f)) (fun k f => wu (ix2 k f)) (fun f d => wd (ix2 f d)) d := by
  pointwise [k0_pay2]
  unfold swiglu
  exact Finset.sum_congr rfl fun f _ => by rw [zero_sub]

theorem first_half_eq : k0_pay3 n wg wu wd = k0_pay2 n wg wu wd := by
  funext j
  pointwise [k0_pay3]

theorem second_half_apply (y : Vec Ideal S128x1024 .f32) (a : Fin 128) (d : Fin 1024) :
    k0_pay4 n wg wu wd y (ix2 a d) = y (ix2 a d) + k0_pay2 n wg wu wd (ix2 a d) := by
  unfold k0_pay4
  pointwise []

end Half

theorem last_apply (x y : Vec Ideal S128x1024 .f32) (a : Fin 128) (d : Fin 1024) :
    k0_pay5 x y (ix2 a d) = x (ix2 a d) + y (ix2 a d) := by
  pointwise [k0_pay5]

/-! ## One point's step -/

def before (t : Fin cfg0.N) := outsAt0 m c (t.val - 1) (Nat.lt_of_le_of_lt (Nat.sub_le _ _) t.isLt)

theorem first_norm (t : Fin cfg0.N) (h : t.val % 2 = 0) :
    (outsAt0 m c t.val t.isLt).2.1 = k0_pay1 (iblk m c 0 t) (iblk m c 1 t) := by
  rw [outsAt0_A m c t h h (by omega) (by omega)]
  frame_out

theorem first_sum (t : Fin cfg0.N) (h : t.val % 2 = 0) : (outsAt0 m c t.val t.isLt).2.2
    = k0_pay3 (k0_pay1 (iblk m c 0 t) (iblk m c 1 t)) (iblk m c 2 t) (iblk m c 3 t) (iblk m c 4 t) := by
  rw [outsAt0_A m c t h h (by omega) (by omega)]
  frame_out

theorem step_congr (t : Fin cfg0.N) {n n' : Vec Ideal S128x1024 .bf16} {y y' : Vec Ideal S128x1024 .f32} (hn : n = n') (hy : y = y') :
    k0_pay5 (iblk m c 0 t) (k0_pay4 n (iblk m c 2 t) (iblk m c 3 t) (iblk m c 4 t) y)
      = k0_pay5 (iblk m c 0 t) (k0_pay4 n' (iblk m c 2 t) (iblk m c 3 t) (iblk m c 4 t) y') := by
  rw [hn, hy]

theorem last_output (t : Fin cfg0.N) (h : ¬t.val % 2 = 0) (h' : t.val % 2 = 1) : (outsAt0 m c t.val t.isLt).1
    = k0_pay5 (iblk m c 0 t) (k0_pay4 (before m c t).2.1 (iblk m c 2 t) (iblk m c 3 t) (iblk m c 4 t) (before m c t).2.2) := by
  rw [outsAt0_B m c t h h h' h']
  frame_out
  exact step_congr m c t (Memref.IsWhole.read_unread _ _) (Memref.IsWhole.read_unread _ _)

end Cert.SampleDense

end
-- ==== Proof.SampleDenseState.lean ====
/-
  The dense feed-forward call on the sample's rows over both grid points: the two hidden halves add up to the layer's rows.
-/
module

public import proofs.«01_k».proof.Proof.Gen.Kernel8Ideal.Value
public import Idealize.ShloMosaic.Lib.Pipeline.ValueKit
public import Idealize.ShloMosaic.Lib.Pointwise
public import proofs.«01_k».proof.Proof.SampleDenseBlock

@[expose] public section

set_option maxRecDepth 16384

noncomputable section

namespace Cert.SampleDense

open Cert.Kernel8Ideal Cert.Kernel8Ideal.Gen Idealize.ShloMosaic Idealize.ShloMosaic.TcCoe Idealize.SL.Sem

open Cert.Layer

variable (m : (ℓ : Loc nD τ sig) → Buf (Elt Ideal) ℓ) (c : Dev nD)

/-- Row `r`, normalised. -/
def normed (r : Fin 128) : Fin 1024 → EReal := rms (input m c r) (gain m c)

/-- Row `r` of the layer's output. -/
def outRow (r : Fin 128) : Fin 1024 → EReal := denseRow (input m c r) (gain m c) (gate m c) (up m c) (down m c)

/-- The point's half of the hidden width. -/
def half (r : Fin 128) (t : Fin cfg0.N) : Fin 1024 → EReal := halfOf (normed m c r) (gate m c) (up m c) (down m c) (hidden t)

theorem block_half (t : Fin cfg0.N) (n : Vec Ideal S128x1024 .bf16) (a : Fin 128) (hn : ∀ k, n (ix2 a k) = normed m c a k)
    (d : Fin 1024) : k0_pay2 n (iblk m c 2 t) (iblk m c 3 t) (iblk m c 4 t) (ix2 a d) = half m c a t d := by
  rw [half_apply]
  unfold half halfOf
  rw [show (fun k => n (ix2 a k)) = normed m c a from funext hn,
    show (fun k f => iblk m c 2 t (ix2 k f)) = _ from funext fun k => funext fun f => block_gate m c t k f,
    show (fun k f => iblk m c 3 t (ix2 k f)) = _ from funext fun k => funext fun f => block_up m c t k f,
    show (fun f d => iblk m c 4 t (ix2 f d)) = _ from funext fun f => funext fun d => block_down m c t f d]

theorem block_norm (t : Fin cfg0.N) (a : Fin 128) (k : Fin 1024) :
    k0_pay1 (iblk m c 0 t) (iblk m c 1 t) (ix2 a k) = normed m c a k := by
  rw [norm_apply]
  unfold normed
  rw [show (fun k => iblk m c 0 t (ix2 a k)) = input m c a from funext fun k => block_input m c t a k,
    show (fun k => iblk m c 1 t (ix2 0 k)) = gain m c from funext fun k => block_gain m c t k]

/-- The point before `t`. -/
def prev (t : Fin cfg0.N) : Fin cfg0.N := ⟨t.val - 1, Nat.lt_of_le_of_lt (Nat.sub_le _ _) t.isLt⟩

theorem block_output (t : Fin cfg0.N) (h : t.val % 2 = 1) (a : Fin 128) (d : Fin 1024) :
    (outsAt0 m c t.val t.isLt).1 (ix2 a d) = outRow m c a d := by
  have h0 : ¬t.val % 2 = 0 := by omega
  have hp : (prev t).val % 2 = 0 := by show (t.val - 1) % 2 = 0; omega
  have hn : ∀ k, (before m c t).2.1 (ix2 a k) = normed m c a k := fun k => by
    rw [← block_norm m c (prev t) a k, ← first_norm m c (prev t) hp]
    rfl
  have hy : (before m c t).2.2 (ix2 a d) = half m c a (prev t) d := by
    rw [← block_half m c (prev t) _ a (block_norm m c (prev t) a) d, ← first_half_eq, ← first_sum m c (prev t) hp]
    rfl
  rw [last_output m c t h0 h, last_apply, second_half_apply, block_half m c t _ a hn, hy, block_input, half, half,
    halves _ _ _ _ (hidden (prev t)) (hidden t) (fun f => by show 1408 * ((t.val - 1) % 2) + f.val = f.val; omega)
      (fun f => by show 1408 * (t.val % 2) + f.val = 1408 + f.val; omega)]
  rfl

theorem array_eq : Cert.Kernel8Ideal.Value.G5 m c = fun i : S128x1024.Idx => outRow m c (i 0) (i 1) := by
  rw [← Cert.Kernel8Ideal.Value.final5]
  refine (dats m 0 c).arrAt_eq_of_covers 5 _ (by decide +kernel) fun t hf y => ?_
  blk_simp
  rw [after0_5]
  have h := (flush0_5 t).mp hf
  refine (congrArg (outsAt0 m c t.val t.isLt).1 (eq_ix2 _)).trans ((block_output m c t h _ _).trans ?_)
  have e0 : (show Fin 128 from y 0) = (win0_5.blk t).view.emb y 0 := Fin.ext (by
    blk_simp [idx t])
  have e1 : (show Fin 1024 from y 1) = (win0_5.blk t).view.emb y 1 := Fin.ext (by
    blk_simp [idx t])
  exact congrArg₂ (outRow m c) e0 e1

end Cert.SampleDense

end
-- ==== Proof.SampleDenseClaim.lean ====
/-
  The value claim of the dense feed-forward layer on the sample's rows: the call leaves what the reference computes.
-/
module

public import proofs.«01_k».proof.Defs
public import proofs.«01_k».proof.Proof.SampleDenseState
public import proofs.«01_k».proof.Proof.Gen.Reference8Ideal.Run

@[expose] public section

set_option maxRecDepth 16384

noncomputable section

namespace Cert.SampleDense

open Idealize.ShloMosaic Idealize.ShloMosaic.StableHlo Idealize.SL.Sem

theorem algebraic : Cert.algebraic_Kernel8Ideal_Reference8Ideal := by
  intro m ρ m' ρ' _ hagree
  refine ⟨_, Cert.Kernel8Ideal.Value.run (F := Ideal) m ρ, ?_⟩
  refine (θ_run Cert.Reference8Ideal.defs _ _).mono (fun _ h c => ⟨?_, (h c).2⟩) (Cert.Reference8Ideal.Value.run (F := Ideal) m' ρ')
  rw [(h c).1]
  simp only [hagree c]
  rw [array_eq m c]
  funext i
  pointwise []
  unfold outRow Layer.denseRow
  exact congrArg₂ (fun a b : EReal => a + b) (congrArg (m ((c.tc : Thread _ _).loc Cert.Kernel8Ideal.main_arg0)) (eq_ix2 i)) rfl

end Cert.SampleDense

end
-- ==== Proof.lean ====
/-
  The proof of `Cert.Claim`: the frames of the kernels and of the references, the (identical) ideal versions, and the value
  claims, each proved in a module of its own under Proof/.
-/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Pre_finite_pooling
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Kernel8.Frame
public import proofs.«01_k».proof.Proof.Gen.Kernel8Ideal.Value
public import proofs.«01_k».proof.Proof.Gen.Reference8Ideal.Run
public import proofs.«01_k».proof.Proof.Gen.Pre_finite_routing
public import proofs.«01_k».proof.Proof.Gen.Pre_finite_sample
public import proofs.«01_k».proof.Proof.RoutedClaim
public import proofs.«01_k».proof.Proof.DenseClaim
public import proofs.«01_k».proof.Proof.OddClaim
public import proofs.«01_k».proof.Proof.EvenClaim
public import proofs.«01_k».proof.Proof.OddPromptClaim
public import proofs.«01_k».proof.Proof.EvenPromptClaim
public import proofs.«01_k».proof.Proof.SampleClaim
public import proofs.«01_k».proof.Proof.SampleDenseClaim
public import Idealize.ShloMosaic.Adequacy
public import Idealize.ShloMosaic.Init
public import Idealize.ShloMosaic.Lib.Quiescent

@[expose] public section

noncomputable section

namespace Cert.Proof

open Idealize.ShloMosaic Idealize.SL.Sem

theorem quiescent_ReferenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem quiescent_ReferenceIdeal_pre_finite_routing : Cert.quiescent_ReferenceIdeal_pre_finite_routing := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem quiescent_Reference2Ideal : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem quiescent_Reference3Ideal : Cert.quiescent_Reference3Ideal := fun m ρ _ =>
  (θ_run Cert.Reference3Ideal.defs _ _).mono (fun r h => ⟨fun c => (h c).2.2.2.2, sem_eq_zero_of_no_sems (by decide) r.2⟩)
    (Cert.Reference3Ideal.Value.run (F := Ideal) m ρ)

theorem quiescent_Reference4Ideal : Cert.quiescent_Reference4Ideal := fun m ρ _ =>
  (θ_run Cert.Reference4Ideal.defs _ _).mono (fun r h => ⟨fun c => (h c).2.2.2, sem_eq_zero_of_no_sems (by decide) r.2⟩)
    (Cert.Reference4Ideal.Value.run (F := Ideal) m ρ)

theorem quiescent_Reference4Ideal_pre_finite_pooling : Cert.quiescent_Reference4Ideal_pre_finite_pooling := fun m ρ _ =>
  (θ_run Cert.Reference4Ideal.defs _ _).mono (fun r h => ⟨fun c => (h c).2.2.2, sem_eq_zero_of_no_sems (by decide) r.2⟩)
    (Cert.Reference4Ideal.Value.run (F := Ideal) m ρ)

theorem quiescent_Reference5Ideal : Cert.quiescent_Reference5Ideal := fun m ρ _ =>
  (θ_run Cert.Reference5Ideal.defs _ _).mono (fun r h => ⟨fun c => (h c).2.2, sem_eq_zero_of_no_sems (by decide) r.2⟩)
    (Cert.Reference5Ideal.Value.run (F := Ideal) m ρ)

theorem quiescent_Reference6Ideal : Cert.quiescent_Reference6Ideal := fun m ρ _ =>
  (θ_run Cert.Reference6Ideal.defs _ _).mono (fun r h => ⟨fun c => (h c).2.2, sem_eq_zero_of_no_sems (by decide) r.2⟩)
    (Cert.Reference6Ideal.Value.run (F := Ideal) m ρ)

theorem quiescent_Reference7Ideal : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

theorem quiescent_Reference7Ideal_pre_finite_sample : Cert.quiescent_Reference7Ideal_pre_finite_sample := fun m ρ _ =>
  (θ_run Cert.Reference7Ideal.defs _ _).mono (fun r h => ⟨fun c => (h c).2, sem_eq_zero_of_no_sems (by decide) r.2⟩)
    (Cert.Reference7Ideal.Value.run (F := Ideal) m ρ)

theorem quiescent_Reference8Ideal : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts,
  Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts,
  Cert.Kernel5Ideal.Gen.facts, Cert.Reference5Ideal.Gen.facts, Cert.Kernel6.Gen.facts, Cert.Kernel6Ideal.Gen.facts, Cert.Reference6Ideal.Gen.facts, Cert.Kernel7.Gen.facts,
  Cert.Kernel7Ideal.Gen.facts, Cert.Reference7Ideal.Gen.facts, Cert.Kernel8.Gen.facts, Cert.Kernel8Ideal.Gen.facts,
  Cert.Reference8Ideal.Gen.facts, Cert.Pre_finite_routing.Gen.facts, Cert.Pre_finite_pooling.Gen.facts, Cert.Pre_finite_sample.Gen.facts,
  fun m ρ _ => Cert.Kernel.Gen.frame m ρ,
  fun m ρ _ => Cert.KernelIdeal.Gen.frame m ρ,
  fun m ρ _ => Cert.KernelIdeal.Gen.frame m ρ,
  quiescent_ReferenceIdeal,
  quiescent_ReferenceIdeal_pre_finite_routing,
  fun m ρ _ => Cert.Kernel2.Gen.frame m ρ,
  fun m ρ _ => Cert.Kernel2Ideal.Gen.frame m ρ,
  quiescent_Reference2Ideal,
  fun m ρ _ => Cert.Kernel3.Gen.frame m ρ,
  fun m ρ _ => Cert.Kernel3Ideal.Gen.frame m ρ,
  quiescent_Reference3Ideal,
  fun m ρ _ => Cert.Kernel4.Gen.frame m ρ,
  fun m ρ _ => Cert.Kernel4Ideal.Gen.frame m ρ,
  fun m ρ _ => Cert.Kernel4Ideal.Gen.frame m ρ,
  quiescent_Reference4Ideal,
  quiescent_Reference4Ideal_pre_finite_pooling,
  fun m ρ _ => Cert.Kernel5.Gen.frame m ρ,
  fun m ρ _ => Cert.Kernel5Ideal.Gen.frame m ρ,
  quiescent_Reference5Ideal,
  fun m ρ _ => Cert.Kernel6.Gen.frame m ρ,
  fun m ρ _ => Cert.Kernel6Ideal.Gen.frame m ρ,
  quiescent_Reference6Ideal,
  fun m ρ _ => Cert.Kernel7.Gen.frame m ρ,
  fun m ρ _ => Cert.Kernel7Ideal.Gen.frame m ρ,
  fun m ρ _ => Cert.Kernel7Ideal.Gen.frame m ρ,
  quiescent_Reference7Ideal,
  quiescent_Reference7Ideal_pre_finite_sample,
  fun m ρ _ => Cert.Kernel8.Gen.frame m ρ,
  fun m ρ _ => Cert.Kernel8Ideal.Gen.frame m ρ,
  quiescent_Reference8Ideal,
  (trivial : Cert.preserves_Kernel_KernelIdeal),
  Cert.Routed.algebraic,
  (trivial : Cert.preserves_Kernel2_Kernel2Ideal),
  Cert.Dense.algebraic,
  (trivial : Cert.preserves_Kernel3_Kernel3Ideal),
  Cert.Odd.algebraic,
  (trivial : Cert.preserves_Kernel4_Kernel4Ideal),
  Cert.Even.algebraic,
  (trivial : Cert.preserves_Kernel5_Kernel5Ideal),
  Cert.OddPrompt.algebraic,
  (trivial : Cert.preserves_Kernel6_Kernel6Ideal),
  Cert.EvenPrompt.algebraic,
  (trivial : Cert.preserves_Kernel7_Kernel7Ideal),
  Cert.Sample.algebraic,
  (trivial : Cert.preserves_Kernel8_Kernel8Ideal),
  Cert.SampleDense.algebraic⟩

end Cert.Proof

end
